-- ==== Defs.lean ====
def Pre_RetCore (m : (ℓ : Loc Cert.RetCore.nD Cert.RetCore.τ Cert.RetCore.sig) → Buf (Elt Bits) ℓ) : Prop :=
  True

def Pre_RetCoreIdeal (m : (ℓ : Loc Cert.RetCoreIdeal.nD Cert.RetCoreIdeal.τ Cert.RetCoreIdeal.sig) → Buf (Elt Ideal) ℓ) : Prop :=
  True

def Pre_RetCoreIdeal_finite [hPre_finite : Cert.Pre_finite.Facts] (m : (ℓ : Loc Cert.RetCoreIdeal.nD Cert.RetCoreIdeal.τ Cert.RetCoreIdeal.sig) → Buf (Elt Ideal) ℓ) : Prop :=
  ∀ c : Dev Cert.RetCoreIdeal.nD,
    (Cert.Pre_finite.fn (F := Ideal) (m ((c.tc : Thread Cert.RetCoreIdeal.nD Cert.RetCoreIdeal.τ).loc Cert.RetCoreIdeal.main_arg0)) (m ((c.tc : Thread Cert.RetCoreIdeal.nD Cert.RetCoreIdeal.τ).loc Cert.RetCoreIdeal.main_arg1)) (m ((c.tc : Thread Cert.RetCoreIdeal.nD Cert.RetCoreIdeal.τ).loc Cert.RetCoreIdeal.main_arg2))) = (fun _ => 1#1)

def Pre_RetentionIdeal (m : (ℓ : Loc Cert.RetentionIdeal.nD Cert.RetentionIdeal.τ Cert.RetentionIdeal.sig) → Buf (Elt Ideal) ℓ) : Prop :=
  True

def Pre_RetentionIdeal_finite [hPre_finite : Cert.Pre_finite.Facts] (m : (ℓ : Loc Cert.RetentionIdeal.nD Cert.RetentionIdeal.τ Cert.RetentionIdeal.sig) → Buf (Elt Ideal) ℓ) : Prop :=
  ∀ c : Dev Cert.RetentionIdeal.nD,
    (Cert.Pre_finite.fn (F := Ideal) (m ((c.tc : Thread Cert.RetentionIdeal.nD Cert.RetentionIdeal.τ).loc Cert.RetentionIdeal.main_arg0)) (m ((c.tc : Thread Cert.RetentionIdeal.nD Cert.RetentionIdeal.τ).loc Cert.RetentionIdeal.main_arg1)) (m ((c.tc : Thread Cert.RetentionIdeal.nD Cert.RetentionIdeal.τ).loc Cert.RetentionIdeal.main_arg2))) = (fun _ => 1#1)

def Pre_OutMlpGated (m : (ℓ : Loc Cert.OutMlpGated.nD Cert.OutMlpGated.τ Cert.OutMlpGated.sig) → Buf (Elt Bits) ℓ) : Prop :=
  True

def Pre_OutMlpGatedIdeal (m : (ℓ : Loc Cert.OutMlpGatedIdeal.nD Cert.OutMlpGatedIdeal.τ Cert.OutMlpGatedIdeal.sig) → Buf (Elt Ideal) ℓ) : Prop :=
  True

def Pre_GatedBlockIdeal (m : (ℓ : Loc Cert.GatedBlockIdeal.nD Cert.GatedBlockIdeal.τ Cert.GatedBlockIdeal.sig) → Buf (Elt Ideal) ℓ) : Prop :=
  True

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_PlainBlockIdeal (m : (ℓ : Loc Cert.PlainBlockIdeal.nD Cert.PlainBlockIdeal.τ Cert.PlainBlockIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetentionInputsIdeal (m : (ℓ : Loc Cert.RetentionInputsIdeal.nD Cert.RetentionInputsIdeal.τ Cert.RetentionInputsIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttentionInputsIdeal (m : (ℓ : Loc Cert.AttentionInputsIdeal.nD Cert.AttentionInputsIdeal.τ Cert.AttentionInputsIdeal.sig) → Buf (Elt Ideal) ℓ) : Prop :=
  True

def Pre_MobaProj (m : (ℓ : Loc Cert.MobaProj.nD Cert.MobaProj.τ Cert.MobaProj.sig) → Buf (Elt Bits) ℓ) : Prop :=
  True

def Pre_MobaProjIdeal (m : (ℓ : Loc Cert.MobaProjIdeal.nD Cert.MobaProjIdeal.τ Cert.MobaProjIdeal.sig) → Buf (Elt Ideal) ℓ) : Prop :=
  True

def Pre_MobaInputsIdeal (m : (ℓ : Loc Cert.MobaInputsIdeal.nD Cert.MobaInputsIdeal.τ Cert.MobaInputsIdeal.sig) → Buf (Elt Ideal) ℓ) : Prop :=
  True

def Pre_BiasTiles (m : (ℓ : Loc Cert.BiasTiles.nD Cert.BiasTiles.τ Cert.BiasTiles.sig) → Buf (Elt Bits) ℓ) : Prop :=
  True

def Pre_BiasTilesIdeal (m : (ℓ : Loc Cert.BiasTilesIdeal.nD Cert.BiasTilesIdeal.τ Cert.BiasTilesIdeal.sig) → Buf (Elt Ideal) ℓ) : Prop :=
  True

def Pre_PositionBiasIdeal (m : (ℓ : Loc Cert.PositionBiasIdeal.nD Cert.PositionBiasIdeal.τ Cert.PositionBiasIdeal.sig) → Buf (Elt Ideal) ℓ) : Prop :=
  True

def Pre_OutMlpFirst (m : (ℓ : Loc Cert.OutMlpFirst.nD Cert.OutMlpFirst.τ Cert.OutMlpFirst.sig) → Buf (Elt Bits) ℓ) : Prop :=
  True

def Pre_OutMlpFirstIdeal (m : (ℓ : Loc Cert.OutMlpFirstIdeal.nD Cert.OutMlpFirstIdeal.τ Cert.OutMlpFirstIdeal.sig) → Buf (Elt Ideal) ℓ) : Prop :=
  True

def Pre_FirstBlockIdeal (m : (ℓ : Loc Cert.FirstBlockIdeal.nD Cert.FirstBlockIdeal.τ Cert.FirstBlockIdeal.sig) → Buf (Elt Ideal) ℓ) : Prop :=
  True

def Pre_OutMlpThird (m : (ℓ : Loc Cert.OutMlpThird.nD Cert.OutMlpThird.τ Cert.OutMlpThird.sig) → Buf (Elt Bits) ℓ) : Prop :=
  True

def Pre_OutMlpThirdIdeal (m : (ℓ : Loc Cert.OutMlpThirdIdeal.nD Cert.OutMlpThirdIdeal.τ Cert.OutMlpThirdIdeal.sig) → Buf (Elt Ideal) ℓ) : Prop :=
  True

def Pre_ThirdBlockIdeal (m : (ℓ : Loc Cert.ThirdBlockIdeal.nD Cert.ThirdBlockIdeal.τ Cert.ThirdBlockIdeal.sig) → Buf (Elt Ideal) ℓ) : Prop :=
  True

def Pre_RetProjLast (m : (ℓ : Loc Cert.RetProjLast.nD Cert.RetProjLast.τ Cert.RetProjLast.sig) → Buf (Elt Bits) ℓ) : Prop :=
  True

def Pre_RetProjLastIdeal (m : (ℓ : Loc Cert.RetProjLastIdeal.nD Cert.RetProjLastIdeal.τ Cert.RetProjLastIdeal.sig) → Buf (Elt Ideal) ℓ) : Prop :=
  True

def Pre_LastInputsIdeal (m : (ℓ : Loc Cert.LastInputsIdeal.nD Cert.LastInputsIdeal.τ Cert.LastInputsIdeal.sig) → Buf (Elt Ideal) ℓ) : Prop :=
  True

def quiescent_RetCore [hRetCore : Cert.RetCore.Facts] : Prop :=
  ∀ (m : (ℓ : Loc Cert.RetCore.nD Cert.RetCore.τ Cert.RetCore.sig) → Buf (Elt Bits) ℓ) (g : Dev Cert.RetCore.nD → PrngReg), Pre_RetCore m →
    θ_run (Cert.RetCore.defs (F := Bits)) (onTc (τ := Cert.RetCore.τ) (Cert.RetCore.main (F := Bits))) ⟨m, fun _ => 0, g⟩ (fun r => (∀ c : Dev Cert.RetCore.nD,
      r.2.mem ((c.tc : Thread Cert.RetCore.nD Cert.RetCore.τ).loc Cert.RetCore.main_arg0) = m ((c.tc : Thread Cert.RetCore.nD Cert.RetCore.τ).loc Cert.RetCore.main_arg0)
      ∧ r.2.mem ((c.tc : Thread Cert.RetCore.nD Cert.RetCore.τ).loc Cert.RetCore.main_arg1) = m ((c.tc : Thread Cert.RetCore.nD Cert.RetCore.τ).loc Cert.RetCore.main_arg1)
      ∧ r.2.mem ((c.tc : Thread Cert.RetCore.nD Cert.RetCore.τ).loc Cert.RetCore.main_arg2) = m ((c.tc : Thread Cert.RetCore.nD Cert.RetCore.τ).loc Cert.RetCore.main_arg2))
      ∧ r.2.sem = fun _ => 0)

def quiescent_RetCoreIdeal [hRetCoreIdeal : Cert.RetCoreIdeal.Facts] : Prop :=
  ∀ (m : (ℓ : Loc Cert.RetCoreIdeal.nD Cert.RetCoreIdeal.τ Cert.RetCoreIdeal.sig) → Buf (Elt Ideal) ℓ) (g : Dev Cert.RetCoreIdeal.nD → PrngReg), Pre_RetCoreIdeal m →
    θ_run (Cert.RetCoreIdeal.defs (F := Ideal)) (onTc (τ := Cert.RetCoreIdeal.τ) (Cert.RetCoreIdeal.main (F := Ideal))) ⟨m, fun _ => 0, g⟩ (fun r => (∀ c : Dev Cert.RetCoreIdeal.nD,
      r.2.mem ((c.tc : Thread Cert.RetCoreIdeal.nD Cert.RetCoreIdeal.τ).loc Cert.RetCoreIdeal.main_arg0) = m ((c.tc : Thread Cert.RetCoreIdeal.nD Cert.RetCoreIdeal.τ).loc Cert.RetCoreIdeal.main_arg0)
      ∧ r.2.mem ((c.tc : Thread Cert.RetCoreIdeal.nD Cert.RetCoreIdeal.τ).loc Cert.RetCoreIdeal.main_arg1) = m ((c.tc : Thread Cert.RetCoreIdeal.nD Cert.RetCoreIdeal.τ).loc Cert.RetCoreIdeal.main_arg1)
      ∧ r.2.mem ((c.tc : Thread Cert.RetCoreIdeal.nD Cert.RetCoreIdeal.τ).loc Cert.RetCoreIdeal.main_arg2) = m ((c.tc : Thread Cert.RetCoreIdeal.nD Cert.RetCoreIdeal.τ).loc Cert.RetCoreIdeal.main_arg2))
      ∧ r.2.sem = fun _ => 0)

def quiescent_RetCoreIdeal_pre_finite [hRetCoreIdeal : Cert.RetCoreIdeal.Facts] [hPre_finite : Cert.Pre_finite.Facts] : Prop :=
  ∀ (m : (ℓ : Loc Cert.RetCoreIdeal.nD Cert.RetCoreIdeal.τ Cert.RetCoreIdeal.sig) → Buf (Elt Ideal) ℓ) (g : Dev Cert.RetCoreIdeal.nD → PrngReg), Pre_RetCoreIdeal_finite m →
    θ_run (Cert.RetCoreIdeal.defs (F := Ideal)) (onTc (τ := Cert.RetCoreIdeal.τ) (Cert.RetCoreIdeal.main (F := Ideal))) ⟨m, fun _ => 0, g⟩ (fun r => (∀ c : Dev Cert.RetCoreIdeal.nD,
      r.2.mem ((c.tc : Thread Cert.RetCoreIdeal.nD Cert.RetCoreIdeal.τ).loc Cert.RetCoreIdeal.main_arg0) = m ((c.tc : Thread Cert.RetCoreIdeal.nD Cert.RetCoreIdeal.τ).loc Cert.RetCoreIdeal.main_arg0)
      ∧ r.2.mem ((c.tc : Thread Cert.RetCoreIdeal.nD Cert.RetCoreIdeal.τ).loc Cert.RetCoreIdeal.main_arg1) = m ((c.tc : Thread Cert.RetCoreIdeal.nD Cert.RetCoreIdeal.τ).loc Cert.RetCoreIdeal.main_arg1)
      ∧ r.2.mem ((c.tc : Thread Cert.RetCoreIdeal.nD Cert.RetCoreIdeal.τ).loc Cert.RetCoreIdeal.main_arg2) = m ((c.tc : Thread Cert.RetCoreIdeal.nD Cert.RetCoreIdeal.τ).loc Cert.RetCoreIdeal.main_arg2))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2))
      ∧ r.2.sem = fun _ => 0)

def quiescent_RetentionIdeal_pre_finite [hRetentionIdeal : Cert.RetentionIdeal.Facts] [hPre_finite : Cert.Pre_finite.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal_finite m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2))
      ∧ r.2.sem = fun _ => 0)

def quiescent_OutMlpGated [hOutMlpGated : Cert.OutMlpGated.Facts] : Prop :=
  ∀ (m : (ℓ : Loc Cert.OutMlpGated.nD Cert.OutMlpGated.τ Cert.OutMlpGated.sig) → Buf (Elt Bits) ℓ) (g : Dev Cert.OutMlpGated.nD → PrngReg), Pre_OutMlpGated m →
    θ_run (Cert.OutMlpGated.defs (F := Bits)) (onTc (τ := Cert.OutMlpGated.τ) (Cert.OutMlpGated.main (F := Bits))) ⟨m, fun _ => 0, g⟩ (fun r => (∀ c : Dev Cert.OutMlpGated.nD,
      r.2.mem ((c.tc : Thread Cert.OutMlpGated.nD Cert.OutMlpGated.τ).loc Cert.OutMlpGated.main_arg0) = m ((c.tc : Thread Cert.OutMlpGated.nD Cert.OutMlpGated.τ).loc Cert.OutMlpGated.main_arg0)
      ∧ r.2.mem ((c.tc : Thread Cert.OutMlpGated.nD Cert.OutMlpGated.τ).loc Cert.OutMlpGated.main_arg1) = m ((c.tc : Thread Cert.OutMlpGated.nD Cert.OutMlpGated.τ).loc Cert.OutMlpGated.main_arg1)
      ∧ r.2.mem ((c.tc : Thread Cert.OutMlpGated.nD Cert.OutMlpGated.τ).loc Cert.OutMlpGated.main_arg2) = m ((c.tc : Thread Cert.OutMlpGated.nD Cert.OutMlpGated.τ).loc Cert.OutMlpGated.main_arg2)
      ∧ r.2.mem ((c.tc : Thread Cert.OutMlpGated.nD Cert.OutMlpGated.τ).loc Cert.OutMlpGated.main_arg3) = m ((c.tc : Thread Cert.OutMlpGated.nD Cert.OutMlpGated.τ).loc Cert.OutMlpGated.main_arg3)
      ∧ r.2.mem ((c.tc : Thread Cert.OutMlpGated.nD Cert.OutMlpGated.τ).loc Cert.OutMlpGated.main_arg4) = m ((c.tc : Thread Cert.OutMlpGated.nD Cert.OutMlpGated.τ).loc Cert.OutMlpGated.main_arg4)
      ∧ r.2.mem ((c.tc : Thread Cert.OutMlpGated.nD Cert.OutMlpGated.τ).loc Cert.OutMlpGated.main_arg5) = m ((c.tc : Thread Cert.OutMlpGated.nD Cert.OutMlpGated.τ).loc Cert.OutMlpGated.main_arg5)
      ∧ r.2.mem ((c.tc : Thread Cert.OutMlpGated.nD Cert.OutMlpGated.τ).loc Cert.OutMlpGated.main_arg6) = m ((c.tc : Thread Cert.OutMlpGated.nD Cert.OutMlpGated.τ).loc Cert.OutMlpGated.main_arg6))
      ∧ r.2.sem = fun _ => 0)

def quiescent_OutMlpGatedIdeal [hOutMlpGatedIdeal : Cert.OutMlpGatedIdeal.Facts] : Prop :=
  ∀ (m : (ℓ : Loc Cert.OutMlpGatedIdeal.nD Cert.OutMlpGatedIdeal.τ Cert.OutMlpGatedIdeal.sig) → Buf (Elt Ideal) ℓ) (g : Dev Cert.OutMlpGatedIdeal.nD → PrngReg), Pre_OutMlpGatedIdeal m →
    θ_run (Cert.OutMlpGatedIdeal.defs (F := Ideal)) (onTc (τ := Cert.OutMlpGatedIdeal.τ) (Cert.OutMlpGatedIdeal.main (F := Ideal))) ⟨m, fun _ => 0, g⟩ (fun r => (∀ c : Dev Cert.OutMlpGatedIdeal.nD,
      r.2.mem ((c.tc : Thread Cert.OutMlpGatedIdeal.nD Cert.OutMlpGatedIdeal.τ).loc Cert.OutMlpGatedIdeal.main_arg0) = m ((c.tc : Thread Cert.OutMlpGatedIdeal.nD Cert.OutMlpGatedIdeal.τ).loc Cert.OutMlpGatedIdeal.main_arg0)
      ∧ r.2.mem ((c.tc : Thread Cert.OutMlpGatedIdeal.nD Cert.OutMlpGatedIdeal.τ).loc Cert.OutMlpGatedIdeal.main_arg1) = m ((c.tc : Thread Cert.OutMlpGatedIdeal.nD Cert.OutMlpGatedIdeal.τ).loc Cert.OutMlpGatedIdeal.main_arg1)
      ∧ r.2.mem ((c.tc : Thread Cert.OutMlpGatedIdeal.nD Cert.OutMlpGatedIdeal.τ).loc Cert.OutMlpGatedIdeal.main_arg2) = m ((c.tc : Thread Cert.OutMlpGatedIdeal.nD Cert.OutMlpGatedIdeal.τ).loc Cert.OutMlpGatedIdeal.main_arg2)
      ∧ r.2.mem ((c.tc : Thread Cert.OutMlpGatedIdeal.nD Cert.OutMlpGatedIdeal.τ).loc Cert.OutMlpGatedIdeal.main_arg3) = m ((c.tc : Thread Cert.OutMlpGatedIdeal.nD Cert.OutMlpGatedIdeal.τ).loc Cert.OutMlpGatedIdeal.main_arg3)
      ∧ r.2.mem ((c.tc : Thread Cert.OutMlpGatedIdeal.nD Cert.OutMlpGatedIdeal.τ).loc Cert.OutMlpGatedIdeal.main_arg4) = m ((c.tc : Thread Cert.OutMlpGatedIdeal.nD Cert.OutMlpGatedIdeal.τ).loc Cert.OutMlpGatedIdeal.main_arg4)
      ∧ r.2.mem ((c.tc : Thread Cert.OutMlpGatedIdeal.nD Cert.OutMlpGatedIdeal.τ).loc Cert.OutMlpGatedIdeal.main_arg5) = m ((c.tc : Thread Cert.OutMlpGatedIdeal.nD Cert.OutMlpGatedIdeal.τ).loc Cert.OutMlpGatedIdeal.main_arg5)
      ∧ r.2.mem ((c.tc : Thread Cert.OutMlpGatedIdeal.nD Cert.OutMlpGatedIdeal.τ).loc Cert.OutMlpGatedIdeal.main_arg6) = m ((c.tc : Thread Cert.OutMlpGatedIdeal.nD Cert.OutMlpGatedIdeal.τ).loc Cert.OutMlpGatedIdeal.main_arg6))
      ∧ r.2.sem = fun _ => 0)

def quiescent_GatedBlockIdeal [hGatedBlockIdeal : Cert.GatedBlockIdeal.Facts] : Prop :=
  ∀ (m : (ℓ : Loc Cert.GatedBlockIdeal.nD Cert.GatedBlockIdeal.τ Cert.GatedBlockIdeal.sig) → Buf (Elt Ideal) ℓ) (g : Dev Cert.GatedBlockIdeal.nD → PrngReg), Pre_GatedBlockIdeal m →
    θ_run (Cert.GatedBlockIdeal.defs (F := Ideal)) (onTc (τ := Cert.GatedBlockIdeal.τ) (Cert.GatedBlockIdeal.main (F := Ideal))) ⟨m, fun _ => 0, g⟩ (fun r => (∀ c : Dev Cert.GatedBlockIdeal.nD,
      r.2.mem ((c.tc : Thread Cert.GatedBlockIdeal.nD Cert.GatedBlockIdeal.τ).loc Cert.GatedBlockIdeal.main_arg0) = m ((c.tc : Thread Cert.GatedBlockIdeal.nD Cert.GatedBlockIdeal.τ).loc Cert.GatedBlockIdeal.main_arg0)
      ∧ r.2.mem ((c.tc : Thread Cert.GatedBlockIdeal.nD Cert.GatedBlockIdeal.τ).loc Cert.GatedBlockIdeal.main_arg1) = m ((c.tc : Thread Cert.GatedBlockIdeal.nD Cert.GatedBlockIdeal.τ).loc Cert.GatedBlockIdeal.main_arg1)
      ∧ r.2.mem ((c.tc : Thread Cert.GatedBlockIdeal.nD Cert.GatedBlockIdeal.τ).loc Cert.GatedBlockIdeal.main_arg2) = m ((c.tc : Thread Cert.GatedBlockIdeal.nD Cert.GatedBlockIdeal.τ).loc Cert.GatedBlockIdeal.main_arg2)
      ∧ r.2.mem ((c.tc : Thread Cert.GatedBlockIdeal.nD Cert.GatedBlockIdeal.τ).loc Cert.GatedBlockIdeal.main_arg3) = m ((c.tc : Thread Cert.GatedBlockIdeal.nD Cert.GatedBlockIdeal.τ).loc Cert.GatedBlockIdeal.main_arg3)
      ∧ r.2.mem ((c.tc : Thread Cert.GatedBlockIdeal.nD Cert.GatedBlockIdeal.τ).loc Cert.GatedBlockIdeal.main_arg4) = m ((c.tc : Thread Cert.GatedBlockIdeal.nD Cert.GatedBlockIdeal.τ).loc Cert.GatedBlockIdeal.main_arg4)
      ∧ r.2.mem ((c.tc : Thread Cert.GatedBlockIdeal.nD Cert.GatedBlockIdeal.τ).loc Cert.GatedBlockIdeal.main_arg5) = m ((c.tc : Thread Cert.GatedBlockIdeal.nD Cert.GatedBlockIdeal.τ).loc Cert.GatedBlockIdeal.main_arg5)
      ∧ r.2.mem ((c.tc : Thread Cert.GatedBlockIdeal.nD Cert.GatedBlockIdeal.τ).loc Cert.GatedBlockIdeal.main_arg6) = m ((c.tc : Thread Cert.GatedBlockIdeal.nD Cert.GatedBlockIdeal.τ).loc Cert.GatedBlockIdeal.main_arg6))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7)
      ∧ r.2.mem ((c.tc : Thread Cert.OutMlp.nD Cert.OutMlp.τ).loc Cert.OutMlp.main_arg8) = m ((c.tc : Thread Cert.OutMlp.nD Cert.OutMlp.τ).loc Cert.OutMlp.main_arg8)
      ∧ r.2.mem ((c.tc : Thread Cert.OutMlp.nD Cert.OutMlp.τ).loc Cert.OutMlp.main_arg9) = m ((c.tc : Thread Cert.OutMlp.nD Cert.OutMlp.τ).loc Cert.OutMlp.main_arg9))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
      ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
      ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9))
      ∧ r.2.sem = fun _ => 0)

def quiescent_PlainBlockIdeal [hPlainBlockIdeal : Cert.PlainBlockIdeal.Facts] : Prop :=
  ∀ (m : (ℓ : Loc Cert.PlainBlockIdeal.nD Cert.PlainBlockIdeal.τ Cert.PlainBlockIdeal.sig) → Buf (Elt Ideal) ℓ) (g : Dev Cert.PlainBlockIdeal.nD → PrngReg), Pre_PlainBlockIdeal m →
    θ_run (Cert.PlainBlockIdeal.defs (F := Ideal)) (onTc (τ := Cert.PlainBlockIdeal.τ) (Cert.PlainBlockIdeal.main (F := Ideal))) ⟨m, fun _ => 0, g⟩ (fun r => (∀ c : Dev Cert.PlainBlockIdeal.nD,
      r.2.mem ((c.tc : Thread Cert.PlainBlockIdeal.nD Cert.PlainBlockIdeal.τ).loc Cert.PlainBlockIdeal.main_arg0) = m ((c.tc : Thread Cert.PlainBlockIdeal.nD Cert.PlainBlockIdeal.τ).loc Cert.PlainBlockIdeal.main_arg0)
      ∧ r.2.mem ((c.tc : Thread Cert.PlainBlockIdeal.nD Cert.PlainBlockIdeal.τ).loc Cert.PlainBlockIdeal.main_arg1) = m ((c.tc : Thread Cert.PlainBlockIdeal.nD Cert.PlainBlockIdeal.τ).loc Cert.PlainBlockIdeal.main_arg1)
      ∧ r.2.mem ((c.tc : Thread Cert.PlainBlockIdeal.nD Cert.PlainBlockIdeal.τ).loc Cert.PlainBlockIdeal.main_arg2) = m ((c.tc : Thread Cert.PlainBlockIdeal.nD Cert.PlainBlockIdeal.τ).loc Cert.PlainBlockIdeal.main_arg2)
      ∧ r.2.mem ((c.tc : Thread Cert.PlainBlockIdeal.nD Cert.PlainBlockIdeal.τ).loc Cert.PlainBlockIdeal.main_arg3) = m ((c.tc : Thread Cert.PlainBlockIdeal.nD Cert.PlainBlockIdeal.τ).loc Cert.PlainBlockIdeal.main_arg3)
      ∧ r.2.mem ((c.tc : Thread Cert.PlainBlockIdeal.nD Cert.PlainBlockIdeal.τ).loc Cert.PlainBlockIdeal.main_arg4) = m ((c.tc : Thread Cert.PlainBlockIdeal.nD Cert.PlainBlockIdeal.τ).loc Cert.PlainBlockIdeal.main_arg4)
      ∧ r.2.mem ((c.tc : Thread Cert.PlainBlockIdeal.nD Cert.PlainBlockIdeal.τ).loc Cert.PlainBlockIdeal.main_arg5) = m ((c.tc : Thread Cert.PlainBlockIdeal.nD Cert.PlainBlockIdeal.τ).loc Cert.PlainBlockIdeal.main_arg5)
      ∧ r.2.mem ((c.tc : Thread Cert.PlainBlockIdeal.nD Cert.PlainBlockIdeal.τ).loc Cert.PlainBlockIdeal.main_arg6) = m ((c.tc : Thread Cert.PlainBlockIdeal.nD Cert.PlainBlockIdeal.τ).loc Cert.PlainBlockIdeal.main_arg6)
      ∧ r.2.mem ((c.tc : Thread Cert.PlainBlockIdeal.nD Cert.PlainBlockIdeal.τ).loc Cert.PlainBlockIdeal.main_arg7) = m ((c.tc : Thread Cert.PlainBlockIdeal.nD Cert.PlainBlockIdeal.τ).loc Cert.PlainBlockIdeal.main_arg7)
      ∧ r.2.mem ((c.tc : Thread Cert.PlainBlockIdeal.nD Cert.PlainBlockIdeal.τ).loc Cert.PlainBlockIdeal.main_arg8) = m ((c.tc : Thread Cert.PlainBlockIdeal.nD Cert.PlainBlockIdeal.τ).loc Cert.PlainBlockIdeal.main_arg8)
      ∧ r.2.mem ((c.tc : Thread Cert.PlainBlockIdeal.nD Cert.PlainBlockIdeal.τ).loc Cert.PlainBlockIdeal.main_arg9) = m ((c.tc : Thread Cert.PlainBlockIdeal.nD Cert.PlainBlockIdeal.τ).loc Cert.PlainBlockIdeal.main_arg9))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2)
      ∧ r.2.mem ((c.tc : Thread Cert.RetProj.nD Cert.RetProj.τ).loc Cert.RetProj.main_arg3) = m ((c.tc : Thread Cert.RetProj.nD Cert.RetProj.τ).loc Cert.RetProj.main_arg3)
      ∧ r.2.mem ((c.tc : Thread Cert.RetProj.nD Cert.RetProj.τ).loc Cert.RetProj.main_arg4) = m ((c.tc : Thread Cert.RetProj.nD Cert.RetProj.τ).loc Cert.RetProj.main_arg4)
      ∧ r.2.mem ((c.tc : Thread Cert.RetProj.nD Cert.RetProj.τ).loc Cert.RetProj.main_arg5) = m ((c.tc : Thread Cert.RetProj.nD Cert.RetProj.τ).loc Cert.RetProj.main_arg5))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
      ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3)
      ∧ r.2.mem ((c.tc : Thread Cert.RetProjIdeal.nD Cert.RetProjIdeal.τ).loc Cert.RetProjIdeal.main_arg4) = m ((c.tc : Thread Cert.RetProjIdeal.nD Cert.RetProjIdeal.τ).loc Cert.RetProjIdeal.main_arg4)
      ∧ r.2.mem ((c.tc : Thread Cert.RetProjIdeal.nD Cert.RetProjIdeal.τ).loc Cert.RetProjIdeal.main_arg5) = m ((c.tc : Thread Cert.RetProjIdeal.nD Cert.RetProjIdeal.τ).loc Cert.RetProjIdeal.main_arg5))
      ∧ r.2.sem = fun _ => 0)

def quiescent_RetentionInputsIdeal [hRetentionInputsIdeal : Cert.RetentionInputsIdeal.Facts] : Prop :=
  ∀ (m : (ℓ : Loc Cert.RetentionInputsIdeal.nD Cert.RetentionInputsIdeal.τ Cert.RetentionInputsIdeal.sig) → Buf (Elt Ideal) ℓ) (g : Dev Cert.RetentionInputsIdeal.nD → PrngReg), Pre_RetentionInputsIdeal m →
    θ_run (Cert.RetentionInputsIdeal.defs (F := Ideal)) (onTc (τ := Cert.RetentionInputsIdeal.τ) (Cert.RetentionInputsIdeal.main (F := Ideal))) ⟨m, fun _ => 0, g⟩ (fun r => (∀ c : Dev Cert.RetentionInputsIdeal.nD,
      r.2.mem ((c.tc : Thread Cert.RetentionInputsIdeal.nD Cert.RetentionInputsIdeal.τ).loc Cert.RetentionInputsIdeal.main_arg0) = m ((c.tc : Thread Cert.RetentionInputsIdeal.nD Cert.RetentionInputsIdeal.τ).loc Cert.RetentionInputsIdeal.main_arg0)
      ∧ r.2.mem ((c.tc : Thread Cert.RetentionInputsIdeal.nD Cert.RetentionInputsIdeal.τ).loc Cert.RetentionInputsIdeal.main_arg1) = m ((c.tc : Thread Cert.RetentionInputsIdeal.nD Cert.RetentionInputsIdeal.τ).loc Cert.RetentionInputsIdeal.main_arg1)
      ∧ r.2.mem ((c.tc : Thread Cert.RetentionInputsIdeal.nD Cert.RetentionInputsIdeal.τ).loc Cert.RetentionInputsIdeal.main_arg2) = m ((c.tc : Thread Cert.RetentionInputsIdeal.nD Cert.RetentionInputsIdeal.τ).loc Cert.RetentionInputsIdeal.main_arg2)
      ∧ r.2.mem ((c.tc : Thread Cert.RetentionInputsIdeal.nD Cert.RetentionInputsIdeal.τ).loc Cert.RetentionInputsIdeal.main_arg3) = m ((c.tc : Thread Cert.RetentionInputsIdeal.nD Cert.RetentionInputsIdeal.τ).loc Cert.RetentionInputsIdeal.main_arg3)
      ∧ r.2.mem ((c.tc : Thread Cert.RetentionInputsIdeal.nD Cert.RetentionInputsIdeal.τ).loc Cert.RetentionInputsIdeal.main_arg4) = m ((c.tc : Thread Cert.RetentionInputsIdeal.nD Cert.RetentionInputsIdeal.τ).loc Cert.RetentionInputsIdeal.main_arg4)
      ∧ r.2.mem ((c.tc : Thread Cert.RetentionInputsIdeal.nD Cert.RetentionInputsIdeal.τ).loc Cert.RetentionInputsIdeal.main_arg5) = m ((c.tc : Thread Cert.RetentionInputsIdeal.nD Cert.RetentionInputsIdeal.τ).loc Cert.RetentionInputsIdeal.main_arg5))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3)
      ∧ r.2.mem ((c.tc : Thread Cert.AttnProj.nD Cert.AttnProj.τ).loc Cert.AttnProj.main_arg4) = m ((c.tc : Thread Cert.AttnProj.nD Cert.AttnProj.τ).loc Cert.AttnProj.main_arg4))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
      ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4))
      ∧ r.2.sem = fun _ => 0)

def quiescent_AttentionInputsIdeal [hAttentionInputsIdeal : Cert.AttentionInputsIdeal.Facts] : Prop :=
  ∀ (m : (ℓ : Loc Cert.AttentionInputsIdeal.nD Cert.AttentionInputsIdeal.τ Cert.AttentionInputsIdeal.sig) → Buf (Elt Ideal) ℓ) (g : Dev Cert.AttentionInputsIdeal.nD → PrngReg), Pre_AttentionInputsIdeal m →
    θ_run (Cert.AttentionInputsIdeal.defs (F := Ideal)) (onTc (τ := Cert.AttentionInputsIdeal.τ) (Cert.AttentionInputsIdeal.main (F := Ideal))) ⟨m, fun _ => 0, g⟩ (fun r => (∀ c : Dev Cert.AttentionInputsIdeal.nD,
      r.2.mem ((c.tc : Thread Cert.AttentionInputsIdeal.nD Cert.AttentionInputsIdeal.τ).loc Cert.AttentionInputsIdeal.main_arg0) = m ((c.tc : Thread Cert.AttentionInputsIdeal.nD Cert.AttentionInputsIdeal.τ).loc Cert.AttentionInputsIdeal.main_arg0)
      ∧ r.2.mem ((c.tc : Thread Cert.AttentionInputsIdeal.nD Cert.AttentionInputsIdeal.τ).loc Cert.AttentionInputsIdeal.main_arg1) = m ((c.tc : Thread Cert.AttentionInputsIdeal.nD Cert.AttentionInputsIdeal.τ).loc Cert.AttentionInputsIdeal.main_arg1)
      ∧ r.2.mem ((c.tc : Thread Cert.AttentionInputsIdeal.nD Cert.AttentionInputsIdeal.τ).loc Cert.AttentionInputsIdeal.main_arg2) = m ((c.tc : Thread Cert.AttentionInputsIdeal.nD Cert.AttentionInputsIdeal.τ).loc Cert.AttentionInputsIdeal.main_arg2)
      ∧ r.2.mem ((c.tc : Thread Cert.AttentionInputsIdeal.nD Cert.AttentionInputsIdeal.τ).loc Cert.AttentionInputsIdeal.main_arg3) = m ((c.tc : Thread Cert.AttentionInputsIdeal.nD Cert.AttentionInputsIdeal.τ).loc Cert.AttentionInputsIdeal.main_arg3)
      ∧ r.2.mem ((c.tc : Thread Cert.AttentionInputsIdeal.nD Cert.AttentionInputsIdeal.τ).loc Cert.AttentionInputsIdeal.main_arg4) = m ((c.tc : Thread Cert.AttentionInputsIdeal.nD Cert.AttentionInputsIdeal.τ).loc Cert.AttentionInputsIdeal.main_arg4))
      ∧ r.2.sem = fun _ => 0)

def quiescent_MobaProj [hMobaProj : Cert.MobaProj.Facts] : Prop :=
  ∀ (m : (ℓ : Loc Cert.MobaProj.nD Cert.MobaProj.τ Cert.MobaProj.sig) → Buf (Elt Bits) ℓ) (g : Dev Cert.MobaProj.nD → PrngReg), Pre_MobaProj m →
    θ_run (Cert.MobaProj.defs (F := Bits)) (onTc (τ := Cert.MobaProj.τ) (Cert.MobaProj.main (F := Bits))) ⟨m, fun _ => 0, g⟩ (fun r => (∀ c : Dev Cert.MobaProj.nD,
      r.2.mem ((c.tc : Thread Cert.MobaProj.nD Cert.MobaProj.τ).loc Cert.MobaProj.main_arg0) = m ((c.tc : Thread Cert.MobaProj.nD Cert.MobaProj.τ).loc Cert.MobaProj.main_arg0)
      ∧ r.2.mem ((c.tc : Thread Cert.MobaProj.nD Cert.MobaProj.τ).loc Cert.MobaProj.main_arg1) = m ((c.tc : Thread Cert.MobaProj.nD Cert.MobaProj.τ).loc Cert.MobaProj.main_arg1)
      ∧ r.2.mem ((c.tc : Thread Cert.MobaProj.nD Cert.MobaProj.τ).loc Cert.MobaProj.main_arg2) = m ((c.tc : Thread Cert.MobaProj.nD Cert.MobaProj.τ).loc Cert.MobaProj.main_arg2)
      ∧ r.2.mem ((c.tc : Thread Cert.MobaProj.nD Cert.MobaProj.τ).loc Cert.MobaProj.main_arg3) = m ((c.tc : Thread Cert.MobaProj.nD Cert.MobaProj.τ).loc Cert.MobaProj.main_arg3)
      ∧ r.2.mem ((c.tc : Thread Cert.MobaProj.nD Cert.MobaProj.τ).loc Cert.MobaProj.main_arg4) = m ((c.tc : Thread Cert.MobaProj.nD Cert.MobaProj.τ).loc Cert.MobaProj.main_arg4))
      ∧ r.2.sem = fun _ => 0)

def quiescent_MobaProjIdeal [hMobaProjIdeal : Cert.MobaProjIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg), Pre_MobaProjIdeal m →
    θ_run (Cert.MobaProjIdeal.defs (F := Ideal)) (onTc (τ := Cert.MobaProjIdeal.τ) (Cert.MobaProjIdeal.main (F := Ideal))) ⟨m, fun _ => 0, g⟩ (fun r => (∀ c : Dev Cert.MobaProjIdeal.nD,
      r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
      ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1)
      ∧ r.2.mem ((c.tc : Thread Cert.MobaProjIdeal.nD Cert.MobaProjIdeal.τ).loc Cert.MobaProjIdeal.main_arg2) = m ((c.tc : Thread Cert.MobaProjIdeal.nD Cert.MobaProjIdeal.τ).loc Cert.MobaProjIdeal.main_arg2)
      ∧ r.2.mem ((c.tc : Thread Cert.MobaProjIdeal.nD Cert.MobaProjIdeal.τ).loc Cert.MobaProjIdeal.main_arg3) = m ((c.tc : Thread Cert.MobaProjIdeal.nD Cert.MobaProjIdeal.τ).loc Cert.MobaProjIdeal.main_arg3)
      ∧ r.2.mem ((c.tc : Thread Cert.MobaProjIdeal.nD Cert.MobaProjIdeal.τ).loc Cert.MobaProjIdeal.main_arg4) = m ((c.tc : Thread Cert.MobaProjIdeal.nD Cert.MobaProjIdeal.τ).loc Cert.MobaProjIdeal.main_arg4))
      ∧ r.2.sem = fun _ => 0)

def quiescent_MobaInputsIdeal [hMobaInputsIdeal : Cert.MobaInputsIdeal.Facts] : Prop :=
  ∀ (m : (ℓ : Loc Cert.MobaInputsIdeal.nD Cert.MobaInputsIdeal.τ Cert.MobaInputsIdeal.sig) → Buf (Elt Ideal) ℓ) (g : Dev Cert.MobaInputsIdeal.nD → PrngReg), Pre_MobaInputsIdeal m →
    θ_run (Cert.MobaInputsIdeal.defs (F := Ideal)) (onTc (τ := Cert.MobaInputsIdeal.τ) (Cert.MobaInputsIdeal.main (F := Ideal))) ⟨m, fun _ => 0, g⟩ (fun r => (∀ c : Dev Cert.MobaInputsIdeal.nD,
      r.2.mem ((c.tc : Thread Cert.MobaInputsIdeal.nD Cert.MobaInputsIdeal.τ).loc Cert.MobaInputsIdeal.main_arg0) = m ((c.tc : Thread Cert.MobaInputsIdeal.nD Cert.MobaInputsIdeal.τ).loc Cert.MobaInputsIdeal.main_arg0)
      ∧ r.2.mem ((c.tc : Thread Cert.MobaInputsIdeal.nD Cert.MobaInputsIdeal.τ).loc Cert.MobaInputsIdeal.main_arg1) = m ((c.tc : Thread Cert.MobaInputsIdeal.nD Cert.MobaInputsIdeal.τ).loc Cert.MobaInputsIdeal.main_arg1)
      ∧ r.2.mem ((c.tc : Thread Cert.MobaInputsIdeal.nD Cert.MobaInputsIdeal.τ).loc Cert.MobaInputsIdeal.main_arg2) = m ((c.tc : Thread Cert.MobaInputsIdeal.nD Cert.MobaInputsIdeal.τ).loc Cert.MobaInputsIdeal.main_arg2)
      ∧ r.2.mem ((c.tc : Thread Cert.MobaInputsIdeal.nD Cert.MobaInputsIdeal.τ).loc Cert.MobaInputsIdeal.main_arg3) = m ((c.tc : Thread Cert.MobaInputsIdeal.nD Cert.MobaInputsIdeal.τ).loc Cert.MobaInputsIdeal.main_arg3)
      ∧ r.2.mem ((c.tc : Thread Cert.MobaInputsIdeal.nD Cert.MobaInputsIdeal.τ).loc Cert.MobaInputsIdeal.main_arg4) = m ((c.tc : Thread Cert.MobaInputsIdeal.nD Cert.MobaInputsIdeal.τ).loc Cert.MobaInputsIdeal.main_arg4))
      ∧ r.2.sem = fun _ => 0)

def quiescent_BiasTiles [hBiasTiles : Cert.BiasTiles.Facts] : Prop :=
  ∀ (m : (ℓ : Loc Cert.BiasTiles.nD Cert.BiasTiles.τ Cert.BiasTiles.sig) → Buf (Elt Bits) ℓ) (g : Dev Cert.BiasTiles.nD → PrngReg), Pre_BiasTiles m →
    θ_run (Cert.BiasTiles.defs (F := Bits)) (onTc (τ := Cert.BiasTiles.τ) (Cert.BiasTiles.main (F := Bits))) ⟨m, fun _ => 0, g⟩ (fun r => (∀ c : Dev Cert.BiasTiles.nD,
      r.2.mem ((c.tc : Thread Cert.BiasTiles.nD Cert.BiasTiles.τ).loc Cert.BiasTiles.main_arg0) = m ((c.tc : Thread Cert.BiasTiles.nD Cert.BiasTiles.τ).loc Cert.BiasTiles.main_arg0))
      ∧ r.2.sem = fun _ => 0)

def quiescent_BiasTilesIdeal [hBiasTilesIdeal : Cert.BiasTilesIdeal.Facts] : Prop :=
  ∀ (m : (ℓ : Loc Cert.BiasTilesIdeal.nD Cert.BiasTilesIdeal.τ Cert.BiasTilesIdeal.sig) → Buf (Elt Ideal) ℓ) (g : Dev Cert.BiasTilesIdeal.nD → PrngReg), Pre_BiasTilesIdeal m →
    θ_run (Cert.BiasTilesIdeal.defs (F := Ideal)) (onTc (τ := Cert.BiasTilesIdeal.τ) (Cert.BiasTilesIdeal.main (F := Ideal))) ⟨m, fun _ => 0, g⟩ (fun r => (∀ c : Dev Cert.BiasTilesIdeal.nD,
      r.2.mem ((c.tc : Thread Cert.BiasTilesIdeal.nD Cert.BiasTilesIdeal.τ).loc Cert.BiasTilesIdeal.main_arg0) = m ((c.tc : Thread Cert.BiasTilesIdeal.nD Cert.BiasTilesIdeal.τ).loc Cert.BiasTilesIdeal.main_arg0))
      ∧ r.2.sem = fun _ => 0)

def quiescent_PositionBiasIdeal [hPositionBiasIdeal : Cert.PositionBiasIdeal.Facts] : Prop :=
  ∀ (m : (ℓ : Loc Cert.PositionBiasIdeal.nD Cert.PositionBiasIdeal.τ Cert.PositionBiasIdeal.sig) → Buf (Elt Ideal) ℓ) (g : Dev Cert.PositionBiasIdeal.nD → PrngReg), Pre_PositionBiasIdeal m →
    θ_run (Cert.PositionBiasIdeal.defs (F := Ideal)) (onTc (τ := Cert.PositionBiasIdeal.τ) (Cert.PositionBiasIdeal.main (F := Ideal))) ⟨m, fun _ => 0, g⟩ (fun r => (∀ c : Dev Cert.PositionBiasIdeal.nD,
      r.2.mem ((c.tc : Thread Cert.PositionBiasIdeal.nD Cert.PositionBiasIdeal.τ).loc Cert.PositionBiasIdeal.main_arg0) = m ((c.tc : Thread Cert.PositionBiasIdeal.nD Cert.PositionBiasIdeal.τ).loc Cert.PositionBiasIdeal.main_arg0))
      ∧ r.2.sem = fun _ => 0)

def quiescent_OutMlpFirst [hOutMlpFirst : Cert.OutMlpFirst.Facts] : Prop :=
  ∀ (m : (ℓ : Loc Cert.OutMlpFirst.nD Cert.OutMlpFirst.τ Cert.OutMlpFirst.sig) → Buf (Elt Bits) ℓ) (g : Dev Cert.OutMlpFirst.nD → PrngReg), Pre_OutMlpFirst m →
    θ_run (Cert.OutMlpFirst.defs (F := Bits)) (onTc (τ := Cert.OutMlpFirst.τ) (Cert.OutMlpFirst.main (F := Bits))) ⟨m, fun _ => 0, g⟩ (fun r => (∀ c : Dev Cert.OutMlpFirst.nD,
      r.2.mem ((c.tc : Thread Cert.OutMlpFirst.nD Cert.OutMlpFirst.τ).loc Cert.OutMlpFirst.main_arg0) = m ((c.tc : Thread Cert.OutMlpFirst.nD Cert.OutMlpFirst.τ).loc Cert.OutMlpFirst.main_arg0)
      ∧ r.2.mem ((c.tc : Thread Cert.OutMlpFirst.nD Cert.OutMlpFirst.τ).loc Cert.OutMlpFirst.main_arg1) = m ((c.tc : Thread Cert.OutMlpFirst.nD Cert.OutMlpFirst.τ).loc Cert.OutMlpFirst.main_arg1)
      ∧ r.2.mem ((c.tc : Thread Cert.OutMlpFirst.nD Cert.OutMlpFirst.τ).loc Cert.OutMlpFirst.main_arg2) = m ((c.tc : Thread Cert.OutMlpFirst.nD Cert.OutMlpFirst.τ).loc Cert.OutMlpFirst.main_arg2)
      ∧ r.2.mem ((c.tc : Thread Cert.OutMlpFirst.nD Cert.OutMlpFirst.τ).loc Cert.OutMlpFirst.main_arg3) = m ((c.tc : Thread Cert.OutMlpFirst.nD Cert.OutMlpFirst.τ).loc Cert.OutMlpFirst.main_arg3)
      ∧ r.2.mem ((c.tc : Thread Cert.OutMlpFirst.nD Cert.OutMlpFirst.τ).loc Cert.OutMlpFirst.main_arg4) = m ((c.tc : Thread Cert.OutMlpFirst.nD Cert.OutMlpFirst.τ).loc Cert.OutMlpFirst.main_arg4)
      ∧ r.2.mem ((c.tc : Thread Cert.OutMlpFirst.nD Cert.OutMlpFirst.τ).loc Cert.OutMlpFirst.main_arg5) = m ((c.tc : Thread Cert.OutMlpFirst.nD Cert.OutMlpFirst.τ).loc Cert.OutMlpFirst.main_arg5)
      ∧ r.2.mem ((c.tc : Thread Cert.OutMlpFirst.nD Cert.OutMlpFirst.τ).loc Cert.OutMlpFirst.main_arg6) = m ((c.tc : Thread Cert.OutMlpFirst.nD Cert.OutMlpFirst.τ).loc Cert.OutMlpFirst.main_arg6)
      ∧ r.2.mem ((c.tc : Thread Cert.OutMlpFirst.nD Cert.OutMlpFirst.τ).loc Cert.OutMlpFirst.main_arg7) = m ((c.tc : Thread Cert.OutMlpFirst.nD Cert.OutMlpFirst.τ).loc Cert.OutMlpFirst.main_arg7)
      ∧ r.2.mem ((c.tc : Thread Cert.OutMlpFirst.nD Cert.OutMlpFirst.τ).loc Cert.OutMlpFirst.main_arg8) = m ((c.tc : Thread Cert.OutMlpFirst.nD Cert.OutMlpFirst.τ).loc Cert.OutMlpFirst.main_arg8)
      ∧ r.2.mem ((c.tc : Thread Cert.OutMlpFirst.nD Cert.OutMlpFirst.τ).loc Cert.OutMlpFirst.main_arg9) = m ((c.tc : Thread Cert.OutMlpFirst.nD Cert.OutMlpFirst.τ).loc Cert.OutMlpFirst.main_arg9)
      ∧ r.2.mem ((c.tc : Thread Cert.OutMlpFirst.nD Cert.OutMlpFirst.τ).loc Cert.OutMlpFirst.main_arg10) = m ((c.tc : Thread Cert.OutMlpFirst.nD Cert.OutMlpFirst.τ).loc Cert.OutMlpFirst.main_arg10))
      ∧ r.2.sem = fun _ => 0)

def quiescent_OutMlpFirstIdeal [hOutMlpFirstIdeal : Cert.OutMlpFirstIdeal.Facts] : Prop :=
  ∀ (m : (ℓ : Loc Cert.OutMlpFirstIdeal.nD Cert.OutMlpFirstIdeal.τ Cert.OutMlpFirstIdeal.sig) → Buf (Elt Ideal) ℓ) (g : Dev Cert.OutMlpFirstIdeal.nD → PrngReg), Pre_OutMlpFirstIdeal m →
    θ_run (Cert.OutMlpFirstIdeal.defs (F := Ideal)) (onTc (τ := Cert.OutMlpFirstIdeal.τ) (Cert.OutMlpFirstIdeal.main (F := Ideal))) ⟨m, fun _ => 0, g⟩ (fun r => (∀ c : Dev Cert.OutMlpFirstIdeal.nD,
      r.2.mem ((c.tc : Thread Cert.OutMlpFirstIdeal.nD Cert.OutMlpFirstIdeal.τ).loc Cert.OutMlpFirstIdeal.main_arg0) = m ((c.tc : Thread Cert.OutMlpFirstIdeal.nD Cert.OutMlpFirstIdeal.τ).loc Cert.OutMlpFirstIdeal.main_arg0)
      ∧ r.2.mem ((c.tc : Thread Cert.OutMlpFirstIdeal.nD Cert.OutMlpFirstIdeal.τ).loc Cert.OutMlpFirstIdeal.main_arg1) = m ((c.tc : Thread Cert.OutMlpFirstIdeal.nD Cert.OutMlpFirstIdeal.τ).loc Cert.OutMlpFirstIdeal.main_arg1)
      ∧ r.2.mem ((c.tc : Thread Cert.OutMlpFirstIdeal.nD Cert.OutMlpFirstIdeal.τ).loc Cert.OutMlpFirstIdeal.main_arg2) = m ((c.tc : Thread Cert.OutMlpFirstIdeal.nD Cert.OutMlpFirstIdeal.τ).loc Cert.OutMlpFirstIdeal.main_arg2)
      ∧ r.2.mem ((c.tc : Thread Cert.OutMlpFirstIdeal.nD Cert.OutMlpFirstIdeal.τ).loc Cert.OutMlpFirstIdeal.main_arg3) = m ((c.tc : Thread Cert.OutMlpFirstIdeal.nD Cert.OutMlpFirstIdeal.τ).loc Cert.OutMlpFirstIdeal.main_arg3)
      ∧ r.2.mem ((c.tc : Thread Cert.OutMlpFirstIdeal.nD Cert.OutMlpFirstIdeal.τ).loc Cert.OutMlpFirstIdeal.main_arg4) = m ((c.tc : Thread Cert.OutMlpFirstIdeal.nD Cert.OutMlpFirstIdeal.τ).loc Cert.OutMlpFirstIdeal.main_arg4)
      ∧ r.2.mem ((c.tc : Thread Cert.OutMlpFirstIdeal.nD Cert.OutMlpFirstIdeal.τ).loc Cert.OutMlpFirstIdeal.main_arg5) = m ((c.tc : Thread Cert.OutMlpFirstIdeal.nD Cert.OutMlpFirstIdeal.τ).loc Cert.OutMlpFirstIdeal.main_arg5)
      ∧ r.2.mem ((c.tc : Thread Cert.OutMlpFirstIdeal.nD Cert.OutMlpFirstIdeal.τ).loc Cert.OutMlpFirstIdeal.main_arg6) = m ((c.tc : Thread Cert.OutMlpFirstIdeal.nD Cert.OutMlpFirstIdeal.τ).loc Cert.OutMlpFirstIdeal.main_arg6)
      ∧ r.2.mem ((c.tc : Thread Cert.OutMlpFirstIdeal.nD Cert.OutMlpFirstIdeal.τ).loc Cert.OutMlpFirstIdeal.main_arg7) = m ((c.tc : Thread Cert.OutMlpFirstIdeal.nD Cert.OutMlpFirstIdeal.τ).loc Cert.OutMlpFirstIdeal.main_arg7)
      ∧ r.2.mem ((c.tc : Thread Cert.OutMlpFirstIdeal.nD Cert.OutMlpFirstIdeal.τ).loc Cert.OutMlpFirstIdeal.main_arg8) = m ((c.tc : Thread Cert.OutMlpFirstIdeal.nD Cert.OutMlpFirstIdeal.τ).loc Cert.OutMlpFirstIdeal.main_arg8)
      ∧ r.2.mem ((c.tc : Thread Cert.OutMlpFirstIdeal.nD Cert.OutMlpFirstIdeal.τ).loc Cert.OutMlpFirstIdeal.main_arg9) = m ((c.tc : Thread Cert.OutMlpFirstIdeal.nD Cert.OutMlpFirstIdeal.τ).loc Cert.OutMlpFirstIdeal.main_arg9)
      ∧ r.2.mem ((c.tc : Thread Cert.OutMlpFirstIdeal.nD Cert.OutMlpFirstIdeal.τ).loc Cert.OutMlpFirstIdeal.main_arg10) = m ((c.tc : Thread Cert.OutMlpFirstIdeal.nD Cert.OutMlpFirstIdeal.τ).loc Cert.OutMlpFirstIdeal.main_arg10))
      ∧ r.2.sem = fun _ => 0)

def quiescent_FirstBlockIdeal [hFirstBlockIdeal : Cert.FirstBlockIdeal.Facts] : Prop :=
  ∀ (m : (ℓ : Loc Cert.FirstBlockIdeal.nD Cert.FirstBlockIdeal.τ Cert.FirstBlockIdeal.sig) → Buf (Elt Ideal) ℓ) (g : Dev Cert.FirstBlockIdeal.nD → PrngReg), Pre_FirstBlockIdeal m →
    θ_run (Cert.FirstBlockIdeal.defs (F := Ideal)) (onTc (τ := Cert.FirstBlockIdeal.τ) (Cert.FirstBlockIdeal.main (F := Ideal))) ⟨m, fun _ => 0, g⟩ (fun r => (∀ c : Dev Cert.FirstBlockIdeal.nD,
      r.2.mem ((c.tc : Thread Cert.FirstBlockIdeal.nD Cert.FirstBlockIdeal.τ).loc Cert.FirstBlockIdeal.main_arg0) = m ((c.tc : Thread Cert.FirstBlockIdeal.nD Cert.FirstBlockIdeal.τ).loc Cert.FirstBlockIdeal.main_arg0)
      ∧ r.2.mem ((c.tc : Thread Cert.FirstBlockIdeal.nD Cert.FirstBlockIdeal.τ).loc Cert.FirstBlockIdeal.main_arg1) = m ((c.tc : Thread Cert.FirstBlockIdeal.nD Cert.FirstBlockIdeal.τ).loc Cert.FirstBlockIdeal.main_arg1)
      ∧ r.2.mem ((c.tc : Thread Cert.FirstBlockIdeal.nD Cert.FirstBlockIdeal.τ).loc Cert.FirstBlockIdeal.main_arg2) = m ((c.tc : Thread Cert.FirstBlockIdeal.nD Cert.FirstBlockIdeal.τ).loc Cert.FirstBlockIdeal.main_arg2)
      ∧ r.2.mem ((c.tc : Thread Cert.FirstBlockIdeal.nD Cert.FirstBlockIdeal.τ).loc Cert.FirstBlockIdeal.main_arg3) = m ((c.tc : Thread Cert.FirstBlockIdeal.nD Cert.FirstBlockIdeal.τ).loc Cert.FirstBlockIdeal.main_arg3)
      ∧ r.2.mem ((c.tc : Thread Cert.FirstBlockIdeal.nD Cert.FirstBlockIdeal.τ).loc Cert.FirstBlockIdeal.main_arg4) = m ((c.tc : Thread Cert.FirstBlockIdeal.nD Cert.FirstBlockIdeal.τ).loc Cert.FirstBlockIdeal.main_arg4)
      ∧ r.2.mem ((c.tc : Thread Cert.FirstBlockIdeal.nD Cert.FirstBlockIdeal.τ).loc Cert.FirstBlockIdeal.main_arg5) = m ((c.tc : Thread Cert.FirstBlockIdeal.nD Cert.FirstBlockIdeal.τ).loc Cert.FirstBlockIdeal.main_arg5)
      ∧ r.2.mem ((c.tc : Thread Cert.FirstBlockIdeal.nD Cert.FirstBlockIdeal.τ).loc Cert.FirstBlockIdeal.main_arg6) = m ((c.tc : Thread Cert.FirstBlockIdeal.nD Cert.FirstBlockIdeal.τ).loc Cert.FirstBlockIdeal.main_arg6)
      ∧ r.2.mem ((c.tc : Thread Cert.FirstBlockIdeal.nD Cert.FirstBlockIdeal.τ).loc Cert.FirstBlockIdeal.main_arg7) = m ((c.tc : Thread Cert.FirstBlockIdeal.nD Cert.FirstBlockIdeal.τ).loc Cert.FirstBlockIdeal.main_arg7)
      ∧ r.2.mem ((c.tc : Thread Cert.FirstBlockIdeal.nD Cert.FirstBlockIdeal.τ).loc Cert.FirstBlockIdeal.main_arg8) = m ((c.tc : Thread Cert.FirstBlockIdeal.nD Cert.FirstBlockIdeal.τ).loc Cert.FirstBlockIdeal.main_arg8)
      ∧ r.2.mem ((c.tc : Thread Cert.FirstBlockIdeal.nD Cert.FirstBlockIdeal.τ).loc Cert.FirstBlockIdeal.main_arg9) = m ((c.tc : Thread Cert.FirstBlockIdeal.nD Cert.FirstBlockIdeal.τ).loc Cert.FirstBlockIdeal.main_arg9)
      ∧ r.2.mem ((c.tc : Thread Cert.FirstBlockIdeal.nD Cert.FirstBlockIdeal.τ).loc Cert.FirstBlockIdeal.main_arg10) = m ((c.tc : Thread Cert.FirstBlockIdeal.nD Cert.FirstBlockIdeal.τ).loc Cert.FirstBlockIdeal.main_arg10))
      ∧ r.2.sem = fun _ => 0)

def quiescent_OutMlpThird [hOutMlpThird : Cert.OutMlpThird.Facts] : Prop :=
  ∀ (m : (ℓ : Loc Cert.OutMlpThird.nD Cert.OutMlpThird.τ Cert.OutMlpThird.sig) → Buf (Elt Bits) ℓ) (g : Dev Cert.OutMlpThird.nD → PrngReg), Pre_OutMlpThird m →
    θ_run (Cert.OutMlpThird.defs (F := Bits)) (onTc (τ := Cert.OutMlpThird.τ) (Cert.OutMlpThird.main (F := Bits))) ⟨m, fun _ => 0, g⟩ (fun r => (∀ c : Dev Cert.OutMlpThird.nD,
      r.2.mem ((c.tc : Thread Cert.OutMlpThird.nD Cert.OutMlpThird.τ).loc Cert.OutMlpThird.main_arg0) = m ((c.tc : Thread Cert.OutMlpThird.nD Cert.OutMlpThird.τ).loc Cert.OutMlpThird.main_arg0)
      ∧ r.2.mem ((c.tc : Thread Cert.OutMlpThird.nD Cert.OutMlpThird.τ).loc Cert.OutMlpThird.main_arg1) = m ((c.tc : Thread Cert.OutMlpThird.nD Cert.OutMlpThird.τ).loc Cert.OutMlpThird.main_arg1)
      ∧ r.2.mem ((c.tc : Thread Cert.OutMlpThird.nD Cert.OutMlpThird.τ).loc Cert.OutMlpThird.main_arg2) = m ((c.tc : Thread Cert.OutMlpThird.nD Cert.OutMlpThird.τ).loc Cert.OutMlpThird.main_arg2)
      ∧ r.2.mem ((c.tc : Thread Cert.OutMlpThird.nD Cert.OutMlpThird.τ).loc Cert.OutMlpThird.main_arg3) = m ((c.tc : Thread Cert.OutMlpThird.nD Cert.OutMlpThird.τ).loc Cert.OutMlpThird.main_arg3)
      ∧ r.2.mem ((c.tc : Thread Cert.OutMlpThird.nD Cert.OutMlpThird.τ).loc Cert.OutMlpThird.main_arg4) = m ((c.tc : Thread Cert.OutMlpThird.nD Cert.OutMlpThird.τ).loc Cert.OutMlpThird.main_arg4)
      ∧ r.2.mem ((c.tc : Thread Cert.OutMlpThird.nD Cert.OutMlpThird.τ).loc Cert.OutMlpThird.main_arg5) = m ((c.tc : Thread Cert.OutMlpThird.nD Cert.OutMlpThird.τ).loc Cert.OutMlpThird.main_arg5)
      ∧ r.2.mem ((c.tc : Thread Cert.OutMlpThird.nD Cert.OutMlpThird.τ).loc Cert.OutMlpThird.main_arg6) = m ((c.tc : Thread Cert.OutMlpThird.nD Cert.OutMlpThird.τ).loc Cert.OutMlpThird.main_arg6)
      ∧ r.2.mem ((c.tc : Thread Cert.OutMlpThird.nD Cert.OutMlpThird.τ).loc Cert.OutMlpThird.main_arg7) = m ((c.tc : Thread Cert.OutMlpThird.nD Cert.OutMlpThird.τ).loc Cert.OutMlpThird.main_arg7)
      ∧ r.2.mem ((c.tc : Thread Cert.OutMlpThird.nD Cert.OutMlpThird.τ).loc Cert.OutMlpThird.main_arg8) = m ((c.tc : Thread Cert.OutMlpThird.nD Cert.OutMlpThird.τ).loc Cert.OutMlpThird.main_arg8)
      ∧ r.2.mem ((c.tc : Thread Cert.OutMlpThird.nD Cert.OutMlpThird.τ).loc Cert.OutMlpThird.main_arg9) = m ((c.tc : Thread Cert.OutMlpThird.nD Cert.OutMlpThird.τ).loc Cert.OutMlpThird.main_arg9))
      ∧ r.2.sem = fun _ => 0)

def quiescent_OutMlpThirdIdeal [hOutMlpThirdIdeal : Cert.OutMlpThirdIdeal.Facts] : Prop :=
  ∀ (m : (ℓ : Loc Cert.OutMlpThirdIdeal.nD Cert.OutMlpThirdIdeal.τ Cert.OutMlpThirdIdeal.sig) → Buf (Elt Ideal) ℓ) (g : Dev Cert.OutMlpThirdIdeal.nD → PrngReg), Pre_OutMlpThirdIdeal m →
    θ_run (Cert.OutMlpThirdIdeal.defs (F := Ideal)) (onTc (τ := Cert.OutMlpThirdIdeal.τ) (Cert.OutMlpThirdIdeal.main (F := Ideal))) ⟨m, fun _ => 0, g⟩ (fun r => (∀ c : Dev Cert.OutMlpThirdIdeal.nD,
      r.2.mem ((c.tc : Thread Cert.OutMlpThirdIdeal.nD Cert.OutMlpThirdIdeal.τ).loc Cert.OutMlpThirdIdeal.main_arg0) = m ((c.tc : Thread Cert.OutMlpThirdIdeal.nD Cert.OutMlpThirdIdeal.τ).loc Cert.OutMlpThirdIdeal.main_arg0)
      ∧ r.2.mem ((c.tc : Thread Cert.OutMlpThirdIdeal.nD Cert.OutMlpThirdIdeal.τ).loc Cert.OutMlpThirdIdeal.main_arg1) = m ((c.tc : Thread Cert.OutMlpThirdIdeal.nD Cert.OutMlpThirdIdeal.τ).loc Cert.OutMlpThirdIdeal.main_arg1)
      ∧ r.2.mem ((c.tc : Thread Cert.OutMlpThirdIdeal.nD Cert.OutMlpThirdIdeal.τ).loc Cert.OutMlpThirdIdeal.main_arg2) = m ((c.tc : Thread Cert.OutMlpThirdIdeal.nD Cert.OutMlpThirdIdeal.τ).loc Cert.OutMlpThirdIdeal.main_arg2)
      ∧ r.2.mem ((c.tc : Thread Cert.OutMlpThirdIdeal.nD Cert.OutMlpThirdIdeal.τ).loc Cert.OutMlpThirdIdeal.main_arg3) = m ((c.tc : Thread Cert.OutMlpThirdIdeal.nD Cert.OutMlpThirdIdeal.τ).loc Cert.OutMlpThirdIdeal.main_arg3)
      ∧ r.2.mem ((c.tc : Thread Cert.OutMlpThirdIdeal.nD Cert.OutMlpThirdIdeal.τ).loc Cert.OutMlpThirdIdeal.main_arg4) = m ((c.tc : Thread Cert.OutMlpThirdIdeal.nD Cert.OutMlpThirdIdeal.τ).loc Cert.OutMlpThirdIdeal.main_arg4)
      ∧ r.2.mem ((c.tc : Thread Cert.OutMlpThirdIdeal.nD Cert.OutMlpThirdIdeal.τ).loc Cert.OutMlpThirdIdeal.main_arg5) = m ((c.tc : Thread Cert.OutMlpThirdIdeal.nD Cert.OutMlpThirdIdeal.τ).loc Cert.OutMlpThirdIdeal.main_arg5)
      ∧ r.2.mem ((c.tc : Thread Cert.OutMlpThirdIdeal.nD Cert.OutMlpThirdIdeal.τ).loc Cert.OutMlpThirdIdeal.main_arg6) = m ((c.tc : Thread Cert.OutMlpThirdIdeal.nD Cert.OutMlpThirdIdeal.τ).loc Cert.OutMlpThirdIdeal.main_arg6)
      ∧ r.2.mem ((c.tc : Thread Cert.OutMlpThirdIdeal.nD Cert.OutMlpThirdIdeal.τ).loc Cert.OutMlpThirdIdeal.main_arg7) = m ((c.tc : Thread Cert.OutMlpThirdIdeal.nD Cert.OutMlpThirdIdeal.τ).loc Cert.OutMlpThirdIdeal.main_arg7)
      ∧ r.2.mem ((c.tc : Thread Cert.OutMlpThirdIdeal.nD Cert.OutMlpThirdIdeal.τ).loc Cert.OutMlpThirdIdeal.main_arg8) = m ((c.tc : Thread Cert.OutMlpThirdIdeal.nD Cert.OutMlpThirdIdeal.τ).loc Cert.OutMlpThirdIdeal.main_arg8)
      ∧ r.2.mem ((c.tc : Thread Cert.OutMlpThirdIdeal.nD Cert.OutMlpThirdIdeal.τ).loc Cert.OutMlpThirdIdeal.main_arg9) = m ((c.tc : Thread Cert.OutMlpThirdIdeal.nD Cert.OutMlpThirdIdeal.τ).loc Cert.OutMlpThirdIdeal.main_arg9))
      ∧ r.2.sem = fun _ => 0)

def quiescent_ThirdBlockIdeal [hThirdBlockIdeal : Cert.ThirdBlockIdeal.Facts] : Prop :=
  ∀ (m : (ℓ : Loc Cert.ThirdBlockIdeal.nD Cert.ThirdBlockIdeal.τ Cert.ThirdBlockIdeal.sig) → Buf (Elt Ideal) ℓ) (g : Dev Cert.ThirdBlockIdeal.nD → PrngReg), Pre_ThirdBlockIdeal m →
    θ_run (Cert.ThirdBlockIdeal.defs (F := Ideal)) (onTc (τ := Cert.ThirdBlockIdeal.τ) (Cert.ThirdBlockIdeal.main (F := Ideal))) ⟨m, fun _ => 0, g⟩ (fun r => (∀ c : Dev Cert.ThirdBlockIdeal.nD,
      r.2.mem ((c.tc : Thread Cert.ThirdBlockIdeal.nD Cert.ThirdBlockIdeal.τ).loc Cert.ThirdBlockIdeal.main_arg0) = m ((c.tc : Thread Cert.ThirdBlockIdeal.nD Cert.ThirdBlockIdeal.τ).loc Cert.ThirdBlockIdeal.main_arg0)
      ∧ r.2.mem ((c.tc : Thread Cert.ThirdBlockIdeal.nD Cert.ThirdBlockIdeal.τ).loc Cert.ThirdBlockIdeal.main_arg1) = m ((c.tc : Thread Cert.ThirdBlockIdeal.nD Cert.ThirdBlockIdeal.τ).loc Cert.ThirdBlockIdeal.main_arg1)
      ∧ r.2.mem ((c.tc : Thread Cert.ThirdBlockIdeal.nD Cert.ThirdBlockIdeal.τ).loc Cert.ThirdBlockIdeal.main_arg2) = m ((c.tc : Thread Cert.ThirdBlockIdeal.nD Cert.ThirdBlockIdeal.τ).loc Cert.ThirdBlockIdeal.main_arg2)
      ∧ r.2.mem ((c.tc : Thread Cert.ThirdBlockIdeal.nD Cert.ThirdBlockIdeal.τ).loc Cert.ThirdBlockIdeal.main_arg3) = m ((c.tc : Thread Cert.ThirdBlockIdeal.nD Cert.ThirdBlockIdeal.τ).loc Cert.ThirdBlockIdeal.main_arg3)
      ∧ r.2.mem ((c.tc : Thread Cert.ThirdBlockIdeal.nD Cert.ThirdBlockIdeal.τ).loc Cert.ThirdBlockIdeal.main_arg4) = m ((c.tc : Thread Cert.ThirdBlockIdeal.nD Cert.ThirdBlockIdeal.τ).loc Cert.ThirdBlockIdeal.main_arg4)
      ∧ r.2.mem ((c.tc : Thread Cert.ThirdBlockIdeal.nD Cert.ThirdBlockIdeal.τ).loc Cert.ThirdBlockIdeal.main_arg5) = m ((c.tc : Thread Cert.ThirdBlockIdeal.nD Cert.ThirdBlockIdeal.τ).loc Cert.ThirdBlockIdeal.main_arg5)
      ∧ r.2.mem ((c.tc : Thread Cert.ThirdBlockIdeal.nD Cert.ThirdBlockIdeal.τ).loc Cert.ThirdBlockIdeal.main_arg6) = m ((c.tc : Thread Cert.ThirdBlockIdeal.nD Cert.ThirdBlockIdeal.τ).loc Cert.ThirdBlockIdeal.main_arg6)
      ∧ r.2.mem ((c.tc : Thread Cert.ThirdBlockIdeal.nD Cert.ThirdBlockIdeal.τ).loc Cert.ThirdBlockIdeal.main_arg7) = m ((c.tc : Thread Cert.ThirdBlockIdeal.nD Cert.ThirdBlockIdeal.τ).loc Cert.ThirdBlockIdeal.main_arg7)
      ∧ r.2.mem ((c.tc : Thread Cert.ThirdBlockIdeal.nD Cert.ThirdBlockIdeal.τ).loc Cert.ThirdBlockIdeal.main_arg8) = m ((c.tc : Thread Cert.ThirdBlockIdeal.nD Cert.ThirdBlockIdeal.τ).loc Cert.ThirdBlockIdeal.main_arg8)
      ∧ r.2.mem ((c.tc : Thread Cert.ThirdBlockIdeal.nD Cert.ThirdBlockIdeal.τ).loc Cert.ThirdBlockIdeal.main_arg9) = m ((c.tc : Thread Cert.ThirdBlockIdeal.nD Cert.ThirdBlockIdeal.τ).loc Cert.ThirdBlockIdeal.main_arg9))
      ∧ r.2.sem = fun _ => 0)

def quiescent_RetProjLast [hRetProjLast : Cert.RetProjLast.Facts] : Prop :=
  ∀ (m : (ℓ : Loc Cert.RetProjLast.nD Cert.RetProjLast.τ Cert.RetProjLast.sig) → Buf (Elt Bits) ℓ) (g : Dev Cert.RetProjLast.nD → PrngReg), Pre_RetProjLast m →
    θ_run (Cert.RetProjLast.defs (F := Bits)) (onTc (τ := Cert.RetProjLast.τ) (Cert.RetProjLast.main (F := Bits))) ⟨m, fun _ => 0, g⟩ (fun r => (∀ c : Dev Cert.RetProjLast.nD,
      r.2.mem ((c.tc : Thread Cert.RetProjLast.nD Cert.RetProjLast.τ).loc Cert.RetProjLast.main_arg0) = m ((c.tc : Thread Cert.RetProjLast.nD Cert.RetProjLast.τ).loc Cert.RetProjLast.main_arg0)
      ∧ r.2.mem ((c.tc : Thread Cert.RetProjLast.nD Cert.RetProjLast.τ).loc Cert.RetProjLast.main_arg1) = m ((c.tc : Thread Cert.RetProjLast.nD Cert.RetProjLast.τ).loc Cert.RetProjLast.main_arg1)
      ∧ r.2.mem ((c.tc : Thread Cert.RetProjLast.nD Cert.RetProjLast.τ).loc Cert.RetProjLast.main_arg2) = m ((c.tc : Thread Cert.RetProjLast.nD Cert.RetProjLast.τ).loc Cert.RetProjLast.main_arg2))
      ∧ r.2.sem = fun _ => 0)

def quiescent_RetProjLastIdeal [hRetProjLastIdeal : Cert.RetProjLastIdeal.Facts] : Prop :=
  ∀ (m : (ℓ : Loc Cert.RetProjLastIdeal.nD Cert.RetProjLastIdeal.τ Cert.RetProjLastIdeal.sig) → Buf (Elt Ideal) ℓ) (g : Dev Cert.RetProjLastIdeal.nD → PrngReg), Pre_RetProjLastIdeal m →
    θ_run (Cert.RetProjLastIdeal.defs (F := Ideal)) (onTc (τ := Cert.RetProjLastIdeal.τ) (Cert.RetProjLastIdeal.main (F := Ideal))) ⟨m, fun _ => 0, g⟩ (fun r => (∀ c : Dev Cert.RetProjLastIdeal.nD,
      r.2.mem ((c.tc : Thread Cert.RetProjLastIdeal.nD Cert.RetProjLastIdeal.τ).loc Cert.RetProjLastIdeal.main_arg0) = m ((c.tc : Thread Cert.RetProjLastIdeal.nD Cert.RetProjLastIdeal.τ).loc Cert.RetProjLastIdeal.main_arg0)
      ∧ r.2.mem ((c.tc : Thread Cert.RetProjLastIdeal.nD Cert.RetProjLastIdeal.τ).loc Cert.RetProjLastIdeal.main_arg1) = m ((c.tc : Thread Cert.RetProjLastIdeal.nD Cert.RetProjLastIdeal.τ).loc Cert.RetProjLastIdeal.main_arg1)
      ∧ r.2.mem ((c.tc : Thread Cert.RetProjLastIdeal.nD Cert.RetProjLastIdeal.τ).loc Cert.RetProjLastIdeal.main_arg2) = m ((c.tc : Thread Cert.RetProjLastIdeal.nD Cert.RetProjLastIdeal.τ).loc Cert.RetProjLastIdeal.main_arg2))
      ∧ r.2.sem = fun _ => 0)

def quiescent_LastInputsIdeal [hLastInputsIdeal : Cert.LastInputsIdeal.Facts] : Prop :=
  ∀ (m : (ℓ : Loc Cert.LastInputsIdeal.nD Cert.LastInputsIdeal.τ Cert.LastInputsIdeal.sig) → Buf (Elt Ideal) ℓ) (g : Dev Cert.LastInputsIdeal.nD → PrngReg), Pre_LastInputsIdeal m →
    θ_run (Cert.LastInputsIdeal.defs (F := Ideal)) (onTc (τ := Cert.LastInputsIdeal.τ) (Cert.LastInputsIdeal.main (F := Ideal))) ⟨m, fun _ => 0, g⟩ (fun r => (∀ c : Dev Cert.LastInputsIdeal.nD,
      r.2.mem ((c.tc : Thread Cert.LastInputsIdeal.nD Cert.LastInputsIdeal.τ).loc Cert.LastInputsIdeal.main_arg0) = m ((c.tc : Thread Cert.LastInputsIdeal.nD Cert.LastInputsIdeal.τ).loc Cert.LastInputsIdeal.main_arg0)
      ∧ r.2.mem ((c.tc : Thread Cert.LastInputsIdeal.nD Cert.LastInputsIdeal.τ).loc Cert.LastInputsIdeal.main_arg1) = m ((c.tc : Thread Cert.LastInputsIdeal.nD Cert.LastInputsIdeal.τ).loc Cert.LastInputsIdeal.main_arg1)
      ∧ r.2.mem ((c.tc : Thread Cert.LastInputsIdeal.nD Cert.LastInputsIdeal.τ).loc Cert.LastInputsIdeal.main_arg2) = m ((c.tc : Thread Cert.LastInputsIdeal.nD Cert.LastInputsIdeal.τ).loc Cert.LastInputsIdeal.main_arg2))
      ∧ r.2.sem = fun _ => 0)

def preserves_RetCore_RetCoreIdeal : Prop :=
  True

def algebraic_RetCoreIdeal_RetentionIdeal_pre_finite [hRetCoreIdeal : Cert.RetCoreIdeal.Facts] [hRetentionIdeal : Cert.RetentionIdeal.Facts] [hPre_finite : Cert.Pre_finite.Facts] : Prop :=
  ∀ (m : (ℓ : Loc Cert.RetCoreIdeal.nD Cert.RetCoreIdeal.τ Cert.RetCoreIdeal.sig) → Buf (Elt Ideal) ℓ) (g : Dev Cert.RetCoreIdeal.nD → PrngReg)
    (m' : (ℓ : Loc Cert.RetentionIdeal.nD Cert.RetentionIdeal.τ Cert.RetentionIdeal.sig) → Buf (Elt Ideal) ℓ) (g' : Dev Cert.RetentionIdeal.nD → PrngReg), Pre_RetCoreIdeal_finite m →
    (∀ c : Dev Cert.RetCoreIdeal.nD,
      m' ((c.tc : Thread Cert.RetentionIdeal.nD Cert.RetentionIdeal.τ).loc Cert.RetentionIdeal.main_arg0) = m ((c.tc : Thread Cert.RetCoreIdeal.nD Cert.RetCoreIdeal.τ).loc Cert.RetCoreIdeal.main_arg0)
      ∧ m' ((c.tc : Thread Cert.RetentionIdeal.nD Cert.RetentionIdeal.τ).loc Cert.RetentionIdeal.main_arg1) = m ((c.tc : Thread Cert.RetCoreIdeal.nD Cert.RetCoreIdeal.τ).loc Cert.RetCoreIdeal.main_arg1)
      ∧ m' ((c.tc : Thread Cert.RetentionIdeal.nD Cert.RetentionIdeal.τ).loc Cert.RetentionIdeal.main_arg2) = m ((c.tc : Thread Cert.RetCoreIdeal.nD Cert.RetCoreIdeal.τ).loc Cert.RetCoreIdeal.main_arg2)) →
    ∃ (v0 : (c : Dev Cert.RetCoreIdeal.nD) → Buf (Elt Ideal) ((c.tc : Thread Cert.RetCoreIdeal.nD Cert.RetCoreIdeal.τ).loc Cert.RetCoreIdeal.main_v47)),
      θ_run (Cert.RetCoreIdeal.defs (F := Ideal)) (onTc (τ := Cert.RetCoreIdeal.τ) (Cert.RetCoreIdeal.main (F := Ideal))) ⟨m, fun _ => 0, g⟩ (fun r => ∀ c : Dev Cert.RetCoreIdeal.nD,
          r.2.mem ((c.tc : Thread Cert.RetCoreIdeal.nD Cert.RetCoreIdeal.τ).loc Cert.RetCoreIdeal.main_v47) = v0 c
          ∧ r.2.mem ((c.tc : Thread Cert.RetCoreIdeal.nD Cert.RetCoreIdeal.τ).loc Cert.RetCoreIdeal.main_arg0) = m ((c.tc : Thread Cert.RetCoreIdeal.nD Cert.RetCoreIdeal.τ).loc Cert.RetCoreIdeal.main_arg0)
          ∧ r.2.mem ((c.tc : Thread Cert.RetCoreIdeal.nD Cert.RetCoreIdeal.τ).loc Cert.RetCoreIdeal.main_arg1) = m ((c.tc : Thread Cert.RetCoreIdeal.nD Cert.RetCoreIdeal.τ).loc Cert.RetCoreIdeal.main_arg1)
          ∧ r.2.mem ((c.tc : Thread Cert.RetCoreIdeal.nD Cert.RetCoreIdeal.τ).loc Cert.RetCoreIdeal.main_arg2) = m ((c.tc : Thread Cert.RetCoreIdeal.nD Cert.RetCoreIdeal.τ).loc Cert.RetCoreIdeal.main_arg2))
      ∧ θ_run (Cert.RetentionIdeal.defs (F := Ideal)) (onTc (τ := Cert.RetentionIdeal.τ) (Cert.RetentionIdeal.main (F := Ideal))) ⟨m', fun _ => 0, g'⟩ (fun r => ∀ c : Dev Cert.RetentionIdeal.nD,
          r.2.mem ((c.tc : Thread Cert.RetentionIdeal.nD Cert.RetentionIdeal.τ).loc Cert.RetentionIdeal.main_v92) = v0 c
          ∧ r.2.mem ((c.tc : Thread Cert.RetentionIdeal.nD Cert.RetentionIdeal.τ).loc Cert.RetentionIdeal.main_arg0) = m' ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m' ((c.tc : Thread Cert.RetentionIdeal.nD Cert.RetentionIdeal.τ).loc Cert.RetentionIdeal.main_arg1)
          ∧ r.2.mem ((c.tc : Thread Cert.RetentionIdeal.nD Cert.RetentionIdeal.τ).loc Cert.RetentionIdeal.main_arg2) = m' ((c.tc : Thread Cert.RetentionIdeal.nD Cert.RetentionIdeal.τ).loc Cert.RetentionIdeal.main_arg2))

def preserves_OutMlpGated_OutMlpGatedIdeal : Prop :=
  True

def algebraic_OutMlpGatedIdeal_GatedBlockIdeal [hOutMlpGatedIdeal : Cert.OutMlpGatedIdeal.Facts] [hGatedBlockIdeal : Cert.GatedBlockIdeal.Facts] : Prop :=
  ∀ (m : (ℓ : Loc Cert.OutMlpGatedIdeal.nD Cert.OutMlpGatedIdeal.τ Cert.OutMlpGatedIdeal.sig) → Buf (Elt Ideal) ℓ) (g : Dev Cert.OutMlpGatedIdeal.nD → PrngReg)
    (m' : (ℓ : Loc Cert.GatedBlockIdeal.nD Cert.GatedBlockIdeal.τ Cert.GatedBlockIdeal.sig) → Buf (Elt Ideal) ℓ) (g' : Dev Cert.GatedBlockIdeal.nD → PrngReg), Pre_OutMlpGatedIdeal m →
    (∀ c : Dev Cert.OutMlpGatedIdeal.nD,
      m' ((c.tc : Thread Cert.GatedBlockIdeal.nD Cert.GatedBlockIdeal.τ).loc Cert.GatedBlockIdeal.main_arg0) = m ((c.tc : Thread Cert.OutMlpGatedIdeal.nD Cert.OutMlpGatedIdeal.τ).loc Cert.OutMlpGatedIdeal.main_arg0)
      ∧ m' ((c.tc : Thread Cert.GatedBlockIdeal.nD Cert.GatedBlockIdeal.τ).loc Cert.GatedBlockIdeal.main_arg1) = m ((c.tc : Thread Cert.OutMlpGatedIdeal.nD Cert.OutMlpGatedIdeal.τ).loc Cert.OutMlpGatedIdeal.main_arg1)
      ∧ m' ((c.tc : Thread Cert.GatedBlockIdeal.nD Cert.GatedBlockIdeal.τ).loc Cert.GatedBlockIdeal.main_arg2) = m ((c.tc : Thread Cert.OutMlpGatedIdeal.nD Cert.OutMlpGatedIdeal.τ).loc Cert.OutMlpGatedIdeal.main_arg2)
      ∧ m' ((c.tc : Thread Cert.GatedBlockIdeal.nD Cert.GatedBlockIdeal.τ).loc Cert.GatedBlockIdeal.main_arg3) = m ((c.tc : Thread Cert.OutMlpGatedIdeal.nD Cert.OutMlpGatedIdeal.τ).loc Cert.OutMlpGatedIdeal.main_arg3)
      ∧ m' ((c.tc : Thread Cert.GatedBlockIdeal.nD Cert.GatedBlockIdeal.τ).loc Cert.GatedBlockIdeal.main_arg4) = m ((c.tc : Thread Cert.OutMlpGatedIdeal.nD Cert.OutMlpGatedIdeal.τ).loc Cert.OutMlpGatedIdeal.main_arg4)
      ∧ m' ((c.tc : Thread Cert.GatedBlockIdeal.nD Cert.GatedBlockIdeal.τ).loc Cert.GatedBlockIdeal.main_arg5) = m ((c.tc : Thread Cert.OutMlpGatedIdeal.nD Cert.OutMlpGatedIdeal.τ).loc Cert.OutMlpGatedIdeal.main_arg5)
      ∧ m' ((c.tc : Thread Cert.GatedBlockIdeal.nD Cert.GatedBlockIdeal.τ).loc Cert.GatedBlockIdeal.main_arg6) = m ((c.tc : Thread Cert.OutMlpGatedIdeal.nD Cert.OutMlpGatedIdeal.τ).loc Cert.OutMlpGatedIdeal.main_arg6)) →
    ∃ (v0 : (c : Dev Cert.OutMlpGatedIdeal.nD) → Buf (Elt Ideal) ((c.tc : Thread Cert.OutMlpGatedIdeal.nD Cert.OutMlpGatedIdeal.τ).loc Cert.OutMlpGatedIdeal.main_v2)),
      θ_run (Cert.OutMlpGatedIdeal.defs (F := Ideal)) (onTc (τ := Cert.OutMlpGatedIdeal.τ) (Cert.OutMlpGatedIdeal.main (F := Ideal))) ⟨m, fun _ => 0, g⟩ (fun r => ∀ c : Dev Cert.OutMlpGatedIdeal.nD,
          r.2.mem ((c.tc : Thread Cert.OutMlpGatedIdeal.nD Cert.OutMlpGatedIdeal.τ).loc Cert.OutMlpGatedIdeal.main_v2) = v0 c
          ∧ r.2.mem ((c.tc : Thread Cert.OutMlpGatedIdeal.nD Cert.OutMlpGatedIdeal.τ).loc Cert.OutMlpGatedIdeal.main_arg0) = m ((c.tc : Thread Cert.OutMlpGatedIdeal.nD Cert.OutMlpGatedIdeal.τ).loc Cert.OutMlpGatedIdeal.main_arg0)
          ∧ r.2.mem ((c.tc : Thread Cert.OutMlpGatedIdeal.nD Cert.OutMlpGatedIdeal.τ).loc Cert.OutMlpGatedIdeal.main_arg1) = m ((c.tc : Thread Cert.OutMlpGatedIdeal.nD Cert.OutMlpGatedIdeal.τ).loc Cert.OutMlpGatedIdeal.main_arg1)
          ∧ r.2.mem ((c.tc : Thread Cert.OutMlpGatedIdeal.nD Cert.OutMlpGatedIdeal.τ).loc Cert.OutMlpGatedIdeal.main_arg2) = m ((c.tc : Thread Cert.OutMlpGatedIdeal.nD Cert.OutMlpGatedIdeal.τ).loc Cert.OutMlpGatedIdeal.main_arg2)
          ∧ r.2.mem ((c.tc : Thread Cert.OutMlpGatedIdeal.nD Cert.OutMlpGatedIdeal.τ).loc Cert.OutMlpGatedIdeal.main_arg3) = m ((c.tc : Thread Cert.OutMlpGatedIdeal.nD Cert.OutMlpGatedIdeal.τ).loc Cert.OutMlpGatedIdeal.main_arg3)
          ∧ r.2.mem ((c.tc : Thread Cert.OutMlpGatedIdeal.nD Cert.OutMlpGatedIdeal.τ).loc Cert.OutMlpGatedIdeal.main_arg4) = m ((c.tc : Thread Cert.OutMlpGatedIdeal.nD Cert.OutMlpGatedIdeal.τ).loc Cert.OutMlpGatedIdeal.main_arg4)
          ∧ r.2.mem ((c.tc : Thread Cert.OutMlpGatedIdeal.nD Cert.OutMlpGatedIdeal.τ).loc Cert.OutMlpGatedIdeal.main_arg5) = m ((c.tc : Thread Cert.OutMlpGatedIdeal.nD Cert.OutMlpGatedIdeal.τ).loc Cert.OutMlpGatedIdeal.main_arg5)
          ∧ r.2.mem ((c.tc : Thread Cert.OutMlpGatedIdeal.nD Cert.OutMlpGatedIdeal.τ).loc Cert.OutMlpGatedIdeal.main_arg6) = m ((c.tc : Thread Cert.OutMlpGatedIdeal.nD Cert.OutMlpGatedIdeal.τ).loc Cert.OutMlpGatedIdeal.main_arg6))
      ∧ θ_run (Cert.GatedBlockIdeal.defs (F := Ideal)) (onTc (τ := Cert.GatedBlockIdeal.τ) (Cert.GatedBlockIdeal.main (F := Ideal))) ⟨m', fun _ => 0, g'⟩ (fun r => ∀ c : Dev Cert.GatedBlockIdeal.nD,
          r.2.mem ((c.tc : Thread Cert.GatedBlockIdeal.nD Cert.GatedBlockIdeal.τ).loc Cert.GatedBlockIdeal.main_v30) = v0 c
          ∧ r.2.mem ((c.tc : Thread Cert.GatedBlockIdeal.nD Cert.GatedBlockIdeal.τ).loc Cert.GatedBlockIdeal.main_arg0) = m' ((c.tc : Thread Cert.GatedBlockIdeal.nD Cert.GatedBlockIdeal.τ).loc Cert.GatedBlockIdeal.main_arg0)
          ∧ r.2.mem ((c.tc : Thread Cert.GatedBlockIdeal.nD Cert.GatedBlockIdeal.τ).loc Cert.GatedBlockIdeal.main_arg1) = m' ((c.tc : Thread Cert.GatedBlockIdeal.nD Cert.GatedBlockIdeal.τ).loc Cert.GatedBlockIdeal.main_arg1)
          ∧ r.2.mem ((c.tc : Thread Cert.GatedBlockIdeal.nD Cert.GatedBlockIdeal.τ).loc Cert.GatedBlockIdeal.main_arg2) = m' ((c.tc : Thread Cert.GatedBlockIdeal.nD Cert.GatedBlockIdeal.τ).loc Cert.GatedBlockIdeal.main_arg2)
          ∧ r.2.mem ((c.tc : Thread Cert.GatedBlockIdeal.nD Cert.GatedBlockIdeal.τ).loc Cert.GatedBlockIdeal.main_arg3) = m' ((c.tc : Thread Cert.GatedBlockIdeal.nD Cert.GatedBlockIdeal.τ).loc Cert.GatedBlockIdeal.main_arg3)
          ∧ r.2.mem ((c.tc : Thread Cert.GatedBlockIdeal.nD Cert.GatedBlockIdeal.τ).loc Cert.GatedBlockIdeal.main_arg4) = m' ((c.tc : Thread Cert.GatedBlockIdeal.nD Cert.GatedBlockIdeal.τ).loc Cert.GatedBlockIdeal.main_arg4)
          ∧ r.2.mem ((c.tc : Thread Cert.GatedBlockIdeal.nD Cert.GatedBlockIdeal.τ).loc Cert.GatedBlockIdeal.main_arg5) = m' ((c.tc : Thread Cert.GatedBlockIdeal.nD Cert.GatedBlockIdeal.τ).loc Cert.GatedBlockIdeal.main_arg5)
          ∧ r.2.mem ((c.tc : Thread Cert.GatedBlockIdeal.nD Cert.GatedBlockIdeal.τ).loc Cert.GatedBlockIdeal.main_arg6) = m' ((c.tc : Thread Cert.GatedBlockIdeal.nD Cert.GatedBlockIdeal.τ).loc Cert.GatedBlockIdeal.main_arg6))

def preserves_OutMlp_OutMlpIdeal : Prop :=
  True

def algebraic_OutMlpIdeal_PlainBlockIdeal [hOutMlpIdeal : Cert.OutMlpIdeal.Facts] [hPlainBlockIdeal : Cert.PlainBlockIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.PlainBlockIdeal.nD Cert.PlainBlockIdeal.τ Cert.PlainBlockIdeal.sig) → Buf (Elt Ideal) ℓ) (g' : Dev Cert.PlainBlockIdeal.nD → PrngReg), Pre_OutMlpIdeal m →
    (∀ c : Dev Cert.OutMlpIdeal.nD,
      m' ((c.tc : Thread Cert.PlainBlockIdeal.nD Cert.PlainBlockIdeal.τ).loc Cert.PlainBlockIdeal.main_arg0) = m ((c.tc : Thread Cert.OutMlpIdeal.nD Cert.OutMlpIdeal.τ).loc Cert.OutMlpIdeal.main_arg0)
      ∧ m' ((c.tc : Thread Cert.PlainBlockIdeal.nD Cert.PlainBlockIdeal.τ).loc Cert.PlainBlockIdeal.main_arg1) = m ((c.tc : Thread Cert.OutMlpIdeal.nD Cert.OutMlpIdeal.τ).loc Cert.OutMlpIdeal.main_arg1)
      ∧ m' ((c.tc : Thread Cert.PlainBlockIdeal.nD Cert.PlainBlockIdeal.τ).loc Cert.PlainBlockIdeal.main_arg2) = m ((c.tc : Thread Cert.OutMlpIdeal.nD Cert.OutMlpIdeal.τ).loc Cert.OutMlpIdeal.main_arg2)
      ∧ m' ((c.tc : Thread Cert.PlainBlockIdeal.nD Cert.PlainBlockIdeal.τ).loc Cert.PlainBlockIdeal.main_arg3) = m ((c.tc : Thread Cert.OutMlpIdeal.nD Cert.OutMlpIdeal.τ).loc Cert.OutMlpIdeal.main_arg3)
      ∧ m' ((c.tc : Thread Cert.PlainBlockIdeal.nD Cert.PlainBlockIdeal.τ).loc Cert.PlainBlockIdeal.main_arg4) = m ((c.tc : Thread Cert.OutMlpIdeal.nD Cert.OutMlpIdeal.τ).loc Cert.OutMlpIdeal.main_arg4)
      ∧ m' ((c.tc : Thread Cert.PlainBlockIdeal.nD Cert.PlainBlockIdeal.τ).loc Cert.PlainBlockIdeal.main_arg5) = m ((c.tc : Thread Cert.OutMlpIdeal.nD Cert.OutMlpIdeal.τ).loc Cert.OutMlpIdeal.main_arg5)
      ∧ m' ((c.tc : Thread Cert.PlainBlockIdeal.nD Cert.PlainBlockIdeal.τ).loc Cert.PlainBlockIdeal.main_arg6) = m ((c.tc : Thread Cert.OutMlpIdeal.nD Cert.OutMlpIdeal.τ).loc Cert.OutMlpIdeal.main_arg6)
      ∧ m' ((c.tc : Thread Cert.PlainBlockIdeal.nD Cert.PlainBlockIdeal.τ).loc Cert.PlainBlockIdeal.main_arg7) = m ((c.tc : Thread Cert.OutMlpIdeal.nD Cert.OutMlpIdeal.τ).loc Cert.OutMlpIdeal.main_arg7)
      ∧ m' ((c.tc : Thread Cert.PlainBlockIdeal.nD Cert.PlainBlockIdeal.τ).loc Cert.PlainBlockIdeal.main_arg8) = m ((c.tc : Thread Cert.OutMlpIdeal.nD Cert.OutMlpIdeal.τ).loc Cert.OutMlpIdeal.main_arg8)
      ∧ m' ((c.tc : Thread Cert.PlainBlockIdeal.nD Cert.PlainBlockIdeal.τ).loc Cert.PlainBlockIdeal.main_arg9) = m ((c.tc : Thread Cert.OutMlpIdeal.nD Cert.OutMlpIdeal.τ).loc Cert.OutMlpIdeal.main_arg9)) →
    ∃ (v0 : (c : Dev Cert.OutMlpIdeal.nD) → Buf (Elt Ideal) ((c.tc : Thread Cert.OutMlpIdeal.nD Cert.OutMlpIdeal.τ).loc Cert.OutMlpIdeal.main_v2_0)) (v1 : (c : Dev Cert.OutMlpIdeal.nD) → Buf (Elt Ideal) ((c.tc : Thread Cert.OutMlpIdeal.nD Cert.OutMlpIdeal.τ).loc Cert.OutMlpIdeal.main_v2_1)) (v2 : (c : Dev Cert.OutMlpIdeal.nD) → Buf (Elt Ideal) ((c.tc : Thread Cert.OutMlpIdeal.nD Cert.OutMlpIdeal.τ).loc Cert.OutMlpIdeal.main_v2_2)) (v3 : (c : Dev Cert.OutMlpIdeal.nD) → Buf (Elt Ideal) ((c.tc : Thread Cert.OutMlpIdeal.nD Cert.OutMlpIdeal.τ).loc Cert.OutMlpIdeal.main_v2_3)) (v4 : (c : Dev Cert.OutMlpIdeal.nD) → Buf (Elt Ideal) ((c.tc : Thread Cert.OutMlpIdeal.nD Cert.OutMlpIdeal.τ).loc Cert.OutMlpIdeal.main_v2_4)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v2_0) = v0 c
          ∧ r.2.mem ((c.tc : Thread Cert.OutMlpIdeal.nD Cert.OutMlpIdeal.τ).loc Cert.OutMlpIdeal.main_v2_1) = v1 c
          ∧ r.2.mem ((c.tc : Thread Cert.OutMlpIdeal.nD Cert.OutMlpIdeal.τ).loc Cert.OutMlpIdeal.main_v2_2) = v2 c
          ∧ r.2.mem ((c.tc : Thread Cert.OutMlpIdeal.nD Cert.OutMlpIdeal.τ).loc Cert.OutMlpIdeal.main_v2_3) = v3 c
          ∧ r.2.mem ((c.tc : Thread Cert.OutMlpIdeal.nD Cert.OutMlpIdeal.τ).loc Cert.OutMlpIdeal.main_v2_4) = v4 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
          ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8)
          ∧ r.2.mem ((c.tc : Thread Cert.OutMlpIdeal.nD Cert.OutMlpIdeal.τ).loc Cert.OutMlpIdeal.main_arg9) = m ((c.tc : Thread Cert.OutMlpIdeal.nD Cert.OutMlpIdeal.τ).loc Cert.OutMlpIdeal.main_arg9))
      ∧ θ_run (Cert.PlainBlockIdeal.defs (F := Ideal)) (onTc (τ := Cert.PlainBlockIdeal.τ) (Cert.PlainBlockIdeal.main (F := Ideal))) ⟨m', fun _ => 0, g'⟩ (fun r => ∀ c : Dev Cert.PlainBlockIdeal.nD,
          r.2.mem ((c.tc : Thread Cert.PlainBlockIdeal.nD Cert.PlainBlockIdeal.τ).loc Cert.PlainBlockIdeal.main_v28) = v0 c
          ∧ r.2.mem ((c.tc : Thread Cert.PlainBlockIdeal.nD Cert.PlainBlockIdeal.τ).loc Cert.PlainBlockIdeal.main_v29) = v1 c
          ∧ r.2.mem ((c.tc : Thread Cert.PlainBlockIdeal.nD Cert.PlainBlockIdeal.τ).loc Cert.PlainBlockIdeal.main_v30) = v2 c
          ∧ r.2.mem ((c.tc : Thread Cert.PlainBlockIdeal.nD Cert.PlainBlockIdeal.τ).loc Cert.PlainBlockIdeal.main_v32) = v3 c
          ∧ r.2.mem ((c.tc : Thread Cert.PlainBlockIdeal.nD Cert.PlainBlockIdeal.τ).loc Cert.PlainBlockIdeal.main_v34) = v4 c
          ∧ r.2.mem ((c.tc : Thread Cert.PlainBlockIdeal.nD Cert.PlainBlockIdeal.τ).loc Cert.PlainBlockIdeal.main_arg0) = m' ((c.tc : Thread Cert.PlainBlockIdeal.nD Cert.PlainBlockIdeal.τ).loc Cert.PlainBlockIdeal.main_arg0)
          ∧ r.2.mem ((c.tc : Thread Cert.PlainBlockIdeal.nD Cert.PlainBlockIdeal.τ).loc Cert.PlainBlockIdeal.main_arg1) = m' ((c.tc : Thread Cert.PlainBlockIdeal.nD Cert.PlainBlockIdeal.τ).loc Cert.PlainBlockIdeal.main_arg1)
          ∧ r.2.mem ((c.tc : Thread Cert.PlainBlockIdeal.nD Cert.PlainBlockIdeal.τ).loc Cert.PlainBlockIdeal.main_arg2) = m' ((c.tc : Thread Cert.PlainBlockIdeal.nD Cert.PlainBlockIdeal.τ).loc Cert.PlainBlockIdeal.main_arg2)
          ∧ r.2.mem ((c.tc : Thread Cert.PlainBlockIdeal.nD Cert.PlainBlockIdeal.τ).loc Cert.PlainBlockIdeal.main_arg3) = m' ((c.tc : Thread Cert.PlainBlockIdeal.nD Cert.PlainBlockIdeal.τ).loc Cert.PlainBlockIdeal.main_arg3)
          ∧ r.2.mem ((c.tc : Thread Cert.PlainBlockIdeal.nD Cert.PlainBlockIdeal.τ).loc Cert.PlainBlockIdeal.main_arg4) = m' ((c.tc : Thread Cert.PlainBlockIdeal.nD Cert.PlainBlockIdeal.τ).loc Cert.PlainBlockIdeal.main_arg4)
          ∧ r.2.mem ((c.tc : Thread Cert.PlainBlockIdeal.nD Cert.PlainBlockIdeal.τ).loc Cert.PlainBlockIdeal.main_arg5) = m' ((c.tc : Thread Cert.PlainBlockIdeal.nD Cert.PlainBlockIdeal.τ).loc Cert.PlainBlockIdeal.main_arg5)
          ∧ r.2.mem ((c.tc : Thread Cert.PlainBlockIdeal.nD Cert.PlainBlockIdeal.τ).loc Cert.PlainBlockIdeal.main_arg6) = m' ((c.tc : Thread Cert.PlainBlockIdeal.nD Cert.PlainBlockIdeal.τ).loc Cert.PlainBlockIdeal.main_arg6)
          ∧ r.2.mem ((c.tc : Thread Cert.PlainBlockIdeal.nD Cert.PlainBlockIdeal.τ).loc Cert.PlainBlockIdeal.main_arg7) = m' ((c.tc : Thread Cert.PlainBlockIdeal.nD Cert.PlainBlockIdeal.τ).loc Cert.PlainBlockIdeal.main_arg7)
          ∧ r.2.mem ((c.tc : Thread Cert.PlainBlockIdeal.nD Cert.PlainBlockIdeal.τ).loc Cert.PlainBlockIdeal.main_arg8) = m' ((c.tc : Thread Cert.PlainBlockIdeal.nD Cert.PlainBlockIdeal.τ).loc Cert.PlainBlockIdeal.main_arg8)
          ∧ r.2.mem ((c.tc : Thread Cert.PlainBlockIdeal.nD Cert.PlainBlockIdeal.τ).loc Cert.PlainBlockIdeal.main_arg9) = m' ((c.tc : Thread Cert.PlainBlockIdeal.nD Cert.PlainBlockIdeal.τ).loc Cert.PlainBlockIdeal.main_arg9))

def preserves_RetProj_RetProjIdeal : Prop :=
  True

def algebraic_RetProjIdeal_RetentionInputsIdeal [hRetProjIdeal : Cert.RetProjIdeal.Facts] [hRetentionInputsIdeal : Cert.RetentionInputsIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetentionInputsIdeal.nD Cert.RetentionInputsIdeal.τ Cert.RetentionInputsIdeal.sig) → Buf (Elt Ideal) ℓ) (g' : Dev Cert.RetentionInputsIdeal.nD → PrngReg), Pre_RetProjIdeal m →
    (∀ c : Dev Cert.RetProjIdeal.nD,
      m' ((c.tc : Thread Cert.RetentionInputsIdeal.nD Cert.RetentionInputsIdeal.τ).loc Cert.RetentionInputsIdeal.main_arg0) = m ((c.tc : Thread Cert.RetProjIdeal.nD Cert.RetProjIdeal.τ).loc Cert.RetProjIdeal.main_arg0)
      ∧ m' ((c.tc : Thread Cert.RetentionInputsIdeal.nD Cert.RetentionInputsIdeal.τ).loc Cert.RetentionInputsIdeal.main_arg1) = m ((c.tc : Thread Cert.RetProjIdeal.nD Cert.RetProjIdeal.τ).loc Cert.RetProjIdeal.main_arg1)
      ∧ m' ((c.tc : Thread Cert.RetentionInputsIdeal.nD Cert.RetentionInputsIdeal.τ).loc Cert.RetentionInputsIdeal.main_arg2) = m ((c.tc : Thread Cert.RetProjIdeal.nD Cert.RetProjIdeal.τ).loc Cert.RetProjIdeal.main_arg2)
      ∧ m' ((c.tc : Thread Cert.RetentionInputsIdeal.nD Cert.RetentionInputsIdeal.τ).loc Cert.RetentionInputsIdeal.main_arg3) = m ((c.tc : Thread Cert.RetProjIdeal.nD Cert.RetProjIdeal.τ).loc Cert.RetProjIdeal.main_arg3)
      ∧ m' ((c.tc : Thread Cert.RetentionInputsIdeal.nD Cert.RetentionInputsIdeal.τ).loc Cert.RetentionInputsIdeal.main_arg4) = m ((c.tc : Thread Cert.RetProjIdeal.nD Cert.RetProjIdeal.τ).loc Cert.RetProjIdeal.main_arg4)
      ∧ m' ((c.tc : Thread Cert.RetentionInputsIdeal.nD Cert.RetentionInputsIdeal.τ).loc Cert.RetentionInputsIdeal.main_arg5) = m ((c.tc : Thread Cert.RetProjIdeal.nD Cert.RetProjIdeal.τ).loc Cert.RetProjIdeal.main_arg5)) →
    ∃ (v0 : (c : Dev Cert.RetProjIdeal.nD) → Buf (Elt Ideal) ((c.tc : Thread Cert.RetProjIdeal.nD Cert.RetProjIdeal.τ).loc Cert.RetProjIdeal.main_v22_0)) (v1 : (c : Dev Cert.RetProjIdeal.nD) → Buf (Elt Ideal) ((c.tc : Thread Cert.RetProjIdeal.nD Cert.RetProjIdeal.τ).loc Cert.RetProjIdeal.main_v22_1)) (v2 : (c : Dev Cert.RetProjIdeal.nD) → Buf (Elt Ideal) ((c.tc : Thread Cert.RetProjIdeal.nD Cert.RetProjIdeal.τ).loc Cert.RetProjIdeal.main_v22_2)) (v3 : (c : Dev Cert.RetProjIdeal.nD) → Buf (Elt Ideal) ((c.tc : Thread Cert.RetProjIdeal.nD Cert.RetProjIdeal.τ).loc Cert.RetProjIdeal.main_v22_3)) (v4 : (c : Dev Cert.RetProjIdeal.nD) → Buf (Elt Ideal) ((c.tc : Thread Cert.RetProjIdeal.nD Cert.RetProjIdeal.τ).loc Cert.RetProjIdeal.main_v22_4)) (v5 : (c : Dev Cert.RetProjIdeal.nD) → Buf (Elt Ideal) ((c.tc : Thread Cert.RetProjIdeal.nD Cert.RetProjIdeal.τ).loc Cert.RetProjIdeal.main_v22_5)) (v6 : (c : Dev Cert.RetProjIdeal.nD) → Buf (Elt Ideal) ((c.tc : Thread Cert.RetProjIdeal.nD Cert.RetProjIdeal.τ).loc Cert.RetProjIdeal.main_v22_6)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v22_0) = v0 c
          ∧ r.2.mem ((c.tc : Thread Cert.RetProjIdeal.nD Cert.RetProjIdeal.τ).loc Cert.RetProjIdeal.main_v22_1) = v1 c
          ∧ r.2.mem ((c.tc : Thread Cert.RetProjIdeal.nD Cert.RetProjIdeal.τ).loc Cert.RetProjIdeal.main_v22_2) = v2 c
          ∧ r.2.mem ((c.tc : Thread Cert.RetProjIdeal.nD Cert.RetProjIdeal.τ).loc Cert.RetProjIdeal.main_v22_3) = v3 c
          ∧ r.2.mem ((c.tc : Thread Cert.RetProjIdeal.nD Cert.RetProjIdeal.τ).loc Cert.RetProjIdeal.main_v22_4) = v4 c
          ∧ r.2.mem ((c.tc : Thread Cert.RetProjIdeal.nD Cert.RetProjIdeal.τ).loc Cert.RetProjIdeal.main_v22_5) = v5 c
          ∧ r.2.mem ((c.tc : Thread Cert.RetProjIdeal.nD Cert.RetProjIdeal.τ).loc Cert.RetProjIdeal.main_v22_6) = v6 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
          ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3)
          ∧ r.2.mem ((c.tc : Thread Cert.RetProjIdeal.nD Cert.RetProjIdeal.τ).loc Cert.RetProjIdeal.main_arg4) = m ((c.tc : Thread Cert.RetProjIdeal.nD Cert.RetProjIdeal.τ).loc Cert.RetProjIdeal.main_arg4)
          ∧ r.2.mem ((c.tc : Thread Cert.RetProjIdeal.nD Cert.RetProjIdeal.τ).loc Cert.RetProjIdeal.main_arg5) = m ((c.tc : Thread Cert.RetProjIdeal.nD Cert.RetProjIdeal.τ).loc Cert.RetProjIdeal.main_arg5))
      ∧ θ_run (Cert.RetentionInputsIdeal.defs (F := Ideal)) (onTc (τ := Cert.RetentionInputsIdeal.τ) (Cert.RetentionInputsIdeal.main (F := Ideal))) ⟨m', fun _ => 0, g'⟩ (fun r => ∀ c : Dev Cert.RetentionInputsIdeal.nD,
          r.2.mem ((c.tc : Thread Cert.RetentionInputsIdeal.nD Cert.RetentionInputsIdeal.τ).loc Cert.RetentionInputsIdeal.main_v105) = v0 c
          ∧ r.2.mem ((c.tc : Thread Cert.RetentionInputsIdeal.nD Cert.RetentionInputsIdeal.τ).loc Cert.RetentionInputsIdeal.main_v106) = v1 c
          ∧ r.2.mem ((c.tc : Thread Cert.RetentionInputsIdeal.nD Cert.RetentionInputsIdeal.τ).loc Cert.RetentionInputsIdeal.main_v107) = v2 c
          ∧ r.2.mem ((c.tc : Thread Cert.RetentionInputsIdeal.nD Cert.RetentionInputsIdeal.τ).loc Cert.RetentionInputsIdeal.main_v108) = v3 c
          ∧ r.2.mem ((c.tc : Thread Cert.RetentionInputsIdeal.nD Cert.RetentionInputsIdeal.τ).loc Cert.RetentionInputsIdeal.main_v109) = v4 c
          ∧ r.2.mem ((c.tc : Thread Cert.RetentionInputsIdeal.nD Cert.RetentionInputsIdeal.τ).loc Cert.RetentionInputsIdeal.main_v110) = v5 c
          ∧ r.2.mem ((c.tc : Thread Cert.RetentionInputsIdeal.nD Cert.RetentionInputsIdeal.τ).loc Cert.RetentionInputsIdeal.main_v111) = v6 c
          ∧ r.2.mem ((c.tc : Thread Cert.RetentionInputsIdeal.nD Cert.RetentionInputsIdeal.τ).loc Cert.RetentionInputsIdeal.main_arg0) = m' ((c.tc : Thread Cert.RetentionInputsIdeal.nD Cert.RetentionInputsIdeal.τ).loc Cert.RetentionInputsIdeal.main_arg0)
          ∧ r.2.mem ((c.tc : Thread Cert.RetentionInputsIdeal.nD Cert.RetentionInputsIdeal.τ).loc Cert.RetentionInputsIdeal.main_arg1) = m' ((c.tc : Thread Cert.RetentionInputsIdeal.nD Cert.RetentionInputsIdeal.τ).loc Cert.RetentionInputsIdeal.main_arg1)
          ∧ r.2.mem ((c.tc : Thread Cert.RetentionInputsIdeal.nD Cert.RetentionInputsIdeal.τ).loc Cert.RetentionInputsIdeal.main_arg2) = m' ((c.tc : Thread Cert.RetentionInputsIdeal.nD Cert.RetentionInputsIdeal.τ).loc Cert.RetentionInputsIdeal.main_arg2)
          ∧ r.2.mem ((c.tc : Thread Cert.RetentionInputsIdeal.nD Cert.RetentionInputsIdeal.τ).loc Cert.RetentionInputsIdeal.main_arg3) = m' ((c.tc : Thread Cert.RetentionInputsIdeal.nD Cert.RetentionInputsIdeal.τ).loc Cert.RetentionInputsIdeal.main_arg3)
          ∧ r.2.mem ((c.tc : Thread Cert.RetentionInputsIdeal.nD Cert.RetentionInputsIdeal.τ).loc Cert.RetentionInputsIdeal.main_arg4) = m' ((c.tc : Thread Cert.RetentionInputsIdeal.nD Cert.RetentionInputsIdeal.τ).loc Cert.RetentionInputsIdeal.main_arg4)
          ∧ r.2.mem ((c.tc : Thread Cert.RetentionInputsIdeal.nD Cert.RetentionInputsIdeal.τ).loc Cert.RetentionInputsIdeal.main_arg5) = m' ((c.tc : Thread Cert.RetentionInputsIdeal.nD Cert.RetentionInputsIdeal.τ).loc Cert.RetentionInputsIdeal.main_arg5))

def preserves_AttnProj_AttnProjIdeal : Prop :=
  True

def algebraic_AttnProjIdeal_AttentionInputsIdeal [hAttnProjIdeal : Cert.AttnProjIdeal.Facts] [hAttentionInputsIdeal : Cert.AttentionInputsIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttentionInputsIdeal.nD Cert.AttentionInputsIdeal.τ Cert.AttentionInputsIdeal.sig) → Buf (Elt Ideal) ℓ) (g' : Dev Cert.AttentionInputsIdeal.nD → PrngReg), Pre_AttnProjIdeal m →
    (∀ c : Dev Cert.AttnProjIdeal.nD,
      m' ((c.tc : Thread Cert.AttentionInputsIdeal.nD Cert.AttentionInputsIdeal.τ).loc Cert.AttentionInputsIdeal.main_arg0) = m ((c.tc : Thread Cert.AttnProjIdeal.nD Cert.AttnProjIdeal.τ).loc Cert.AttnProjIdeal.main_arg0)
      ∧ m' ((c.tc : Thread Cert.AttentionInputsIdeal.nD Cert.AttentionInputsIdeal.τ).loc Cert.AttentionInputsIdeal.main_arg1) = m ((c.tc : Thread Cert.AttnProjIdeal.nD Cert.AttnProjIdeal.τ).loc Cert.AttnProjIdeal.main_arg1)
      ∧ m' ((c.tc : Thread Cert.AttentionInputsIdeal.nD Cert.AttentionInputsIdeal.τ).loc Cert.AttentionInputsIdeal.main_arg2) = m ((c.tc : Thread Cert.AttnProjIdeal.nD Cert.AttnProjIdeal.τ).loc Cert.AttnProjIdeal.main_arg2)
      ∧ m' ((c.tc : Thread Cert.AttentionInputsIdeal.nD Cert.AttentionInputsIdeal.τ).loc Cert.AttentionInputsIdeal.main_arg3) = m ((c.tc : Thread Cert.AttnProjIdeal.nD Cert.AttnProjIdeal.τ).loc Cert.AttnProjIdeal.main_arg3)
      ∧ m' ((c.tc : Thread Cert.AttentionInputsIdeal.nD Cert.AttentionInputsIdeal.τ).loc Cert.AttentionInputsIdeal.main_arg4) = m ((c.tc : Thread Cert.AttnProjIdeal.nD Cert.AttnProjIdeal.τ).loc Cert.AttnProjIdeal.main_arg4)) →
    ∃ (v0 : (c : Dev Cert.AttnProjIdeal.nD) → Buf (Elt Ideal) ((c.tc : Thread Cert.AttnProjIdeal.nD Cert.AttnProjIdeal.τ).loc Cert.AttnProjIdeal.main_v23_0)) (v1 : (c : Dev Cert.AttnProjIdeal.nD) → Buf (Elt Ideal) ((c.tc : Thread Cert.AttnProjIdeal.nD Cert.AttnProjIdeal.τ).loc Cert.AttnProjIdeal.main_v23_1)) (v2 : (c : Dev Cert.AttnProjIdeal.nD) → Buf (Elt Ideal) ((c.tc : Thread Cert.AttnProjIdeal.nD Cert.AttnProjIdeal.τ).loc Cert.AttnProjIdeal.main_v23_2)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v23_0) = v0 c
          ∧ r.2.mem ((c.tc : Thread Cert.AttnProjIdeal.nD Cert.AttnProjIdeal.τ).loc Cert.AttnProjIdeal.main_v23_1) = v1 c
          ∧ r.2.mem ((c.tc : Thread Cert.AttnProjIdeal.nD Cert.AttnProjIdeal.τ).loc Cert.AttnProjIdeal.main_v23_2) = v2 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
          ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4))
      ∧ θ_run (Cert.AttentionInputsIdeal.defs (F := Ideal)) (onTc (τ := Cert.AttentionInputsIdeal.τ) (Cert.AttentionInputsIdeal.main (F := Ideal))) ⟨m', fun _ => 0, g'⟩ (fun r => ∀ c : Dev Cert.AttentionInputsIdeal.nD,
          r.2.mem ((c.tc : Thread Cert.AttentionInputsIdeal.nD Cert.AttentionInputsIdeal.τ).loc Cert.AttentionInputsIdeal.main_v58) = v0 c
          ∧ r.2.mem ((c.tc : Thread Cert.AttentionInputsIdeal.nD Cert.AttentionInputsIdeal.τ).loc Cert.AttentionInputsIdeal.main_v59) = v1 c
          ∧ r.2.mem ((c.tc : Thread Cert.AttentionInputsIdeal.nD Cert.AttentionInputsIdeal.τ).loc Cert.AttentionInputsIdeal.main_v60) = v2 c
          ∧ r.2.mem ((c.tc : Thread Cert.AttentionInputsIdeal.nD Cert.AttentionInputsIdeal.τ).loc Cert.AttentionInputsIdeal.main_arg0) = m' ((c.tc : Thread Cert.AttentionInputsIdeal.nD Cert.AttentionInputsIdeal.τ).loc Cert.AttentionInputsIdeal.main_arg0)
          ∧ r.2.mem ((c.tc : Thread Cert.AttentionInputsIdeal.nD Cert.AttentionInputsIdeal.τ).loc Cert.AttentionInputsIdeal.main_arg1) = m' ((c.tc : Thread Cert.AttentionInputsIdeal.nD Cert.AttentionInputsIdeal.τ).loc Cert.AttentionInputsIdeal.main_arg1)
          ∧ r.2.mem ((c.tc : Thread Cert.AttentionInputsIdeal.nD Cert.AttentionInputsIdeal.τ).loc Cert.AttentionInputsIdeal.main_arg2) = m' ((c.tc : Thread Cert.AttentionInputsIdeal.nD Cert.AttentionInputsIdeal.τ).loc Cert.AttentionInputsIdeal.main_arg2)
          ∧ r.2.mem ((c.tc : Thread Cert.AttentionInputsIdeal.nD Cert.AttentionInputsIdeal.τ).loc Cert.AttentionInputsIdeal.main_arg3) = m' ((c.tc : Thread Cert.AttentionInputsIdeal.nD Cert.AttentionInputsIdeal.τ).loc Cert.AttentionInputsIdeal.main_arg3)
          ∧ r.2.mem ((c.tc : Thread Cert.AttentionInputsIdeal.nD Cert.AttentionInputsIdeal.τ).loc Cert.AttentionInputsIdeal.main_arg4) = m' ((c.tc : Thread Cert.AttentionInputsIdeal.nD Cert.AttentionInputsIdeal.τ).loc Cert.AttentionInputsIdeal.main_arg4))

def preserves_MobaProj_MobaProjIdeal : Prop :=
  True

def algebraic_MobaProjIdeal_MobaInputsIdeal [hMobaProjIdeal : Cert.MobaProjIdeal.Facts] [hMobaInputsIdeal : Cert.MobaInputsIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg)
    (m' : (ℓ : Loc Cert.MobaInputsIdeal.nD Cert.MobaInputsIdeal.τ Cert.MobaInputsIdeal.sig) → Buf (Elt Ideal) ℓ) (g' : Dev Cert.MobaInputsIdeal.nD → PrngReg), Pre_MobaProjIdeal m →
    (∀ c : Dev Cert.MobaProjIdeal.nD,
      m' ((c.tc : Thread Cert.MobaInputsIdeal.nD Cert.MobaInputsIdeal.τ).loc Cert.MobaInputsIdeal.main_arg0) = m ((c.tc : Thread Cert.MobaProjIdeal.nD Cert.MobaProjIdeal.τ).loc Cert.MobaProjIdeal.main_arg0)
      ∧ m' ((c.tc : Thread Cert.MobaInputsIdeal.nD Cert.MobaInputsIdeal.τ).loc Cert.MobaInputsIdeal.main_arg1) = m ((c.tc : Thread Cert.MobaProjIdeal.nD Cert.MobaProjIdeal.τ).loc Cert.MobaProjIdeal.main_arg1)
      ∧ m' ((c.tc : Thread Cert.MobaInputsIdeal.nD Cert.MobaInputsIdeal.τ).loc Cert.MobaInputsIdeal.main_arg2) = m ((c.tc : Thread Cert.MobaProjIdeal.nD Cert.MobaProjIdeal.τ).loc Cert.MobaProjIdeal.main_arg2)
      ∧ m' ((c.tc : Thread Cert.MobaInputsIdeal.nD Cert.MobaInputsIdeal.τ).loc Cert.MobaInputsIdeal.main_arg3) = m ((c.tc : Thread Cert.MobaProjIdeal.nD Cert.MobaProjIdeal.τ).loc Cert.MobaProjIdeal.main_arg3)
      ∧ m' ((c.tc : Thread Cert.MobaInputsIdeal.nD Cert.MobaInputsIdeal.τ).loc Cert.MobaInputsIdeal.main_arg4) = m ((c.tc : Thread Cert.MobaProjIdeal.nD Cert.MobaProjIdeal.τ).loc Cert.MobaProjIdeal.main_arg4)) →
    ∃ (v0 : (c : Dev Cert.MobaProjIdeal.nD) → Buf (Elt Ideal) ((c.tc : Thread Cert.MobaProjIdeal.nD Cert.MobaProjIdeal.τ).loc Cert.MobaProjIdeal.main_v23_0)) (v1 : (c : Dev Cert.MobaProjIdeal.nD) → Buf (Elt Ideal) ((c.tc : Thread Cert.MobaProjIdeal.nD Cert.MobaProjIdeal.τ).loc Cert.MobaProjIdeal.main_v23_1)) (v2 : (c : Dev Cert.MobaProjIdeal.nD) → Buf (Elt Ideal) ((c.tc : Thread Cert.MobaProjIdeal.nD Cert.MobaProjIdeal.τ).loc Cert.MobaProjIdeal.main_v23_2)),
      θ_run (Cert.MobaProjIdeal.defs (F := Ideal)) (onTc (τ := Cert.MobaProjIdeal.τ) (Cert.MobaProjIdeal.main (F := Ideal))) ⟨m, fun _ => 0, g⟩ (fun r => ∀ c : Dev Cert.MobaProjIdeal.nD,
          r.2.mem ((c.tc : Thread Cert.MobaProjIdeal.nD Cert.MobaProjIdeal.τ).loc Cert.MobaProjIdeal.main_v23_0) = v0 c
          ∧ r.2.mem ((c.tc : Thread Cert.MobaProjIdeal.nD Cert.MobaProjIdeal.τ).loc Cert.MobaProjIdeal.main_v23_1) = v1 c
          ∧ r.2.mem ((c.tc : Thread Cert.MobaProjIdeal.nD Cert.MobaProjIdeal.τ).loc Cert.MobaProjIdeal.main_v23_2) = v2 c
          ∧ r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
          ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1)
          ∧ r.2.mem ((c.tc : Thread Cert.MobaProjIdeal.nD Cert.MobaProjIdeal.τ).loc Cert.MobaProjIdeal.main_arg2) = m ((c.tc : Thread Cert.MobaProjIdeal.nD Cert.MobaProjIdeal.τ).loc Cert.MobaProjIdeal.main_arg2)
          ∧ r.2.mem ((c.tc : Thread Cert.MobaProjIdeal.nD Cert.MobaProjIdeal.τ).loc Cert.MobaProjIdeal.main_arg3) = m ((c.tc : Thread Cert.MobaProjIdeal.nD Cert.MobaProjIdeal.τ).loc Cert.MobaProjIdeal.main_arg3)
          ∧ r.2.mem ((c.tc : Thread Cert.MobaProjIdeal.nD Cert.MobaProjIdeal.τ).loc Cert.MobaProjIdeal.main_arg4) = m ((c.tc : Thread Cert.MobaProjIdeal.nD Cert.MobaProjIdeal.τ).loc Cert.MobaProjIdeal.main_arg4))
      ∧ θ_run (Cert.MobaInputsIdeal.defs (F := Ideal)) (onTc (τ := Cert.MobaInputsIdeal.τ) (Cert.MobaInputsIdeal.main (F := Ideal))) ⟨m', fun _ => 0, g'⟩ (fun r => ∀ c : Dev Cert.MobaInputsIdeal.nD,
          r.2.mem ((c.tc : Thread Cert.MobaInputsIdeal.nD Cert.MobaInputsIdeal.τ).loc Cert.MobaInputsIdeal.main_v58) = v0 c
          ∧ r.2.mem ((c.tc : Thread Cert.MobaInputsIdeal.nD Cert.MobaInputsIdeal.τ).loc Cert.MobaInputsIdeal.main_v59) = v1 c
          ∧ r.2.mem ((c.tc : Thread Cert.MobaInputsIdeal.nD Cert.MobaInputsIdeal.τ).loc Cert.MobaInputsIdeal.main_v60) = v2 c
          ∧ r.2.mem ((c.tc : Thread Cert.MobaInputsIdeal.nD Cert.MobaInputsIdeal.τ).loc Cert.MobaInputsIdeal.main_arg0) = m' ((c.tc : Thread Cert.MobaInputsIdeal.nD Cert.MobaInputsIdeal.τ).loc Cert.MobaInputsIdeal.main_arg0)
          ∧ r.2.mem ((c.tc : Thread Cert.MobaInputsIdeal.nD Cert.MobaInputsIdeal.τ).loc Cert.MobaInputsIdeal.main_arg1) = m' ((c.tc : Thread Cert.MobaInputsIdeal.nD Cert.MobaInputsIdeal.τ).loc Cert.MobaInputsIdeal.main_arg1)
          ∧ r.2.mem ((c.tc : Thread Cert.MobaInputsIdeal.nD Cert.MobaInputsIdeal.τ).loc Cert.MobaInputsIdeal.main_arg2) = m' ((c.tc : Thread Cert.MobaInputsIdeal.nD Cert.MobaInputsIdeal.τ).loc Cert.MobaInputsIdeal.main_arg2)
          ∧ r.2.mem ((c.tc : Thread Cert.MobaInputsIdeal.nD Cert.MobaInputsIdeal.τ).loc Cert.MobaInputsIdeal.main_arg3) = m' ((c.tc : Thread Cert.MobaInputsIdeal.nD Cert.MobaInputsIdeal.τ).loc Cert.MobaInputsIdeal.main_arg3)
          ∧ r.2.mem ((c.tc : Thread Cert.MobaInputsIdeal.nD Cert.MobaInputsIdeal.τ).loc Cert.MobaInputsIdeal.main_arg4) = m' ((c.tc : Thread Cert.MobaInputsIdeal.nD Cert.MobaInputsIdeal.τ).loc Cert.MobaInputsIdeal.main_arg4))

def preserves_BiasTiles_BiasTilesIdeal : Prop :=
  True

def algebraic_BiasTilesIdeal_PositionBiasIdeal [hBiasTilesIdeal : Cert.BiasTilesIdeal.Facts] [hPositionBiasIdeal : Cert.PositionBiasIdeal.Facts] : Prop :=
  ∀ (m : (ℓ : Loc Cert.BiasTilesIdeal.nD Cert.BiasTilesIdeal.τ Cert.BiasTilesIdeal.sig) → Buf (Elt Ideal) ℓ) (g : Dev Cert.BiasTilesIdeal.nD → PrngReg)
    (m' : (ℓ : Loc Cert.PositionBiasIdeal.nD Cert.PositionBiasIdeal.τ Cert.PositionBiasIdeal.sig) → Buf (Elt Ideal) ℓ) (g' : Dev Cert.PositionBiasIdeal.nD → PrngReg), Pre_BiasTilesIdeal m →
    (∀ c : Dev Cert.BiasTilesIdeal.nD,
      m' ((c.tc : Thread Cert.PositionBiasIdeal.nD Cert.PositionBiasIdeal.τ).loc Cert.PositionBiasIdeal.main_arg0) = m ((c.tc : Thread Cert.BiasTilesIdeal.nD Cert.BiasTilesIdeal.τ).loc Cert.BiasTilesIdeal.main_arg0)) →
    ∃ (v0 : (c : Dev Cert.BiasTilesIdeal.nD) → Buf (Elt Ideal) ((c.tc : Thread Cert.BiasTilesIdeal.nD Cert.BiasTilesIdeal.τ).loc Cert.BiasTilesIdeal.main_v36)),
      θ_run (Cert.BiasTilesIdeal.defs (F := Ideal)) (onTc (τ := Cert.BiasTilesIdeal.τ) (Cert.BiasTilesIdeal.main (F := Ideal))) ⟨m, fun _ => 0, g⟩ (fun r => ∀ c : Dev Cert.BiasTilesIdeal.nD,
          r.2.mem ((c.tc : Thread Cert.BiasTilesIdeal.nD Cert.BiasTilesIdeal.τ).loc Cert.BiasTilesIdeal.main_v36) = v0 c
          ∧ r.2.mem ((c.tc : Thread Cert.BiasTilesIdeal.nD Cert.BiasTilesIdeal.τ).loc Cert.BiasTilesIdeal.main_arg0) = m ((c.tc : Thread Cert.BiasTilesIdeal.nD Cert.BiasTilesIdeal.τ).loc Cert.BiasTilesIdeal.main_arg0))
      ∧ θ_run (Cert.PositionBiasIdeal.defs (F := Ideal)) (onTc (τ := Cert.PositionBiasIdeal.τ) (Cert.PositionBiasIdeal.main (F := Ideal))) ⟨m', fun _ => 0, g'⟩ (fun r => ∀ c : Dev Cert.PositionBiasIdeal.nD,
          r.2.mem ((c.tc : Thread Cert.PositionBiasIdeal.nD Cert.PositionBiasIdeal.τ).loc Cert.PositionBiasIdeal.main_v46) = v0 c
          ∧ r.2.mem ((c.tc : Thread Cert.PositionBiasIdeal.nD Cert.PositionBiasIdeal.τ).loc Cert.PositionBiasIdeal.main_arg0) = m' ((c.tc : Thread Cert.PositionBiasIdeal.nD Cert.PositionBiasIdeal.τ).loc Cert.PositionBiasIdeal.main_arg0))

def preserves_OutMlpFirst_OutMlpFirstIdeal : Prop :=
  True

def algebraic_OutMlpFirstIdeal_FirstBlockIdeal [hOutMlpFirstIdeal : Cert.OutMlpFirstIdeal.Facts] [hFirstBlockIdeal : Cert.FirstBlockIdeal.Facts] : Prop :=
  ∀ (m : (ℓ : Loc Cert.OutMlpFirstIdeal.nD Cert.OutMlpFirstIdeal.τ Cert.OutMlpFirstIdeal.sig) → Buf (Elt Ideal) ℓ) (g : Dev Cert.OutMlpFirstIdeal.nD → PrngReg)
    (m' : (ℓ : Loc Cert.FirstBlockIdeal.nD Cert.FirstBlockIdeal.τ Cert.FirstBlockIdeal.sig) → Buf (Elt Ideal) ℓ) (g' : Dev Cert.FirstBlockIdeal.nD → PrngReg), Pre_OutMlpFirstIdeal m →
    (∀ c : Dev Cert.OutMlpFirstIdeal.nD,
      m' ((c.tc : Thread Cert.FirstBlockIdeal.nD Cert.FirstBlockIdeal.τ).loc Cert.FirstBlockIdeal.main_arg0) = m ((c.tc : Thread Cert.OutMlpFirstIdeal.nD Cert.OutMlpFirstIdeal.τ).loc Cert.OutMlpFirstIdeal.main_arg0)
      ∧ m' ((c.tc : Thread Cert.FirstBlockIdeal.nD Cert.FirstBlockIdeal.τ).loc Cert.FirstBlockIdeal.main_arg1) = m ((c.tc : Thread Cert.OutMlpFirstIdeal.nD Cert.OutMlpFirstIdeal.τ).loc Cert.OutMlpFirstIdeal.main_arg1)
      ∧ m' ((c.tc : Thread Cert.FirstBlockIdeal.nD Cert.FirstBlockIdeal.τ).loc Cert.FirstBlockIdeal.main_arg2) = m ((c.tc : Thread Cert.OutMlpFirstIdeal.nD Cert.OutMlpFirstIdeal.τ).loc Cert.OutMlpFirstIdeal.main_arg2)
      ∧ m' ((c.tc : Thread Cert.FirstBlockIdeal.nD Cert.FirstBlockIdeal.τ).loc Cert.FirstBlockIdeal.main_arg3) = m ((c.tc : Thread Cert.OutMlpFirstIdeal.nD Cert.OutMlpFirstIdeal.τ).loc Cert.OutMlpFirstIdeal.main_arg3)
      ∧ m' ((c.tc : Thread Cert.FirstBlockIdeal.nD Cert.FirstBlockIdeal.τ).loc Cert.FirstBlockIdeal.main_arg4) = m ((c.tc : Thread Cert.OutMlpFirstIdeal.nD Cert.OutMlpFirstIdeal.τ).loc Cert.OutMlpFirstIdeal.main_arg4)
      ∧ m' ((c.tc : Thread Cert.FirstBlockIdeal.nD Cert.FirstBlockIdeal.τ).loc Cert.FirstBlockIdeal.main_arg5) = m ((c.tc : Thread Cert.OutMlpFirstIdeal.nD Cert.OutMlpFirstIdeal.τ).loc Cert.OutMlpFirstIdeal.main_arg5)
      ∧ m' ((c.tc : Thread Cert.FirstBlockIdeal.nD Cert.FirstBlockIdeal.τ).loc Cert.FirstBlockIdeal.main_arg6) = m ((c.tc : Thread Cert.OutMlpFirstIdeal.nD Cert.OutMlpFirstIdeal.τ).loc Cert.OutMlpFirstIdeal.main_arg6)
      ∧ m' ((c.tc : Thread Cert.FirstBlockIdeal.nD Cert.FirstBlockIdeal.τ).loc Cert.FirstBlockIdeal.main_arg7) = m ((c.tc : Thread Cert.OutMlpFirstIdeal.nD Cert.OutMlpFirstIdeal.τ).loc Cert.OutMlpFirstIdeal.main_arg7)
      ∧ m' ((c.tc : Thread Cert.FirstBlockIdeal.nD Cert.FirstBlockIdeal.τ).loc Cert.FirstBlockIdeal.main_arg8) = m ((c.tc : Thread Cert.OutMlpFirstIdeal.nD Cert.OutMlpFirstIdeal.τ).loc Cert.OutMlpFirstIdeal.main_arg8)
      ∧ m' ((c.tc : Thread Cert.FirstBlockIdeal.nD Cert.FirstBlockIdeal.τ).loc Cert.FirstBlockIdeal.main_arg9) = m ((c.tc : Thread Cert.OutMlpFirstIdeal.nD Cert.OutMlpFirstIdeal.τ).loc Cert.OutMlpFirstIdeal.main_arg9)
      ∧ m' ((c.tc : Thread Cert.FirstBlockIdeal.nD Cert.FirstBlockIdeal.τ).loc Cert.FirstBlockIdeal.main_arg10) = m ((c.tc : Thread Cert.OutMlpFirstIdeal.nD Cert.OutMlpFirstIdeal.τ).loc Cert.OutMlpFirstIdeal.main_arg10)) →
    ∃ (v0 : (c : Dev Cert.OutMlpFirstIdeal.nD) → Buf (Elt Ideal) ((c.tc : Thread Cert.OutMlpFirstIdeal.nD Cert.OutMlpFirstIdeal.τ).loc Cert.OutMlpFirstIdeal.main_v2_0)) (v1 : (c : Dev Cert.OutMlpFirstIdeal.nD) → Buf (Elt Ideal) ((c.tc : Thread Cert.OutMlpFirstIdeal.nD Cert.OutMlpFirstIdeal.τ).loc Cert.OutMlpFirstIdeal.main_v2_1)) (v2 : (c : Dev Cert.OutMlpFirstIdeal.nD) → Buf (Elt Ideal) ((c.tc : Thread Cert.OutMlpFirstIdeal.nD Cert.OutMlpFirstIdeal.τ).loc Cert.OutMlpFirstIdeal.main_v2_2)) (v3 : (c : Dev Cert.OutMlpFirstIdeal.nD) → Buf (Elt Ideal) ((c.tc : Thread Cert.OutMlpFirstIdeal.nD Cert.OutMlpFirstIdeal.τ).loc Cert.OutMlpFirstIdeal.main_v2_3)) (v4 : (c : Dev Cert.OutMlpFirstIdeal.nD) → Buf (Elt Ideal) ((c.tc : Thread Cert.OutMlpFirstIdeal.nD Cert.OutMlpFirstIdeal.τ).loc Cert.OutMlpFirstIdeal.main_v2_4)),
      θ_run (Cert.OutMlpFirstIdeal.defs (F := Ideal)) (onTc (τ := Cert.OutMlpFirstIdeal.τ) (Cert.OutMlpFirstIdeal.main (F := Ideal))) ⟨m, fun _ => 0, g⟩ (fun r => ∀ c : Dev Cert.OutMlpFirstIdeal.nD,
          r.2.mem ((c.tc : Thread Cert.OutMlpFirstIdeal.nD Cert.OutMlpFirstIdeal.τ).loc Cert.OutMlpFirstIdeal.main_v2_0) = v0 c
          ∧ r.2.mem ((c.tc : Thread Cert.OutMlpFirstIdeal.nD Cert.OutMlpFirstIdeal.τ).loc Cert.OutMlpFirstIdeal.main_v2_1) = v1 c
          ∧ r.2.mem ((c.tc : Thread Cert.OutMlpFirstIdeal.nD Cert.OutMlpFirstIdeal.τ).loc Cert.OutMlpFirstIdeal.main_v2_2) = v2 c
          ∧ r.2.mem ((c.tc : Thread Cert.OutMlpFirstIdeal.nD Cert.OutMlpFirstIdeal.τ).loc Cert.OutMlpFirstIdeal.main_v2_3) = v3 c
          ∧ r.2.mem ((c.tc : Thread Cert.OutMlpFirstIdeal.nD Cert.OutMlpFirstIdeal.τ).loc Cert.OutMlpFirstIdeal.main_v2_4) = v4 c
          ∧ r.2.mem ((c.tc : Thread Cert.OutMlpFirstIdeal.nD Cert.OutMlpFirstIdeal.τ).loc Cert.OutMlpFirstIdeal.main_arg0) = m ((c.tc : Thread Cert.OutMlpFirstIdeal.nD Cert.OutMlpFirstIdeal.τ).loc Cert.OutMlpFirstIdeal.main_arg0)
          ∧ r.2.mem ((c.tc : Thread Cert.OutMlpFirstIdeal.nD Cert.OutMlpFirstIdeal.τ).loc Cert.OutMlpFirstIdeal.main_arg1) = m ((c.tc : Thread Cert.OutMlpFirstIdeal.nD Cert.OutMlpFirstIdeal.τ).loc Cert.OutMlpFirstIdeal.main_arg1)
          ∧ r.2.mem ((c.tc : Thread Cert.OutMlpFirstIdeal.nD Cert.OutMlpFirstIdeal.τ).loc Cert.OutMlpFirstIdeal.main_arg2) = m ((c.tc : Thread Cert.OutMlpFirstIdeal.nD Cert.OutMlpFirstIdeal.τ).loc Cert.OutMlpFirstIdeal.main_arg2)
          ∧ r.2.mem ((c.tc : Thread Cert.OutMlpFirstIdeal.nD Cert.OutMlpFirstIdeal.τ).loc Cert.OutMlpFirstIdeal.main_arg3) = m ((c.tc : Thread Cert.OutMlpFirstIdeal.nD Cert.OutMlpFirstIdeal.τ).loc Cert.OutMlpFirstIdeal.main_arg3)
          ∧ r.2.mem ((c.tc : Thread Cert.OutMlpFirstIdeal.nD Cert.OutMlpFirstIdeal.τ).loc Cert.OutMlpFirstIdeal.main_arg4) = m ((c.tc : Thread Cert.OutMlpFirstIdeal.nD Cert.OutMlpFirstIdeal.τ).loc Cert.OutMlpFirstIdeal.main_arg4)
          ∧ r.2.mem ((c.tc : Thread Cert.OutMlpFirstIdeal.nD Cert.OutMlpFirstIdeal.τ).loc Cert.OutMlpFirstIdeal.main_arg5) = m ((c.tc : Thread Cert.OutMlpFirstIdeal.nD Cert.OutMlpFirstIdeal.τ).loc Cert.OutMlpFirstIdeal.main_arg5)
          ∧ r.2.mem ((c.tc : Thread Cert.OutMlpFirstIdeal.nD Cert.OutMlpFirstIdeal.τ).loc Cert.OutMlpFirstIdeal.main_arg6) = m ((c.tc : Thread Cert.OutMlpFirstIdeal.nD Cert.OutMlpFirstIdeal.τ).loc Cert.OutMlpFirstIdeal.main_arg6)
          ∧ r.2.mem ((c.tc : Thread Cert.OutMlpFirstIdeal.nD Cert.OutMlpFirstIdeal.τ).loc Cert.OutMlpFirstIdeal.main_arg7) = m ((c.tc : Thread Cert.OutMlpFirstIdeal.nD Cert.OutMlpFirstIdeal.τ).loc Cert.OutMlpFirstIdeal.main_arg7)
          ∧ r.2.mem ((c.tc : Thread Cert.OutMlpFirstIdeal.nD Cert.OutMlpFirstIdeal.τ).loc Cert.OutMlpFirstIdeal.main_arg8) = m ((c.tc : Thread Cert.OutMlpFirstIdeal.nD Cert.OutMlpFirstIdeal.τ).loc Cert.OutMlpFirstIdeal.main_arg8)
          ∧ r.2.mem ((c.tc : Thread Cert.OutMlpFirstIdeal.nD Cert.OutMlpFirstIdeal.τ).loc Cert.OutMlpFirstIdeal.main_arg9) = m ((c.tc : Thread Cert.OutMlpFirstIdeal.nD Cert.OutMlpFirstIdeal.τ).loc Cert.OutMlpFirstIdeal.main_arg9)
          ∧ r.2.mem ((c.tc : Thread Cert.OutMlpFirstIdeal.nD Cert.OutMlpFirstIdeal.τ).loc Cert.OutMlpFirstIdeal.main_arg10) = m ((c.tc : Thread Cert.OutMlpFirstIdeal.nD Cert.OutMlpFirstIdeal.τ).loc Cert.OutMlpFirstIdeal.main_arg10))
      ∧ θ_run (Cert.FirstBlockIdeal.defs (F := Ideal)) (onTc (τ := Cert.FirstBlockIdeal.τ) (Cert.FirstBlockIdeal.main (F := Ideal))) ⟨m', fun _ => 0, g'⟩ (fun r => ∀ c : Dev Cert.FirstBlockIdeal.nD,
          r.2.mem ((c.tc : Thread Cert.FirstBlockIdeal.nD Cert.FirstBlockIdeal.τ).loc Cert.FirstBlockIdeal.main_v30) = v0 c
          ∧ r.2.mem ((c.tc : Thread Cert.FirstBlockIdeal.nD Cert.FirstBlockIdeal.τ).loc Cert.FirstBlockIdeal.main_v31) = v1 c
          ∧ r.2.mem ((c.tc : Thread Cert.FirstBlockIdeal.nD Cert.FirstBlockIdeal.τ).loc Cert.FirstBlockIdeal.main_v32) = v2 c
          ∧ r.2.mem ((c.tc : Thread Cert.FirstBlockIdeal.nD Cert.FirstBlockIdeal.τ).loc Cert.FirstBlockIdeal.main_v34) = v3 c
          ∧ r.2.mem ((c.tc : Thread Cert.FirstBlockIdeal.nD Cert.FirstBlockIdeal.τ).loc Cert.FirstBlockIdeal.main_v36) = v4 c
          ∧ r.2.mem ((c.tc : Thread Cert.FirstBlockIdeal.nD Cert.FirstBlockIdeal.τ).loc Cert.FirstBlockIdeal.main_arg0) = m' ((c.tc : Thread Cert.FirstBlockIdeal.nD Cert.FirstBlockIdeal.τ).loc Cert.FirstBlockIdeal.main_arg0)
          ∧ r.2.mem ((c.tc : Thread Cert.FirstBlockIdeal.nD Cert.FirstBlockIdeal.τ).loc Cert.FirstBlockIdeal.main_arg1) = m' ((c.tc : Thread Cert.FirstBlockIdeal.nD Cert.FirstBlockIdeal.τ).loc Cert.FirstBlockIdeal.main_arg1)
          ∧ r.2.mem ((c.tc : Thread Cert.FirstBlockIdeal.nD Cert.FirstBlockIdeal.τ).loc Cert.FirstBlockIdeal.main_arg2) = m' ((c.tc : Thread Cert.FirstBlockIdeal.nD Cert.FirstBlockIdeal.τ).loc Cert.FirstBlockIdeal.main_arg2)
          ∧ r.2.mem ((c.tc : Thread Cert.FirstBlockIdeal.nD Cert.FirstBlockIdeal.τ).loc Cert.FirstBlockIdeal.main_arg3) = m' ((c.tc : Thread Cert.FirstBlockIdeal.nD Cert.FirstBlockIdeal.τ).loc Cert.FirstBlockIdeal.main_arg3)
          ∧ r.2.mem ((c.tc : Thread Cert.FirstBlockIdeal.nD Cert.FirstBlockIdeal.τ).loc Cert.FirstBlockIdeal.main_arg4) = m' ((c.tc : Thread Cert.FirstBlockIdeal.nD Cert.FirstBlockIdeal.τ).loc Cert.FirstBlockIdeal.main_arg4)
          ∧ r.2.mem ((c.tc : Thread Cert.FirstBlockIdeal.nD Cert.FirstBlockIdeal.τ).loc Cert.FirstBlockIdeal.main_arg5) = m' ((c.tc : Thread Cert.FirstBlockIdeal.nD Cert.FirstBlockIdeal.τ).loc Cert.FirstBlockIdeal.main_arg5)
          ∧ r.2.mem ((c.tc : Thread Cert.FirstBlockIdeal.nD Cert.FirstBlockIdeal.τ).loc Cert.FirstBlockIdeal.main_arg6) = m' ((c.tc : Thread Cert.FirstBlockIdeal.nD Cert.FirstBlockIdeal.τ).loc Cert.FirstBlockIdeal.main_arg6)
          ∧ r.2.mem ((c.tc : Thread Cert.FirstBlockIdeal.nD Cert.FirstBlockIdeal.τ).loc Cert.FirstBlockIdeal.main_arg7) = m' ((c.tc : Thread Cert.FirstBlockIdeal.nD Cert.FirstBlockIdeal.τ).loc Cert.FirstBlockIdeal.main_arg7)
          ∧ r.2.mem ((c.tc : Thread Cert.FirstBlockIdeal.nD Cert.FirstBlockIdeal.τ).loc Cert.FirstBlockIdeal.main_arg8) = m' ((c.tc : Thread Cert.FirstBlockIdeal.nD Cert.FirstBlockIdeal.τ).loc Cert.FirstBlockIdeal.main_arg8)
          ∧ r.2.mem ((c.tc : Thread Cert.FirstBlockIdeal.nD Cert.FirstBlockIdeal.τ).loc Cert.FirstBlockIdeal.main_arg9) = m' ((c.tc : Thread Cert.FirstBlockIdeal.nD Cert.FirstBlockIdeal.τ).loc Cert.FirstBlockIdeal.main_arg9)
          ∧ r.2.mem ((c.tc : Thread Cert.FirstBlockIdeal.nD Cert.FirstBlockIdeal.τ).loc Cert.FirstBlockIdeal.main_arg10) = m' ((c.tc : Thread Cert.FirstBlockIdeal.nD Cert.FirstBlockIdeal.τ).loc Cert.FirstBlockIdeal.main_arg10))

def preserves_OutMlpThird_OutMlpThirdIdeal : Prop :=
  True

def algebraic_OutMlpThirdIdeal_ThirdBlockIdeal [hOutMlpThirdIdeal : Cert.OutMlpThirdIdeal.Facts] [hThirdBlockIdeal : Cert.ThirdBlockIdeal.Facts] : Prop :=
  ∀ (m : (ℓ : Loc Cert.OutMlpThirdIdeal.nD Cert.OutMlpThirdIdeal.τ Cert.OutMlpThirdIdeal.sig) → Buf (Elt Ideal) ℓ) (g : Dev Cert.OutMlpThirdIdeal.nD → PrngReg)
    (m' : (ℓ : Loc Cert.ThirdBlockIdeal.nD Cert.ThirdBlockIdeal.τ Cert.ThirdBlockIdeal.sig) → Buf (Elt Ideal) ℓ) (g' : Dev Cert.ThirdBlockIdeal.nD → PrngReg), Pre_OutMlpThirdIdeal m →
    (∀ c : Dev Cert.OutMlpThirdIdeal.nD,
      m' ((c.tc : Thread Cert.ThirdBlockIdeal.nD Cert.ThirdBlockIdeal.τ).loc Cert.ThirdBlockIdeal.main_arg0) = m ((c.tc : Thread Cert.OutMlpThirdIdeal.nD Cert.OutMlpThirdIdeal.τ).loc Cert.OutMlpThirdIdeal.main_arg0)
      ∧ m' ((c.tc : Thread Cert.ThirdBlockIdeal.nD Cert.ThirdBlockIdeal.τ).loc Cert.ThirdBlockIdeal.main_arg1) = m ((c.tc : Thread Cert.OutMlpThirdIdeal.nD Cert.OutMlpThirdIdeal.τ).loc Cert.OutMlpThirdIdeal.main_arg1)
      ∧ m' ((c.tc : Thread Cert.ThirdBlockIdeal.nD Cert.ThirdBlockIdeal.τ).loc Cert.ThirdBlockIdeal.main_arg2) = m ((c.tc : Thread Cert.OutMlpThirdIdeal.nD Cert.OutMlpThirdIdeal.τ).loc Cert.OutMlpThirdIdeal.main_arg2)
      ∧ m' ((c.tc : Thread Cert.ThirdBlockIdeal.nD Cert.ThirdBlockIdeal.τ).loc Cert.ThirdBlockIdeal.main_arg3) = m ((c.tc : Thread Cert.OutMlpThirdIdeal.nD Cert.OutMlpThirdIdeal.τ).loc Cert.OutMlpThirdIdeal.main_arg3)
      ∧ m' ((c.tc : Thread Cert.ThirdBlockIdeal.nD Cert.ThirdBlockIdeal.τ).loc Cert.ThirdBlockIdeal.main_arg4) = m ((c.tc : Thread Cert.OutMlpThirdIdeal.nD Cert.OutMlpThirdIdeal.τ).loc Cert.OutMlpThirdIdeal.main_arg4)
      ∧ m' ((c.tc : Thread Cert.ThirdBlockIdeal.nD Cert.ThirdBlockIdeal.τ).loc Cert.ThirdBlockIdeal.main_arg5) = m ((c.tc : Thread Cert.OutMlpThirdIdeal.nD Cert.OutMlpThirdIdeal.τ).loc Cert.OutMlpThirdIdeal.main_arg5)
      ∧ m' ((c.tc : Thread Cert.ThirdBlockIdeal.nD Cert.ThirdBlockIdeal.τ).loc Cert.ThirdBlockIdeal.main_arg6) = m ((c.tc : Thread Cert.OutMlpThirdIdeal.nD Cert.OutMlpThirdIdeal.τ).loc Cert.OutMlpThirdIdeal.main_arg6)
      ∧ m' ((c.tc : Thread Cert.ThirdBlockIdeal.nD Cert.ThirdBlockIdeal.τ).loc Cert.ThirdBlockIdeal.main_arg7) = m ((c.tc : Thread Cert.OutMlpThirdIdeal.nD Cert.OutMlpThirdIdeal.τ).loc Cert.OutMlpThirdIdeal.main_arg7)
      ∧ m' ((c.tc : Thread Cert.ThirdBlockIdeal.nD Cert.ThirdBlockIdeal.τ).loc Cert.ThirdBlockIdeal.main_arg8) = m ((c.tc : Thread Cert.OutMlpThirdIdeal.nD Cert.OutMlpThirdIdeal.τ).loc Cert.OutMlpThirdIdeal.main_arg8)
      ∧ m' ((c.tc : Thread Cert.ThirdBlockIdeal.nD Cert.ThirdBlockIdeal.τ).loc Cert.ThirdBlockIdeal.main_arg9) = m ((c.tc : Thread Cert.OutMlpThirdIdeal.nD Cert.OutMlpThirdIdeal.τ).loc Cert.OutMlpThirdIdeal.main_arg9)) →
    ∃ (v0 : (c : Dev Cert.OutMlpThirdIdeal.nD) → Buf (Elt Ideal) ((c.tc : Thread Cert.OutMlpThirdIdeal.nD Cert.OutMlpThirdIdeal.τ).loc Cert.OutMlpThirdIdeal.main_v2_0)) (v1 : (c : Dev Cert.OutMlpThirdIdeal.nD) → Buf (Elt Ideal) ((c.tc : Thread Cert.OutMlpThirdIdeal.nD Cert.OutMlpThirdIdeal.τ).loc Cert.OutMlpThirdIdeal.main_v2_1)) (v2 : (c : Dev Cert.OutMlpThirdIdeal.nD) → Buf (Elt Ideal) ((c.tc : Thread Cert.OutMlpThirdIdeal.nD Cert.OutMlpThirdIdeal.τ).loc Cert.OutMlpThirdIdeal.main_v2_2)) (v3 : (c : Dev Cert.OutMlpThirdIdeal.nD) → Buf (Elt Ideal) ((c.tc : Thread Cert.OutMlpThirdIdeal.nD Cert.OutMlpThirdIdeal.τ).loc Cert.OutMlpThirdIdeal.main_v2_3)) (v4 : (c : Dev Cert.OutMlpThirdIdeal.nD) → Buf (Elt Ideal) ((c.tc : Thread Cert.OutMlpThirdIdeal.nD Cert.OutMlpThirdIdeal.τ).loc Cert.OutMlpThirdIdeal.main_v2_4)),
      θ_run (Cert.OutMlpThirdIdeal.defs (F := Ideal)) (onTc (τ := Cert.OutMlpThirdIdeal.τ) (Cert.OutMlpThirdIdeal.main (F := Ideal))) ⟨m, fun _ => 0, g⟩ (fun r => ∀ c : Dev Cert.OutMlpThirdIdeal.nD,
          r.2.mem ((c.tc : Thread Cert.OutMlpThirdIdeal.nD Cert.OutMlpThirdIdeal.τ).loc Cert.OutMlpThirdIdeal.main_v2_0) = v0 c
          ∧ r.2.mem ((c.tc : Thread Cert.OutMlpThirdIdeal.nD Cert.OutMlpThirdIdeal.τ).loc Cert.OutMlpThirdIdeal.main_v2_1) = v1 c
          ∧ r.2.mem ((c.tc : Thread Cert.OutMlpThirdIdeal.nD Cert.OutMlpThirdIdeal.τ).loc Cert.OutMlpThirdIdeal.main_v2_2) = v2 c
          ∧ r.2.mem ((c.tc : Thread Cert.OutMlpThirdIdeal.nD Cert.OutMlpThirdIdeal.τ).loc Cert.OutMlpThirdIdeal.main_v2_3) = v3 c
          ∧ r.2.mem ((c.tc : Thread Cert.OutMlpThirdIdeal.nD Cert.OutMlpThirdIdeal.τ).loc Cert.OutMlpThirdIdeal.main_v2_4) = v4 c
          ∧ r.2.mem ((c.tc : Thread Cert.OutMlpThirdIdeal.nD Cert.OutMlpThirdIdeal.τ).loc Cert.OutMlpThirdIdeal.main_arg0) = m ((c.tc : Thread Cert.OutMlpThirdIdeal.nD Cert.OutMlpThirdIdeal.τ).loc Cert.OutMlpThirdIdeal.main_arg0)
          ∧ r.2.mem ((c.tc : Thread Cert.OutMlpThirdIdeal.nD Cert.OutMlpThirdIdeal.τ).loc Cert.OutMlpThirdIdeal.main_arg1) = m ((c.tc : Thread Cert.OutMlpThirdIdeal.nD Cert.OutMlpThirdIdeal.τ).loc Cert.OutMlpThirdIdeal.main_arg1)
          ∧ r.2.mem ((c.tc : Thread Cert.OutMlpThirdIdeal.nD Cert.OutMlpThirdIdeal.τ).loc Cert.OutMlpThirdIdeal.main_arg2) = m ((c.tc : Thread Cert.OutMlpThirdIdeal.nD Cert.OutMlpThirdIdeal.τ).loc Cert.OutMlpThirdIdeal.main_arg2)
          ∧ r.2.mem ((c.tc : Thread Cert.OutMlpThirdIdeal.nD Cert.OutMlpThirdIdeal.τ).loc Cert.OutMlpThirdIdeal.main_arg3) = m ((c.tc : Thread Cert.OutMlpThirdIdeal.nD Cert.OutMlpThirdIdeal.τ).loc Cert.OutMlpThirdIdeal.main_arg3)
          ∧ r.2.mem ((c.tc : Thread Cert.OutMlpThirdIdeal.nD Cert.OutMlpThirdIdeal.τ).loc Cert.OutMlpThirdIdeal.main_arg4) = m ((c.tc : Thread Cert.OutMlpThirdIdeal.nD Cert.OutMlpThirdIdeal.τ).loc Cert.OutMlpThirdIdeal.main_arg4)
          ∧ r.2.mem ((c.tc : Thread Cert.OutMlpThirdIdeal.nD Cert.OutMlpThirdIdeal.τ).loc Cert.OutMlpThirdIdeal.main_arg5) = m ((c.tc : Thread Cert.OutMlpThirdIdeal.nD Cert.OutMlpThirdIdeal.τ).loc Cert.OutMlpThirdIdeal.main_arg5)
          ∧ r.2.mem ((c.tc : Thread Cert.OutMlpThirdIdeal.nD Cert.OutMlpThirdIdeal.τ).loc Cert.OutMlpThirdIdeal.main_arg6) = m ((c.tc : Thread Cert.OutMlpThirdIdeal.nD Cert.OutMlpThirdIdeal.τ).loc Cert.OutMlpThirdIdeal.main_arg6)
          ∧ r.2.mem ((c.tc : Thread Cert.OutMlpThirdIdeal.nD Cert.OutMlpThirdIdeal.τ).loc Cert.OutMlpThirdIdeal.main_arg7) = m ((c.tc : Thread Cert.OutMlpThirdIdeal.nD Cert.OutMlpThirdIdeal.τ).loc Cert.OutMlpThirdIdeal.main_arg7)
          ∧ r.2.mem ((c.tc : Thread Cert.OutMlpThirdIdeal.nD Cert.OutMlpThirdIdeal.τ).loc Cert.OutMlpThirdIdeal.main_arg8) = m ((c.tc : Thread Cert.OutMlpThirdIdeal.nD Cert.OutMlpThirdIdeal.τ).loc Cert.OutMlpThirdIdeal.main_arg8)
          ∧ r.2.mem ((c.tc : Thread Cert.OutMlpThirdIdeal.nD Cert.OutMlpThirdIdeal.τ).loc Cert.OutMlpThirdIdeal.main_arg9) = m ((c.tc : Thread Cert.OutMlpThirdIdeal.nD Cert.OutMlpThirdIdeal.τ).loc Cert.OutMlpThirdIdeal.main_arg9))
      ∧ θ_run (Cert.ThirdBlockIdeal.defs (F := Ideal)) (onTc (τ := Cert.ThirdBlockIdeal.τ) (Cert.ThirdBlockIdeal.main (F := Ideal))) ⟨m', fun _ => 0, g'⟩ (fun r => ∀ c : Dev Cert.ThirdBlockIdeal.nD,
          r.2.mem ((c.tc : Thread Cert.ThirdBlockIdeal.nD Cert.ThirdBlockIdeal.τ).loc Cert.ThirdBlockIdeal.main_v28) = v0 c
          ∧ r.2.mem ((c.tc : Thread Cert.ThirdBlockIdeal.nD Cert.ThirdBlockIdeal.τ).loc Cert.ThirdBlockIdeal.main_v30) = v1 c
          ∧ r.2.mem ((c.tc : Thread Cert.ThirdBlockIdeal.nD Cert.ThirdBlockIdeal.τ).loc Cert.ThirdBlockIdeal.main_v32) = v2 c
          ∧ r.2.mem ((c.tc : Thread Cert.ThirdBlockIdeal.nD Cert.ThirdBlockIdeal.τ).loc Cert.ThirdBlockIdeal.main_v34) = v3 c
          ∧ r.2.mem ((c.tc : Thread Cert.ThirdBlockIdeal.nD Cert.ThirdBlockIdeal.τ).loc Cert.ThirdBlockIdeal.main_v36) = v4 c
          ∧ r.2.mem ((c.tc : Thread Cert.ThirdBlockIdeal.nD Cert.ThirdBlockIdeal.τ).loc Cert.ThirdBlockIdeal.main_arg0) = m' ((c.tc : Thread Cert.ThirdBlockIdeal.nD Cert.ThirdBlockIdeal.τ).loc Cert.ThirdBlockIdeal.main_arg0)
          ∧ r.2.mem ((c.tc : Thread Cert.ThirdBlockIdeal.nD Cert.ThirdBlockIdeal.τ).loc Cert.ThirdBlockIdeal.main_arg1) = m' ((c.tc : Thread Cert.ThirdBlockIdeal.nD Cert.ThirdBlockIdeal.τ).loc Cert.ThirdBlockIdeal.main_arg1)
          ∧ r.2.mem ((c.tc : Thread Cert.ThirdBlockIdeal.nD Cert.ThirdBlockIdeal.τ).loc Cert.ThirdBlockIdeal.main_arg2) = m' ((c.tc : Thread Cert.ThirdBlockIdeal.nD Cert.ThirdBlockIdeal.τ).loc Cert.ThirdBlockIdeal.main_arg2)
          ∧ r.2.mem ((c.tc : Thread Cert.ThirdBlockIdeal.nD Cert.ThirdBlockIdeal.τ).loc Cert.ThirdBlockIdeal.main_arg3) = m' ((c.tc : Thread Cert.ThirdBlockIdeal.nD Cert.ThirdBlockIdeal.τ).loc Cert.ThirdBlockIdeal.main_arg3)
          ∧ r.2.mem ((c.tc : Thread Cert.ThirdBlockIdeal.nD Cert.ThirdBlockIdeal.τ).loc Cert.ThirdBlockIdeal.main_arg4) = m' ((c.tc : Thread Cert.ThirdBlockIdeal.nD Cert.ThirdBlockIdeal.τ).loc Cert.ThirdBlockIdeal.main_arg4)
          ∧ r.2.mem ((c.tc : Thread Cert.ThirdBlockIdeal.nD Cert.ThirdBlockIdeal.τ).loc Cert.ThirdBlockIdeal.main_arg5) = m' ((c.tc : Thread Cert.ThirdBlockIdeal.nD Cert.ThirdBlockIdeal.τ).loc Cert.ThirdBlockIdeal.main_arg5)
          ∧ r.2.mem ((c.tc : Thread Cert.ThirdBlockIdeal.nD Cert.ThirdBlockIdeal.τ).loc Cert.ThirdBlockIdeal.main_arg6) = m' ((c.tc : Thread Cert.ThirdBlockIdeal.nD Cert.ThirdBlockIdeal.τ).loc Cert.ThirdBlockIdeal.main_arg6)
          ∧ r.2.mem ((c.tc : Thread Cert.ThirdBlockIdeal.nD Cert.ThirdBlockIdeal.τ).loc Cert.ThirdBlockIdeal.main_arg7) = m' ((c.tc : Thread Cert.ThirdBlockIdeal.nD Cert.ThirdBlockIdeal.τ).loc Cert.ThirdBlockIdeal.main_arg7)
          ∧ r.2.mem ((c.tc : Thread Cert.ThirdBlockIdeal.nD Cert.ThirdBlockIdeal.τ).loc Cert.ThirdBlockIdeal.main_arg8) = m' ((c.tc : Thread Cert.ThirdBlockIdeal.nD Cert.ThirdBlockIdeal.τ).loc Cert.ThirdBlockIdeal.main_arg8)
          ∧ r.2.mem ((c.tc : Thread Cert.ThirdBlockIdeal.nD Cert.ThirdBlockIdeal.τ).loc Cert.ThirdBlockIdeal.main_arg9) = m' ((c.tc : Thread Cert.ThirdBlockIdeal.nD Cert.ThirdBlockIdeal.τ).loc Cert.ThirdBlockIdeal.main_arg9))

def preserves_RetProjLast_RetProjLastIdeal : Prop :=
  True

def algebraic_RetProjLastIdeal_LastInputsIdeal [hRetProjLastIdeal : Cert.RetProjLastIdeal.Facts] [hLastInputsIdeal : Cert.LastInputsIdeal.Facts] : Prop :=
  ∀ (m : (ℓ : Loc Cert.RetProjLastIdeal.nD Cert.RetProjLastIdeal.τ Cert.RetProjLastIdeal.sig) → Buf (Elt Ideal) ℓ) (g : Dev Cert.RetProjLastIdeal.nD → PrngReg)
    (m' : (ℓ : Loc Cert.LastInputsIdeal.nD Cert.LastInputsIdeal.τ Cert.LastInputsIdeal.sig) → Buf (Elt Ideal) ℓ) (g' : Dev Cert.LastInputsIdeal.nD → PrngReg), Pre_RetProjLastIdeal m →
    (∀ c : Dev Cert.RetProjLastIdeal.nD,
      m' ((c.tc : Thread Cert.LastInputsIdeal.nD Cert.LastInputsIdeal.τ).loc Cert.LastInputsIdeal.main_arg0) = m ((c.tc : Thread Cert.RetProjLastIdeal.nD Cert.RetProjLastIdeal.τ).loc Cert.RetProjLastIdeal.main_arg0)
      ∧ m' ((c.tc : Thread Cert.LastInputsIdeal.nD Cert.LastInputsIdeal.τ).loc Cert.LastInputsIdeal.main_arg1) = m ((c.tc : Thread Cert.RetProjLastIdeal.nD Cert.RetProjLastIdeal.τ).loc Cert.RetProjLastIdeal.main_arg1)
      ∧ m' ((c.tc : Thread Cert.LastInputsIdeal.nD Cert.LastInputsIdeal.τ).loc Cert.LastInputsIdeal.main_arg2) = m ((c.tc : Thread Cert.RetProjLastIdeal.nD Cert.RetProjLastIdeal.τ).loc Cert.RetProjLastIdeal.main_arg2)) →
    ∃ (v0 : (c : Dev Cert.RetProjLastIdeal.nD) → Buf (Elt Ideal) ((c.tc : Thread Cert.RetProjLastIdeal.nD Cert.RetProjLastIdeal.τ).loc Cert.RetProjLastIdeal.main_v20_0)) (v1 : (c : Dev Cert.RetProjLastIdeal.nD) → Buf (Elt Ideal) ((c.tc : Thread Cert.RetProjLastIdeal.nD Cert.RetProjLastIdeal.τ).loc Cert.RetProjLastIdeal.main_v20_1)) (v2 : (c : Dev Cert.RetProjLastIdeal.nD) → Buf (Elt Ideal) ((c.tc : Thread Cert.RetProjLastIdeal.nD Cert.RetProjLastIdeal.τ).loc Cert.RetProjLastIdeal.main_v20_2)) (v3 : (c : Dev Cert.RetProjLastIdeal.nD) → Buf (Elt Ideal) ((c.tc : Thread Cert.RetProjLastIdeal.nD Cert.RetProjLastIdeal.τ).loc Cert.RetProjLastIdeal.main_v20_3)),
      θ_run (Cert.RetProjLastIdeal.defs (F := Ideal)) (onTc (τ := Cert.RetProjLastIdeal.τ) (Cert.RetProjLastIdeal.main (F := Ideal))) ⟨m, fun _ => 0, g⟩ (fun r => ∀ c : Dev Cert.RetProjLastIdeal.nD,
          r.2.mem ((c.tc : Thread Cert.RetProjLastIdeal.nD Cert.RetProjLastIdeal.τ).loc Cert.RetProjLastIdeal.main_v20_0) = v0 c
          ∧ r.2.mem ((c.tc : Thread Cert.RetProjLastIdeal.nD Cert.RetProjLastIdeal.τ).loc Cert.RetProjLastIdeal.main_v20_1) = v1 c
          ∧ r.2.mem ((c.tc : Thread Cert.RetProjLastIdeal.nD Cert.RetProjLastIdeal.τ).loc Cert.RetProjLastIdeal.main_v20_2) = v2 c
          ∧ r.2.mem ((c.tc : Thread Cert.RetProjLastIdeal.nD Cert.RetProjLastIdeal.τ).loc Cert.RetProjLastIdeal.main_v20_3) = v3 c
          ∧ r.2.mem ((c.tc : Thread Cert.RetProjLastIdeal.nD Cert.RetProjLastIdeal.τ).loc Cert.RetProjLastIdeal.main_arg0) = m ((c.tc : Thread Cert.RetProjLastIdeal.nD Cert.RetProjLastIdeal.τ).loc Cert.RetProjLastIdeal.main_arg0)
          ∧ r.2.mem ((c.tc : Thread Cert.RetProjLastIdeal.nD Cert.RetProjLastIdeal.τ).loc Cert.RetProjLastIdeal.main_arg1) = m ((c.tc : Thread Cert.RetProjLastIdeal.nD Cert.RetProjLastIdeal.τ).loc Cert.RetProjLastIdeal.main_arg1)
          ∧ r.2.mem ((c.tc : Thread Cert.RetProjLastIdeal.nD Cert.RetProjLastIdeal.τ).loc Cert.RetProjLastIdeal.main_arg2) = m ((c.tc : Thread Cert.RetProjLastIdeal.nD Cert.RetProjLastIdeal.τ).loc Cert.RetProjLastIdeal.main_arg2))
      ∧ θ_run (Cert.LastInputsIdeal.defs (F := Ideal)) (onTc (τ := Cert.LastInputsIdeal.τ) (Cert.LastInputsIdeal.main (F := Ideal))) ⟨m', fun _ => 0, g'⟩ (fun r => ∀ c : Dev Cert.LastInputsIdeal.nD,
          r.2.mem ((c.tc : Thread Cert.LastInputsIdeal.nD Cert.LastInputsIdeal.τ).loc Cert.LastInputsIdeal.main_v102) = v0 c
          ∧ r.2.mem ((c.tc : Thread Cert.LastInputsIdeal.nD Cert.LastInputsIdeal.τ).loc Cert.LastInputsIdeal.main_v103) = v1 c
          ∧ r.2.mem ((c.tc : Thread Cert.LastInputsIdeal.nD Cert.LastInputsIdeal.τ).loc Cert.LastInputsIdeal.main_v104) = v2 c
          ∧ r.2.mem ((c.tc : Thread Cert.LastInputsIdeal.nD Cert.LastInputsIdeal.τ).loc Cert.LastInputsIdeal.main_v105) = v3 c
          ∧ r.2.mem ((c.tc : Thread Cert.LastInputsIdeal.nD Cert.LastInputsIdeal.τ).loc Cert.LastInputsIdeal.main_arg0) = m' ((c.tc : Thread Cert.LastInputsIdeal.nD Cert.LastInputsIdeal.τ).loc Cert.LastInputsIdeal.main_arg0)
          ∧ r.2.mem ((c.tc : Thread Cert.LastInputsIdeal.nD Cert.LastInputsIdeal.τ).loc Cert.LastInputsIdeal.main_arg1) = m' ((c.tc : Thread Cert.LastInputsIdeal.nD Cert.LastInputsIdeal.τ).loc Cert.LastInputsIdeal.main_arg1)
          ∧ r.2.mem ((c.tc : Thread Cert.LastInputsIdeal.nD Cert.LastInputsIdeal.τ).loc Cert.LastInputsIdeal.main_arg2) = m' ((c.tc : Thread Cert.LastInputsIdeal.nD Cert.LastInputsIdeal.τ).loc Cert.LastInputsIdeal.main_arg2))

def Claim : Prop :=
  ∃ (hRetCore : Cert.RetCore.Facts) (hRetCoreIdeal : Cert.RetCoreIdeal.Facts) (hRetentionIdeal : Cert.RetentionIdeal.Facts) (hOutMlpGated : Cert.OutMlpGated.Facts) (hOutMlpGatedIdeal : Cert.OutMlpGatedIdeal.Facts) (hGatedBlockIdeal : Cert.GatedBlockIdeal.Facts) (hOutMlp : Cert.OutMlp.Facts) (hOutMlpIdeal : Cert.OutMlpIdeal.Facts) (hPlainBlockIdeal : Cert.PlainBlockIdeal.Facts) (hRetProj : Cert.RetProj.Facts) (hRetProjIdeal : Cert.RetProjIdeal.Facts) (hRetentionInputsIdeal : Cert.RetentionInputsIdeal.Facts) (hAttnProj : Cert.AttnProj.Facts) (hAttnProjIdeal : Cert.AttnProjIdeal.Facts) (hAttentionInputsIdeal : Cert.AttentionInputsIdeal.Facts) (hMobaProj : Cert.MobaProj.Facts) (hMobaProjIdeal : Cert.MobaProjIdeal.Facts) (hMobaInputsIdeal : Cert.MobaInputsIdeal.Facts) (hBiasTiles : Cert.BiasTiles.Facts) (hBiasTilesIdeal : Cert.BiasTilesIdeal.Facts) (hPositionBiasIdeal : Cert.PositionBiasIdeal.Facts) (hOutMlpFirst : Cert.OutMlpFirst.Facts) (hOutMlpFirstIdeal : Cert.OutMlpFirstIdeal.Facts) (hFirstBlockIdeal : Cert.FirstBlockIdeal.Facts) (hOutMlpThird : Cert.OutMlpThird.Facts) (hOutMlpThirdIdeal : Cert.OutMlpThirdIdeal.Facts) (hThirdBlockIdeal : Cert.ThirdBlockIdeal.Facts) (hRetProjLast : Cert.RetProjLast.Facts) (hRetProjLastIdeal : Cert.RetProjLastIdeal.Facts) (hLastInputsIdeal : Cert.LastInputsIdeal.Facts) (hPre_finite : Cert.Pre_finite.Facts),
    quiescent_RetCore (hRetCore := hRetCore)
    ∧ quiescent_RetCoreIdeal (hRetCoreIdeal := hRetCoreIdeal)
    ∧ quiescent_RetCoreIdeal_pre_finite (hRetCoreIdeal := hRetCoreIdeal) (hPre_finite := hPre_finite)
    ∧ quiescent_RetentionIdeal (hRetentionIdeal := hRetentionIdeal)
    ∧ quiescent_RetentionIdeal_pre_finite (hRetentionIdeal := hRetentionIdeal) (hPre_finite := hPre_finite)
    ∧ quiescent_OutMlpGated (hOutMlpGated := hOutMlpGated)
    ∧ quiescent_OutMlpGatedIdeal (hOutMlpGatedIdeal := hOutMlpGatedIdeal)
    ∧ quiescent_GatedBlockIdeal (hGatedBlockIdeal := hGatedBlockIdeal)
    ∧ quiescent_OutMlp (hOutMlp := hOutMlp)
    ∧ quiescent_OutMlpIdeal (hOutMlpIdeal := hOutMlpIdeal)
    ∧ quiescent_PlainBlockIdeal (hPlainBlockIdeal := hPlainBlockIdeal)
    ∧ quiescent_RetProj (hRetProj := hRetProj)
    ∧ quiescent_RetProjIdeal (hRetProjIdeal := hRetProjIdeal)
    ∧ quiescent_RetentionInputsIdeal (hRetentionInputsIdeal := hRetentionInputsIdeal)
    ∧ quiescent_AttnProj (hAttnProj := hAttnProj)
    ∧ quiescent_AttnProjIdeal (hAttnProjIdeal := hAttnProjIdeal)
    ∧ quiescent_AttentionInputsIdeal (hAttentionInputsIdeal := hAttentionInputsIdeal)
    ∧ quiescent_MobaProj (hMobaProj := hMobaProj)
    ∧ quiescent_MobaProjIdeal (hMobaProjIdeal := hMobaProjIdeal)
    ∧ quiescent_MobaInputsIdeal (hMobaInputsIdeal := hMobaInputsIdeal)
    ∧ quiescent_BiasTiles (hBiasTiles := hBiasTiles)
    ∧ quiescent_BiasTilesIdeal (hBiasTilesIdeal := hBiasTilesIdeal)
    ∧ quiescent_PositionBiasIdeal (hPositionBiasIdeal := hPositionBiasIdeal)
    ∧ quiescent_OutMlpFirst (hOutMlpFirst := hOutMlpFirst)
    ∧ quiescent_OutMlpFirstIdeal (hOutMlpFirstIdeal := hOutMlpFirstIdeal)
    ∧ quiescent_FirstBlockIdeal (hFirstBlockIdeal := hFirstBlockIdeal)
    ∧ quiescent_OutMlpThird (hOutMlpThird := hOutMlpThird)
    ∧ quiescent_OutMlpThirdIdeal (hOutMlpThirdIdeal := hOutMlpThirdIdeal)
    ∧ quiescent_ThirdBlockIdeal (hThirdBlockIdeal := hThirdBlockIdeal)
    ∧ quiescent_RetProjLast (hRetProjLast := hRetProjLast)
    ∧ quiescent_RetProjLastIdeal (hRetProjLastIdeal := hRetProjLastIdeal)
    ∧ quiescent_LastInputsIdeal (hLastInputsIdeal := hLastInputsIdeal)
    ∧ preserves_RetCore_RetCoreIdeal
    ∧ algebraic_RetCoreIdeal_RetentionIdeal_pre_finite (hRetCoreIdeal := hRetCoreIdeal) (hRetentionIdeal := hRetentionIdeal) (hPre_finite := hPre_finite)
    ∧ preserves_OutMlpGated_OutMlpGatedIdeal
    ∧ algebraic_OutMlpGatedIdeal_GatedBlockIdeal (hOutMlpGatedIdeal := hOutMlpGatedIdeal) (hGatedBlockIdeal := hGatedBlockIdeal)
    ∧ preserves_OutMlp_OutMlpIdeal
    ∧ algebraic_OutMlpIdeal_PlainBlockIdeal (hOutMlpIdeal := hOutMlpIdeal) (hPlainBlockIdeal := hPlainBlockIdeal)
    ∧ preserves_RetProj_RetProjIdeal
    ∧ algebraic_RetProjIdeal_RetentionInputsIdeal (hRetProjIdeal := hRetProjIdeal) (hRetentionInputsIdeal := hRetentionInputsIdeal)
    ∧ preserves_AttnProj_AttnProjIdeal
    ∧ algebraic_AttnProjIdeal_AttentionInputsIdeal (hAttnProjIdeal := hAttnProjIdeal) (hAttentionInputsIdeal := hAttentionInputsIdeal)
    ∧ preserves_MobaProj_MobaProjIdeal
    ∧ algebraic_MobaProjIdeal_MobaInputsIdeal (hMobaProjIdeal := hMobaProjIdeal) (hMobaInputsIdeal := hMobaInputsIdeal)
    ∧ preserves_BiasTiles_BiasTilesIdeal
    ∧ algebraic_BiasTilesIdeal_PositionBiasIdeal (hBiasTilesIdeal := hBiasTilesIdeal) (hPositionBiasIdeal := hPositionBiasIdeal)
    ∧ preserves_OutMlpFirst_OutMlpFirstIdeal
    ∧ algebraic_OutMlpFirstIdeal_FirstBlockIdeal (hOutMlpFirstIdeal := hOutMlpFirstIdeal) (hFirstBlockIdeal := hFirstBlockIdeal)
    ∧ preserves_OutMlpThird_OutMlpThirdIdeal
    ∧ algebraic_OutMlpThirdIdeal_ThirdBlockIdeal (hOutMlpThirdIdeal := hOutMlpThirdIdeal) (hThirdBlockIdeal := hThirdBlockIdeal)
    ∧ preserves_RetProjLast_RetProjLastIdeal
    ∧ algebraic_RetProjLastIdeal_LastInputsIdeal (hRetProjLastIdeal := hRetProjLastIdeal) (hLastInputsIdeal := hLastInputsIdeal)
-- ==== Pre_finite.lean ====
abbrev S16384x1024 : Shape := ⟨2, ![16384, 1024]⟩
abbrev S16384x2048 : Shape := ⟨2, ![16384, 2048]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S16384x1024 .bf16) (main_arg1 : FVec F S16384x1024 .bf16) (main_arg2 : FVec F S16384x2048 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x2048 .f32 := (extf .f32 · bitsLt_bf16_f32) main_arg2
  let main_v12 : FVec F S16384x2048 .f32 := Host.absf main_v11
  let main_cst_2 : FVec F S_ .f32 := constant S_ .f32 0x7F800000#32
  let main_v13 : FVec F S16384x2048 .f32 := broadcastInDim S16384x2048 ![] bcast_S_S16384x2048 main_cst_2
  let main_v14 : IVec S16384x2048 1 := cmpf .olt main_v12 main_v13
  let main_c_3 : IVec S_ 1 := constantI S_ 1 1#1
  let main_v15 : IVec S_ 1 := (fun x v => Host.reduce IntOp.andi x v reducesTo_S16384x2048_S_d0_1 h_S_) main_v14 main_c_3
  let main_v16 : IVec S_ 1 := andi main_v10 main_v15
  main_v16
-- ==== RetCore.lean ====
abbrev S16384x1024 : Shape := ⟨2, ![16384, 1024]⟩
abbrev S16384x2048 : Shape := ⟨2, ![16384, 2048]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4096x256 : Shape := ⟨2, ![4096, 256]⟩
abbrev S4096x512 : Shape := ⟨2, ![4096, 512]⟩
abbrev S1x256x1 : Shape := ⟨3, ![1, 256, 1]⟩
abbrev S1x1x1 : Shape := ⟨3, ![1, 1, 1]⟩
abbrev S256x512 : Shape := ⟨2, ![256, 512]⟩
abbrev S2x256x512 : Shape := ⟨3, ![2, 256, 512]⟩
abbrev S1x256x512 : Shape := ⟨3, ![1, 256, 512]⟩
abbrev S1x1 : Shape := ⟨2, ![1, 1]⟩

abbrev nBuf : Space → Nat
  | .hbm => 63
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S256, .f32⟩
  | .hbm, ⟨15, _⟩ => ⟨S256x1, .f32⟩
  | .hbm, ⟨16, _⟩ => ⟨S1x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .i1⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S1x256x256, .f32⟩
  | .hbm, ⟨27, _⟩ => ⟨S4x1x1, .f32⟩
  | .hbm, ⟨28, _⟩ => ⟨S4x256x256, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S_, .f32⟩
  | .hbm, ⟨33, _⟩ => ⟨S_, .f32⟩
  | .hbm, ⟨34, _⟩ => ⟨S4x256x256, .i1⟩
  | .hbm, ⟨35, _⟩ => ⟨S4x256x256, .f32⟩
  | .hbm, ⟨36, _⟩ => ⟨S4x256x256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S1x256, .f32⟩
  | .hbm, ⟨41, _⟩ => ⟨S4x1, .f32⟩
  | .hbm, ⟨42, _⟩ => ⟨S4x256, .f32⟩
  | .hbm, ⟨43, _⟩ => ⟨S4x256, .f32⟩
  | .hbm, ⟨44, _⟩ => ⟨S4x256, .f32⟩
  | .hbm, ⟨45, _⟩ => ⟨S4x256, .f32⟩
  | .hbm, ⟨46, _⟩ => ⟨S4x256x1, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S4x1, .f32⟩
  | .hbm, ⟨52, _⟩ => ⟨S4x256, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S4x256x1, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x1x1, .f32⟩
  | .hbm, ⟨62, _⟩ => ⟨S16384x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x512, .bf16⟩
  | .local _ .vmem, ⟨5, _⟩ => ⟨S4096x512, .bf16⟩
  | .local _ .vmem, ⟨6, _⟩ => ⟨S1x256x256, .f32⟩
  | .local _ .vmem, ⟨7, _⟩ => ⟨S1x256x256, .f32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S1x1x1, .f32⟩
  | .local _ .vmem, ⟨13, _⟩ => ⟨S1x1x1, .f32⟩
  | .local _ .vmem, ⟨14, _⟩ => ⟨S4096x512, .bf16⟩
  | .local _ .vmem, ⟨15, _⟩ => ⟨S4096x512, .bf16⟩
  | .local _ .vmem, ⟨16, _⟩ => ⟨S256x512, .f32⟩
  | .local _ .vmem, ⟨17, _⟩ => ⟨S2x256x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
def k0_mult2 : BitVec 32 :=
  let c0_i32_6 : BitVec 32 := 0#32
  c0_i32_6
@[reducible] def k0_t1_loop : Scf.Loop 32 :=
  let c0_i32_12 : BitVec 32 := 0#32
  let c4_i32 : BitVec 32 := 4#32
  let v19 : BitVec 32 := Scalar.addi c0_i32_12 c4_i32
  let c1_i32 : BitVec 32 := 1#32
  ⟨c0_i32_12, v19, c1_i32⟩
def k0_mult3 (k0_t1 : Fin k0_t1_loop.trips) : BitVec 32 :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let c0_i32_21 : BitVec 32 := 0#32
  let v38 : BitVec 32 := Scalar.addi v37 c0_i32_21
  let c256_i32 : BitVec 32 := 256#32
  let v39 : BitVec 32 := Scalar.muli v38 c256_i32
  v39
def k0_off1 (k0_t1 : Fin k0_t1_loop.trips) (c0_i32_21 : BitVec 32) : Fin 2 → Nat :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let v38 : BitVec 32 := Scalar.addi v37 c0_i32_21
  let c256_i32 : BitVec 32 := 256#32
  let v39 : BitVec 32 := Scalar.muli v38 c256_i32
  let v40 : BitVec 32 := v39
  let v41 : Index := Scalar.indexCast v40
  let c0_22 : Index := 0#32
  ![v41.toNat, 0]
def k0_off2 (k0_t1 : Fin k0_t1_loop.trips) (c0_i32_21 : BitVec 32) : Fin 2 → Nat :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let v38 : BitVec 32 := Scalar.addi v37 c0_i32_21
  let c256_i32 : BitVec 32 := 256#32
  let v39 : BitVec 32 := Scalar.muli v38 c256_i32
  let v40 : BitVec 32 := v39
  let v45 : Index := Scalar.indexCast v40
  let c0_24 : Index := 0#32
  ![v45.toNat, 0]
def k0_mult4 (k0_t1 : Fin k0_t1_loop.trips) : BitVec 32 :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let c0_i32_21 : BitVec 32 := 0#32
  let v38 : BitVec 32 := Scalar.addi v37 c0_i32_21
  let c1_i32_33 : BitVec 32 := 1#32
  let v58 : BitVec 32 := Scalar.addi v38 c1_i32_33
  let c15_i32 : BitVec 32 := 15#32
  let v59 : BitVec 32 := Scalar.minsi v58 c15_i32
  let c256_i32_34 : BitVec 32 := 256#32
  let v60 : BitVec 32 := Scalar.muli v59 c256_i32_34
  v60
def k0_off3 (k0_t1 : Fin k0_t1_loop.trips) (c0_i32_21 : BitVec 32) : Fin 2 → Nat :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let v38 : BitVec 32 := Scalar.addi v37 c0_i32_21
  let c1_i32_33 : BitVec 32 := 1#32
  let v58 : BitVec 32 := Scalar.addi v38 c1_i32_33
  let c15_i32 : BitVec 32 := 15#32
  let v59 : BitVec 32 := Scalar.minsi v58 c15_i32
  let c256_i32_34 : BitVec 32 := 256#32
  let v60 : BitVec 32 := Scalar.muli v59 c256_i32_34
  let v61 : BitVec 32 := v60
  let v62 : Index := Scalar.indexCast v61
  let c0_35 : Index := 0#32
  ![v62.toNat, 0]
def k0_mult5 (k0_t1 : Fin k0_t1_loop.trips) : BitVec 32 :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let c0_i32_21 : BitVec 32 := 0#32
  let v38 : BitVec 32 := Scalar.addi v37 c0_i32_21
  let c1_i32_33 : BitVec 32 := 1#32
  let v58 : BitVec 32 := Scalar.addi v38 c1_i32_33
  let c15_i32 : BitVec 32 := 15#32
  let v59 : BitVec 32 := Scalar.minsi v58 c15_i32
  let c256_i32_36 : BitVec 32 := 256#32
  let v64 : BitVec 32 := Scalar.muli v59 c256_i32_36
  v64
def k0_mult6 (k0_t1 : Fin k0_t1_loop.trips) : BitVec 32 :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let c0_i32_21 : BitVec 32 := 0#32
  let v38 : BitVec 32 := Scalar.addi v37 c0_i32_21
  let c1_i32_42 : BitVec 32 := 1#32
  let v73 : BitVec 32 := Scalar.subi v38 c1_i32_42
  let c0_i32_43 : BitVec 32 := 0#32
  let v74 : BitVec 32 := Scalar.maxsi v73 c0_i32_43
  let c256_i32_50 : BitVec 32 := 256#32
  let v88 : BitVec 32 := Scalar.muli v74 c256_i32_50
  v88
def k0_off4 (k0_t1 : Fin k0_t1_loop.trips) (c0_i32_21 : BitVec 32) : Fin 2 → Nat :=
  let c4_i32_20 : BitVec 32 := 4#32
  let c0_i32_12 : BitVec 32 := 0#32
  let c1_i32 : BitVec 32 := 1#32
  let arg12 : BitVec 32 := Scf.iv c0_i32_12 c1_i32 k0_t1
  let v37 : BitVec 32 := Scalar.muli c4_i32_20 arg12
  let v38 : BitVec 32 := Scalar.addi v37 c0_i32_21
  let c1_i32_42 : BitVec 32 := 1#32
  let v73 : BitVec 32 := Scalar.subi v38 c1_i32_42
  let c0_i32_43 : BitVec 32 := 0#32
  let v74 : BitVec 32 := Scalar.maxsi v73 c0_i32_43
  let c256_i32_50 : BitVec 32 := 256#32
  let v88 : BitVec 32 := Scalar.muli v74 c256_i32_50
  let v89 : BitVec 32 := v88
  let v90 : Index := Scalar.indexCast v89
  let c0_51 : Index := 0#32
  ![v90.toNat, 0]
def k0_mult7 (k0_t1 : Fin k0_t1_loop.trips) : BitVec 32 :=
  let c4_i32_63 : BitVec 32 := 4#32
  let c0_i32_12 : BitVec 32 := 0#32
  let c1_i32 : BitVec 32 := 1#32
  let arg12 : BitVec 32 := Scf.iv c0_i32_12 c1_i32 k0_t1
  let v108 : BitVec 32 := Scalar.muli c4_i32_63 arg12
  let c1_i32_64 : BitVec 32 := 1#32
  let v109 : BitVec 32 := Scalar.addi v108 c1_i32_64
  let c256_i32_65 : BitVec 32 := 256#32
  let v110 : BitVec 32 := Scalar.muli v109 c256_i32_65
  v110
def k0_mult8 (k0_t1 : Fin k0_t1_loop.trips) : BitVec 32 :=
  let c4_i32_63 : BitVec 32 := 4#32
  let c0_i32_12 : BitVec 32 := 0#32
  let c1_i32 : BitVec 32 := 1#32
  let arg12 : BitVec 32 := Scf.iv c0_i32_12 c1_i32 k0_t1
  let v108 : BitVec 32 := Scalar.muli c4_i32_63 arg12
  let c1_i32_64 : BitVec 32 := 1#32
  let v109 : BitVec 32 := Scalar.addi v108 c1_i32_64
  let c1_i32_77 : BitVec 32 := 1#32
  let v129 : BitVec 32 := Scalar.addi v109 c1_i32_77
  let c15_i32_78 : BitVec 32 := 15#32
  let v130 : BitVec 32 := Scalar.minsi v129 c15_i32_78
  let c256_i32_79 : BitVec 32 := 256#32
  let v131 : BitVec 32 := Scalar.muli v130 c256_i32_79
  v131
def k0_mult9 (k0_t1 : Fin k0_t1_loop.trips) : BitVec 32 :=
  let c4_i32_63 : BitVec 32 := 4#32
  let c0_i32_12 : BitVec 32 := 0#32
  let c1_i32 : BitVec 32 := 1#32
  let arg12 : BitVec 32 := Scf.iv c0_i32_12 c1_i32 k0_t1
  let v108 : BitVec 32 := Scalar.muli c4_i32_63 arg12
  let c1_i32_64 : BitVec 32 := 1#32
  let v109 : BitVec 32 := Scalar.addi v108 c1_i32_64
  let c1_i32_77 : BitVec 32 := 1#32
  let v129 : BitVec 32 := Scalar.addi v109 c1_i32_77
  let c15_i32_78 : BitVec 32 := 15#32
  let v130 : BitVec 32 := Scalar.minsi v129 c15_i32_78
  let c256_i32_81 : BitVec 32 := 256#32
  let v135 : BitVec 32 := Scalar.muli v130 c256_i32_81
  v135
def k0_mult10 (k0_t1 : Fin k0_t1_loop.trips) : BitVec 32 :=
  let c4_i32_63 : BitVec 32 := 4#32
  let c0_i32_12 : BitVec 32 := 0#32
  let c1_i32 : BitVec 32 := 1#32
  let arg12 : BitVec 32 := Scf.iv c0_i32_12 c1_i32 k0_t1
  let v108 : BitVec 32 := Scalar.muli c4_i32_63 arg12
  let c1_i32_64 : BitVec 32 := 1#32
  let v109 : BitVec 32 := Scalar.addi v108 c1_i32_64
  let c1_i32_87 : BitVec 32 := 1#32
  let v144 : BitVec 32 := Scalar.subi v109 c1_i32_87
  let c0_i32_88 : BitVec 32 := 0#32
  let v145 : BitVec 32 := Scalar.maxsi v144 c0_i32_88
  let c256_i32_95 : BitVec 32 := 256#32
  let v159 : BitVec 32 := Scalar.muli v145 c256_i32_95
  v159
def k0_mult11 (k0_t1 : Fin k0_t1_loop.trips) : BitVec 32 :=
  let c4_i32_108 : BitVec 32 := 4#32
  let c0_i32_12 : BitVec 32 := 0#32
  let c1_i32 : BitVec 32 := 1#32
  let arg12 : BitVec 32 := Scf.iv c0_i32_12 c1_i32 k0_t1
  let v179 : BitVec 32 := Scalar.muli c4_i32_108 arg12
  let c2_i32 : BitVec 32 := 2#32
  let v180 : BitVec 32 := Scalar.addi v179 c2_i32
  let c256_i32_109 : BitVec 32 := 256#32
  let v181 : BitVec 32 := Scalar.muli v180 c256_i32_109
  v181
def k0_mult12 (k0_t1 : Fin k0_t1_loop.trips) : BitVec 32 :=
  let c4_i32_108 : BitVec 32 := 4#32
  let c0_i32_12 : BitVec 32 := 0#32
  let c1_i32 : BitVec 32 := 1#32
  let arg12 : BitVec 32 := Scf.iv c0_i32_12 c1_i32 k0_t1
  let v179 : BitVec 32 := Scalar.muli c4_i32_108 arg12
  let c2_i32 : BitVec 32 := 2#32
  let v180 : BitVec 32 := Scalar.addi v179 c2_i32
  let c1_i32_121 : BitVec 32 := 1#32
  let v200 : BitVec 32 := Scalar.addi v180 c1_i32_121
  let c15_i32_122 : BitVec 32 := 15#32
  let v201 : BitVec 32 := Scalar.minsi v200 c15_i32_122
  let c256_i32_123 : BitVec 32 := 256#32
  let v202 : BitVec 32 := Scalar.muli v201 c256_i32_123
  v202
def k0_mult13 (k0_t1 : Fin k0_t1_loop.trips) : BitVec 32 :=
  let c4_i32_108 : BitVec 32 := 4#32
  let c0_i32_12 : BitVec 32 := 0#32
  let c1_i32 : BitVec 32 := 1#32
  let arg12 : BitVec 32 := Scf.iv c0_i32_12 c1_i32 k0_t1
  let v179 : BitVec 32 := Scalar.muli c4_i32_108 arg12
  let c2_i32 : BitVec 32 := 2#32
  let v180 : BitVec 32 := Scalar.addi v179 c2_i32
  let c1_i32_121 : BitVec 32 := 1#32
  let v200 : BitVec 32 := Scalar.addi v180 c1_i32_121
  let c15_i32_122 : BitVec 32 := 15#32
  let v201 : BitVec 32 := Scalar.minsi v200 c15_i32_122
  let c256_i32_125 : BitVec 32 := 256#32
  let v206 : BitVec 32 := Scalar.muli v201 c256_i32_125
  v206
def k0_mult14 (k0_t1 : Fin k0_t1_loop.trips) : BitVec 32 :=
  let c4_i32_108 : BitVec 32 := 4#32
  let c0_i32_12 : BitVec 32 := 0#32
  let c1_i32 : BitVec 32 := 1#32
  let arg12 : BitVec 32 := Scf.iv c0_i32_12 c1_i32 k0_t1
  let v179 : BitVec 32 := Scalar.muli c4_i32_108 arg12
  let c2_i32 : BitVec 32 := 2#32
  let v180 : BitVec 32 := Scalar.addi v179 c2_i32
  let c1_i32_131 : BitVec 32 := 1#32
  let v215 : BitVec 32 := Scalar.subi v180 c1_i32_131
  let c0_i32_132 : BitVec 32 := 0#32
  let v216 : BitVec 32 := Scalar.maxsi v215 c0_i32_132
  let c256_i32_139 : BitVec 32 := 256#32
  let v230 : BitVec 32 := Scalar.muli v216 c256_i32_139
  v230
def k0_mult15 (k0_t1 : Fin k0_t1_loop.trips) : BitVec 32 :=
  let c4_i32_152 : BitVec 32 := 4#32
  let c0_i32_12 : BitVec 32 := 0#32
  let c1_i32 : BitVec 32 := 1#32
  let arg12 : BitVec 32 := Scf.iv c0_i32_12 c1_i32 k0_t1
  let v250 : BitVec 32 := Scalar.muli c4_i32_152 arg12
  let c3_i32 : BitVec 32 := 3#32
  let v251 : BitVec 32 := Scalar.addi v250 c3_i32
  let c256_i32_153 : BitVec 32 := 256#32
  let v252 : BitVec 32 := Scalar.muli v251 c256_i32_153
  v252
def k0_mult16 (k0_t1 : Fin k0_t1_loop.trips) : BitVec 32 :=
  let c4_i32_152 : BitVec 32 := 4#32
  let c0_i32_12 : BitVec 32 := 0#32
  let c1_i32 : BitVec 32 := 1#32
  let arg12 : BitVec 32 := Scf.iv c0_i32_12 c1_i32 k0_t1
  let v250 : BitVec 32 := Scalar.muli c4_i32_152 arg12
  let c3_i32 : BitVec 32 := 3#32
  let v251 : BitVec 32 := Scalar.addi v250 c3_i32
  let c1_i32_165 : BitVec 32 := 1#32
  let v271 : BitVec 32 := Scalar.addi v251 c1_i32_165
  let c15_i32_166 : BitVec 32 := 15#32
  let v272 : BitVec 32 := Scalar.minsi v271 c15_i32_166
  let c256_i32_167 : BitVec 32 := 256#32
  let v273 : BitVec 32 := Scalar.muli v272 c256_i32_167
  v273
def k0_mult17 (k0_t1 : Fin k0_t1_loop.trips) : BitVec 32 :=
  let c4_i32_152 : BitVec 32 := 4#32
  let c0_i32_12 : BitVec 32 := 0#32
  let c1_i32 : BitVec 32 := 1#32
  let arg12 : BitVec 32 := Scf.iv c0_i32_12 c1_i32 k0_t1
  let v250 : BitVec 32 := Scalar.muli c4_i32_152 arg12
  let c3_i32 : BitVec 32 := 3#32
  let v251 : BitVec 32 := Scalar.addi v250 c3_i32
  let c1_i32_165 : BitVec 32 := 1#32
  let v271 : BitVec 32 := Scalar.addi v251 c1_i32_165
  let c15_i32_166 : BitVec 32 := 15#32
  let v272 : BitVec 32 := Scalar.minsi v271 c15_i32_166
  let c256_i32_169 : BitVec 32 := 256#32
  let v277 : BitVec 32 := Scalar.muli v272 c256_i32_169
  v277
def k0_mult18 (k0_t1 : Fin k0_t1_loop.trips) : BitVec 32 :=
  let c4_i32_152 : BitVec 32 := 4#32
  let c0_i32_12 : BitVec 32 := 0#32
  let c1_i32 : BitVec 32 := 1#32
  let arg12 : BitVec 32 := Scf.iv c0_i32_12 c1_i32 k0_t1
  let v250 : BitVec 32 := Scalar.muli c4_i32_152 arg12
  let c3_i32 : BitVec 32 := 3#32
  let v251 : BitVec 32 := Scalar.addi v250 c3_i32
  let c1_i32_175 : BitVec 32 := 1#32
  let v286 : BitVec 32 := Scalar.subi v251 c1_i32_175
  let c0_i32_176 : BitVec 32 := 0#32
  let v287 : BitVec 32 := Scalar.maxsi v286 c0_i32_176
  let c256_i32_183 : BitVec 32 := 256#32
  let v301 : BitVec 32 := Scalar.muli v287 c256_i32_183
  v301
def k0_mult19 : BitVec 32 :=
  let c3840_i32 : BitVec 32 := 3840#32
  c3840_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetentionIdeal.lean ====
abbrev S16384x1024 : Shape := ⟨2, ![16384, 1024]⟩
abbrev S16384x2048 : Shape := ⟨2, ![16384, 2048]⟩
abbrev S4x4096x4x256 : Shape := ⟨4, ![4, 4096, 4, 256]⟩
abbrev S4x4x4096x256 : Shape := ⟨4, ![4, 4, 4096, 256]⟩
abbrev S4x4096x4x512 : Shape := ⟨4, ![4, 4096, 4, 512]⟩
abbrev S4x4x4096x512 : Shape := ⟨4, ![4, 4, 4096, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x4x32x128x256 : Shape := ⟨5, ![4, 4, 32, 128, 256]⟩
abbrev S4x4x32x128x512 : Shape := ⟨5, ![4, 4, 32, 128, 512]⟩
abbrev S4x4x32x128x128 : Shape := ⟨5, ![4, 4, 32, 128, 128]⟩
abbrev S4x1x128x128 : Shape := ⟨4, ![4, 1, 128, 128]⟩
abbrev S1x4x1x128x128 : Shape := ⟨5, ![1, 4, 1, 128, 128]⟩
abbrev S4x1 : Shape := ⟨2, ![4, 1]⟩
abbrev S4x128 : Shape := ⟨2, ![4, 128]⟩
abbrev S4x1x128x1 : Shape := ⟨4, ![4, 1, 128, 1]⟩
abbrev S1x4x1x128x1 : Shape := ⟨5, ![1, 4, 1, 128, 1]⟩
abbrev S32x4x4x128x256 : Shape := ⟨5, ![32, 4, 4, 128, 256]⟩
abbrev S32x4x4x128x512 : Shape := ⟨5, ![32, 4, 4, 128, 512]⟩
abbrev S4x4x256x512 : Shape := ⟨4, ![4, 4, 256, 512]⟩
abbrev S1x4x4x128x256 : Shape := ⟨5, ![1, 4, 4, 128, 256]⟩
abbrev S4x4x128x256 : Shape := ⟨4, ![4, 4, 128, 256]⟩
abbrev S1x4x4x128x512 : Shape := ⟨5, ![1, 4, 4, 128, 512]⟩
abbrev S4x4x128x512 : Shape := ⟨4, ![4, 4, 128, 512]⟩
abbrev S1x4x1x1 : Shape := ⟨4, ![1, 4, 1, 1]⟩
abbrev S4x4x4096 : Shape := ⟨3, ![4, 4, 4096]⟩
abbrev S4x4x4096x1 : Shape := ⟨4, ![4, 4, 4096, 1]⟩

abbrev nBuf : Space → Nat
  | .hbm => 154
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x2048, .bf16⟩
  | 3 => ⟨S16384x1024, .f32⟩
  | 4 => ⟨S4x4096x4x256, .f32⟩
  | 5 => ⟨S4x4x4096x256, .f32⟩
  | 6 => ⟨S16384x1024, .f32⟩
  | 7 => ⟨S4x4096x4x256, .f32⟩
  | 8 => ⟨S4x4x4096x256, .f32⟩
  | 9 => ⟨S16384x2048, .f32⟩
  | 10 => ⟨S4x4096x4x512, .f32⟩
  | 11 => ⟨S4x4x4096x512, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S128, .f32⟩
  | 24 => ⟨S128x1, .f32⟩
  | 25 => ⟨S1x128, .f32⟩
  | 26 => ⟨S128x128, .f32⟩
  | 27 => ⟨S128x128, .f32⟩
  | 28 => ⟨S128x128, .f32⟩
  | 29 => ⟨S_, .f32⟩
  | 30 => ⟨S128x128, .f32⟩
  | 31 => ⟨S128x128, .i1⟩
  | 32 => ⟨S_, .f32⟩
  | 33 => ⟨S128x128, .f32⟩
  | 34 => ⟨S128x128, .f32⟩
  | 35 => ⟨S1x128x128, .f32⟩
  | 36 => ⟨S4x1x1, .f32⟩
  | 37 => ⟨S4x128x128, .f32⟩
  | 38 => ⟨S4x128x128, .f32⟩
  | 39 => ⟨S4x128x128, .f32⟩
  | 40 => ⟨S4x128x128, .f32⟩
  | 41 => ⟨S_, .f32⟩
  | 42 => ⟨S_, .f32⟩
  | 43 => ⟨S4x128x128, .i1⟩
  | 44 => ⟨S4x128x128, .f32⟩
  | 45 => ⟨S4x128x128, .f32⟩
  | 46 => ⟨S4x4x32x128x256, .f32⟩
  | 47 => ⟨S4x4x32x128x256, .f32⟩
  | 48 => ⟨S4x4x32x128x512, .f32⟩
  | 49 => ⟨S4x4x32x128x128, .f32⟩
  | 50 => ⟨S4x1x128x128, .f32⟩
  | 51 => ⟨S1x4x1x128x128, .f32⟩
  | 52 => ⟨S4x4x32x128x128, .f32⟩
  | 53 => ⟨S4x4x32x128x128, .f32⟩
  | 54 => ⟨S4x4x32x128x512, .f32⟩
  | 55 => ⟨S_, .f32⟩
  | 56 => ⟨S128, .f32⟩
  | 57 => ⟨S128, .f32⟩
  | 58 => ⟨S1x128, .f32⟩
  | 59 => ⟨S4x1, .f32⟩
  | 60 => ⟨S4x128, .f32⟩
  | 61 => ⟨S4x128, .f32⟩
  | 62 => ⟨S4x128, .f32⟩
  | 63 => ⟨S4x128, .f32⟩
  | 64 => ⟨S4x1x128x1, .f32⟩
  | 65 => ⟨S1x4x1x128x1, .f32⟩
  | 66 => ⟨S4x4x32x128x256, .f32⟩
  | 67 => ⟨S4x4x32x128x256, .f32⟩
  | 68 => ⟨S_, .f32⟩
  | 69 => ⟨S128, .f32⟩
  | 70 => ⟨S128, .f32⟩
  | 71 => ⟨S1x128, .f32⟩
  | 72 => ⟨S4x1, .f32⟩
  | 73 => ⟨S4x128, .f32⟩
  | 74 => ⟨S4x128, .f32⟩
  | 75 => ⟨S4x128, .f32⟩
  | 76 => ⟨S4x128, .f32⟩
  | 77 => ⟨S4x1x128x1, .f32⟩
  | 78 => ⟨S1x4x1x128x1, .f32⟩
  | 79 => ⟨S4x4x32x128x256, .f32⟩
  | 80 => ⟨S4x4x32x128x256, .f32⟩
  | 81 => ⟨S_, .f32⟩
  | 82 => ⟨S4, .f32⟩
  | 83 => ⟨S4, .f32⟩
  | 84 => ⟨S4, .f32⟩
  | 85 => ⟨S4x1x1, .f32⟩
  | 86 => ⟨S32x4x4x128x256, .f32⟩
  | 87 => ⟨S32x4x4x128x256, .f32⟩
  | 88 => ⟨S32x4x4x128x512, .f32⟩
  | 89 => ⟨S_, .f32⟩
  | 90 => ⟨S4x4x256x512, .f32⟩
  | 91 => ⟨S_, .f32⟩
  | 92 => ⟨S32x4x4x128x512, .f32⟩
  | 93 => ⟨S_, .i32⟩
  | 94 => ⟨S32x4x4x128x256, .f32⟩
  | 95 => ⟨S32x4x4x128x256, .f32⟩
  | 96 => ⟨S32x4x4x128x512, .f32⟩
  | 97 => ⟨S4x1x1, .f32⟩
  | 98 => ⟨S_, .i32⟩
  | 99 => ⟨S4x4x256x512, .f32⟩
  | 100 => ⟨S32x4x4x128x512, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S1x4x4x128x256, .f32⟩
  | 108 => ⟨S4x4x128x256, .f32⟩
  | 109 => ⟨S_, .i32⟩
  | 110 => ⟨S_, .i32⟩
  | 111 => ⟨S_, .i32⟩
  | 112 => ⟨S_, .i32⟩
  | 113 => ⟨S1x4x4x128x256, .f32⟩
  | 114 => ⟨S4x4x128x256, .f32⟩
  | 115 => ⟨S_, .i32⟩
  | 116 => ⟨S_, .i32⟩
  | 117 => ⟨S_, .i32⟩
  | 118 => ⟨S_, .i32⟩
  | 119 => ⟨S1x4x4x128x512, .f32⟩
  | 120 => ⟨S4x4x128x512, .f32⟩
  | 121 => ⟨S4x4x128x512, .f32⟩
  | 122 => ⟨S1x4x1x1, .f32⟩
  | 123 => ⟨S4x4x256x512, .f32⟩
  | 124 => ⟨S4x4x256x512, .f32⟩
  | 125 => ⟨S4x4x256x512, .f32⟩
  | 126 => ⟨S4x4x256x512, .f32⟩
  | 127 => ⟨S1x4x4x128x512, .f32⟩
  | _ => ⟨S16384x1024, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x4x4x128x512, .f32⟩
  | 5 => ⟨S_, .i32⟩
  | 6 => ⟨S_, .i32⟩
  | 7 => ⟨S4x4x32x128x512, .f32⟩
  | 8 => ⟨S4x4x32x128x512, .f32⟩
  | 9 => ⟨S4x4x4096x512, .f32⟩
  | 10 => ⟨S4x4x4096x512, .f32⟩
  | 11 => ⟨S_, .f32⟩
  | 12 => ⟨S4x4x4096, .f32⟩
  | 13 => ⟨S4x4x4096x1, .f32⟩
  | 14 => ⟨S_, .f32⟩
  | 15 => ⟨S4x4x4096x1, .f32⟩
  | 16 => ⟨S4x4x4096x1, .f32⟩
  | 17 => ⟨S_, .f32⟩
  | 18 => ⟨S4x4x4096x1, .f32⟩
  | 19 => ⟨S4x4x4096x1, .f32⟩
  | 20 => ⟨S4x4x4096x1, .f32⟩
  | 21 => ⟨S4x4x4096x512, .f32⟩
  | 22 => ⟨S4x4x4096x512, .f32⟩
  | 23 => ⟨S4x4096x4x512, .f32⟩
  | 24 => ⟨S16384x2048, .f32⟩
  | 25 => ⟨S16384x2048, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_c : Ref sig .tc := ⟨.hbm, 93, rfl⟩
abbrev main_v76_0 : Ref sig .tc := ⟨.hbm, 94, rfl⟩
abbrev main_v76_1 : Ref sig .tc := ⟨.hbm, 95, rfl⟩
abbrev main_v76_2 : Ref sig .tc := ⟨.hbm, 96, rfl⟩
abbrev main_v76_3 : Ref sig .tc := ⟨.hbm, 97, rfl⟩
abbrev main_v76_4 : Ref sig .tc := ⟨.hbm, 98, rfl⟩
abbrev main_v76_5 : Ref sig .tc := ⟨.hbm, 99, rfl⟩
abbrev main_v76_6 : Ref sig .tc := ⟨.hbm, 100, rfl⟩
abbrev main_while0c_c_19 : Ref sig .tc := ⟨.hbm, 101, rfl⟩
abbrev main_while0c_v93 : Ref sig .tc := ⟨.hbm, 102, rfl⟩
abbrev main_while0b_call1_c : Ref sig .tc := ⟨.hbm, 103, rfl⟩
abbrev main_while0b_call1_c_0 : Ref sig .tc := ⟨.hbm, 104, rfl⟩
abbrev main_while0b_call1_c_1 : Ref sig .tc := ⟨.hbm, 105, rfl⟩
abbrev main_while0b_call1_c_2 : Ref sig .tc := ⟨.hbm, 106, rfl⟩
abbrev main_while0b_call1_v0 : Ref sig .tc := ⟨.hbm, 107, rfl⟩
abbrev main_while0b_v93 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_call2_c_1 : Ref sig .tc := ⟨.hbm, 111, rfl⟩
abbrev main_while0b_call2_c_2 : Ref sig .tc := ⟨.hbm, 112, rfl⟩
abbrev main_while0b_call2_v0 : Ref sig .tc := ⟨.hbm, 113, rfl⟩
abbrev main_while0b_v94 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_call3_c_1 : Ref sig .tc := ⟨.hbm, 117, rfl⟩
abbrev main_while0b_call3_c_2 : Ref sig .tc := ⟨.hbm, 118, rfl⟩
abbrev main_while0b_call3_v0 : Ref sig .tc := ⟨.hbm, 119, rfl⟩
abbrev main_while0b_v95 : Ref sig .tc := ⟨.hbm, 120, rfl⟩
abbrev main_while0b_v96 : Ref sig .tc := ⟨.hbm, 121, rfl⟩
abbrev main_while0b_v97 : Ref sig .tc := ⟨.hbm, 122, rfl⟩
abbrev main_while0b_v98 : Ref sig .tc := ⟨.hbm, 123, rfl⟩
abbrev main_while0b_v99 : Ref sig .tc := ⟨.hbm, 124, rfl⟩
abbrev main_while0b_v100 : Ref sig .tc := ⟨.hbm, 125, rfl⟩
abbrev main_while0b_v101 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v102 : Ref sig .tc := ⟨.hbm, 132, rfl⟩
abbrev main_while0b_c_19 : Ref sig .tc := ⟨.hbm, 133, rfl⟩
abbrev main_while0b_v103 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_10 : Ref sig .tc := ⟨.hbm, 139, rfl⟩
abbrev main_v81 : Ref sig .tc := ⟨.hbm, 140, rfl⟩
abbrev main_v82 : Ref sig .tc := ⟨.hbm, 141, rfl⟩
abbrev main_cst_11 : Ref sig .tc := ⟨.hbm, 142, rfl⟩
abbrev main_v83 : Ref sig .tc := ⟨.hbm, 143, rfl⟩
abbrev main_v84 : Ref sig .tc := ⟨.hbm, 144, rfl⟩
abbrev main_cst_12 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩

abbrev nD : Nat := 1
abbrev τ : Topo := Topo.v7x

variable {F : FTy → Type} [FloatOps F]

abbrev main_while0_count : Scf.Loop 32 := ⟨0#32, 32#32, 1#32⟩
-- ==== OutMlpGated.lean ====
abbrev S16384x2048 : Shape := ⟨2, ![16384, 2048]⟩
abbrev S1x2048x1024 : Shape := ⟨3, ![1, 2048, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S16384x1024 : Shape := ⟨2, ![16384, 1024]⟩
abbrev S1x1024 : Shape := ⟨2, ![1, 1024]⟩
abbrev S512x2048 : Shape := ⟨2, ![512, 2048]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x1024, .bf16⟩
  | .hbm, ⟨3, _⟩ => ⟨S4x4096x1024, .f32⟩
  | .hbm, ⟨4, _⟩ => ⟨S1024, .f32⟩
  | .hbm, ⟨5, _⟩ => ⟨S1x1024x4096, .bf16⟩
  | .hbm, ⟨6, _⟩ => ⟨S1x4096x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S512x1024, .f32⟩
  | .local _ .vmem, ⟨11, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GatedBlockIdeal.lean ====
abbrev S16384x2048 : Shape := ⟨2, ![16384, 2048]⟩
abbrev S1x2048x1024 : Shape := ⟨3, ![1, 2048, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S2048x1024 : Shape := ⟨2, ![2048, 1024]⟩
abbrev S1024x4096 : Shape := ⟨2, ![1024, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x1024, .bf16⟩
  | .hbm, ⟨3, _⟩ => ⟨S4x4096x1024, .f32⟩
  | .hbm, ⟨4, _⟩ => ⟨S1024, .f32⟩
  | .hbm, ⟨5, _⟩ => ⟨S1x1024x4096, .bf16⟩
  | .hbm, ⟨6, _⟩ => ⟨S1x4096x1024, .bf16⟩
  | .hbm, ⟨7, _⟩ => ⟨S2048x1024, .bf16⟩
  | .hbm, ⟨8, _⟩ => ⟨S1024x4096, .bf16⟩
  | .hbm, ⟨9, _⟩ => ⟨S4096x1024, .bf16⟩
  | .hbm, ⟨10, _⟩ => ⟨S16384x2048, .f32⟩
  | .hbm, ⟨11, _⟩ => ⟨S16384x2048, .f32⟩
  | .hbm, ⟨12, _⟩ => ⟨S2048x1024, .f32⟩
  | .hbm, ⟨13, _⟩ => ⟨S1024x4096, .f32⟩
  | .hbm, ⟨14, _⟩ => ⟨S4096x1024, .f32⟩
  | .hbm, ⟨15, _⟩ => ⟨S16384x1024, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x4096, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S16384x1024, .f32⟩
  | .hbm, ⟨50, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== OutMlp.lean ====
abbrev S1024x16384 : Shape := ⟨2, ![1024, 16384]⟩
abbrev S1x1024x1024 : Shape := ⟨3, ![1, 1024, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S1x1024x3072 : Shape := ⟨3, ![1, 1024, 3072]⟩
abbrev S4x1024x4096 : Shape := ⟨3, ![4, 1024, 4096]⟩
abbrev S16384x1024 : Shape := ⟨2, ![16384, 1024]⟩
abbrev S1x1024 : Shape := ⟨2, ![1, 1024]⟩
abbrev S1024x512 : Shape := ⟨2, ![1024, 512]⟩
abbrev S512x1024 : Shape := ⟨2, ![512, 1024]⟩
abbrev S1x32x3072 : Shape := ⟨3, ![1, 32, 3072]⟩
abbrev S1x32x1024 : Shape := ⟨3, ![1, 32, 1024]⟩
abbrev S1x32x4096 : Shape := ⟨3, ![1, 32, 4096]⟩
abbrev S1x128x1024 : Shape := ⟨3, ![1, 128, 1024]⟩
abbrev S32x3072 : Shape := ⟨2, ![32, 3072]⟩
abbrev S32x1024 : Shape := ⟨2, ![32, 1024]⟩
abbrev S32x4096 : Shape := ⟨2, ![32, 4096]⟩
abbrev S128x1024 : Shape := ⟨2, ![128, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 26
  | .smem => 0
  | _ => 0

abbrev bufTy : (tb : Table) → Fin (tcTables nBuf tb) → BufTy
  | .hbm, ⟨0, _⟩ => ⟨S1024x16384, .bf16⟩
  | .hbm, ⟨1, _⟩ => ⟨S1x1024x1024, .bf16⟩
  | .hbm, ⟨2, _⟩ => ⟨S4x4096x1024, .f32⟩
  | .hbm, ⟨3, _⟩ => ⟨S1024, .f32⟩
  | .hbm, ⟨4, _⟩ => ⟨S1x1024x4096, .bf16⟩
  | .hbm, ⟨5, _⟩ => ⟨S1x4096x1024, .bf16⟩
  | .hbm, ⟨6, _⟩ => ⟨S1x1024x3072, .f32⟩
  | .hbm, ⟨7, _⟩ => ⟨S1x1024x1024, .f32⟩
  | .hbm, ⟨8, _⟩ => ⟨S4x1024x4096, .f32⟩
  | .hbm, ⟨9, _⟩ => ⟨S4x4096x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S1x1024x3072, .bf16⟩
  | .hbm, ⟨14, _⟩ => ⟨S1x1024x1024, .bf16⟩
  | .hbm, ⟨15, _⟩ => ⟨S1x1024x4096, .bf16⟩
  | .hbm, ⟨16, _⟩ => ⟨S1x4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x32x3072, .f32⟩
  | .local _ .vmem, ⟨9, _⟩ => ⟨S1x32x3072, .f32⟩
  | .local _ .vmem, ⟨10, _⟩ => ⟨S1x32x1024, .f32⟩
  | .local _ .vmem, ⟨11, _⟩ => ⟨S1x32x1024, .f32⟩
  | .local _ .vmem, ⟨12, _⟩ => ⟨S1x32x4096, .f32⟩
  | .local _ .vmem, ⟨13, _⟩ => ⟨S1x32x4096, .f32⟩
  | .local _ .vmem, ⟨14, _⟩ => ⟨S1x128x1024, .f32⟩
  | .local _ .vmem, ⟨15, _⟩ => ⟨S1x128x1024, .f32⟩
  | .local _ .vmem, ⟨16, _⟩ => ⟨S512x1024, .f32⟩
  | .local _ .vmem, ⟨17, _⟩ => ⟨S512x1024, .f32⟩
  | .local _ .vmem, ⟨18, _⟩ => ⟨S1x32x3072, .bf16⟩
  | .local _ .vmem, ⟨19, _⟩ => ⟨S1x32x3072, .bf16⟩
  | .local _ .vmem, ⟨20, _⟩ => ⟨S1x32x1024, .bf16⟩
  | .local _ .vmem, ⟨21, _⟩ => ⟨S1x32x1024, .bf16⟩
  | .local _ .vmem, ⟨22, _⟩ => ⟨S1x32x4096, .bf16⟩
  | .local _ .vmem, ⟨23, _⟩ => ⟨S1x32x4096, .bf16⟩
  | .local _ .vmem, ⟨24, _⟩ => ⟨S1x128x1024, .bf16⟩
  | .local _ .vmem, ⟨25, _⟩ => ⟨S1x128x1024, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PlainBlockIdeal.lean ====
abbrev S1024x16384 : Shape := ⟨2, ![1024, 16384]⟩
abbrev S1x1024x1024 : Shape := ⟨3, ![1, 1024, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S1x1024x3072 : Shape := ⟨3, ![1, 1024, 3072]⟩
abbrev S4x1024x4096 : Shape := ⟨3, ![4, 1024, 4096]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 50
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S1x1024x1024, .bf16⟩
  | .hbm, ⟨2, _⟩ => ⟨S4x4096x1024, .f32⟩
  | .hbm, ⟨3, _⟩ => ⟨S1024, .f32⟩
  | .hbm, ⟨4, _⟩ => ⟨S1x1024x4096, .bf16⟩
  | .hbm, ⟨5, _⟩ => ⟨S1x4096x1024, .bf16⟩
  | .hbm, ⟨6, _⟩ => ⟨S1x1024x3072, .f32⟩
  | .hbm, ⟨7, _⟩ => ⟨S1x1024x1024, .f32⟩
  | .hbm, ⟨8, _⟩ => ⟨S4x1024x4096, .f32⟩
  | .hbm, ⟨9, _⟩ => ⟨S4x4096x1024, .f32⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1024x16384, .f32⟩
  | .hbm, ⟨14, _⟩ => ⟨S1024x1024, .f32⟩
  | .hbm, ⟨15, _⟩ => ⟨S1024x4096, .f32⟩
  | .hbm, ⟨16, _⟩ => ⟨S4096x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x1024, .f32⟩
  | .hbm, ⟨43, _⟩ => ⟨S16384x1024, .f32⟩
  | .hbm, ⟨44, _⟩ => ⟨S1x1024x3072, .bf16⟩
  | .hbm, ⟨45, _⟩ => ⟨S1x1024x1024, .bf16⟩
  | .hbm, ⟨46, _⟩ => ⟨S1x1024x4096, .f32⟩
  | .hbm, ⟨47, _⟩ => ⟨S1x1024x4096, .bf16⟩
  | .hbm, ⟨48, _⟩ => ⟨S1x4096x1024, .f32⟩
  | .hbm, ⟨49, _⟩ => ⟨S1x4096x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== RetProj.lean ====
abbrev S4x4096x1024 : Shape := ⟨3, ![4, 4096, 1024]⟩
abbrev S1024 : Shape := ⟨1, ![1024]⟩
abbrev S2x1024x6144 : Shape := ⟨3, ![2, 1024, 6144]⟩
abbrev S2x2048x1024 : Shape := ⟨3, ![2, 2048, 1024]⟩
abbrev S4x1024x4096 : Shape := ⟨3, ![4, 1024, 4096]⟩
abbrev S16384x1024 : Shape := ⟨2, ![16384, 1024]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x1024 : Shape := ⟨2, ![1, 1024]⟩
abbrev S1x1024x6144 : Shape := ⟨3, ![1, 1024, 6144]⟩
abbrev S16384x2048 : Shape := ⟨2, ![16384, 2048]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512x128 : Shape := ⟨2, ![512, 128]⟩
abbrev S1x64x1024 : Shape := ⟨3, ![1, 64, 1024]⟩
abbrev S1x32x4096 : Shape := ⟨3, ![1, 32, 4096]⟩
abbrev S1x128x1024 : Shape := ⟨3, ![1, 128, 1024]⟩
abbrev S512x2048 : Shape := ⟨2, ![512, 2048]⟩
abbrev S64x1024 : Shape := ⟨2, ![64, 1024]⟩
abbrev S32x4096 : Shape := ⟨2, ![32, 4096]⟩
abbrev S128x1024 : Shape := ⟨2, ![128, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 39
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S2x1024x6144, .f32⟩
  | .hbm, ⟨3, _⟩ => ⟨S2x2048x1024, .f32⟩
  | .hbm, ⟨4, _⟩ => ⟨S4x1024x4096, .f32⟩
  | .hbm, ⟨5, _⟩ => ⟨S4x4096x1024, .f32⟩
  | .hbm, ⟨6, _⟩ => ⟨S16384x1024, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S4096, .f32⟩
  | .hbm, ⟨22, _⟩ => ⟨S4096x1, .f32⟩
  | .hbm, ⟨23, _⟩ => ⟨S1x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S1x1024, .f32⟩
  | .hbm, ⟨30, _⟩ => ⟨S1x1024x6144, .f32⟩
  | .hbm, ⟨31, _⟩ => ⟨S1x1024x6144, .bf16⟩
  | .hbm, ⟨32, _⟩ => ⟨S16384x1024, .bf16⟩
  | .hbm, ⟨33, _⟩ => ⟨S16384x1024, .bf16⟩
  | .hbm, ⟨34, _⟩ => ⟨S16384x2048, .bf16⟩
  | .hbm, ⟨35, _⟩ => ⟨S16384x2048, .bf16⟩
  | .hbm, ⟨36, _⟩ => ⟨S1x2048x1024, .bf16⟩
  | .hbm, ⟨37, _⟩ => ⟨S1x1024x4096, .bf16⟩
  | .hbm, ⟨38, _⟩ => ⟨S1x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x64x1024, .f32⟩
  | .local _ .vmem, ⟨9, _⟩ => ⟨S1x64x1024, .f32⟩
  | .local _ .vmem, ⟨10, _⟩ => ⟨S1x32x4096, .f32⟩
  | .local _ .vmem, ⟨11, _⟩ => ⟨S1x32x4096, .f32⟩
  | .local _ .vmem, ⟨12, _⟩ => ⟨S1x128x1024, .f32⟩
  | .local _ .vmem, ⟨13, _⟩ => ⟨S1x128x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S1x64x1024, .bf16⟩
  | .local _ .vmem, ⟨23, _⟩ => ⟨S1x64x1024, .bf16⟩
  | .local _ .vmem, ⟨24, _⟩ => ⟨S1x32x4096, .bf16⟩
  | .local _ .vmem, ⟨25, _⟩ => ⟨S1x32x4096, .bf16⟩
  | .local _ .vmem, ⟨26, _⟩ => ⟨S1x128x1024, .bf16⟩
  | .local _ .vmem, ⟨27, _⟩ => ⟨S1x128x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev main_v22_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RetentionInputsIdeal.lean ====
abbrev S4x4096x1024 : Shape := ⟨3, ![4, 4096, 1024]⟩
abbrev S1024 : Shape := ⟨1, ![1024]⟩
abbrev S2x1024x6144 : Shape := ⟨3, ![2, 1024, 6144]⟩
abbrev S2x2048x1024 : Shape := ⟨3, ![2, 2048, 1024]⟩
abbrev S4x1024x4096 : Shape := ⟨3, ![4, 1024, 4096]⟩
abbrev S1x1024x6144 : Shape := ⟨3, ![1, 1024, 6144]⟩
abbrev S1024x6144 : Shape := ⟨2, ![1024, 6144]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S4x4096x2048 : Shape := ⟨3, ![4, 4096, 2048]⟩
abbrev S4x4096x4x256 : Shape := ⟨4, ![4, 4096, 4, 256]⟩
abbrev S4x4x4096x256 : Shape := ⟨4, ![4, 4, 4096, 256]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4x4x4096x128 : Shape := ⟨4, ![4, 4, 4096, 128]⟩
abbrev S1x1x4096x128 : Shape := ⟨4, ![1, 1, 4096, 128]⟩
abbrev S16384x1024 : Shape := ⟨2, ![16384, 1024]⟩
abbrev S16384x2048 : Shape := ⟨2, ![16384, 2048]⟩
abbrev S1x2048x1024 : Shape := ⟨3, ![1, 2048, 1024]⟩
abbrev S1x1024x4096 : Shape := ⟨3, ![1, 1024, 4096]⟩
abbrev S1x4096x1024 : Shape := ⟨3, ![1, 4096, 1024]⟩

abbrev nBuf : Space → Nat
  | .hbm => 130
  | .vmem => 0
  | .smem => 0
  | _ => 0

abbrev hbmTy0_0 (i : Nat) : BufTy := match i % 128 with
  | 0 => ⟨S4x4096x1024, .f32⟩
  | 1 => ⟨S1024, .f32⟩
  | 2 => ⟨S2x1024x6144, .f32⟩
  | 3 => ⟨S2x2048x1024, .f32⟩
  | 4 => ⟨S4x1024x4096, .f32⟩
  | 5 => ⟨S4x4096x1024, .f32⟩
  | 6 => ⟨S1x1024x6144, .f32⟩
  | 7 => ⟨S1024x6144, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S4x4096x6144, .f32⟩
  | 25 => ⟨S4x4096x1024, .f32⟩
  | 26 => ⟨S4x4096x1024, .f32⟩
  | 27 => ⟨S4x4096x2048, .f32⟩
  | 28 => ⟨S4x4096x2048, .f32⟩
  | 29 => ⟨S4x4096x4x256, .f32⟩
  | 30 => ⟨S4x4x4096x256, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S128, .f32⟩
  | 39 => ⟨S_, .f32⟩
  | 40 => ⟨S128, .f32⟩
  | 41 => ⟨S128, .f32⟩
  | 42 => ⟨S_, .f32⟩
  | 43 => ⟨S128, .f32⟩
  | 44 => ⟨S128, .f32⟩
  | 45 => ⟨S4096, .f32⟩
  | 46 => ⟨S4096x1, .f32⟩
  | 47 => ⟨S1x128, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4x4x4096x128, .f32⟩
  | 54 => ⟨S4x4x4096x128, .f32⟩
  | 55 => ⟨S1x1x4096x128, .f32⟩
  | 56 => ⟨S4x4x4096x128, .f32⟩
  | 57 => ⟨S4x4x4096x128, .f32⟩
  | 58 => ⟨S1x1x4096x128, .f32⟩
  | 59 => ⟨S4x4x4096x128, .f32⟩
  | 60 => ⟨S4x4x4096x128, .f32⟩
  | 61 => ⟨S4x4x4096x128, .f32⟩
  | 62 => ⟨S1x1x4096x128, .f32⟩
  | 63 => ⟨S4x4x4096x128, .f32⟩
  | 64 => ⟨S4x4x4096x128, .f32⟩
  | 65 => ⟨S1x1x4096x128, .f32⟩
  | 66 => ⟨S4x4x4096x128, .f32⟩
  | 67 => ⟨S4x4x4096x128, .f32⟩
  | 68 => ⟨S4x4x4096x128, .f32⟩
  | 69 => ⟨S4x4x4096x256, .f32⟩
  | 70 => ⟨S4x4096x4x256, .f32⟩
  | 71 => ⟨S16384x1024, .f32⟩
  | 72 => ⟨S4x4096x4x256, .f32⟩
  | 73 => ⟨S4x4x4096x256, .f32⟩
  | 74 => ⟨S128, .f32⟩
  | 75 => ⟨S_, .f32⟩
  | 76 => ⟨S128, .f32⟩
  | 77 => ⟨S128, .f32⟩
  | 78 => ⟨S_, .f32⟩
  | 79 => ⟨S128, .f32⟩
  | 80 => ⟨S128, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S4096, .f32⟩
  | 89 => ⟨S4096x1, .f32⟩
  | 90 => ⟨S1x128, .f32⟩
  | 91 => ⟨S4096x128, .f32⟩
  | 92 => ⟨S4096x128, .f32⟩
  | 93 => ⟨S4096x128, .f32⟩
  | 94 => ⟨S4096x128, .f32⟩
  | 95 => ⟨S4096x128, .f32⟩
  | 96 => ⟨S4x4x4096x128, .f32⟩
  | 97 => ⟨S4x4x4096x128, .f32⟩
  | 98 => ⟨S1x1x4096x128, .f32⟩
  | 99 => ⟨S4x4x4096x128, .f32⟩
  | 100 => ⟨S4x4x4096x128, .f32⟩
  | 101 => ⟨S1x1x4096x128, .f32⟩
  | 102 => ⟨S4x4x4096x128, .f32⟩
  | 103 => ⟨S4x4x4096x128, .f32⟩
  | 104 => ⟨S4x4x4096x128, .f32⟩
  | 105 => ⟨S1x1x4096x128, .f32⟩
  | 106 => ⟨S4x4x4096x128, .f32⟩
  | 107 => ⟨S4x4x4096x128, .f32⟩
  | 108 => ⟨S1x1x4096x128, .f32⟩
  | 109 => ⟨S4x4x4096x128, .f32⟩
  | 110 => ⟨S4x4x4096x128, .f32⟩
  | 111 => ⟨S4x4x4096x128, .f32⟩
  | 112 => ⟨S4x4x4096x256, .f32⟩
  | 113 => ⟨S_, .f32⟩
  | 114 => ⟨S4x4x4096x256, .f32⟩
  | 115 => ⟨S4x4x4096x256, .f32⟩
  | 116 => ⟨S4x4096x4x256, .f32⟩
  | 117 => ⟨S16384x1024, .f32⟩
  | 118 => ⟨S16384x2048, .f32⟩
  | 119 => ⟨S16384x2048, .f32⟩
  | 120 => ⟨S1x2048x1024, .f32⟩
  | 121 => ⟨S1x1024x4096, .f32⟩
  | 122 => ⟨S1x4096x1024, .f32⟩
  | 123 => ⟨S16384x1024, .bf16⟩
  | 124 => ⟨S16384x1024, .bf16⟩
  | 125 => ⟨S16384x2048, .bf16⟩
  | 126 => ⟨S16384x2048, .bf16⟩
  | 127 => ⟨S1x2048x1024, .bf16⟩
  | _ => ⟨S4x4096x1024, .f32⟩

abbrev hbmTy0_1 (i : Nat) : BufTy := match i % 128 with
  | 0 => ⟨S1x1024x4096, .bf16⟩
  | 1 => ⟨S1x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_10 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩

abbrev nD : Nat := 1
abbrev τ : Topo := Topo.v7x

variable {F : FTy → Type} [FloatOps F]
-- ==== AttnProj.lean ====
abbrev S4x4096x1024 : Shape := ⟨3, ![4, 4096, 1024]⟩
abbrev S1024 : Shape := ⟨1, ![1024]⟩
abbrev S1x1024x3072 : Shape := ⟨3, ![1, 1024, 3072]⟩
abbrev S64 : Shape := ⟨1, ![64]⟩
abbrev S16384x1024 : Shape := ⟨2, ![16384, 1024]⟩
abbrev S1x64 : Shape := ⟨2, ![1, 64]⟩
abbrev S16x64 : Shape := ⟨2, ![16, 64]⟩
abbrev S_ : Shape := ⟨0, ![]⟩
abbrev S1x1024 : Shape := ⟨2, ![1, 1024]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S64x1024x256 : Shape := ⟨3, ![64, 1024, 256]⟩
abbrev S64x1152x256 : Shape := ⟨3, ![64, 1152, 256]⟩
abbrev S512x1024 : Shape := ⟨2, ![512, 1024]⟩
abbrev S2x1024x256 : Shape := ⟨3, ![2, 1024, 256]⟩
abbrev S2x1152x256 : Shape := ⟨3, ![2, 1152, 256]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S256x512 : Shape := ⟨2, ![256, 512]⟩
abbrev S1x256x256 : Shape := ⟨3, ![1, 256, 256]⟩
abbrev S128x256 : Shape := ⟨2, ![128, 256]⟩
abbrev S1x128x256 : Shape := ⟨3, ![1, 128, 256]⟩
abbrev S16x256 : Shape := ⟨2, ![16, 256]⟩
abbrev S1x16x256 : Shape := ⟨3, ![1, 16, 256]⟩

abbrev nBuf : Space → Nat
  | .hbm => 36
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x3072, .bf16⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x64, .f32⟩
  | .hbm, ⟨14, _⟩ => ⟨S16x64, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S4, .i32⟩
  | .hbm, ⟨19, _⟩ => ⟨S4x1, .i32⟩
  | .hbm, ⟨20, _⟩ => ⟨S1x4, .i32⟩
  | .hbm, ⟨21, _⟩ => ⟨S4x4, .i32⟩
  | .hbm, ⟨22, _⟩ => ⟨S4x4, .i32⟩
  | .hbm, ⟨23, _⟩ => ⟨S4x4, .i1⟩
  | .hbm, ⟨24, _⟩ => ⟨S_, .f32⟩
  | .hbm, ⟨25, _⟩ => ⟨S_, .f32⟩
  | .hbm, ⟨26, _⟩ => ⟨S4x4, .f32⟩
  | .hbm, ⟨27, _⟩ => ⟨S4x4, .f32⟩
  | .hbm, ⟨28, _⟩ => ⟨S4x4, .f32⟩
  | .hbm, ⟨29, _⟩ => ⟨S4x1x4x1, .f32⟩
  | .hbm, ⟨30, _⟩ => ⟨S4x64x4x64, .f32⟩
  | .hbm, ⟨31, _⟩ => ⟨S256x256, .f32⟩
  | .hbm, ⟨32, _⟩ => ⟨S256x256, .bf16⟩
  | .hbm, ⟨33, _⟩ => ⟨S64x1024x256, .bf16⟩
  | .hbm, ⟨34, _⟩ => ⟨S16384x1024, .bf16⟩
  | .hbm, ⟨35, _⟩ => ⟨S64x1152x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x1024, .f32⟩
  | .local _ .vmem, ⟨5, _⟩ => ⟨S1x1024, .f32⟩
  | .local _ .vmem, ⟨6, _⟩ => ⟨S256x256, .bf16⟩
  | .local _ .vmem, ⟨7, _⟩ => ⟨S2x1024x256, .bf16⟩
  | .local _ .vmem, ⟨8, _⟩ => ⟨S2x1024x256, .bf16⟩
  | .local _ .vmem, ⟨9, _⟩ => ⟨S512x1024, .bf16⟩
  | .local _ .vmem, ⟨10, _⟩ => ⟨S512x1024, .bf16⟩
  | .local _ .vmem, ⟨11, _⟩ => ⟨S2x1152x256, .bf16⟩
  | .local _ .vmem, ⟨12, _⟩ => ⟨S2x1152x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1152x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttentionInputsIdeal.lean ====
abbrev S4x4096x1024 : Shape := ⟨3, ![4, 4096, 1024]⟩
abbrev S1024 : Shape := ⟨1, ![1024]⟩
abbrev S1x1024x3072 : Shape := ⟨3, ![1, 1024, 3072]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S1024x3072 : Shape := ⟨2, ![1024, 3072]⟩
abbrev S16384x3072 : Shape := ⟨2, ![16384, 3072]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S64x256x1024 : Shape := ⟨3, ![64, 256, 1024]⟩
abbrev S64x1024x256 : Shape := ⟨3, ![64, 1024, 256]⟩
abbrev S64x256x8x128 : Shape := ⟨4, ![64, 256, 8, 128]⟩
abbrev S64x8x128x256 : Shape := ⟨4, ![64, 8, 128, 256]⟩
abbrev S64x8x16x256 : Shape := ⟨4, ![64, 8, 16, 256]⟩
abbrev S64x8x144x256 : Shape := ⟨4, ![64, 8, 144, 256]⟩
abbrev S64x1152x256 : Shape := ⟨3, ![64, 1152, 256]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x3072, .bf16⟩
  | .hbm, ⟨3, _⟩ => ⟨S64, .f32⟩
  | .hbm, ⟨4, _⟩ => ⟨S64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S16384x1024, .f32⟩
  | .hbm, ⟨22, _⟩ => ⟨S1024x3072, .bf16⟩
  | .hbm, ⟨23, _⟩ => ⟨S1024x3072, .f32⟩
  | .hbm, ⟨24, _⟩ => ⟨S16384x3072, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x16x64, .f32⟩
  | .hbm, ⟨29, _⟩ => ⟨S16384x16x64, .f32⟩
  | .hbm, ⟨30, _⟩ => ⟨S_, .f32⟩
  | .hbm, ⟨31, _⟩ => ⟨S16384x16, .f32⟩
  | .hbm, ⟨32, _⟩ => ⟨S16384x16x1, .f32⟩
  | .hbm, ⟨33, _⟩ => ⟨S_, .f32⟩
  | .hbm, ⟨34, _⟩ => ⟨S16384x16x1, .f32⟩
  | .hbm, ⟨35, _⟩ => ⟨S16384x16x1, .f32⟩
  | .hbm, ⟨36, _⟩ => ⟨S_, .f32⟩
  | .hbm, ⟨37, _⟩ => ⟨S16384x16x1, .f32⟩
  | .hbm, ⟨38, _⟩ => ⟨S16384x16x1, .f32⟩
  | .hbm, ⟨39, _⟩ => ⟨S16384x16x1, .f32⟩
  | .hbm, ⟨40, _⟩ => ⟨S16384x16x64, .f32⟩
  | .hbm, ⟨41, _⟩ => ⟨S16384x16x64, .f32⟩
  | .hbm, ⟨42, _⟩ => ⟨S1x1x64, .f32⟩
  | .hbm, ⟨43, _⟩ => ⟨S16384x16x64, .f32⟩
  | .hbm, ⟨44, _⟩ => ⟨S16384x16x64, .f32⟩
  | .hbm, ⟨45, _⟩ => ⟨S_, .f32⟩
  | .hbm, ⟨46, _⟩ => ⟨S16384x16x64, .f32⟩
  | .hbm, ⟨47, _⟩ => ⟨S16384x16x64, .f32⟩
  | .hbm, ⟨48, _⟩ => ⟨S16384x16x64, .f32⟩
  | .hbm, ⟨49, _⟩ => ⟨S16384x16x64, .f32⟩
  | .hbm, ⟨50, _⟩ => ⟨S_, .f32⟩
  | .hbm, ⟨51, _⟩ => ⟨S16384x16, .f32⟩
  | .hbm, ⟨52, _⟩ => ⟨S16384x16x1, .f32⟩
  | .hbm, ⟨53, _⟩ => ⟨S_, .f32⟩
  | .hbm, ⟨54, _⟩ => ⟨S16384x16x1, .f32⟩
  | .hbm, ⟨55, _⟩ => ⟨S16384x16x1, .f32⟩
  | .hbm, ⟨56, _⟩ => ⟨S_, .f32⟩
  | .hbm, ⟨57, _⟩ => ⟨S16384x16x1, .f32⟩
  | .hbm, ⟨58, _⟩ => ⟨S16384x16x1, .f32⟩
  | .hbm, ⟨59, _⟩ => ⟨S16384x16x1, .f32⟩
  | .hbm, ⟨60, _⟩ => ⟨S16384x16x64, .f32⟩
  | .hbm, ⟨61, _⟩ => ⟨S16384x16x64, .f32⟩
  | .hbm, ⟨62, _⟩ => ⟨S1x1x64, .f32⟩
  | .hbm, ⟨63, _⟩ => ⟨S16384x16x64, .f32⟩
  | .hbm, ⟨64, _⟩ => ⟨S16384x16x64, .f32⟩
  | .hbm, ⟨65, _⟩ => ⟨S64x256x1024, .f32⟩
  | .hbm, ⟨66, _⟩ => ⟨S64x1024x256, .f32⟩
  | .hbm, ⟨67, _⟩ => ⟨S64x256x8x128, .f32⟩
  | .hbm, ⟨68, _⟩ => ⟨S64x8x128x256, .f32⟩
  | .hbm, ⟨69, _⟩ => ⟨S_, .f32⟩
  | .hbm, ⟨70, _⟩ => ⟨S64x8x16x256, .f32⟩
  | .hbm, ⟨71, _⟩ => ⟨S64x8x144x256, .f32⟩
  | .hbm, ⟨72, _⟩ => ⟨S64x1152x256, .f32⟩
  | .hbm, ⟨73, _⟩ => ⟨S16384x1024, .f32⟩
  | .hbm, ⟨74, _⟩ => ⟨S64x1024x256, .bf16⟩
  | .hbm, ⟨75, _⟩ => ⟨S16384x1024, .bf16⟩
  | .hbm, ⟨76, _⟩ => ⟨S64x1152x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== MobaProj.lean ====
abbrev S4x4096x1024 : Shape := ⟨3, ![4, 4096, 1024]⟩
abbrev S1024 : Shape := ⟨1, ![1024]⟩
abbrev S1x1024x3072 : Shape := ⟨3, ![1, 1024, 3072]⟩
abbrev S64 : Shape := ⟨1, ![64]⟩
abbrev S16384x1024 : Shape := ⟨2, ![16384, 1024]⟩
abbrev S1x64 : Shape := ⟨2, ![1, 64]⟩
abbrev S16x64 : Shape := ⟨2, ![16, 64]⟩
abbrev S_ : Shape := ⟨0, ![]⟩
abbrev S1x1024 : Shape := ⟨2, ![1, 1024]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S64x1024x256 : Shape := ⟨3, ![64, 1024, 256]⟩
abbrev S64x1280x256 : Shape := ⟨3, ![64, 1280, 256]⟩
abbrev S512x1024 : Shape := ⟨2, ![512, 1024]⟩
abbrev S2x1024x256 : Shape := ⟨3, ![2, 1024, 256]⟩
abbrev S2x1280x256 : Shape := ⟨3, ![2, 1280, 256]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S256x512 : Shape := ⟨2, ![256, 512]⟩
abbrev S1x256x256 : Shape := ⟨3, ![1, 256, 256]⟩
abbrev S64x256 : Shape := ⟨2, ![64, 256]⟩
abbrev S1x64x256 : Shape := ⟨3, ![1, 64, 256]⟩
abbrev S16x256 : Shape := ⟨2, ![16, 256]⟩
abbrev S1x16x256 : Shape := ⟨3, ![1, 16, 256]⟩

abbrev nBuf : Space → Nat
  | .hbm => 36
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x3072, .bf16⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x64, .f32⟩
  | .hbm, ⟨14, _⟩ => ⟨S16x64, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S4, .i32⟩
  | .hbm, ⟨19, _⟩ => ⟨S4x1, .i32⟩
  | .hbm, ⟨20, _⟩ => ⟨S1x4, .i32⟩
  | .hbm, ⟨21, _⟩ => ⟨S4x4, .i32⟩
  | .hbm, ⟨22, _⟩ => ⟨S4x4, .i32⟩
  | .hbm, ⟨23, _⟩ => ⟨S4x4, .i1⟩
  | .hbm, ⟨24, _⟩ => ⟨S_, .f32⟩
  | .hbm, ⟨25, _⟩ => ⟨S_, .f32⟩
  | .hbm, ⟨26, _⟩ => ⟨S4x4, .f32⟩
  | .hbm, ⟨27, _⟩ => ⟨S4x4, .f32⟩
  | .hbm, ⟨28, _⟩ => ⟨S4x4, .f32⟩
  | .hbm, ⟨29, _⟩ => ⟨S4x1x4x1, .f32⟩
  | .hbm, ⟨30, _⟩ => ⟨S4x64x4x64, .f32⟩
  | .hbm, ⟨31, _⟩ => ⟨S256x256, .f32⟩
  | .hbm, ⟨32, _⟩ => ⟨S256x256, .bf16⟩
  | .hbm, ⟨33, _⟩ => ⟨S64x1024x256, .bf16⟩
  | .hbm, ⟨34, _⟩ => ⟨S16384x1024, .bf16⟩
  | .hbm, ⟨35, _⟩ => ⟨S64x1280x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x1024, .f32⟩
  | .local _ .vmem, ⟨5, _⟩ => ⟨S1x1024, .f32⟩
  | .local _ .vmem, ⟨6, _⟩ => ⟨S256x256, .bf16⟩
  | .local _ .vmem, ⟨7, _⟩ => ⟨S2x1024x256, .bf16⟩
  | .local _ .vmem, ⟨8, _⟩ => ⟨S2x1024x256, .bf16⟩
  | .local _ .vmem, ⟨9, _⟩ => ⟨S512x1024, .bf16⟩
  | .local _ .vmem, ⟨10, _⟩ => ⟨S512x1024, .bf16⟩
  | .local _ .vmem, ⟨11, _⟩ => ⟨S2x1280x256, .bf16⟩
  | .local _ .vmem, ⟨12, _⟩ => ⟨S2x1280x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1280x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MobaInputsIdeal.lean ====
abbrev S4x4096x1024 : Shape := ⟨3, ![4, 4096, 1024]⟩
abbrev S1024 : Shape := ⟨1, ![1024]⟩
abbrev S1x1024x3072 : Shape := ⟨3, ![1, 1024, 3072]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S1024x3072 : Shape := ⟨2, ![1024, 3072]⟩
abbrev S16384x3072 : Shape := ⟨2, ![16384, 3072]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S64x256x1024 : Shape := ⟨3, ![64, 256, 1024]⟩
abbrev S64x1024x256 : Shape := ⟨3, ![64, 1024, 256]⟩
abbrev S64x256x16x64 : Shape := ⟨4, ![64, 256, 16, 64]⟩
abbrev S64x16x64x256 : Shape := ⟨4, ![64, 16, 64, 256]⟩
abbrev S64x16x16x256 : Shape := ⟨4, ![64, 16, 16, 256]⟩
abbrev S64x16x80x256 : Shape := ⟨4, ![64, 16, 80, 256]⟩
abbrev S64x1280x256 : Shape := ⟨3, ![64, 1280, 256]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x3072, .bf16⟩
  | .hbm, ⟨3, _⟩ => ⟨S64, .f32⟩
  | .hbm, ⟨4, _⟩ => ⟨S64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S16384x1024, .f32⟩
  | .hbm, ⟨22, _⟩ => ⟨S1024x3072, .bf16⟩
  | .hbm, ⟨23, _⟩ => ⟨S1024x3072, .f32⟩
  | .hbm, ⟨24, _⟩ => ⟨S16384x3072, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x16x64, .f32⟩
  | .hbm, ⟨29, _⟩ => ⟨S16384x16x64, .f32⟩
  | .hbm, ⟨30, _⟩ => ⟨S_, .f32⟩
  | .hbm, ⟨31, _⟩ => ⟨S16384x16, .f32⟩
  | .hbm, ⟨32, _⟩ => ⟨S16384x16x1, .f32⟩
  | .hbm, ⟨33, _⟩ => ⟨S_, .f32⟩
  | .hbm, ⟨34, _⟩ => ⟨S16384x16x1, .f32⟩
  | .hbm, ⟨35, _⟩ => ⟨S16384x16x1, .f32⟩
  | .hbm, ⟨36, _⟩ => ⟨S_, .f32⟩
  | .hbm, ⟨37, _⟩ => ⟨S16384x16x1, .f32⟩
  | .hbm, ⟨38, _⟩ => ⟨S16384x16x1, .f32⟩
  | .hbm, ⟨39, _⟩ => ⟨S16384x16x1, .f32⟩
  | .hbm, ⟨40, _⟩ => ⟨S16384x16x64, .f32⟩
  | .hbm, ⟨41, _⟩ => ⟨S16384x16x64, .f32⟩
  | .hbm, ⟨42, _⟩ => ⟨S1x1x64, .f32⟩
  | .hbm, ⟨43, _⟩ => ⟨S16384x16x64, .f32⟩
  | .hbm, ⟨44, _⟩ => ⟨S16384x16x64, .f32⟩
  | .hbm, ⟨45, _⟩ => ⟨S_, .f32⟩
  | .hbm, ⟨46, _⟩ => ⟨S16384x16x64, .f32⟩
  | .hbm, ⟨47, _⟩ => ⟨S16384x16x64, .f32⟩
  | .hbm, ⟨48, _⟩ => ⟨S16384x16x64, .f32⟩
  | .hbm, ⟨49, _⟩ => ⟨S16384x16x64, .f32⟩
  | .hbm, ⟨50, _⟩ => ⟨S_, .f32⟩
  | .hbm, ⟨51, _⟩ => ⟨S16384x16, .f32⟩
  | .hbm, ⟨52, _⟩ => ⟨S16384x16x1, .f32⟩
  | .hbm, ⟨53, _⟩ => ⟨S_, .f32⟩
  | .hbm, ⟨54, _⟩ => ⟨S16384x16x1, .f32⟩
  | .hbm, ⟨55, _⟩ => ⟨S16384x16x1, .f32⟩
  | .hbm, ⟨56, _⟩ => ⟨S_, .f32⟩
  | .hbm, ⟨57, _⟩ => ⟨S16384x16x1, .f32⟩
  | .hbm, ⟨58, _⟩ => ⟨S16384x16x1, .f32⟩
  | .hbm, ⟨59, _⟩ => ⟨S16384x16x1, .f32⟩
  | .hbm, ⟨60, _⟩ => ⟨S16384x16x64, .f32⟩
  | .hbm, ⟨61, _⟩ => ⟨S16384x16x64, .f32⟩
  | .hbm, ⟨62, _⟩ => ⟨S1x1x64, .f32⟩
  | .hbm, ⟨63, _⟩ => ⟨S16384x16x64, .f32⟩
  | .hbm, ⟨64, _⟩ => ⟨S16384x16x64, .f32⟩
  | .hbm, ⟨65, _⟩ => ⟨S64x256x1024, .f32⟩
  | .hbm, ⟨66, _⟩ => ⟨S64x1024x256, .f32⟩
  | .hbm, ⟨67, _⟩ => ⟨S64x256x16x64, .f32⟩
  | .hbm, ⟨68, _⟩ => ⟨S64x16x64x256, .f32⟩
  | .hbm, ⟨69, _⟩ => ⟨S_, .f32⟩
  | .hbm, ⟨70, _⟩ => ⟨S64x16x16x256, .f32⟩
  | .hbm, ⟨71, _⟩ => ⟨S64x16x80x256, .f32⟩
  | .hbm, ⟨72, _⟩ => ⟨S64x1280x256, .f32⟩
  | .hbm, ⟨73, _⟩ => ⟨S16384x1024, .f32⟩
  | .hbm, ⟨74, _⟩ => ⟨S64x1024x256, .bf16⟩
  | .hbm, ⟨75, _⟩ => ⟨S16384x1024, .bf16⟩
  | .hbm, ⟨76, _⟩ => ⟨S64x1280x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== BiasTiles.lean ====
abbrev S32x16 : Shape := ⟨2, ![32, 16]⟩
abbrev S256 : Shape := ⟨1, ![256]⟩
abbrev S6 : Shape := ⟨1, ![6]⟩
abbrev S6x1x1 : Shape := ⟨3, ![6, 1, 1]⟩
abbrev S_ : Shape := ⟨0, ![]⟩
abbrev S1x1x256 : Shape := ⟨3, ![1, 1, 256]⟩
abbrev S6x1x256 : Shape := ⟨3, ![6, 1, 256]⟩
abbrev S1x256x1 : Shape := ⟨3, ![1, 256, 1]⟩
abbrev S6x256x256 : Shape := ⟨3, ![6, 256, 256]⟩
abbrev S16x6x256x256 : Shape := ⟨4, ![16, 6, 256, 256]⟩
abbrev S1x6x256x256 : Shape := ⟨4, ![1, 6, 256, 256]⟩
abbrev S1x256x256 : Shape := ⟨3, ![1, 256, 256]⟩
abbrev S256x256 : Shape := ⟨2, ![256, 256]⟩
abbrev S1x1 : Shape := ⟨2, ![1, 1]⟩
abbrev S1x1x256x256 : Shape := ⟨4, ![1, 1, 256, 256]⟩

abbrev nBuf : Space → Nat
  | .hbm => 51
  | .vmem => 3
  | .smem => 1
  | _ => 0

abbrev bufTy : (tb : Table) → Fin (tcTables nBuf tb) → BufTy
  | .hbm, ⟨0, _⟩ => ⟨S32x16, .f32⟩
  | .hbm, ⟨1, _⟩ => ⟨S256, .i32⟩
  | .hbm, ⟨2, _⟩ => ⟨S6, .i32⟩
  | .hbm, ⟨3, _⟩ => ⟨S6x1x1, .i32⟩
  | .hbm, ⟨4, _⟩ => ⟨S_, .i32⟩
  | .hbm, ⟨5, _⟩ => ⟨S6x1x1, .i32⟩
  | .hbm, ⟨6, _⟩ => ⟨S6x1x1, .i32⟩
  | .hbm, ⟨7, _⟩ => ⟨S1x1x256, .i32⟩
  | .hbm, ⟨8, _⟩ => ⟨S6x1x256, .i32⟩
  | .hbm, ⟨9, _⟩ => ⟨S6x1x256, .i32⟩
  | .hbm, ⟨10, _⟩ => ⟨S6x1x256, .i32⟩
  | .hbm, ⟨11, _⟩ => ⟨S1x256x1, .i32⟩
  | .hbm, ⟨12, _⟩ => ⟨S6x256x256, .i32⟩
  | .hbm, ⟨13, _⟩ => ⟨S6x256x256, .i32⟩
  | .hbm, ⟨14, _⟩ => ⟨S6x256x256, .i32⟩
  | .hbm, ⟨15, _⟩ => ⟨S_, .i32⟩
  | .hbm, ⟨16, _⟩ => ⟨S6x256x256, .i32⟩
  | .hbm, ⟨17, _⟩ => ⟨S6x256x256, .i1⟩
  | .hbm, ⟨18, _⟩ => ⟨S_, .i32⟩
  | .hbm, ⟨19, _⟩ => ⟨S6x256x256, .i32⟩
  | .hbm, ⟨20, _⟩ => ⟨S6x256x256, .i32⟩
  | .hbm, ⟨21, _⟩ => ⟨S_, .i32⟩
  | .hbm, ⟨22, _⟩ => ⟨S6x256x256, .i32⟩
  | .hbm, ⟨23, _⟩ => ⟨S6x256x256, .i32⟩
  | .hbm, ⟨24, _⟩ => ⟨S6x256x256, .f32⟩
  | .hbm, ⟨25, _⟩ => ⟨S_, .f32⟩
  | .hbm, ⟨26, _⟩ => ⟨S6x256x256, .f32⟩
  | .hbm, ⟨27, _⟩ => ⟨S6x256x256, .f32⟩
  | .hbm, ⟨28, _⟩ => ⟨S6x256x256, .f32⟩
  | .hbm, ⟨29, _⟩ => ⟨S_, .f32⟩
  | .hbm, ⟨30, _⟩ => ⟨S6x256x256, .f32⟩
  | .hbm, ⟨31, _⟩ => ⟨S6x256x256, .f32⟩
  | .hbm, ⟨32, _⟩ => ⟨S_, .f32⟩
  | .hbm, ⟨33, _⟩ => ⟨S6x256x256, .f32⟩
  | .hbm, ⟨34, _⟩ => ⟨S6x256x256, .f32⟩
  | .hbm, ⟨35, _⟩ => ⟨S6x256x256, .i32⟩
  | .hbm, ⟨36, _⟩ => ⟨S_, .i32⟩
  | .hbm, ⟨37, _⟩ => ⟨S6x256x256, .i32⟩
  | .hbm, ⟨38, _⟩ => ⟨S6x256x256, .i32⟩
  | .hbm, ⟨39, _⟩ => ⟨S_, .i32⟩
  | .hbm, ⟨40, _⟩ => ⟨S6x256x256, .i32⟩
  | .hbm, ⟨41, _⟩ => ⟨S6x256x256, .i32⟩
  | .hbm, ⟨42, _⟩ => ⟨S_, .i32⟩
  | .hbm, ⟨43, _⟩ => ⟨S6x256x256, .i32⟩
  | .hbm, ⟨44, _⟩ => ⟨S6x256x256, .i1⟩
  | .hbm, ⟨45, _⟩ => ⟨S6x256x256, .i32⟩
  | .hbm, ⟨46, _⟩ => ⟨S_, .i32⟩
  | .hbm, ⟨47, _⟩ => ⟨S_, .i32⟩
  | .hbm, ⟨48, _⟩ => ⟨S6x256x256, .i32⟩
  | .hbm, ⟨49, _⟩ => ⟨S6x256x256, .i32⟩
  | .hbm, ⟨50, _⟩ => ⟨S16x6x256x256, .f32⟩
  | .local _ .vmem, ⟨0, _⟩ => ⟨S6x256x256, .i32⟩
  | .local _ .vmem, ⟨1, _⟩ => ⟨S1x6x256x256, .f32⟩
  | .local _ .vmem, ⟨2, _⟩ => ⟨S1x6x256x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_c_1 : Ref sig .tc := ⟨.hbm, 18, rfl⟩
abbrev main_v15 : Ref sig .tc := ⟨.hbm, 19, rfl⟩
abbrev main_v16 : Ref sig .tc := ⟨.hbm, 20, rfl⟩
abbrev main_c_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_c_6 : Ref sig .tc := ⟨.hbm, 39, rfl⟩
abbrev main_v30 : Ref sig .tc := ⟨.hbm, 40, rfl⟩
abbrev main_v31 : Ref sig .tc := ⟨.hbm, 41, rfl⟩
abbrev main_c_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_8 : Ref sig .tc := ⟨.hbm, 46, rfl⟩
abbrev main_call1_v0 : Ref sig .tc := ⟨.hbm, 47, rfl⟩
abbrev main_call1_v1 : Ref sig .tc := ⟨.hbm, 48, rfl⟩
abbrev main_v35 : Ref sig .tc := ⟨.hbm, 49, rfl⟩
abbrev main_v36 : Ref sig .tc := ⟨.hbm, 50, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_2 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v12 : Index := Scalar.indexCast arg0
  ![1, v12.toNat]
def k0_off3 (i : grid0.Coords) : Fin 2 → Nat :=
  let c2 : Index := 2#32
  let arg0 : BitVec 32 := BitVec.ofNat 32 (i 0).val
  let v19 : Index := Scalar.indexCast arg0
  ![2, v19.toNat]
def k0_off4 (i : grid0.Coords) : Fin 2 → Nat :=
  let c3 : Index := 3#32
  let arg0 : BitVec 32 := BitVec.ofNat 32 (i 0).val
  let v26 : Index := Scalar.indexCast arg0
  ![3, v26.toNat]
def k0_off5 (i : grid0.Coords) : Fin 2 → Nat :=
  let c4 : Index := 4#32
  let arg0 : BitVec 32 := BitVec.ofNat 32 (i 0).val
  let v33 : Index := Scalar.indexCast arg0
  ![4, v33.toNat]
def k0_off6 (i : grid0.Coords) : Fin 2 → Nat :=
  let c5 : Index := 5#32
  let arg0 : BitVec 32 := BitVec.ofNat 32 (i 0).val
  let v40 : Index := Scalar.indexCast arg0
  ![5, v40.toNat]
def k0_off7 (i : grid0.Coords) : Fin 2 → Nat :=
  let c6 : Index := 6#32
  let arg0 : BitVec 32 := BitVec.ofNat 32 (i 0).val
  let v47 : Index := Scalar.indexCast arg0
  ![6, v47.toNat]
def k0_off8 (i : grid0.Coords) : Fin 2 → Nat :=
  let c7 : Index := 7#32
  let arg0 : BitVec 32 := BitVec.ofNat 32 (i 0).val
  let v54 : Index := Scalar.indexCast arg0
  ![7, v54.toNat]
def k0_off9 (i : grid0.Coords) : Fin 2 → Nat :=
  let c8 : Index := 8#32
  let arg0 : BitVec 32 := BitVec.ofNat 32 (i 0).val
  let v61 : Index := Scalar.indexCast arg0
  ![8, v61.toNat]
def k0_off10 (i : grid0.Coords) : Fin 2 → Nat :=
  let c9 : Index := 9#32
  let arg0 : BitVec 32 := BitVec.ofNat 32 (i 0).val
  let v68 : Index := Scalar.indexCast arg0
  ![9, v68.toNat]
def k0_off11 (i : grid0.Coords) : Fin 2 → Nat :=
  let c10 : Index := 10#32
  let arg0 : BitVec 32 := BitVec.ofNat 32 (i 0).val
  let v75 : Index := Scalar.indexCast arg0
  ![10, v75.toNat]
def k0_off12 (i : grid0.Coords) : Fin 2 → Nat :=
  let c11 : Index := 11#32
  let arg0 : BitVec 32 := BitVec.ofNat 32 (i 0).val
  let v82 : Index := Scalar.indexCast arg0
  ![11, v82.toNat]
def k0_off13 (i : grid0.Coords) : Fin 2 → Nat :=
  let c12 : Index := 12#32
  let arg0 : BitVec 32 := BitVec.ofNat 32 (i 0).val
  let v89 : Index := Scalar.indexCast arg0
  ![12, v89.toNat]
def k0_off14 (i : grid0.Coords) : Fin 2 → Nat :=
  let c13 : Index := 13#32
  let arg0 : BitVec 32 := BitVec.ofNat 32 (i 0).val
  let v96 : Index := Scalar.indexCast arg0
  ![13, v96.toNat]
def k0_off15 (i : grid0.Coords) : Fin 2 → Nat :=
  let c14 : Index := 14#32
  let arg0 : BitVec 32 := BitVec.ofNat 32 (i 0).val
  let v103 : Index := Scalar.indexCast arg0
  ![14, v103.toNat]
def k0_off16 (i : grid0.Coords) : Fin 2 → Nat :=
  let c15 : Index := 15#32
  let arg0 : BitVec 32 := BitVec.ofNat 32 (i 0).val
  let v110 : Index := Scalar.indexCast arg0
  ![15, v110.toNat]
def k0_off17 (i : grid0.Coords) : Fin 2 → Nat :=
  let c16 : Index := 16#32
  let arg0 : BitVec 32 := BitVec.ofNat 32 (i 0).val
  let v117 : Index := Scalar.indexCast arg0
  ![16, v117.toNat]
def k0_off18 (i : grid0.Coords) : Fin 2 → Nat :=
  let c17 : Index := 17#32
  let arg0 : BitVec 32 := BitVec.ofNat 32 (i 0).val
  let v124 : Index := Scalar.indexCast arg0
  ![17, v124.toNat]
def k0_off19 (i : grid0.Coords) : Fin 2 → Nat :=
  let c18 : Index := 18#32
  let arg0 : BitVec 32 := BitVec.ofNat 32 (i 0).val
  let v131 : Index := Scalar.indexCast arg0
  ![18, v131.toNat]
def k0_off20 (i : grid0.Coords) : Fin 2 → Nat :=
  let c19 : Index := 19#32
  let arg0 : BitVec 32 := BitVec.ofNat 32 (i 0).val
  let v138 : Index := Scalar.indexCast arg0
  ![19, v138.toNat]
def k0_off21 (i : grid0.Coords) : Fin 2 → Nat :=
  let c20 : Index := 20#32
  let arg0 : BitVec 32 := BitVec.ofNat 32 (i 0).val
  let v145 : Index := Scalar.indexCast arg0
  ![20, v145.toNat]
def k0_off22 (i : grid0.Coords) : Fin 2 → Nat :=
  let c21 : Index := 21#32
  let arg0 : BitVec 32 := BitVec.ofNat 32 (i 0).val
  let v152 : Index := Scalar.indexCast arg0
  ![21, v152.toNat]
def k0_off23 (i : grid0.Coords) : Fin 2 → Nat :=
  let c22 : Index := 22#32
  let arg0 : BitVec 32 := BitVec.ofNat 32 (i 0).val
  let v159 : Index := Scalar.indexCast arg0
  ![22, v159.toNat]
def k0_off24 (i : grid0.Coords) : Fin 2 → Nat :=
  let c23 : Index := 23#32
  let arg0 : BitVec 32 := BitVec.ofNat 32 (i 0).val
  let v166 : Index := Scalar.indexCast arg0
  ![23, v166.toNat]
def k0_off25 (i : grid0.Coords) : Fin 2 → Nat :=
  let c24 : Index := 24#32
  let arg0 : BitVec 32 := BitVec.ofNat 32 (i 0).val
  let v173 : Index := Scalar.indexCast arg0
  ![24, v173.toNat]
def k0_off26 (i : grid0.Coords) : Fin 2 → Nat :=
  let c25 : Index := 25#32
  let arg0 : BitVec 32 := BitVec.ofNat 32 (i 0).val
  let v180 : Index := Scalar.indexCast arg0
  ![25, v180.toNat]
def k0_off27 (i : grid0.Coords) : Fin 2 → Nat :=
  let c26 : Index := 26#32
  let arg0 : BitVec 32 := BitVec.ofNat 32 (i 0).val
  let v187 : Index := Scalar.indexCast arg0
  ![26, v187.toNat]
def k0_off28 (i : grid0.Coords) : Fin 2 → Nat :=
  let c27 : Index := 27#32
  let arg0 : BitVec 32 := BitVec.ofNat 32 (i 0).val
  let v194 : Index := Scalar.indexCast arg0
  ![27, v194.toNat]
def k0_off29 (i : grid0.Coords) : Fin 2 → Nat :=
  let c28 : Index := 28#32
  let arg0 : BitVec 32 := BitVec.ofNat 32 (i 0).val
  let v403 : Index := Scalar.indexCast arg0
  ![28, v403.toNat]
def k0_off30 (i : grid0.Coords) : Fin 2 → Nat :=
  let c29 : Index := 29#32
  let arg0 : BitVec 32 := BitVec.ofNat 32 (i 0).val
  let v410 : Index := Scalar.indexCast arg0
  ![29, v410.toNat]
def k0_off31 (i : grid0.Coords) : Fin 2 → Nat :=
  let c30 : Index := 30#32
  let arg0 : BitVec 32 := BitVec.ofNat 32 (i 0).val
  let v417 : Index := Scalar.indexCast arg0
  ![30, v417.toNat]
def k0_off32 (i : grid0.Coords) : Fin 2 → Nat :=
  let c31 : Index := 31#32
  let arg0 : BitVec 32 := BitVec.ofNat 32 (i 0).val
  let v472 : Index := Scalar.indexCast arg0
  ![31, v472.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x256x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PositionBiasIdeal.lean ====
abbrev S32x16 : Shape := ⟨2, ![32, 16]⟩
abbrev S16x32 : Shape := ⟨2, ![16, 32]⟩
abbrev S256 : Shape := ⟨1, ![256]⟩
abbrev S6 : Shape := ⟨1, ![6]⟩
abbrev S6x1x1 : Shape := ⟨3, ![6, 1, 1]⟩
abbrev S_ : Shape := ⟨0, ![]⟩
abbrev S1x1x256 : Shape := ⟨3, ![1, 1, 256]⟩
abbrev S6x1x256 : Shape := ⟨3, ![6, 1, 256]⟩
abbrev S1x256x1 : Shape := ⟨3, ![1, 256, 1]⟩
abbrev S6x256x256 : Shape := ⟨3, ![6, 256, 256]⟩
abbrev S6x256x256x1 : Shape := ⟨4, ![6, 256, 256, 1]⟩
abbrev S16x6x256x256 : Shape := ⟨4, ![16, 6, 256, 256]⟩

abbrev nBuf : Space → Nat
  | .hbm => 65
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S16x32, .f32⟩
  | .hbm, ⟨2, _⟩ => ⟨S256, .i32⟩
  | .hbm, ⟨3, _⟩ => ⟨S256, .i32⟩
  | .hbm, ⟨4, _⟩ => ⟨S6, .i32⟩
  | .hbm, ⟨5, _⟩ => ⟨S6x1x1, .i32⟩
  | .hbm, ⟨6, _⟩ => ⟨S_, .i32⟩
  | .hbm, ⟨7, _⟩ => ⟨S6x1x1, .i32⟩
  | .hbm, ⟨8, _⟩ => ⟨S6x1x1, .i32⟩
  | .hbm, ⟨9, _⟩ => ⟨S1x1x256, .i32⟩
  | .hbm, ⟨10, _⟩ => ⟨S6x1x256, .i32⟩
  | .hbm, ⟨11, _⟩ => ⟨S6x1x256, .i32⟩
  | .hbm, ⟨12, _⟩ => ⟨S6x1x256, .i32⟩
  | .hbm, ⟨13, _⟩ => ⟨S1x256x1, .i32⟩
  | .hbm, ⟨14, _⟩ => ⟨S6x256x256, .i32⟩
  | .hbm, ⟨15, _⟩ => ⟨S6x256x256, .i32⟩
  | .hbm, ⟨16, _⟩ => ⟨S6x256x256, .i32⟩
  | .hbm, ⟨17, _⟩ => ⟨S_, .i32⟩
  | .hbm, ⟨18, _⟩ => ⟨S6x256x256, .i32⟩
  | .hbm, ⟨19, _⟩ => ⟨S6x256x256, .i1⟩
  | .hbm, ⟨20, _⟩ => ⟨S_, .i32⟩
  | .hbm, ⟨21, _⟩ => ⟨S6x256x256, .i32⟩
  | .hbm, ⟨22, _⟩ => ⟨S6x256x256, .i32⟩
  | .hbm, ⟨23, _⟩ => ⟨S_, .i32⟩
  | .hbm, ⟨24, _⟩ => ⟨S6x256x256, .i32⟩
  | .hbm, ⟨25, _⟩ => ⟨S6x256x256, .i32⟩
  | .hbm, ⟨26, _⟩ => ⟨S6x256x256, .f32⟩
  | .hbm, ⟨27, _⟩ => ⟨S_, .f32⟩
  | .hbm, ⟨28, _⟩ => ⟨S6x256x256, .f32⟩
  | .hbm, ⟨29, _⟩ => ⟨S6x256x256, .f32⟩
  | .hbm, ⟨30, _⟩ => ⟨S6x256x256, .f32⟩
  | .hbm, ⟨31, _⟩ => ⟨S_, .f32⟩
  | .hbm, ⟨32, _⟩ => ⟨S6x256x256, .f32⟩
  | .hbm, ⟨33, _⟩ => ⟨S6x256x256, .f32⟩
  | .hbm, ⟨34, _⟩ => ⟨S_, .f32⟩
  | .hbm, ⟨35, _⟩ => ⟨S6x256x256, .f32⟩
  | .hbm, ⟨36, _⟩ => ⟨S6x256x256, .f32⟩
  | .hbm, ⟨37, _⟩ => ⟨S6x256x256, .i32⟩
  | .hbm, ⟨38, _⟩ => ⟨S_, .i32⟩
  | .hbm, ⟨39, _⟩ => ⟨S6x256x256, .i32⟩
  | .hbm, ⟨40, _⟩ => ⟨S6x256x256, .i32⟩
  | .hbm, ⟨41, _⟩ => ⟨S_, .i32⟩
  | .hbm, ⟨42, _⟩ => ⟨S6x256x256, .i32⟩
  | .hbm, ⟨43, _⟩ => ⟨S6x256x256, .i1⟩
  | .hbm, ⟨44, _⟩ => ⟨S_, .i32⟩
  | .hbm, ⟨45, _⟩ => ⟨S6x256x256, .i32⟩
  | .hbm, ⟨46, _⟩ => ⟨S6x256x256, .i32⟩
  | .hbm, ⟨47, _⟩ => ⟨S6x256x256, .i32⟩
  | .hbm, ⟨48, _⟩ => ⟨S_, .i32⟩
  | .hbm, ⟨49, _⟩ => ⟨S6x256x256, .i32⟩
  | .hbm, ⟨50, _⟩ => ⟨S6x256x256, .i1⟩
  | .hbm, ⟨51, _⟩ => ⟨S_, .i32⟩
  | .hbm, ⟨52, _⟩ => ⟨S6x256x256, .i32⟩
  | .hbm, ⟨53, _⟩ => ⟨S6x256x256, .i32⟩
  | .hbm, ⟨54, _⟩ => ⟨S6x256x256, .i32⟩
  | .hbm, ⟨55, _⟩ => ⟨S6x256x256x1, .i32⟩
  | .hbm, ⟨56, _⟩ => ⟨S16x6x256x256, .f32⟩
  | .hbm, ⟨57, _⟩ => ⟨S_, .f32⟩
  | .hbm, ⟨58, _⟩ => ⟨S16x6x256x256, .f32⟩
  | .hbm, ⟨59, _⟩ => ⟨S16x6x256x256, .f32⟩
  | .hbm, ⟨60, _⟩ => ⟨S_, .f32⟩
  | .hbm, ⟨61, _⟩ => ⟨S_, .f32⟩
  | .hbm, ⟨62, _⟩ => ⟨S16x6x256x256, .i1⟩
  | .hbm, ⟨63, _⟩ => ⟨S16x6x256x256, .f32⟩
  | .hbm, ⟨64, _⟩ => ⟨S16x6x256x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_c_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== OutMlpFirst.lean ====
abbrev S16384x2048 : Shape := ⟨2, ![16384, 2048]⟩
abbrev S1x2048x1024 : Shape := ⟨3, ![1, 2048, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S1x1024x3072 : Shape := ⟨3, ![1, 1024, 3072]⟩
abbrev S1x1024x1024 : Shape := ⟨3, ![1, 1024, 1024]⟩
abbrev S4x1024x4096 : Shape := ⟨3, ![4, 1024, 4096]⟩
abbrev S16384x1024 : Shape := ⟨2, ![16384, 1024]⟩
abbrev S1x1024 : Shape := ⟨2, ![1, 1024]⟩
abbrev S512x2048 : Shape := ⟨2, ![512, 2048]⟩
abbrev S512x1024 : Shape := ⟨2, ![512, 1024]⟩
abbrev S1x32x3072 : Shape := ⟨3, ![1, 32, 3072]⟩
abbrev S1x32x1024 : Shape := ⟨3, ![1, 32, 1024]⟩
abbrev S1x32x4096 : Shape := ⟨3, ![1, 32, 4096]⟩
abbrev S1x128x1024 : Shape := ⟨3, ![1, 128, 1024]⟩
abbrev S32x3072 : Shape := ⟨2, ![32, 3072]⟩
abbrev S32x1024 : Shape := ⟨2, ![32, 1024]⟩
abbrev S32x4096 : Shape := ⟨2, ![32, 4096]⟩
abbrev S128x1024 : Shape := ⟨2, ![128, 1024]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 18
  | .vmem => 28
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x1024, .bf16⟩
  | .hbm, ⟨3, _⟩ => ⟨S4x4096x1024, .f32⟩
  | .hbm, ⟨4, _⟩ => ⟨S1024, .f32⟩
  | .hbm, ⟨5, _⟩ => ⟨S1x1024x4096, .bf16⟩
  | .hbm, ⟨6, _⟩ => ⟨S1x4096x1024, .bf16⟩
  | .hbm, ⟨7, _⟩ => ⟨S1x1024x3072, .f32⟩
  | .hbm, ⟨8, _⟩ => ⟨S1x1024x1024, .f32⟩
  | .hbm, ⟨9, _⟩ => ⟨S4x1024x4096, .f32⟩
  | .hbm, ⟨10, _⟩ => ⟨S4x4096x1024, .f32⟩
  | .hbm, ⟨11, _⟩ => ⟨S16384x1024, .f32⟩
  | .hbm, ⟨12, _⟩ => ⟨S1x1024, .f32⟩
  | .hbm, ⟨13, _⟩ => ⟨S16384x1024, .f32⟩
  | .hbm, ⟨14, _⟩ => ⟨S1x1024x3072, .bf16⟩
  | .hbm, ⟨15, _⟩ => ⟨S1x1024x1024, .bf16⟩
  | .hbm, ⟨16, _⟩ => ⟨S1x1024x4096, .bf16⟩
  | .hbm, ⟨17, _⟩ => ⟨S1x4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x32x3072, .f32⟩
  | .local _ .vmem, ⟨11, _⟩ => ⟨S1x32x3072, .f32⟩
  | .local _ .vmem, ⟨12, _⟩ => ⟨S1x32x1024, .f32⟩
  | .local _ .vmem, ⟨13, _⟩ => ⟨S1x32x1024, .f32⟩
  | .local _ .vmem, ⟨14, _⟩ => ⟨S1x32x4096, .f32⟩
  | .local _ .vmem, ⟨15, _⟩ => ⟨S1x32x4096, .f32⟩
  | .local _ .vmem, ⟨16, _⟩ => ⟨S1x128x1024, .f32⟩
  | .local _ .vmem, ⟨17, _⟩ => ⟨S1x128x1024, .f32⟩
  | .local _ .vmem, ⟨18, _⟩ => ⟨S512x1024, .f32⟩
  | .local _ .vmem, ⟨19, _⟩ => ⟨S512x1024, .f32⟩
  | .local _ .vmem, ⟨20, _⟩ => ⟨S1x32x3072, .bf16⟩
  | .local _ .vmem, ⟨21, _⟩ => ⟨S1x32x3072, .bf16⟩
  | .local _ .vmem, ⟨22, _⟩ => ⟨S1x32x1024, .bf16⟩
  | .local _ .vmem, ⟨23, _⟩ => ⟨S1x32x1024, .bf16⟩
  | .local _ .vmem, ⟨24, _⟩ => ⟨S1x32x4096, .bf16⟩
  | .local _ .vmem, ⟨25, _⟩ => ⟨S1x32x4096, .bf16⟩
  | .local _ .vmem, ⟨26, _⟩ => ⟨S1x128x1024, .bf16⟩
  | .local _ .vmem, ⟨27, _⟩ => ⟨S1x128x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FirstBlockIdeal.lean ====
abbrev S16384x2048 : Shape := ⟨2, ![16384, 2048]⟩
abbrev S1x2048x1024 : Shape := ⟨3, ![1, 2048, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S1x1024x3072 : Shape := ⟨3, ![1, 1024, 3072]⟩
abbrev S1x1024x1024 : Shape := ⟨3, ![1, 1024, 1024]⟩
abbrev S4x1024x4096 : Shape := ⟨3, ![4, 1024, 4096]⟩
abbrev S2048x1024 : Shape := ⟨2, ![2048, 1024]⟩
abbrev S1024x4096 : Shape := ⟨2, ![1024, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x1024, .bf16⟩
  | .hbm, ⟨3, _⟩ => ⟨S4x4096x1024, .f32⟩
  | .hbm, ⟨4, _⟩ => ⟨S1024, .f32⟩
  | .hbm, ⟨5, _⟩ => ⟨S1x1024x4096, .bf16⟩
  | .hbm, ⟨6, _⟩ => ⟨S1x4096x1024, .bf16⟩
  | .hbm, ⟨7, _⟩ => ⟨S1x1024x3072, .f32⟩
  | .hbm, ⟨8, _⟩ => ⟨S1x1024x1024, .f32⟩
  | .hbm, ⟨9, _⟩ => ⟨S4x1024x4096, .f32⟩
  | .hbm, ⟨10, _⟩ => ⟨S4x4096x1024, .f32⟩
  | .hbm, ⟨11, _⟩ => ⟨S2048x1024, .bf16⟩
  | .hbm, ⟨12, _⟩ => ⟨S1024x4096, .bf16⟩
  | .hbm, ⟨13, _⟩ => ⟨S4096x1024, .bf16⟩
  | .hbm, ⟨14, _⟩ => ⟨S16384x2048, .f32⟩
  | .hbm, ⟨15, _⟩ => ⟨S16384x2048, .f32⟩
  | .hbm, ⟨16, _⟩ => ⟨S2048x1024, .f32⟩
  | .hbm, ⟨17, _⟩ => ⟨S1024x4096, .f32⟩
  | .hbm, ⟨18, _⟩ => ⟨S4096x1024, .f32⟩
  | .hbm, ⟨19, _⟩ => ⟨S16384x1024, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x1024, .f32⟩
  | .hbm, ⟨54, _⟩ => ⟨S16384x1024, .f32⟩
  | .hbm, ⟨55, _⟩ => ⟨S1x1024x3072, .bf16⟩
  | .hbm, ⟨56, _⟩ => ⟨S1x1024x1024, .bf16⟩
  | .hbm, ⟨57, _⟩ => ⟨S1x1024x4096, .f32⟩
  | .hbm, ⟨58, _⟩ => ⟨S1x1024x4096, .bf16⟩
  | .hbm, ⟨59, _⟩ => ⟨S1x4096x1024, .f32⟩
  | .hbm, ⟨60, _⟩ => ⟨S1x4096x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_cst : Ref sig .tc := ⟨.hbm, 49, rfl⟩
abbrev main_call1_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== OutMlpThird.lean ====
abbrev S1024x16384 : Shape := ⟨2, ![1024, 16384]⟩
abbrev S1x1024x1024 : Shape := ⟨3, ![1, 1024, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S2x1024x6144 : Shape := ⟨3, ![2, 1024, 6144]⟩
abbrev S2x2048x1024 : Shape := ⟨3, ![2, 2048, 1024]⟩
abbrev S4x1024x4096 : Shape := ⟨3, ![4, 1024, 4096]⟩
abbrev S16384x1024 : Shape := ⟨2, ![16384, 1024]⟩
abbrev S1x1024 : Shape := ⟨2, ![1, 1024]⟩
abbrev S1x1024x6144 : Shape := ⟨3, ![1, 1024, 6144]⟩
abbrev S1x2048x1024 : Shape := ⟨3, ![1, 2048, 1024]⟩
abbrev S1024x512 : Shape := ⟨2, ![1024, 512]⟩
abbrev S512x1024 : Shape := ⟨2, ![512, 1024]⟩
abbrev S1x32x6144 : Shape := ⟨3, ![1, 32, 6144]⟩
abbrev S1x64x1024 : Shape := ⟨3, ![1, 64, 1024]⟩
abbrev S1x32x4096 : Shape := ⟨3, ![1, 32, 4096]⟩
abbrev S1x128x1024 : Shape := ⟨3, ![1, 128, 1024]⟩
abbrev S32x6144 : Shape := ⟨2, ![32, 6144]⟩
abbrev S64x1024 : Shape := ⟨2, ![64, 1024]⟩
abbrev S32x4096 : Shape := ⟨2, ![32, 4096]⟩
abbrev S128x1024 : Shape := ⟨2, ![128, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 26
  | .smem => 0
  | _ => 0

abbrev bufTy : (tb : Table) → Fin (tcTables nBuf tb) → BufTy
  | .hbm, ⟨0, _⟩ => ⟨S1024x16384, .bf16⟩
  | .hbm, ⟨1, _⟩ => ⟨S1x1024x1024, .bf16⟩
  | .hbm, ⟨2, _⟩ => ⟨S4x4096x1024, .f32⟩
  | .hbm, ⟨3, _⟩ => ⟨S1024, .f32⟩
  | .hbm, ⟨4, _⟩ => ⟨S1x1024x4096, .bf16⟩
  | .hbm, ⟨5, _⟩ => ⟨S1x4096x1024, .bf16⟩
  | .hbm, ⟨6, _⟩ => ⟨S2x1024x6144, .f32⟩
  | .hbm, ⟨7, _⟩ => ⟨S2x2048x1024, .f32⟩
  | .hbm, ⟨8, _⟩ => ⟨S4x1024x4096, .f32⟩
  | .hbm, ⟨9, _⟩ => ⟨S4x4096x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S1x1024x6144, .bf16⟩
  | .hbm, ⟨14, _⟩ => ⟨S1x2048x1024, .bf16⟩
  | .hbm, ⟨15, _⟩ => ⟨S1x1024x4096, .bf16⟩
  | .hbm, ⟨16, _⟩ => ⟨S1x4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x32x6144, .f32⟩
  | .local _ .vmem, ⟨9, _⟩ => ⟨S1x32x6144, .f32⟩
  | .local _ .vmem, ⟨10, _⟩ => ⟨S1x64x1024, .f32⟩
  | .local _ .vmem, ⟨11, _⟩ => ⟨S1x64x1024, .f32⟩
  | .local _ .vmem, ⟨12, _⟩ => ⟨S1x32x4096, .f32⟩
  | .local _ .vmem, ⟨13, _⟩ => ⟨S1x32x4096, .f32⟩
  | .local _ .vmem, ⟨14, _⟩ => ⟨S1x128x1024, .f32⟩
  | .local _ .vmem, ⟨15, _⟩ => ⟨S1x128x1024, .f32⟩
  | .local _ .vmem, ⟨16, _⟩ => ⟨S512x1024, .f32⟩
  | .local _ .vmem, ⟨17, _⟩ => ⟨S512x1024, .f32⟩
  | .local _ .vmem, ⟨18, _⟩ => ⟨S1x32x6144, .bf16⟩
  | .local _ .vmem, ⟨19, _⟩ => ⟨S1x32x6144, .bf16⟩
  | .local _ .vmem, ⟨20, _⟩ => ⟨S1x64x1024, .bf16⟩
  | .local _ .vmem, ⟨21, _⟩ => ⟨S1x64x1024, .bf16⟩
  | .local _ .vmem, ⟨22, _⟩ => ⟨S1x32x4096, .bf16⟩
  | .local _ .vmem, ⟨23, _⟩ => ⟨S1x32x4096, .bf16⟩
  | .local _ .vmem, ⟨24, _⟩ => ⟨S1x128x1024, .bf16⟩
  | .local _ .vmem, ⟨25, _⟩ => ⟨S1x128x1024, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x6144 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ThirdBlockIdeal.lean ====
abbrev S1024x16384 : Shape := ⟨2, ![1024, 16384]⟩
abbrev S1x1024x1024 : Shape := ⟨3, ![1, 1024, 1024]⟩
abbrev S4x4096x1024 : Shape := ⟨3, ![4, 4096, 1024]⟩
abbrev S1024 : Shape := ⟨1, ![1024]⟩
abbrev S1x1024x4096 : Shape := ⟨3, ![1, 1024, 4096]⟩
abbrev S1x4096x1024 : Shape := ⟨3, ![1, 4096, 1024]⟩
abbrev S2x1024x6144 : Shape := ⟨3, ![2, 1024, 6144]⟩
abbrev S2x2048x1024 : Shape := ⟨3, ![2, 2048, 1024]⟩
abbrev S4x1024x4096 : Shape := ⟨3, ![4, 1024, 4096]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x1024x6144 : Shape := ⟨3, ![1, 1024, 6144]⟩
abbrev S1x2048x1024 : Shape := ⟨3, ![1, 2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S1x1024x1024, .bf16⟩
  | .hbm, ⟨2, _⟩ => ⟨S4x4096x1024, .f32⟩
  | .hbm, ⟨3, _⟩ => ⟨S1024, .f32⟩
  | .hbm, ⟨4, _⟩ => ⟨S1x1024x4096, .bf16⟩
  | .hbm, ⟨5, _⟩ => ⟨S1x4096x1024, .bf16⟩
  | .hbm, ⟨6, _⟩ => ⟨S2x1024x6144, .f32⟩
  | .hbm, ⟨7, _⟩ => ⟨S2x2048x1024, .f32⟩
  | .hbm, ⟨8, _⟩ => ⟨S4x1024x4096, .f32⟩
  | .hbm, ⟨9, _⟩ => ⟨S4x4096x1024, .f32⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1024x16384, .f32⟩
  | .hbm, ⟨14, _⟩ => ⟨S1024x1024, .f32⟩
  | .hbm, ⟨15, _⟩ => ⟨S1024x4096, .f32⟩
  | .hbm, ⟨16, _⟩ => ⟨S4096x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x1024, .f32⟩
  | .hbm, ⟨43, _⟩ => ⟨S16384x1024, .f32⟩
  | .hbm, ⟨44, _⟩ => ⟨S1x1024x6144, .f32⟩
  | .hbm, ⟨45, _⟩ => ⟨S1x1024x6144, .bf16⟩
  | .hbm, ⟨46, _⟩ => ⟨S1x2048x1024, .f32⟩
  | .hbm, ⟨47, _⟩ => ⟨S1x2048x1024, .bf16⟩
  | .hbm, ⟨48, _⟩ => ⟨S1x1024x4096, .f32⟩
  | .hbm, ⟨49, _⟩ => ⟨S1x1024x4096, .bf16⟩
  | .hbm, ⟨50, _⟩ => ⟨S1x4096x1024, .f32⟩
  | .hbm, ⟨51, _⟩ => ⟨S1x4096x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== RetProjLast.lean ====
abbrev S4x4096x1024 : Shape := ⟨3, ![4, 4096, 1024]⟩
abbrev S1024 : Shape := ⟨1, ![1024]⟩
abbrev S1x1024x6144 : Shape := ⟨3, ![1, 1024, 6144]⟩
abbrev S16384x1024 : Shape := ⟨2, ![16384, 1024]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x1024 : Shape := ⟨2, ![1, 1024]⟩
abbrev S16384x2048 : Shape := ⟨2, ![16384, 2048]⟩
abbrev S512x1024 : Shape := ⟨2, ![512, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 31
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x6144, .bf16⟩
  | .hbm, ⟨3, _⟩ => ⟨S16384x1024, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S4096, .f32⟩
  | .hbm, ⟨19, _⟩ => ⟨S4096x1, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S1x1024, .f32⟩
  | .hbm, ⟨27, _⟩ => ⟨S16384x1024, .bf16⟩
  | .hbm, ⟨28, _⟩ => ⟨S16384x1024, .bf16⟩
  | .hbm, ⟨29, _⟩ => ⟨S16384x2048, .bf16⟩
  | .hbm, ⟨30, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastInputsIdeal.lean ====
abbrev S4x4096x1024 : Shape := ⟨3, ![4, 4096, 1024]⟩
abbrev S1024 : Shape := ⟨1, ![1024]⟩
abbrev S1x1024x6144 : Shape := ⟨3, ![1, 1024, 6144]⟩
abbrev S1024x6144 : Shape := ⟨2, ![1024, 6144]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S4x4096x2048 : Shape := ⟨3, ![4, 4096, 2048]⟩
abbrev S4x4096x4x256 : Shape := ⟨4, ![4, 4096, 4, 256]⟩
abbrev S4x4x4096x256 : Shape := ⟨4, ![4, 4, 4096, 256]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4x4x4096x128 : Shape := ⟨4, ![4, 4, 4096, 128]⟩
abbrev S1x1x4096x128 : Shape := ⟨4, ![1, 1, 4096, 128]⟩
abbrev S16384x1024 : Shape := ⟨2, ![16384, 1024]⟩
abbrev S16384x2048 : Shape := ⟨2, ![16384, 2048]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x6144, .bf16⟩
  | .hbm, ⟨3, _⟩ => ⟨S1024x6144, .bf16⟩
  | .hbm, ⟨4, _⟩ => ⟨S1024x6144, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x6144, .f32⟩
  | .hbm, ⟨22, _⟩ => ⟨S4x4096x1024, .f32⟩
  | .hbm, ⟨23, _⟩ => ⟨S4x4096x1024, .f32⟩
  | .hbm, ⟨24, _⟩ => ⟨S4x4096x2048, .f32⟩
  | .hbm, ⟨25, _⟩ => ⟨S4x4096x2048, .f32⟩
  | .hbm, ⟨26, _⟩ => ⟨S4x4096x4x256, .f32⟩
  | .hbm, ⟨27, _⟩ => ⟨S4x4x4096x256, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S4096, .f32⟩
  | .hbm, ⟨43, _⟩ => ⟨S4096x1, .f32⟩
  | .hbm, ⟨44, _⟩ => ⟨S1x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4x4x4096x128, .f32⟩
  | .hbm, ⟨51, _⟩ => ⟨S4x4x4096x128, .f32⟩
  | .hbm, ⟨52, _⟩ => ⟨S1x1x4096x128, .f32⟩
  | .hbm, ⟨53, _⟩ => ⟨S4x4x4096x128, .f32⟩
  | .hbm, ⟨54, _⟩ => ⟨S4x4x4096x128, .f32⟩
  | .hbm, ⟨55, _⟩ => ⟨S1x1x4096x128, .f32⟩
  | .hbm, ⟨56, _⟩ => ⟨S4x4x4096x128, .f32⟩
  | .hbm, ⟨57, _⟩ => ⟨S4x4x4096x128, .f32⟩
  | .hbm, ⟨58, _⟩ => ⟨S4x4x4096x128, .f32⟩
  | .hbm, ⟨59, _⟩ => ⟨S1x1x4096x128, .f32⟩
  | .hbm, ⟨60, _⟩ => ⟨S4x4x4096x128, .f32⟩
  | .hbm, ⟨61, _⟩ => ⟨S4x4x4096x128, .f32⟩
  | .hbm, ⟨62, _⟩ => ⟨S1x1x4096x128, .f32⟩
  | .hbm, ⟨63, _⟩ => ⟨S4x4x4096x128, .f32⟩
  | .hbm, ⟨64, _⟩ => ⟨S4x4x4096x128, .f32⟩
  | .hbm, ⟨65, _⟩ => ⟨S4x4x4096x128, .f32⟩
  | .hbm, ⟨66, _⟩ => ⟨S4x4x4096x256, .f32⟩
  | .hbm, ⟨67, _⟩ => ⟨S4x4096x4x256, .f32⟩
  | .hbm, ⟨68, _⟩ => ⟨S16384x1024, .f32⟩
  | .hbm, ⟨69, _⟩ => ⟨S4x4096x4x256, .f32⟩
  | .hbm, ⟨70, _⟩ => ⟨S4x4x4096x256, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S4096, .f32⟩
  | .hbm, ⟨86, _⟩ => ⟨S4096x1, .f32⟩
  | .hbm, ⟨87, _⟩ => ⟨S1x128, .f32⟩
  | .hbm, ⟨88, _⟩ => ⟨S4096x128, .f32⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S4096x128, .f32⟩
  | .hbm, ⟨93, _⟩ => ⟨S4x4x4096x128, .f32⟩
  | .hbm, ⟨94, _⟩ => ⟨S4x4x4096x128, .f32⟩
  | .hbm, ⟨95, _⟩ => ⟨S1x1x4096x128, .f32⟩
  | .hbm, ⟨96, _⟩ => ⟨S4x4x4096x128, .f32⟩
  | .hbm, ⟨97, _⟩ => ⟨S4x4x4096x128, .f32⟩
  | .hbm, ⟨98, _⟩ => ⟨S1x1x4096x128, .f32⟩
  | .hbm, ⟨99, _⟩ => ⟨S4x4x4096x128, .f32⟩
  | .hbm, ⟨100, _⟩ => ⟨S4x4x4096x128, .f32⟩
  | .hbm, ⟨101, _⟩ => ⟨S4x4x4096x128, .f32⟩
  | .hbm, ⟨102, _⟩ => ⟨S1x1x4096x128, .f32⟩
  | .hbm, ⟨103, _⟩ => ⟨S4x4x4096x128, .f32⟩
  | .hbm, ⟨104, _⟩ => ⟨S4x4x4096x128, .f32⟩
  | .hbm, ⟨105, _⟩ => ⟨S1x1x4096x128, .f32⟩
  | .hbm, ⟨106, _⟩ => ⟨S4x4x4096x128, .f32⟩
  | .hbm, ⟨107, _⟩ => ⟨S4x4x4096x128, .f32⟩
  | .hbm, ⟨108, _⟩ => ⟨S4x4x4096x128, .f32⟩
  | .hbm, ⟨109, _⟩ => ⟨S4x4x4096x256, .f32⟩
  | .hbm, ⟨110, _⟩ => ⟨S_, .f32⟩
  | .hbm, ⟨111, _⟩ => ⟨S4x4x4096x256, .f32⟩
  | .hbm, ⟨112, _⟩ => ⟨S4x4x4096x256, .f32⟩
  | .hbm, ⟨113, _⟩ => ⟨S4x4096x4x256, .f32⟩
  | .hbm, ⟨114, _⟩ => ⟨S16384x1024, .f32⟩
  | .hbm, ⟨115, _⟩ => ⟨S16384x2048, .f32⟩
  | .hbm, ⟨116, _⟩ => ⟨S16384x2048, .f32⟩
  | .hbm, ⟨117, _⟩ => ⟨S16384x1024, .bf16⟩
  | .hbm, ⟨118, _⟩ => ⟨S16384x1024, .bf16⟩
  | .hbm, ⟨119, _⟩ => ⟨S16384x2048, .bf16⟩
  | .hbm, ⟨120, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_cst_9 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_10 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩

abbrev nD : Nat := 1
abbrev τ : Topo := Topo.v7x

variable {F : FTy → Type} [FloatOps F]
-- ==== Proof.RowMath.lean ====
/- The row mathematics that several calls of the trunk share, over the extended reals: the root-mean-square norm of a
   row of 1024 entries, the squared-ReLU MLP of a row, and the SiLU gate. -/
module

public import Idealize.ShloMosaic.Lib.Claim
public import Idealize.ShloMosaic.Lib.Pointwise

@[expose] public section

set_option maxRecDepth 16384

noncomputable section

namespace Cert.RowMath

open Idealize.ShloMosaic

/-- The root-mean-square norm of the row `h` with weights `w`, at entry `l`:
    `h l / √(mean of the squares + 1e-6) * w l`. -/
def rmsNorm (h w : Fin 1024 → EReal) (l : Fin 1024) : EReal :=
  h l * Ideal.rsqrt (Ideal.div (∑ k, h k * h k) (Ideal.ofBits .f32 0x44800000#32) + Ideal.ofBits .f32 0x358637BD#32) * w l

/-- One hidden unit of the MLP, before its square: the positive part of row times column. -/
def hid (n col : Fin 1024 → EReal) : EReal := max (∑ k, n k * col k) 0

/-- The squared-ReLU MLP of the row `n`: `(relu (n @ wu))² @ wd` at entry `l`. -/
def mlp (n : Fin 1024 → EReal) (wu : Fin 1024 → Fin 4096 → EReal) (wd : Fin 4096 → Fin 1024 → EReal) (l : Fin 1024) : EReal :=
  ∑ f, hid n (fun k => wu k f) * hid n (fun k => wu k f) * wd f l

/-- The row `h` plus the MLP of its norm. -/
def block (h nw : Fin 1024 → EReal) (wu : Fin 1024 → Fin 4096 → EReal) (wd : Fin 4096 → Fin 1024 → EReal) (l : Fin 1024) : EReal :=
  h l + mlp (rmsNorm h nw) wu wd l

/-- The SiLU of `g`: `g / (1 + exp (-g))`. -/
def silu (g : EReal) : EReal := g * Ideal.div 1 (1 + Ideal.exp (-g))

/-- `block` of equal data is equal. -/
theorem block_congr {h h' nw nw' : Fin 1024 → EReal} {wu wu' : Fin 1024 → Fin 4096 → EReal} {wd wd' : Fin 4096 → Fin 1024 → EReal}
    {l l' : Fin 1024} (hh : ∀ k, h k = h' k) (hn : ∀ k, nw k = nw' k) (hu : ∀ k f, wu k f = wu' k f) (hd : ∀ f k, wd f k = wd' f k)
    (hl : l = l') : block h nw wu wd l = block h' nw' wu' wd' l' := by
  obtain rfl : h = h' := funext hh
  obtain rfl : nw = nw' := funext hn
  obtain rfl : wu = wu' := funext fun k => funext fun f => hu k f
  obtain rfl : wd = wd' := funext fun k => funext fun f => hd k f
  rw [hl]

/-- A sum over the 4096 hidden units is the sum of its four quarters, in order. -/
theorem sum_quarters (f : Fin 4096 → EReal) :
    ∑ k, f k = (∑ k : Fin 1024, f ⟨0 + k, by omega⟩) + (∑ k : Fin 1024, f ⟨1024 + k, by omega⟩)
      + (∑ k : Fin 1024, f ⟨2048 + k, by omega⟩) + (∑ k : Fin 1024, f ⟨3072 + k, by omega⟩) := by
  rw [Fin.sum_univ_tiles 4 1024 rfl f, Fin.sum_univ_four]
  simp only [Fin.val_zero, Fin.val_one, Fin.val_two, zero_mul, one_mul]
  rfl

/-- A sum over 2048 is the sum of its eight tiles of 256, in order. -/
theorem sum_eighths (f : Fin 2048 → EReal) :
    ∑ k, f k = (∑ k : Fin 256, f ⟨0 + k, by omega⟩) + (∑ k : Fin 256, f ⟨256 + k, by omega⟩)
      + (∑ k : Fin 256, f ⟨512 + k, by omega⟩) + (∑ k : Fin 256, f ⟨768 + k, by omega⟩)
      + (∑ k : Fin 256, f ⟨1024 + k, by omega⟩) + (∑ k : Fin 256, f ⟨1280 + k, by omega⟩)
      + (∑ k : Fin 256, f ⟨1536 + k, by omega⟩) + (∑ k : Fin 256, f ⟨1792 + k, by omega⟩) := by
  rw [Fin.sum_univ_tiles 8 256 rfl f, Fin.sum_univ_eight]
  simp only [Fin.val_zero, Fin.val_one, Fin.val_two, zero_mul, one_mul]
  rfl

end Cert.RowMath

end
-- ==== Proof.GatedBlock.lean ====
/- The gated output block of a retention layer: what one grid point computes from its rows, read index by index. -/
module

public import proofs.«01_k».proof.Proof.RowMath
public import proofs.«01_k».proof.Proof.Gen.OutMlpGatedIdeal.Value
public import Idealize.ShloMosaic.Lib.Pipeline.ValueKit

@[expose] public section

set_option maxRecDepth 16384

noncomputable section

namespace Cert.OutMlpGatedIdeal.Block

open Cert.OutMlpGatedIdeal Cert.OutMlpGatedIdeal.Gen Cert.RowMath Idealize.ShloMosaic Idealize.ShloMosaic.TcCoe

/-- The normed rows. -/
theorem normed (h : FVec Ideal S512x1024 .f32) (w : FVec Ideal S1x1024 .f32) (r : Fin 512) (l : Fin 1024) :
    k0_pay16 (F := Ideal) h w (ix2 r l) = rmsNorm (fun k => h (ix2 r k)) (fun k => w (ix2 0 k)) l := by
  pointwise [k0_pay16, rmsNorm]

/-- The first two quarters of the hidden units, added to the rows. -/
theorem half (h : FVec Ideal S512x1024 .f32) (w : FVec Ideal S1x1024 .f32) (u0 d0 u1 d1 : FVec Ideal S1x1024x1024 .bf16)
    (r : Fin 512) (l : Fin 1024) :
    k0_pay17 (F := Ideal) h w u0 d0 u1 d1 (ix2 r l)
      = h (ix2 r l)
        + (∑ k : Fin 1024, hid (rmsNorm (fun k => h (ix2 r k)) (fun k => w (ix2 0 k))) (fun x => u0 (ix3 0 x k))
            * hid (rmsNorm (fun k => h (ix2 r k)) (fun k => w (ix2 0 k))) (fun x => u0 (ix3 0 x k)) * d0 (ix3 0 k l))
        + (∑ k : Fin 1024, hid (rmsNorm (fun k => h (ix2 r k)) (fun k => w (ix2 0 k))) (fun x => u1 (ix3 0 x k))
            * hid (rmsNorm (fun k => h (ix2 r k)) (fun k => w (ix2 0 k))) (fun x => u1 (ix3 0 x k)) * d1 (ix3 0 k l)) := by
  pointwise [k0_pay17, normed]
  simp only [hid, zero_add]

/-- The last two quarters of the hidden units, added to what the first two gave. -/
theorem rest (n : FVec Ideal S512x1024 .bf16) (a : FVec Ideal S512x1024 .f32) (u0 d0 u1 d1 : FVec Ideal S1x1024x1024 .bf16)
    (r : Fin 512) (l : Fin 1024) :
    k0_pay1 (F := Ideal) n a u0 d0 u1 d1 (ix2 r l)
      = a (ix2 r l)
        + (∑ k : Fin 1024, hid (fun k => n (ix2 r k)) (fun x => u0 (ix3 0 x k))
            * hid (fun k => n (ix2 r k)) (fun x => u0 (ix3 0 x k)) * d0 (ix3 0 k l))
        + (∑ k : Fin 1024, hid (fun k => n (ix2 r k)) (fun x => u1 (ix3 0 x k))
            * hid (fun k => n (ix2 r k)) (fun x => u1 (ix3 0 x k)) * d1 (ix3 0 k l)) := by
  pointwise [k0_pay1]
  simp only [hid, zero_add]

/-- The gated row times the output projection, added to the residual row: the eight tiles of 256 are one sum. -/
theorem mixed (x0 x1 : FVec Ideal S512x2048 .bf16) (x2 : FVec Ideal S1x2048x1024 .bf16) (x3 : FVec Ideal S512x1024 .f32)
    (x4 : FVec Ideal S1x1024 .f32) (x5 : FVec Ideal S1x1024x4096 .bf16) (x6 : FVec Ideal S1x4096x1024 .bf16)
    (r : Fin 512) (l : Fin 1024) :
    k0_pay18 (F := Ideal) x0 x1 x2 x3 x4 x5 x6 (ix2 r l)
      = x3 (ix2 r l) + ∑ k : Fin 2048, silu (x1 (ix2 r k)) * x0 (ix2 r k) * x2 (ix3 0 k l) := by
  rw [sum_eighths]
  pointwise [k0_pay18, k0_pay2, k0_pay3, k0_pay4, k0_pay5, k0_pay6, k0_pay7, k0_pay8, k0_pay9, k0_pay10, k0_pay11, k0_pay12, k0_pay13, k0_pay14, k0_pay15, silu]
  simp only [zero_add, zero_sub]

/-- What one grid point stores at row `r`, from its seven input blocks. -/
theorem stored (x0 x1 : FVec Ideal S512x2048 .bf16) (x2 : FVec Ideal S1x2048x1024 .bf16) (x3 : FVec Ideal S512x1024 .f32)
    (x4 : FVec Ideal S1x1024 .f32) (x5 : FVec Ideal S1x1024x4096 .bf16) (x6 : FVec Ideal S1x4096x1024 .bf16)
    (y : S512x1024.Idx) :
    out0_7 (F := Ideal) x0 x1 x2 x3 x4 x5 x6 y
      = block (fun l => x3 (ix2 (y 0) l) + ∑ k : Fin 2048, silu (x1 (ix2 (y 0) k)) * x0 (ix2 (y 0) k) * x2 (ix3 0 k l))
          (fun k => x4 (ix2 0 k)) (fun k f => x5 (ix3 0 k f)) (fun f l => x6 (ix3 0 f l)) (y 1) := by
  idx_vars y
  unfold out0_7
  frame_out
  rw [rest, half]
  simp only [normed, mixed]
  unfold block mlp
  rw [sum_quarters]
  pointwise
  simp only [add_assoc]

/-- What the call computes at row `r`, column `l`, as one function of its seven arguments: the residual row plus its
    gated projection, then the MLP of that row's norm on top. -/
def G (o g : FVec Ideal S16384x2048 .bf16) (w : FVec Ideal S1x2048x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l)
      + ∑ k : Fin 2048, silu (g (ix2 r k)) * o (ix2 r k) * w (ix3 0 k l))
    (fun k => nw (ix1 k)) (fun k f => wu (ix3 0 k f)) (fun f l => wd (ix3 0 f l)) l

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![0, 0, 0] ∧ win0_6.index t = ![0, 0, 0]
    ∧ win0_7.index t = ![t.val, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg3) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v1 : FVec Ideal S1x1024 .f32) (ix2 0 k) = m ((c : Thread nD τ).loc main_arg4) (ix1 k) := by
  have h : ∀ x : FVec Ideal S1024 .f32, shapeCast S1x1024 x shapeCasts_S1024_S1x1024 (ix2 0 k) = x (ix1 k) := fun x => by pointwise
  entry_read
  exact h _

/-- The result array after the run. -/
theorem final (c : Dev nD) :
    (dats m 0 c).arrAt 7 (cfgs 0).N = fun i : S16384x1024.Idx =>
      G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (i 0) (i 1) := by
  refine (dats m 0 c).arrAt_eq_of_covers 7 _ (by decide +kernel) fun t _ y => ?_
  blk_simp
  rw [after0_7, stored]
  unfold G
  idx_vars y
  refine block_congr (fun l => Ideal.add_congr ?_ (Fin.sum_fin_congr fun k => Ideal.mul_congr (Ideal.mul_congr (congrArg silu ?_) ?_) ?_)) (fun k => ?_) (fun k f => ?_) (fun f k => ?_) ?_
  · have ht : t.val < 32 := lt_of_lt_of_eq t.isLt N_0
    refine Eq.trans ?_ ((entry_x m c ⟨t.val * 512 + y0, by omega⟩ l).trans ?_)
    · blk_point [iblk, idx t]
    · blk_ext [idx t]
  · blk_point [iblk, V, idx t]
  · blk_point [iblk, V, idx t]
  · blk_point [iblk, V, idx t]
  · refine Eq.trans ?_ (entry_nw m c k)
    blk_point [iblk, idx t]
  · blk_point [iblk, V, idx t]
  · blk_point [iblk, V, idx t]
  · exact Fin.ext (by blk_simp [idx t])

end Cert.OutMlpGatedIdeal.Block

end
-- ==== Proof.GatedRef.lean ====
/- The gated output block as the reference computes it, read index by index. -/
module

public import proofs.«01_k».proof.Proof.RowMath
public import proofs.«01_k».proof.Proof.Gen.GatedBlockIdeal.Run
public import Idealize.ShloMosaic.Lib.Pipeline.ValueKit

@[expose] public section

set_option maxRecDepth 16384

noncomputable section

namespace Cert.GatedBlockIdeal.Rows

open Cert.GatedBlockIdeal Cert.GatedBlockIdeal.Gen Cert.RowMath Idealize.ShloMosaic Idealize.ShloMosaic.TcCoe

/-- The residual rows plus the gated projection. -/
def mixV (o g : FVec Ideal S16384x2048 .bf16) (w : FVec Ideal S1x2048x1024 .bf16) (x : FVec Ideal S4x4096x1024 .f32) : FVec Ideal S16384x1024 .f32 :=
  addf (shapeCast _ x shapeCasts_S4x4096x1024_S16384x1024) (Host.dotGeneral dot_S16384x2048_S2048x1024_S16384x1024_1_0_0_1_n_n none (mulf (mulf (extf .f32 g bitsLt_bf16_f32) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 g bitsLt_bf16_f32)))))) (extf .f32 o bitsLt_bf16_f32)) (extf .f32 (shapeCast _ w shapeCasts_S1x2048x1024_S2048x1024) bitsLt_bf16_f32))

theorem mixV_at (o g : FVec Ideal S16384x2048 .bf16) (w : FVec Ideal S1x2048x1024 .bf16) (x : FVec Ideal S4x4096x1024 .f32) (r : Fin 16384) (l : Fin 1024) :
    mixV o g w x (ix2 r l) = x (ix3 ⟨r / 4096, by omega⟩ ⟨r % 4096, by omega⟩ l)
      + ∑ k : Fin 2048, silu (g (ix2 r k)) * o (ix2 r k) * w (ix3 0 k l) := by
  pointwise [mixV, silu]

/-- The norm of every row. -/
def normV (h : FVec Ideal S16384x1024 .f32) (nw : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 nw))

/-- The hidden units before their square. -/
def hidV (n : FVec Ideal S16384x1024 .f32) (wu : FVec Ideal S1x1024x4096 .bf16) : FVec Ideal S16384x4096 .f32 :=
  maximumf (Host.dotGeneral dot_S16384x1024_S1024x4096_S16384x4096_1_0_0_1_n_n none n (extf .f32 (shapeCast _ wu shapeCasts_S1x1024x4096_S1024x4096) bitsLt_bf16_f32)) (broadcastInDim S16384x4096 ![] bcast_S_S16384x4096 (constant S_ .f32 0x00000000#32))

/-- The rows plus the MLP's output. -/
def outV (h : FVec Ideal S16384x1024 .f32) (u : FVec Ideal S16384x4096 .f32) (wd : FVec Ideal S1x4096x1024 .bf16) : FVec Ideal S16384x1024 .f32 :=
  addf h (Host.dotGeneral dot_S16384x4096_S4096x1024_S16384x1024_1_0_0_1_n_n none (mulf u u) (extf .f32 (shapeCast _ wd shapeCasts_S1x4096x1024_S4096x1024) bitsLt_bf16_f32))

theorem normV_at (h : FVec Ideal S16384x1024 .f32) (nw : FVec Ideal S1024 .f32) (r : Fin 16384) (l : Fin 1024) :
    normV h nw (ix2 r l) = rmsNorm (fun k => h (ix2 r k)) (fun k => nw (ix1 k)) l := by
  pointwise [normV, rmsNorm]

theorem hidV_at (n : FVec Ideal S16384x1024 .f32) (wu : FVec Ideal S1x1024x4096 .bf16) (r : Fin 16384) (f : Fin 4096) :
    hidV n wu (ix2 r f) = hid (fun k => n (ix2 r k)) (fun k => wu (ix3 0 k f)) := by
  pointwise [hidV, hid]

theorem outV_at (h : FVec Ideal S16384x1024 .f32) (u : FVec Ideal S16384x4096 .f32) (wd : FVec Ideal S1x4096x1024 .bf16) (r : Fin 16384) (l : Fin 1024) :
    outV h u wd (ix2 r l) = h (ix2 r l) + ∑ f : Fin 4096, u (ix2 r f) * u (ix2 r f) * wd (ix3 0 f l) := by
  pointwise [outV]

/-- The whole reference term at row `r`, column `l`. -/
theorem whole (h : FVec Ideal S16384x1024 .f32) (nw : FVec Ideal S1024 .f32) (wu : FVec Ideal S1x1024x4096 .bf16)
    (wd : FVec Ideal S1x4096x1024 .bf16) (r : Fin 16384) (l : Fin 1024) :
    outV h (hidV (normV h nw) wu) wd (ix2 r l)
      = block (fun k => h (ix2 r k)) (fun k => nw (ix1 k)) (fun k f => wu (ix3 0 k f)) (fun f l => wd (ix3 0 f l)) l := by
  rw [outV_at]
  simp only [hidV_at, normV_at]
  rfl

/-- What the reference computes at row `r`, column `l`, as one function of its arguments. -/
def R (o g : FVec Ideal S16384x2048 .bf16) (w : FVec Ideal S1x2048x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l)
      + ∑ k : Fin 2048, silu (g (ix2 r k)) * o (ix2 r k) * w (ix3 0 k l))
    (fun k => nw (ix1 k)) (fun k f => wu (ix3 0 k f)) (fun f l => wd (ix3 0 f l)) l

variable (m : (ℓ : Loc nD τ sig) → Buf (Elt Ideal) ℓ)

/-- The reference's result buffer, index by index. -/
theorem ref_eq (c : Dev nD) :
    (Value.res_out0 (F := Ideal) m c : FVec Ideal S16384x1024 .f32)
      = fun i => R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  funext i
  idx_vars i
  refine (whole (mixV (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) i0 i1).trans ?_
  simp only [mixV_at]
  rfl

end Cert.GatedBlockIdeal.Rows

end
-- ==== Proof.GatedClaim.lean ====
/- The value claim of the gated output block. -/
module

public import proofs.«01_k».proof.Defs
public import proofs.«01_k».proof.Proof.GatedBlock
public import proofs.«01_k».proof.Proof.GatedRef
public import Idealize.ShloMosaic.Adequacy
public import Idealize.ShloMosaic.Init

@[expose] public section

set_option maxRecDepth 16384

noncomputable section

namespace Cert.Proof

open Idealize.ShloMosaic Idealize.SL.Sem

/-- The gated output block computes what the reference computes. -/
theorem gated : Cert.algebraic_OutMlpGatedIdeal_GatedBlockIdeal := by
  pair_intro
  · run_from Cert.OutMlpGatedIdeal.Gen.run_main m g
  · run_from Cert.GatedBlockIdeal.Value.run m' g'
    refine (Cert.GatedBlockIdeal.Rows.ref_eq m' c).trans (Eq.trans ?_ (Cert.OutMlpGatedIdeal.Block.final m c).symm)
    obtain ⟨a0, a1, a2, a3, a4, a5, a6⟩ := hagree c
    rw [a0, a1, a2, a3, a4, a5, a6]
    rfl

end Cert.Proof
-- ==== Proof.PlainBlock.lean ====
/- The ungated output block of an attention layer: what one grid point computes from its rows, read index by index, and
   the weights of the next layer it passes on. -/
module

public import proofs.«01_k».proof.Proof.RowMath
public import proofs.«01_k».proof.Proof.Gen.OutMlpIdeal.Value
public import Idealize.ShloMosaic.Lib.Pipeline.ValueKit

@[expose] public section

set_option maxRecDepth 16384

noncomputable section

namespace Cert.OutMlpIdeal.Block

open Cert.OutMlpIdeal Cert.OutMlpIdeal.Gen Cert.RowMath Idealize.ShloMosaic Idealize.ShloMosaic.TcCoe

/-- The residual rows plus the projection of the transposed mixer output. -/
theorem mixed (x0 : FVec Ideal S1024x512 .bf16) (x1 : FVec Ideal S1x1024x1024 .bf16) (x2 : FVec Ideal S512x1024 .f32) (r : Fin 512) (l : Fin 1024) :
    k0_pay6 (F := Ideal) x0 x1 x2 (ix2 r l) = x2 (ix2 r l) + ∑ k : Fin 1024, x0 (ix2 k r) * x1 (ix3 0 k l) := by
  pointwise [k0_pay6]

/-- The normed rows. -/
theorem normed (x0 : FVec Ideal S1024x512 .bf16) (x1 : FVec Ideal S1x1024x1024 .bf16) (x2 : FVec Ideal S512x1024 .f32) (w : FVec Ideal S1x1024 .f32)
    (r : Fin 512) (l : Fin 1024) :
    k0_pay7 (F := Ideal) x0 x1 x2 w (ix2 r l) = rmsNorm (fun k => k0_pay6 (F := Ideal) x0 x1 x2 (ix2 r k)) (fun k => w (ix2 0 k)) l := by
  pointwise [k0_pay7, rmsNorm]

/-- The first quarter of the hidden units, added to the rows. -/
theorem quarter (x0 : FVec Ideal S1024x512 .bf16) (x1 : FVec Ideal S1x1024x1024 .bf16) (x2 : FVec Ideal S512x1024 .f32) (w : FVec Ideal S1x1024 .f32)
    (u d : FVec Ideal S1x1024x1024 .bf16) (r : Fin 512) (l : Fin 1024) :
    k0_pay8 (F := Ideal) x0 x1 x2 w u d (ix2 r l)
      = k0_pay6 (F := Ideal) x0 x1 x2 (ix2 r l)
        + ∑ k : Fin 1024, hid (fun k => k0_pay7 (F := Ideal) x0 x1 x2 w (ix2 r k)) (fun x => u (ix3 0 x k))
            * hid (fun k => k0_pay7 (F := Ideal) x0 x1 x2 w (ix2 r k)) (fun x => u (ix3 0 x k)) * d (ix3 0 k l) := by
  pointwise [k0_pay8, hid]

/-- The squares of the second quarter of the hidden units. -/
theorem square (x0 : FVec Ideal S1024x512 .bf16) (x1 : FVec Ideal S1x1024x1024 .bf16) (x2 : FVec Ideal S512x1024 .f32) (w : FVec Ideal S1x1024 .f32)
    (u : FVec Ideal S1x1024x1024 .bf16) (r : Fin 512) (k : Fin 1024) :
    k0_pay9 (F := Ideal) x0 x1 x2 w u (ix2 r k)
      = hid (fun k => k0_pay7 (F := Ideal) x0 x1 x2 w (ix2 r k)) (fun x => u (ix3 0 x k))
            * hid (fun k => k0_pay7 (F := Ideal) x0 x1 x2 w (ix2 r k)) (fun x => u (ix3 0 x k)) := by
  pointwise [k0_pay9, hid]

/-- The other quarters, added in turn. -/
theorem rest (n : FVec Ideal S512x1024 .bf16) (a : FVec Ideal S512x1024 .f32) (s : FVec Ideal S512x1024 .bf16) (d1 u2 d2 u3 d3 : FVec Ideal S1x1024x1024 .bf16)
    (r : Fin 512) (l : Fin 1024) :
    k0_pay1 (F := Ideal) n a s d1 u2 d2 u3 d3 (ix2 r l)
      = a (ix2 r l)
        + (∑ k : Fin 1024, s (ix2 r k) * d1 (ix3 0 k l))
        + (∑ k : Fin 1024, hid (fun k => n (ix2 r k)) (fun x => u2 (ix3 0 x k))
            * hid (fun k => n (ix2 r k)) (fun x => u2 (ix3 0 x k)) * d2 (ix3 0 k l))
        + (∑ k : Fin 1024, hid (fun k => n (ix2 r k)) (fun x => u3 (ix3 0 x k))
            * hid (fun k => n (ix2 r k)) (fun x => u3 (ix3 0 x k)) * d3 (ix3 0 k l)) := by
  pointwise [k0_pay1, hid]

/-- What one grid point stores at row `r`, from its input blocks. -/
theorem stored (x0 : FVec Ideal S1024x512 .bf16) (x1 : FVec Ideal S1x1024x1024 .bf16) (x2 : FVec Ideal S512x1024 .f32) (x3 : FVec Ideal S1x1024 .f32)
    (x4 : FVec Ideal S1x1024x4096 .bf16) (x5 : FVec Ideal S1x4096x1024 .bf16) (x6 : FVec Ideal S1x32x3072 .f32) (x7 : FVec Ideal S1x32x1024 .f32)
    (x8 : FVec Ideal S1x32x4096 .f32) (x9 : FVec Ideal S1x128x1024 .f32) (y : S512x1024.Idx) :
    out0_10 (F := Ideal) x0 x1 x2 x3 x4 x5 x6 x7 x8 x9 y
      = block (fun l => x2 (ix2 (y 0) l) + ∑ k : Fin 1024, x0 (ix2 k (y 0)) * x1 (ix3 0 k l))
          (fun k => x3 (ix2 0 k)) (fun k f => x4 (ix3 0 k f)) (fun f l => x5 (ix3 0 f l)) (y 1) := by
  idx_vars y
  unfold out0_10
  frame_out
  rw [rest, quarter]
  simp only [square, normed, mixed]
  unfold block mlp
  rw [sum_quarters]
  pointwise
  simp only [add_assoc]

/-- What the call computes at row `r`, column `l`, as one function of its arguments: the residual row plus its
    projection, then the MLP of that row's norm on top. -/
def G (o : FVec Ideal S1024x16384 .bf16) (w : FVec Ideal S1x1024x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l) + ∑ k : Fin 1024, o (ix2 k r) * w (ix3 0 k l))
    (fun k => nw (ix1 k)) (fun k f => wu (ix3 0 k f)) (fun f l => wd (ix3 0 f l)) l

theorem idx : ∀ t : Fin cfg0.N, win0_0.index t = ![0, t.val] ∧ win0_1.index t = ![0, 0, 0]
    ∧ win0_2.index t = ![t.val, 0] ∧ win0_3.index t = ![0, 0] ∧ win0_4.index t = ![0, 0, 0] ∧ win0_5.index t = ![0, 0, 0]
    ∧ win0_10.index t = ![t.val, 0] :=
  (by decide +kernel : ∀ t : Fin grid0.N, _)

theorem idx_cast : ∀ t : Fin cfg0.N, win0_6.index t = ![0, t.val, 0] ∧ win0_7.index t = ![0, t.val, 0]
    ∧ win0_8.index t = ![2, t.val, 0] ∧ win0_9.index t = ![2, t.val, 0] ∧ win0_11.index t = ![0, t.val, 0] ∧ win0_12.index t = ![0, t.val, 0]
    ∧ win0_13.index t = ![0, t.val, 0] ∧ win0_14.index t = ![0, t.val, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg2) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v1 : FVec Ideal S1x1024 .f32) (ix2 0 k) = m ((c : Thread nD τ).loc main_arg3) (ix1 k) := by
  have h : ∀ x : FVec Ideal S1024 .f32, shapeCast S1x1024 x shapeCasts_S1024_S1x1024 (ix2 0 k) = x (ix1 k) := fun x => by pointwise
  entry_read
  exact h _

/-- The first result array after the run. -/
theorem final (c : Dev nD) :
    (dats m 0 c).arrAt 10 (cfgs 0).N = fun i : S16384x1024.Idx =>
      G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (i 0) (i 1) := by
  refine (dats m 0 c).arrAt_eq_of_covers 10 _ (by decide +kernel) fun t _ y => ?_
  blk_simp
  rw [after0_10, stored]
  unfold G
  idx_vars y
  refine block_congr (fun l => Ideal.add_congr ?_ (Fin.sum_fin_congr fun k => Ideal.mul_congr ?_ ?_)) (fun k => ?_) (fun k f => ?_) (fun f k => ?_) ?_
  · have ht : t.val < 32 := lt_of_lt_of_eq t.isLt N_0
    refine Eq.trans ?_ ((entry_x m c ⟨t.val * 512 + y0, by omega⟩ l).trans ?_)
    · blk_point [iblk, idx t]
    · blk_ext [idx t]
  · blk_point [iblk, V, idx t]
  · blk_point [iblk, V, idx t]
  · refine Eq.trans ?_ (entry_nw m c k)
    blk_point [iblk, idx t]
  · blk_point [iblk, V, idx t]
  · blk_point [iblk, V, idx t]
  · exact Fin.ext (by blk_simp [idx t])

/-- The next layer's input projection, passed on as it is. -/
theorem final11 (c : Dev nD) :
    (dats m 0 c).arrAt 11 (cfgs 0).N = fun i : S1x1024x3072.Idx => m ((c : Thread nD τ).loc main_arg6) i := by
  refine (dats m 0 c).arrAt_eq_of_covers 11 _ (by decide +kernel) fun t _ y => ?_
  blk_simp
  rw [after0_11]
  unfold out0_11
  frame_out
  pointwise [k0_pay2]
  blk_point [iblk, V, idx_cast t]

/-- The next layer's output projection. -/
theorem final12 (c : Dev nD) :
    (dats m 0 c).arrAt 12 (cfgs 0).N = fun i : S1x1024x1024.Idx => m ((c : Thread nD τ).loc main_arg7) i := by
  refine (dats m 0 c).arrAt_eq_of_covers 12 _ (by decide +kernel) fun t _ y => ?_
  blk_simp
  rw [after0_12]
  unfold out0_12
  frame_out
  pointwise [k0_pay3]
  blk_point [iblk, V, idx_cast t]

/-- The next layer's up projection: layer 2 of the stack. -/
theorem final13 (c : Dev nD) :
    (dats m 0 c).arrAt 13 (cfgs 0).N = fun i : S1x1024x4096.Idx => m ((c : Thread nD τ).loc main_arg8) (ix3 2 (i 1) (i 2)) := by
  refine (dats m 0 c).arrAt_eq_of_covers 13 _ (by decide +kernel) fun t _ y => ?_
  blk_simp
  rw [after0_13]
  unfold out0_13
  frame_out
  pointwise [k0_pay4]
  blk_point [iblk, V, idx_cast t]

/-- The next layer's down projection: layer 2 of the stack. -/
theorem final14 (c : Dev nD) :
    (dats m 0 c).arrAt 14 (cfgs 0).N = fun i : S1x4096x1024.Idx => m ((c : Thread nD τ).loc main_arg9) (ix3 2 (i 1) (i 2)) := by
  refine (dats m 0 c).arrAt_eq_of_covers 14 _ (by decide +kernel) fun t _ y => ?_
  blk_simp
  rw [after0_14]
  unfold out0_14
  frame_out
  pointwise [k0_pay5]
  blk_point [iblk, V, idx_cast t]

end Cert.OutMlpIdeal.Block

end
-- ==== Proof.PlainRef.lean ====
/- The ungated output block as the reference computes it, read index by index. -/
module

public import proofs.«01_k».proof.Proof.RowMath
public import proofs.«01_k».proof.Proof.Gen.PlainBlockIdeal.Run
public import Idealize.ShloMosaic.Lib.Pipeline.ValueKit

@[expose] public section

set_option maxRecDepth 16384

noncomputable section

namespace Cert.PlainBlockIdeal.Rows

open Cert.PlainBlockIdeal Cert.PlainBlockIdeal.Gen Cert.RowMath Idealize.ShloMosaic Idealize.ShloMosaic.TcCoe

/-- The residual rows plus the projection of the transposed mixer output. -/
def mixV (o : FVec Ideal S1024x16384 .bf16) (w : FVec Ideal S1x1024x1024 .bf16) (x : FVec Ideal S4x4096x1024 .f32) : FVec Ideal S16384x1024 .f32 :=
  addf (shapeCast _ x shapeCasts_S4x4096x1024_S16384x1024) (Host.dotGeneral dot_S16384x1024_S1024x1024_S16384x1024_1_0_0_1_n_n none (transpose S16384x1024 [1, 0] (extf .f32 o bitsLt_bf16_f32) transposes_S1024x16384_S16384x1024_1_0) (extf .f32 (shapeCast _ w shapeCasts_S1x1024x1024_S1024x1024) bitsLt_bf16_f32))

theorem mixV_at (o : FVec Ideal S1024x16384 .bf16) (w : FVec Ideal S1x1024x1024 .bf16) (x : FVec Ideal S4x4096x1024 .f32) (r : Fin 16384) (l : Fin 1024) :
    mixV o w x (ix2 r l) = x (ix3 ⟨r / 4096, by omega⟩ ⟨r % 4096, by omega⟩ l) + ∑ k : Fin 1024, o (ix2 k r) * w (ix3 0 k l) := by
  pointwise [mixV]

/-- The norm of every row. -/
def normV (h : FVec Ideal S16384x1024 .f32) (nw : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 nw))

/-- The hidden units before their square. -/
def hidV (n : FVec Ideal S16384x1024 .f32) (wu : FVec Ideal S1x1024x4096 .bf16) : FVec Ideal S16384x4096 .f32 :=
  maximumf (Host.dotGeneral dot_S16384x1024_S1024x4096_S16384x4096_1_0_0_1_n_n none n (extf .f32 (shapeCast _ wu shapeCasts_S1x1024x4096_S1024x4096) bitsLt_bf16_f32)) (broadcastInDim S16384x4096 ![] bcast_S_S16384x4096 (constant S_ .f32 0x00000000#32))

/-- The rows plus the MLP's output. -/
def outV (h : FVec Ideal S16384x1024 .f32) (u : FVec Ideal S16384x4096 .f32) (wd : FVec Ideal S1x4096x1024 .bf16) : FVec Ideal S16384x1024 .f32 :=
  addf h (Host.dotGeneral dot_S16384x4096_S4096x1024_S16384x1024_1_0_0_1_n_n none (mulf u u) (extf .f32 (shapeCast _ wd shapeCasts_S1x4096x1024_S4096x1024) bitsLt_bf16_f32))

theorem normV_at (h : FVec Ideal S16384x1024 .f32) (nw : FVec Ideal S1024 .f32) (r : Fin 16384) (l : Fin 1024) :
    normV h nw (ix2 r l) = rmsNorm (fun k => h (ix2 r k)) (fun k => nw (ix1 k)) l := by
  pointwise [normV, rmsNorm]

theorem hidV_at (n : FVec Ideal S16384x1024 .f32) (wu : FVec Ideal S1x1024x4096 .bf16) (r : Fin 16384) (f : Fin 4096) :
    hidV n wu (ix2 r f) = hid (fun k => n (ix2 r k)) (fun k => wu (ix3 0 k f)) := by
  pointwise [hidV, hid]

theorem outV_at (h : FVec Ideal S16384x1024 .f32) (u : FVec Ideal S16384x4096 .f32) (wd : FVec Ideal S1x4096x1024 .bf16) (r : Fin 16384) (l : Fin 1024) :
    outV h u wd (ix2 r l) = h (ix2 r l) + ∑ f : Fin 4096, u (ix2 r f) * u (ix2 r f) * wd (ix3 0 f l) := by
  pointwise [outV]

/-- The whole reference term at row `r`, column `l`. -/
theorem whole (h : FVec Ideal S16384x1024 .f32) (nw : FVec Ideal S1024 .f32) (wu : FVec Ideal S1x1024x4096 .bf16)
    (wd : FVec Ideal S1x4096x1024 .bf16) (r : Fin 16384) (l : Fin 1024) :
    outV h (hidV (normV h nw) wu) wd (ix2 r l)
      = block (fun k => h (ix2 r k)) (fun k => nw (ix1 k)) (fun k f => wu (ix3 0 k f)) (fun f l => wd (ix3 0 f l)) l := by
  rw [outV_at]
  simp only [hidV_at, normV_at]
  rfl

/-- What the reference computes at row `r`, column `l`, as one function of its arguments. -/
def R (o : FVec Ideal S1024x16384 .bf16) (w : FVec Ideal S1x1024x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l) + ∑ k : Fin 1024, o (ix2 k r) * w (ix3 0 k l))
    (fun k => nw (ix1 k)) (fun k f => wu (ix3 0 k f)) (fun f l => wd (ix3 0 f l)) l

variable (m : (ℓ : Loc nD τ sig) → Buf (Elt Ideal) ℓ)

/-- The reference's first result buffer, index by index. -/
theorem ref_eq (c : Dev nD) :
    (Value.res_out0 (F := Ideal) m c : FVec Ideal S16384x1024 .f32)
      = fun i => R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  funext i
  idx_vars i
  refine (whole (mixV (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) i0 i1).trans ?_
  simp only [mixV_at]
  rfl

/-- The third layer of the stacked up projections, in the narrower format. -/
theorem third (w : FVec Ideal S4x1024x4096 .f32) :
    truncf .bf16 (extractStridedSlice S1x1024x4096 ![2, 0, 0] w slices_S4x1024x4096_S1x1024x4096_2_0_0) bitsLt_bf16_f32
      = fun i : S1x1024x4096.Idx => w (ix3 2 (i 1) (i 2)) := by
  funext i
  idx_vars i
  pointwise
  blk_ext

/-- The third layer of the stacked down projections, in the narrower format. -/
theorem third' (w : FVec Ideal S4x4096x1024 .f32) :
    truncf .bf16 (extractStridedSlice S1x4096x1024 ![2, 0, 0] w slices_S4x4096x1024_S1x4096x1024_2_0_0) bitsLt_bf16_f32
      = fun i : S1x4096x1024.Idx => w (ix3 2 (i 1) (i 2)) := by
  funext i
  idx_vars i
  pointwise
  blk_ext

end Cert.PlainBlockIdeal.Rows

end
-- ==== Proof.PlainClaim.lean ====
/- The value claim of the ungated output block. -/
module

public import proofs.«01_k».proof.Defs
public import proofs.«01_k».proof.Proof.PlainBlock
public import proofs.«01_k».proof.Proof.PlainRef
public import Idealize.ShloMosaic.Adequacy
public import Idealize.ShloMosaic.Init

@[expose] public section

set_option maxRecDepth 16384

noncomputable section

namespace Cert.Proof

open Idealize.ShloMosaic Idealize.SL.Sem

/-- The ungated output block computes what the reference computes, and passes the same weights on. -/
theorem plain : Cert.algebraic_OutMlpIdeal_PlainBlockIdeal := by
  pair_intro
  · run_from Cert.OutMlpIdeal.Value.run_blocks m g
  · refine (θ_run _ _ _).mono (fun r h c => ?_) (Cert.PlainBlockIdeal.Value.run m' g')
    obtain ⟨h0, h1, h2, h3, h4, hargs⟩ := h c
    obtain ⟨a0, a1, a2, a3, a4, a5, a6, a7, a8, a9⟩ := hagree c
    refine ⟨h0.trans ?_, h1.trans ?_, h2.trans ?_, h3.trans ?_, h4.trans ?_, hargs⟩
    · refine (Cert.PlainBlockIdeal.Rows.ref_eq m' c).trans (Eq.trans ?_ (Cert.OutMlpIdeal.Block.final m c).symm)
      rw [a0, a1, a2, a3, a4, a5]
      rfl
    · rw [a6]; exact (Cert.OutMlpIdeal.Block.final11 m c).symm
    · rw [a7]; exact (Cert.OutMlpIdeal.Block.final12 m c).symm
    · rw [a8]; exact Eq.trans (Cert.PlainBlockIdeal.Rows.third _) (Cert.OutMlpIdeal.Block.final13 m c).symm
    · rw [a9]; exact Eq.trans (Cert.PlainBlockIdeal.Rows.third' _) (Cert.OutMlpIdeal.Block.final14 m c).symm

end Cert.Proof
-- ==== Proof.RotaryMath.lean ====
/- The rotary embedding of one head of one row, as a function of the row's projection. -/
module

public import proofs.«01_k».proof.Proof.RowMath

@[expose] public section

noncomputable section

namespace Cert.RowMath

open Idealize.ShloMosaic

/-- Entry `d` of the rotated head: the two halves of `a`, turned by the angles whose cosines and sines are given. -/
def rotary (a : Fin 256 → EReal) (co si : Fin 128 → EReal) (d : Fin 256) : EReal :=
  if h : d.val < 128 then a d * co ⟨d.val, h⟩ - a ⟨d.val + 128, by omega⟩ * si ⟨d.val, h⟩
  else a ⟨d.val - 128, by omega⟩ * si ⟨d.val - 128, by omega⟩ + a d * co ⟨d.val - 128, by omega⟩

/-- Position `j` of the first half of a head. -/
def lo (j : Fin 128) : Fin 256 := ⟨j.val, by omega⟩

/-- Position `j` of the second half of a head. -/
def hi (j : Fin 128) : Fin 256 := ⟨j.val + 128, by omega⟩

/-- The first half of a rotated head. -/
theorem rotary_low (a : Fin 256 → EReal) (co si : Fin 128 → EReal) (d : Fin 256) (j : Fin 128) (h : d.val = j.val) :
    rotary a co si d = a (lo j) * co j - a (hi j) * si j := by
  obtain rfl : d = lo j := Fin.ext h
  exact dif_pos j.isLt

/-- The second half of a rotated head. -/
theorem rotary_high (a : Fin 256 → EReal) (co si : Fin 128 → EReal) (d : Fin 256) (j : Fin 128) (h : d.val = j.val + 128) :
    rotary a co si d = a (lo j) * si j + a (hi j) * co j := by
  obtain rfl : d = hi j := Fin.ext h
  unfold rotary
  rw [dif_neg (by simp [hi])]
  simp only [hi, lo, Nat.add_sub_cancel]

/-- Column `n` of a row times a matrix. -/
def dotCol {N : ℕ} (a : Fin 1024 → EReal) (w : Fin 1024 → Fin N → EReal) (n : Fin N) : EReal := ∑ k : Fin 1024, a k * w k n

theorem rotary_congr {a a' : Fin 256 → EReal} {co co' si si' : Fin 128 → EReal} {d d' : Fin 256} (ha : ∀ e, a e = a' e)
    (hc : ∀ j, co j = co' j) (hs : ∀ j, si j = si' j) (hd : d = d') : rotary a co si d = rotary a' co' si' d' := by
  rw [funext ha, funext hc, funext hs, hd]

end Cert.RowMath

end
-- ==== Proof.RetProjBlock.lean ====
/- The input projection of a retention layer: what one grid point computes from its rows, read index by index. -/
module

public import proofs.«01_k».proof.Proof.RotaryMath
public import proofs.«01_k».proof.Proof.Gen.RetProjIdeal.Value
public import Idealize.ShloMosaic.Lib.Pipeline.ValueKit

@[expose] public section

set_option maxRecDepth 16384

noncomputable section

namespace Cert.RetProjIdeal.Block

open Cert.RetProjIdeal Cert.RetProjIdeal.Gen Cert.RowMath Idealize.ShloMosaic Idealize.ShloMosaic.TcCoe

/-- The normed row `r` of a block. -/
def row (x0 : FVec Ideal S512x1024 .f32) (x1 : FVec Ideal S1x1024 .f32) (r : Fin 512) (k : Fin 1024) : EReal :=
  rmsNorm (fun k => x0 (ix2 r k)) (fun k => x1 (ix2 0 k)) k

/-- The normed rows the body holds. -/
theorem held (a0 : FVec Ideal S512x1024 .f32) (a1 : FVec Ideal S1x1024 .f32) (r : Fin 512) (k : Fin 1024) :
    k0_pay8 (F := Ideal) (k0_pay5 (View.ld a0 r0_3)) (k0_pay6 (View.ld a1 r0_4)) (k0_pay7 (View.ld a0 r0_3)) (ix2 r k) = row a0 a1 r k := by
  pointwise [k0_pay8, k0_pay7, k0_pay6, k0_pay5, row, rmsNorm]

/-- Column `n` of the projection of a block's row `r`. -/
def col (x0 : FVec Ideal S512x1024 .f32) (x1 : FVec Ideal S1x1024 .f32) (x2 : FVec Ideal S1x1024x6144 .bf16) (r : Fin 512) (n : Fin 6144) : EReal :=
  dotCol (row x0 x1 r) (fun k n => x2 (ix3 0 k n)) n

/-- The stored queries: each head of the projected row, rotated. -/
theorem stored8 (a0 : FVec Ideal S512x1024 .f32) (a1 : FVec Ideal S1x1024 .f32) (a2 : FVec Ideal S1x1024x6144 .bf16) (a3 a4 : FVec Ideal S512x128 .f32)
    (a5 : FVec Ideal S1x64x1024 .f32) (a6 : FVec Ideal S1x32x4096 .f32) (a7 : FVec Ideal S1x128x1024 .f32) (r : Fin 512) (l : Fin 1024) :
    out0_8 (F := Ideal) a0 a1 a2 a3 a4 a5 a6 a7 (ix2 r l)
      = rotary (fun e => col a0 a1 a2 r ⟨l.val / 256 * 256 + e.val, by omega⟩) (fun j => a3 (ix2 r j)) (fun j => a4 (ix2 r j))
          ⟨l.val % 256, by omega⟩ := by
  unfold out0_8
  canon_tiles x h
  all_goals
    idx_vars x
    obtain rfl : r = x0 := Fin.ext h0
    first
      | rw [rotary_high _ _ _ _ x1 (show l.val % 256 = _ by have h1' : l.val = _ := h1; omega)]
      | rw [rotary_low _ _ _ _ x1 (show l.val % 256 = _ by have h1' : l.val = _ := h1; omega)]
    have h1' : l.val = _ := h1
    unfold col dotCol
    simp only [← held]
    simp only [k0_pay79, k0_pay78, k0_pay77, k0_pay76, k0_pay75, k0_pay74, k0_pay73, k0_pay72, k0_pay71]
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    first
      | refine congrArg₂ (fun p q : EReal => p + q) (Ideal.mul_congr (Fin.sum_fin_congr fun k => Ideal.mul_congr rfl ?_) rfl) (Ideal.mul_congr (Fin.sum_fin_congr fun k => Ideal.mul_congr rfl ?_) rfl)
      | refine congrArg₂ (fun p q : EReal => p - q) (Ideal.mul_congr (Fin.sum_fin_congr fun k => Ideal.mul_congr rfl ?_) rfl) (Ideal.mul_congr (Fin.sum_fin_congr fun k => Ideal.mul_congr rfl ?_) rfl)
    all_goals blk_ext [lo, hi]

/-- The stored keys: each head of the projected row, rotated and scaled. -/
theorem stored9 (a0 : FVec Ideal S512x1024 .f32) (a1 : FVec Ideal S1x1024 .f32) (a2 : FVec Ideal S1x1024x6144 .bf16) (a3 a4 : FVec Ideal S512x128 .f32)
    (a5 : FVec Ideal S1x64x1024 .f32) (a6 : FVec Ideal S1x32x4096 .f32) (a7 : FVec Ideal S1x128x1024 .f32) (r : Fin 512) (l : Fin 1024) :
    out0_9 (F := Ideal) a0 a1 a2 a3 a4 a5 a6 a7 (ix2 r l)
      = rotary (fun e => col a0 a1 a2 r ⟨1024 + l.val / 256 * 256 + e.val, by omega⟩) (fun j => a3 (ix2 r j)) (fun j => a4 (ix2 r j))
          ⟨l.val % 256, by omega⟩ * Scalar.ofBits (F := Ideal) .f32 0x3D800000#32 := by
  unfold out0_9
  canon_tiles x h
  all_goals
    idx_vars x
    obtain rfl : r = x0 := Fin.ext h0
    first
      | rw [rotary_high _ _ _ _ x1 (show l.val % 256 = _ by have h1' : l.val = _ := h1; omega)]
      | rw [rotary_low _ _ _ _ x1 (show l.val % 256 = _ by have h1' : l.val = _ := h1; omega)]
    have h1' : l.val = _ := h1
    unfold col dotCol
    simp only [← held]
    simp only [k0_pay79, k0_pay78, k0_pay77, k0_pay76, k0_pay75, k0_pay74, k0_pay73, k0_pay72, k0_pay71]
    pointwise [k0_pay9, k0_pay10, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    first
      | refine congrArg (· * _) (congrArg₂ (fun p q : EReal => p + q) (Ideal.mul_congr (Fin.sum_fin_congr fun k => Ideal.mul_congr rfl ?_) rfl) (Ideal.mul_congr (Fin.sum_fin_congr fun k => Ideal.mul_congr rfl ?_) rfl))
      | refine congrArg (· * _) (congrArg₂ (fun p q : EReal => p - q) (Ideal.mul_congr (Fin.sum_fin_congr fun k => Ideal.mul_congr rfl ?_) rfl) (Ideal.mul_congr (Fin.sum_fin_congr fun k => Ideal.mul_congr rfl ?_) rfl))
    all_goals blk_ext [lo, hi]

/-- The stored values. -/
theorem stored10 (a0 : FVec Ideal S512x1024 .f32) (a1 : FVec Ideal S1x1024 .f32) (a2 : FVec Ideal S1x1024x6144 .bf16) (a3 a4 : FVec Ideal S512x128 .f32)
    (a5 : FVec Ideal S1x64x1024 .f32) (a6 : FVec Ideal S1x32x4096 .f32) (a7 : FVec Ideal S1x128x1024 .f32) (r : Fin 512) (l : Fin 2048) :
    out0_10 (F := Ideal) a0 a1 a2 a3 a4 a5 a6 a7 (ix2 r l) = col a0 a1 a2 r ⟨2048 + l.val, by omega⟩ := by
  unfold out0_10
  canon_tiles x h
  all_goals
    idx_vars x
    obtain rfl : r = x0 := Fin.ext h0
    have h1' : l.val = _ := h1
    unfold col dotCol
    simp only [← held]
    simp only [k0_pay79, k0_pay78, k0_pay77, k0_pay76, k0_pay75, k0_pay74, k0_pay73, k0_pay72, k0_pay71]
    pointwise [k0_pay33, k0_pay43, k0_pay48, k0_pay53, k0_pay54, k0_pay55, k0_pay56, k0_pay57, k0_pay58, k0_pay59, k0_pay60, k0_pay61, k0_pay62]
    refine Fin.sum_fin_congr fun k => Ideal.mul_congr rfl ?_
    blk_ext

/-- The stored gate. -/
theorem stored11 (a0 : FVec Ideal S512x1024 .f32) (a1 : FVec Ideal S1x1024 .f32) (a2 : FVec Ideal S1x1024x6144 .bf16) (a3 a4 : FVec Ideal S512x128 .f32)
    (a5 : FVec Ideal S1x64x1024 .f32) (a6 : FVec Ideal S1x32x4096 .f32) (a7 : FVec Ideal S1x128x1024 .f32) (r : Fin 512) (l : Fin 2048) :
    out0_11 (F := Ideal) a0 a1 a2 a3 a4 a5 a6 a7 (ix2 r l) = col a0 a1 a2 r ⟨4096 + l.val, by omega⟩ := by
  unfold out0_11
  canon_tiles x h
  all_goals
    idx_vars x
    obtain rfl : r = x0 := Fin.ext h0
    have h1' : l.val = _ := h1
    unfold col dotCol
    simp only [← held]
    simp only [k0_pay79, k0_pay78, k0_pay77, k0_pay76, k0_pay75, k0_pay74, k0_pay73, k0_pay72, k0_pay71]
    pointwise [k0_pay1, k0_pay62, k0_pay63, k0_pay64, k0_pay65, k0_pay66, k0_pay67, k0_pay68, k0_pay69, k0_pay70]
    refine Fin.sum_fin_congr fun k => Ideal.mul_congr rfl ?_
    blk_ext

/-- The angle of position `s` and frequency `j`: the position times 10000 to the power −2j/256. -/
def ang : FVec Ideal S4096x128 .f32 :=
  mulf (broadcastInDim S4096x128 ![0, 1] bcast_S4096x1_S4096x128_0_1 (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
            (mulf (broadcastInDim S128 ![] bcast_S_S128 (constant S_ .f32 0x40000000#32)) (sitofp .f32 (iotaInDim S128 32 0)))))
          (broadcastInDim S128 ![] bcast_S_S128 (constant S_ .f32 0x43800000#32))))))

/-- Column `n` of the projection of row `r` of the whole array. -/
def proj (x : FVec Ideal S4x4096x1024 .f32) (nw : FVec Ideal S1024 .f32) (w : FVec Ideal S2x1024x6144 .f32) (r : Fin 16384) (n : Fin 6144) : EReal :=
  dotCol (rmsNorm (fun k => x (ix3 ⟨r / 4096, by omega⟩ ⟨r % 4096, by omega⟩ k)) (fun k => nw (ix1 k))) (fun k n => w (ix3 0 k n)) n

/-- Column `o + l` of the projection. -/
def plainCol (x : FVec Ideal S4x4096x1024 .f32) (nw : FVec Ideal S1024 .f32) (w : FVec Ideal S2x1024x6144 .f32) (o : ℕ) (ho : o ≤ 4096)
    (r : Fin 16384) (l : Fin 2048) : EReal :=
  proj x nw w r ⟨o + l.val, by omega⟩

/-- The rotated heads of row `r`: those of the projection's columns from `o` on. -/
def turned (x : FVec Ideal S4x4096x1024 .f32) (nw : FVec Ideal S1024 .f32) (w : FVec Ideal S2x1024x6144 .f32) (o : ℕ) (ho : o ≤ 1024)
    (r : Fin 16384) (l : Fin 1024) : EReal :=
  rotary (fun e => proj x nw w r ⟨o + l.val / 256 * 256 + e.val, by omega⟩) (fun j => Host.cos ang (ix2 ⟨r % 4096, by omega⟩ j))
    (fun j => Host.sin ang (ix2 ⟨r % 4096, by omega⟩ j)) ⟨l.val % 256, by omega⟩

theorem idx : ∀ t : Fin cfg0.N, win0_0.index t = ![t.val, 0] ∧ win0_1.index t = ![0, 0]
    ∧ win0_2.index t = ![0, 0, 0] ∧ win0_3.index t = ![t.val % 8, 0] ∧ win0_4.index t = ![t.val % 8, 0]
    ∧ win0_8.index t = ![t.val, 0] ∧ win0_9.index t = ![t.val, 0] ∧ win0_10.index t = ![t.val, 0] ∧ win0_11.index t = ![t.val, 0] :=
  (by decide +kernel : ∀ t : Fin grid0.N, _)

theorem idx_cast : ∀ t : Fin cfg0.N, win0_5.index t = ![0, t.val, 0] ∧ win0_6.index t = ![0, t.val, 0]
    ∧ win0_7.index t = ![0, t.val, 0] ∧ win0_12.index t = ![0, t.val, 0] ∧ win0_13.index t = ![0, t.val, 0] ∧ win0_14.index t = ![0, t.val, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg0) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v19 : FVec Ideal S1x1024 .f32) (ix2 0 k) = m ((c : Thread nD τ).loc main_arg1) (ix1 k) := by
  have h : ∀ x : FVec Ideal S1024 .f32, shapeCast S1x1024 x shapeCasts_S1024_S1x1024 (ix2 0 k) = x (ix1 k) := fun x => by pointwise
  entry_read
  exact h _

/-- The projection's buffer is the first layer of the stacked argument. -/
theorem entry_w (c : Dev nD) (k : Fin 1024) (n : Fin 6144) :
    (V m c main_v21 : FVec Ideal S1x1024x6144 .bf16) (ix3 0 k n) = m ((c : Thread nD τ).loc main_arg2) (ix3 0 k n) := by
  have h : ∀ x : FVec Ideal S2x1024x6144 .f32, truncf .bf16 (extractStridedSlice S1x1024x6144 ![0, 0, 0] x slices_S2x1024x6144_S1x1024x6144_0_0_0)
      bitsLt_bf16_f32 (ix3 0 k n) = x (ix3 0 k n) := fun x => by pointwise
  entry_read
  exact h _

/-- The cosine table. -/
theorem entry_cos (c : Dev nD) : (V m c main_v17 : FVec Ideal S4096x128 .f32) = Host.cos ang := by
  entry_read
  rfl

/-- The sine table. -/
theorem entry_sin (c : Dev nD) : (V m c main_v18 : FVec Ideal S4096x128 .f32) = Host.sin ang := by
  entry_read
  rfl

/-- The columns of a block's row are those of the whole array's row. -/
theorem col_eq (c : Dev nD) (t : Fin cfg0.N) (r : Fin 512) (n n' : Fin 6144) (q : Fin 16384) (hq : q.val = t.val * 512 + r.val) (hn : n = n') :
    col (iblk m c 0 t) (iblk m c 1 t) (iblk m c 2 t) r n
      = proj (m ((c : Thread nD τ).loc main_arg0)) (m ((c : Thread nD τ).loc main_arg1)) (m ((c : Thread nD τ).loc main_arg2)) q n' := by
  subst hn
  unfold col proj dotCol row
  refine Fin.sum_fin_congr fun k => Ideal.mul_congr (congrFun (congrArg₂ rmsNorm (funext fun k => ?_) (funext fun k => ?_)) k) ?_
  · refine Eq.trans ?_ (entry_x m c q k)
    blk_point [iblk, idx t]
  · refine Eq.trans ?_ (entry_nw m c k)
    blk_point [iblk, idx t]
  · refine Eq.trans ?_ (entry_w m c k n)
    blk_point [iblk, idx t]

/-- A row of a block's cosines. -/
theorem cos_eq (c : Dev nD) (t : Fin cfg0.N) (r : Fin 512) (j : Fin 128) (q : Fin 16384) (hq : q.val = t.val * 512 + r.val) :
    (iblk m c 3 t : FVec Ideal S512x128 .f32) (ix2 r j) = Host.cos ang (ix2 ⟨q.val % 4096, by omega⟩ j) := by
  rw [← entry_cos m c]
  have e : q.val % 4096 = t.val % 8 * 512 + r.val := by omega
  blk_point [iblk, idx t]

/-- A row of a block's sines. -/
theorem sin_eq (c : Dev nD) (t : Fin cfg0.N) (r : Fin 512) (j : Fin 128) (q : Fin 16384) (hq : q.val = t.val * 512 + r.val) :
    (iblk m c 4 t : FVec Ideal S512x128 .f32) (ix2 r j) = Host.sin ang (ix2 ⟨q.val % 4096, by omega⟩ j) := by
  rw [← entry_sin m c]
  have e : q.val % 4096 = t.val % 8 * 512 + r.val := by omega
  blk_point [iblk, idx t]

/-- The query array after the run. -/
theorem final8 (c : Dev nD) :
    (dats m 0 c).arrAt 8 (cfgs 0).N = fun i : S16384x1024.Idx =>
      turned (m ((c : Thread nD τ).loc main_arg0)) (m ((c : Thread nD τ).loc main_arg1)) (m ((c : Thread nD τ).loc main_arg2)) 0 (by decide) (i 0) (i 1) := by
  refine (dats m 0 c).arrAt_eq_of_covers 8 _ (by decide +kernel) fun t _ y => ?_
  blk_simp
  idx_vars y
  rw [after0_8, stored8]
  unfold turned
  refine rotary_congr (fun e => col_eq m c t y0 _ _ _ ?_ (Fin.ext ?_)) (fun j => cos_eq m c t y0 j _ ?_) (fun j => sin_eq m c t y0 j _ ?_) (Fin.ext ?_)
  all_goals (blk_simp [idx t] <;> try omega)

/-- The key array after the run: the rotated heads, scaled. -/
theorem final9 (c : Dev nD) :
    (dats m 0 c).arrAt 9 (cfgs 0).N = fun i : S16384x1024.Idx =>
      turned (m ((c : Thread nD τ).loc main_arg0)) (m ((c : Thread nD τ).loc main_arg1)) (m ((c : Thread nD τ).loc main_arg2)) 1024 (by decide) (i 0) (i 1)
        * Scalar.ofBits (F := Ideal) .f32 0x3D800000#32 := by
  refine (dats m 0 c).arrAt_eq_of_covers 9 _ (by decide +kernel) fun t _ y => ?_
  blk_simp
  idx_vars y
  rw [after0_9, stored9]
  unfold turned
  refine congrArg (· * _) ?_
  refine rotary_congr (fun e => col_eq m c t y0 _ _ _ ?_ (Fin.ext ?_)) (fun j => cos_eq m c t y0 j _ ?_) (fun j => sin_eq m c t y0 j _ ?_) (Fin.ext ?_)
  all_goals (blk_simp [idx t] <;> try omega)

/-- The value array after the run. -/
theorem final10 (c : Dev nD) :
    (dats m 0 c).arrAt 10 (cfgs 0).N = fun i : S16384x2048.Idx =>
      plainCol (m ((c : Thread nD τ).loc main_arg0)) (m ((c : Thread nD τ).loc main_arg1)) (m ((c : Thread nD τ).loc main_arg2)) 2048 (by decide) (i 0) (i 1) := by
  refine (dats m 0 c).arrAt_eq_of_covers 10 _ (by decide +kernel) fun t _ y => ?_
  blk_simp
  idx_vars y
  rw [after0_10, stored10]
  unfold plainCol
  refine col_eq m c t y0 _ _ _ ?_ (Fin.ext ?_)
  all_goals (blk_simp [idx t] <;> try omega)

/-- The gate array after the run. -/
theorem final11 (c : Dev nD) :
    (dats m 0 c).arrAt 11 (cfgs 0).N = fun i : S16384x2048.Idx =>
      plainCol (m ((c : Thread nD τ).loc main_arg0)) (m ((c : Thread nD τ).loc main_arg1)) (m ((c : Thread nD τ).loc main_arg2)) 4096 (by decide) (i 0) (i 1) := by
  refine (dats m 0 c).arrAt_eq_of_covers 11 _ (by decide +kernel) fun t _ y => ?_
  blk_simp
  idx_vars y
  rw [after0_11, stored11]
  unfold plainCol
  refine col_eq m c t y0 _ _ _ ?_ (Fin.ext ?_)
  all_goals (blk_simp [idx t] <;> try omega)

/-- The layer's output projection, passed on as it is: layer 0 of the stack. -/
theorem final12 (c : Dev nD) :
    (dats m 0 c).arrAt 12 (cfgs 0).N = fun i : S1x2048x1024.Idx => m ((c : Thread nD τ).loc main_arg3) (ix3 0 (i 1) (i 2)) := by
  refine (dats m 0 c).arrAt_eq_of_covers 12 _ (by decide +kernel) fun t _ y => ?_
  blk_simp
  rw [after0_12]
  unfold out0_12
  frame_out
  pointwise [k0_pay2]
  blk_point [iblk, V, idx_cast t]

/-- The layer's up projection, passed on as it is: layer 0 of the stack. -/
theorem final13 (c : Dev nD) :
    (dats m 0 c).arrAt 13 (cfgs 0).N = fun i : S1x1024x4096.Idx => m ((c : Thread nD τ).loc main_arg4) (ix3 0 (i 1) (i 2)) := by
  refine (dats m 0 c).arrAt_eq_of_covers 13 _ (by decide +kernel) fun t _ y => ?_
  blk_simp
  rw [after0_13]
  unfold out0_13
  frame_out
  pointwise [k0_pay3]
  blk_point [iblk, V, idx_cast t]

/-- The layer's down projection, passed on as it is: layer 0 of the stack. -/
theorem final14 (c : Dev nD) :
    (dats m 0 c).arrAt 14 (cfgs 0).N = fun i : S1x4096x1024.Idx => m ((c : Thread nD τ).loc main_arg5) (ix3 0 (i 1) (i 2)) := by
  refine (dats m 0 c).arrAt_eq_of_covers 14 _ (by decide +kernel) fun t _ y => ?_
  blk_simp
  rw [after0_14]
  unfold out0_14
  frame_out
  pointwise [k0_pay4]
  blk_point [iblk, V, idx_cast t]

end Cert.RetProjIdeal.Block

end
-- ==== Proof.RetProjRef.lean ====
/- The reference of the retention layer's input projection: what it computes, read index by index. -/
module

public import proofs.«01_k».proof.Proof.RetProjBlock
public import proofs.«01_k».proof.Proof.Gen.RetentionInputsIdeal.Run
public import Idealize.ShloMosaic.Lib.Pipeline.ValueKit

@[expose] public section

set_option maxRecDepth 16384

noncomputable section

namespace Cert.RetentionInputsIdeal.Rows

open Cert.RetentionInputsIdeal Cert.RetentionInputsIdeal.Gen Cert.RowMath Cert.RetProjIdeal.Block Idealize.ShloMosaic Idealize.ShloMosaic.TcCoe

/-- The projection of every normed row. -/
def projV (x : FVec Ideal S4x4096x1024 .f32) (nw : FVec Ideal S1024 .f32) (w : FVec Ideal S2x1024x6144 .f32) : FVec Ideal S4x4096x6144 .f32 :=
  (Host.dotGeneral dot_S4x4096x1024_S1024x6144_S4x4096x6144_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 nw))) (shapeCast _ (extractStridedSlice S1x1024x6144 ![0, 0, 0] w slices_S2x1024x6144_S1x1024x6144_0_0_0) shapeCasts_S1x1024x6144_S1024x6144))

/-- The heads of the queries. -/
def queryHeads (p : FVec Ideal S4x4096x6144 .f32) : FVec Ideal S4x4x4096x256 .f32 :=
  (transpose S4x4x4096x256 [0, 2, 1, 3] (shapeCast _ (extractStridedSlice S4x4096x1024 ![0, 0, 0] p slices_S4x4096x6144_S4x4096x1024_0_0_0) shapeCasts_S4x4096x1024_S4x4096x4x256) transposes_S4x4096x4x256_S4x4x4096x256_0_2_1_3)

/-- The heads of the keys. -/
def keyHeads (p : FVec Ideal S4x4096x6144 .f32) : FVec Ideal S4x4x4096x256 .f32 :=
  (transpose S4x4x4096x256 [0, 2, 1, 3] (shapeCast _ (extractStridedSlice S4x4096x1024 ![0, 0, 1024] p slices_S4x4096x6144_S4x4096x1024_0_0_1024) shapeCasts_S4x4096x1024_S4x4096x4x256) transposes_S4x4096x4x256_S4x4x4096x256_0_2_1_3)

/-- The angle of each position and frequency. -/
def angV : FVec Ideal S4096x128 .f32 :=
  (mulf (broadcastInDim S4096x128 ![0, 1] bcast_S4096x1_S4096x128_0_1 (broadcastInDim S4096x1 ![0] bcast_S4096_S4096x1_0 (sitofp .f32 (iotaInDim S4096 32 0)))) (broadcastInDim S4096x128 ![0, 1] bcast_S1x128_S4096x128_0_1 (broadcastInDim S1x128 ![1] bcast_S128_S1x128_1 (Host.powf (broadcastInDim S128 ![] bcast_S_S128 (constant S_ .f32 0x461C4000#32)) (Host.divf (Host.negf (addf (broadcastInDim S128 ![] bcast_S_S128 (constant S_ .f32 0x00000000#32)) (mulf (broadcastInDim S128 ![] bcast_S_S128 (constant S_ .f32 0x40000000#32)) (sitofp .f32 (iotaInDim S128 32 0))))) (broadcastInDim S128 ![] bcast_S_S128 (constant S_ .f32 0x43800000#32)))))))

/-- Every head rotated, from the cosines and the sines. -/
def rotated (co si : FVec Ideal S4096x128 .f32) (t : FVec Ideal S4x4x4096x256 .f32) : FVec Ideal S4x4x4096x256 .f32 :=
  (concatenate S4x4x4096x256 3 [⟨S4x4x4096x128, (subf (mulf (extractStridedSlice S4x4x4096x128 ![0, 0, 0, 0] t slices_S4x4x4096x256_S4x4x4096x128_0_0_0_0) (broadcastInDim S4x4x4096x128 ![0, 1, 2, 3] bcast_S1x1x4096x128_S4x4x4096x128_0_1_2_3 (broadcastInDim S1x1x4096x128 ![2, 3] bcast_S4096x128_S1x1x4096x128_2_3 co))) (mulf (extractStridedSlice S4x4x4096x128 ![0, 0, 0, 128] t slices_S4x4x4096x256_S4x4x4096x128_0_0_0_128) (broadcastInDim S4x4x4096x128 ![0, 1, 2, 3] bcast_S1x1x4096x128_S4x4x4096x128_0_1_2_3 (broadcastInDim S1x1x4096x128 ![2, 3] bcast_S4096x128_S1x1x4096x128_2_3 si))))⟩, ⟨S4x4x4096x128, (addf (mulf (extractStridedSlice S4x4x4096x128 ![0, 0, 0, 0] t slices_S4x4x4096x256_S4x4x4096x128_0_0_0_0) (broadcastInDim S4x4x4096x128 ![0, 1, 2, 3] bcast_S1x1x4096x128_S4x4x4096x128_0_1_2_3 (broadcastInDim S1x1x4096x128 ![2, 3] bcast_S4096x128_S1x1x4096x128_2_3 si))) (mulf (extractStridedSlice S4x4x4096x128 ![0, 0, 0, 128] t slices_S4x4x4096x256_S4x4x4096x128_0_0_0_128) (broadcastInDim S4x4x4096x128 ![0, 1, 2, 3] bcast_S1x1x4096x128_S4x4x4096x128_0_1_2_3 (broadcastInDim S1x1x4096x128 ![2, 3] bcast_S4096x128_S1x1x4096x128_2_3 co))))⟩] concatenates_S4x4x4096x128_S4x4x4096x128_S4x4x4096x256_d3)

/-- The heads side by side again. -/
def rowsV (t : FVec Ideal S4x4x4096x256 .f32) : FVec Ideal S16384x1024 .bf16 :=
  truncf .bf16 (shapeCast _ (transpose S4x4096x4x256 [0, 2, 1, 3] t transposes_S4x4x4096x256_S4x4096x4x256_0_2_1_3) shapeCasts_S4x4096x4x256_S16384x1024) bitsLt_bf16_f32

/-- The scaled heads side by side again. -/
def scaledRowsV (t : FVec Ideal S4x4x4096x256 .f32) : FVec Ideal S16384x1024 .bf16 :=
  truncf .bf16 (shapeCast _ (transpose S4x4096x4x256 [0, 2, 1, 3] (mulf t (broadcastInDim S4x4x4096x256 ![] bcast_S_S4x4x4096x256 (constant S_ .f32 0x3D800000#32))) transposes_S4x4x4096x256_S4x4096x4x256_0_2_1_3) shapeCasts_S4x4096x4x256_S16384x1024) bitsLt_bf16_f32

theorem projV_at (x : FVec Ideal S4x4096x1024 .f32) (nw : FVec Ideal S1024 .f32) (w : FVec Ideal S2x1024x6144 .f32)
    (b : Fin 4) (s : Fin 4096) (n : Fin 6144) :
    projV x nw w (ix3 b s n) = dotCol (rmsNorm (fun k => x (ix3 b s k)) (fun k => nw (ix1 k))) (fun k n => w (ix3 0 k n)) n := by
  pointwise [projV, dotCol, rmsNorm]

theorem queryHeads_at (p : FVec Ideal S4x4096x6144 .f32) (b h : Fin 4) (s : Fin 4096) (e : Fin 256) :
    queryHeads p (ix4 b h s e) = p (ix3 b s ⟨0 + h.val * 256 + e.val, by omega⟩) := by
  pointwise [queryHeads]
  blk_ext

theorem keyHeads_at (p : FVec Ideal S4x4096x6144 .f32) (b h : Fin 4) (s : Fin 4096) (e : Fin 256) :
    keyHeads p (ix4 b h s e) = p (ix3 b s ⟨1024 + h.val * 256 + e.val, by omega⟩) := by
  pointwise [keyHeads]
  blk_ext

theorem rotated_at (co si : FVec Ideal S4096x128 .f32) (t : FVec Ideal S4x4x4096x256 .f32) (b h : Fin 4) (s : Fin 4096) (e : Fin 256) :
    rotated co si t (ix4 b h s e) = rotary (fun e => t (ix4 b h s e)) (fun j => co (ix2 s j)) (fun j => si (ix2 s j)) e := by
  unfold rotary
  pointwise [rotated]
  split
  · refine congrArg₂ (fun p q : EReal => p - q) rfl (Ideal.mul_congr ?_ rfl)
    blk_ext
  · refine congrArg₂ (fun p q : EReal => p + q) rfl (Ideal.mul_congr ?_ rfl)
    blk_ext

theorem rowsV_at (t : FVec Ideal S4x4x4096x256 .f32) (r : Fin 16384) (l : Fin 1024) :
    rowsV t (ix2 r l) = t (ix4 ⟨r.val / 4096, by omega⟩ ⟨l.val / 256, by omega⟩ ⟨r.val % 4096, by omega⟩ ⟨l.val % 256, by omega⟩) := by
  pointwise [rowsV]
  blk_ext

theorem scaledRowsV_at (t : FVec Ideal S4x4x4096x256 .f32) (r : Fin 16384) (l : Fin 1024) :
    scaledRowsV t (ix2 r l) = t (ix4 ⟨r.val / 4096, by omega⟩ ⟨l.val / 256, by omega⟩ ⟨r.val % 4096, by omega⟩ ⟨l.val % 256, by omega⟩)
      * Scalar.ofBits (F := Ideal) .f32 0x3D800000#32 := by
  pointwise [scaledRowsV]
  blk_ext

/-- The two programs' angles are one. -/
theorem ang_eq : angV = ang := rfl

theorem query (x : FVec Ideal S4x4096x1024 .f32) (nw : FVec Ideal S1024 .f32) (w : FVec Ideal S2x1024x6144 .f32) :
    rowsV (rotated (Host.cos angV) (Host.sin angV) (queryHeads (projV x nw w)))
      = fun i : S16384x1024.Idx => turned x nw w 0 (by decide) (i 0) (i 1) := by
  funext i
  idx_vars i
  rw [rowsV_at, rotated_at]
  simp only [queryHeads_at, projV_at, ang_eq]
  rfl

theorem key (x : FVec Ideal S4x4096x1024 .f32) (nw : FVec Ideal S1024 .f32) (w : FVec Ideal S2x1024x6144 .f32) :
    scaledRowsV (rotated (Host.cos angV) (Host.sin angV) (keyHeads (projV x nw w)))
      = fun i : S16384x1024.Idx => turned x nw w 1024 (by decide) (i 0) (i 1) * Scalar.ofBits (F := Ideal) .f32 0x3D800000#32 := by
  funext i
  idx_vars i
  rw [scaledRowsV_at, rotated_at]
  simp only [keyHeads_at, projV_at, ang_eq]
  rfl

theorem value (x : FVec Ideal S4x4096x1024 .f32) (nw : FVec Ideal S1024 .f32) (w : FVec Ideal S2x1024x6144 .f32) :
    truncf .bf16 (shapeCast S16384x2048 (extractStridedSlice S4x4096x2048 ![0, 0, 2048] (projV x nw w) slices_S4x4096x6144_S4x4096x2048_0_0_2048)
        shapeCasts_S4x4096x2048_S16384x2048) bitsLt_bf16_f32
      = fun i : S16384x2048.Idx => plainCol x nw w 2048 (by decide) (i 0) (i 1) := by
  funext i
  idx_vars i
  unfold plainCol proj
  refine Eq.trans ?_ (projV_at x nw w _ _ _)
  pointwise
  blk_ext

theorem gate (x : FVec Ideal S4x4096x1024 .f32) (nw : FVec Ideal S1024 .f32) (w : FVec Ideal S2x1024x6144 .f32) :
    truncf .bf16 (shapeCast S16384x2048 (extractStridedSlice S4x4096x2048 ![0, 0, 4096] (projV x nw w) slices_S4x4096x6144_S4x4096x2048_0_0_4096)
        shapeCasts_S4x4096x2048_S16384x2048) bitsLt_bf16_f32
      = fun i : S16384x2048.Idx => plainCol x nw w 4096 (by decide) (i 0) (i 1) := by
  funext i
  idx_vars i
  unfold plainCol proj
  refine Eq.trans ?_ (projV_at x nw w _ _ _)
  pointwise
  blk_ext

/-- The first layer of stacked weights, in the narrower format. -/
theorem first (w : FVec Ideal S2x2048x1024 .f32) :
    truncf .bf16 (extractStridedSlice S1x2048x1024 ![0, 0, 0] w slices_S2x2048x1024_S1x2048x1024_0_0_0) bitsLt_bf16_f32
      = fun i : S1x2048x1024.Idx => w (ix3 0 (i 1) (i 2)) := by
  funext i
  idx_vars i
  pointwise
  blk_ext

/-- The first layer of stacked weights, in the narrower format. -/
theorem first_up (w : FVec Ideal S4x1024x4096 .f32) :
    truncf .bf16 (extractStridedSlice S1x1024x4096 ![0, 0, 0] w slices_S4x1024x4096_S1x1024x4096_0_0_0) bitsLt_bf16_f32
      = fun i : S1x1024x4096.Idx => w (ix3 0 (i 1) (i 2)) := by
  funext i
  idx_vars i
  pointwise
  blk_ext

/-- The first layer of stacked weights, in the narrower format. -/
theorem first_down (w : FVec Ideal S4x4096x1024 .f32) :
    truncf .bf16 (extractStridedSlice S1x4096x1024 ![0, 0, 0] w slices_S4x4096x1024_S1x4096x1024_0_0_0) bitsLt_bf16_f32
      = fun i : S1x4096x1024.Idx => w (ix3 0 (i 1) (i 2)) := by
  funext i
  idx_vars i
  pointwise
  blk_ext

end Cert.RetentionInputsIdeal.Rows

end
-- ==== Proof.RetProjClaim.lean ====
/- The value claim of the retention layer's input projection. -/
module

public import proofs.«01_k».proof.Defs
public import proofs.«01_k».proof.Proof.RetProjRef
public import Idealize.ShloMosaic.Adequacy
public import Idealize.ShloMosaic.Init

@[expose] public section

set_option maxRecDepth 16384

noncomputable section

namespace Cert.Proof

open Idealize.ShloMosaic Idealize.SL.Sem

/-- The projection, the rotary embedding and the passed-on weights are what the reference computes. -/
theorem projection : Cert.algebraic_RetProjIdeal_RetentionInputsIdeal := by
  pair_intro
  · run_from Cert.RetProjIdeal.Value.run_blocks m g
  · refine (θ_run _ _ _).mono (fun r h c => ?_) (Cert.RetentionInputsIdeal.Value.run m' g')
    obtain ⟨h0, h1, h2, h3, h4, h5, h6, hargs⟩ := h c
    obtain ⟨a0, a1, a2, a3, a4, a5⟩ := hagree c
    refine ⟨h0.trans ?_, h1.trans ?_, h2.trans ?_, h3.trans ?_, h4.trans ?_, h5.trans ?_, h6.trans ?_, hargs⟩
    · refine Eq.trans ?_ (Cert.RetProjIdeal.Block.final8 m c).symm
      unfold Cert.RetentionInputsIdeal.Value.res_main_v105
      rw [a0, a1, a2]
      exact Cert.RetentionInputsIdeal.Rows.query _ _ _
    · refine Eq.trans ?_ (Cert.RetProjIdeal.Block.final9 m c).symm
      unfold Cert.RetentionInputsIdeal.Value.res_main_v106
      rw [a0, a1, a2]
      exact Cert.RetentionInputsIdeal.Rows.key _ _ _
    · refine Eq.trans ?_ (Cert.RetProjIdeal.Block.final10 m c).symm
      rw [a0, a1, a2]
      exact Cert.RetentionInputsIdeal.Rows.value _ _ _
    · refine Eq.trans ?_ (Cert.RetProjIdeal.Block.final11 m c).symm
      rw [a0, a1, a2]
      exact Cert.RetentionInputsIdeal.Rows.gate _ _ _
    · rw [a3]; exact Eq.trans (Cert.RetentionInputsIdeal.Rows.first _) (Cert.RetProjIdeal.Block.final12 m c).symm
    · rw [a4]; exact Eq.trans (Cert.RetentionInputsIdeal.Rows.first_up _) (Cert.RetProjIdeal.Block.final13 m c).symm
    · rw [a5]; exact Eq.trans (Cert.RetentionInputsIdeal.Rows.first_down _) (Cert.RetProjIdeal.Block.final14 m c).symm

end Cert.Proof
-- ==== Proof.HeadMath.lean ====
/- The norm of one head of 64 columns inside a chunk of 256, over the extended reals: taken by a product with the block-diagonal matrix
   of entries 1/64, and taken as a mean. -/
module

public import proofs.«01_k».proof.Proof.RotaryMath

@[expose] public section

set_option maxRecDepth 16384

noncomputable section

namespace Cert.RowMath

open Idealize.ShloMosaic

/-- Column `j` of the chunk `p`, over the root of the products of the chunk's squares with `g`, times the weight `w`. -/
def weighed (p g : Fin 256 → EReal) (w : EReal) (j : Fin 256) : EReal :=
  p j * Ideal.rsqrt ((∑ k, p k * p k * g k) + Ideal.ofBits .f32 0x358637BD#32) * w

theorem weighed_congr {p p' g g' : Fin 256 → EReal} {w w' : EReal} {j j' : Fin 256} (hp : ∀ k, p k = p' k) (hg : ∀ k, g k = g' k) (hw : w = w')
    (hj : j = j') : weighed p g w j = weighed p' g' w' j' := by
  rw [funext hp, funext hg, hw, hj]

/-- Entry `e` of the head `p`, over the root of the head's mean square, times the weight `w`. -/
def headNorm (p : Fin 64 → EReal) (w : EReal) (e : Fin 64) : EReal :=
  p e * Ideal.rsqrt (Ideal.div (∑ k, p k * p k) (Ideal.ofBits .f32 0x42800000#32) + Ideal.ofBits .f32 0x358637BD#32) * w

theorem headNorm_congr {p p' : Fin 64 → EReal} {w w' : EReal} {e e' : Fin 64} (hp : ∀ k, p k = p' k) (hw : w = w') (he : e = e') :
    headNorm p w e = headNorm p' w' e' := by
  rw [funext hp, hw, he]

/-- A scale on the weight is a scale on the normed entry. -/
theorem headNorm_scale (p : Fin 64 → EReal) (w s : EReal) (e : Fin 64) : headNorm p (w * s) e = headNorm p w e * s := (mul_assoc _ _ _).symm

theorem word_64 : Ideal.ofBits .f32 0x42800000#32 = ((64 : ℝ) : EReal) := by
  simp [Ideal.ofBits, Ideal.ieee]
  rw [← EReal.coe_mul]
  norm_num

theorem word_inv64 : Ideal.ofBits .f32 0x3C800000#32 = (((64 : ℝ)⁻¹ : ℝ) : EReal) := by
  simp [Ideal.ofBits, Ideal.ieee]
  rw [← EReal.coe_mul]
  norm_num

/-- A square is not negative. -/
theorem mul_self_nonneg' (x : EReal) : 0 ≤ x * x := by
  induction x with
  | bot => simp
  | top => simp
  | coe r => exact_mod_cast mul_self_nonneg r

/-- A sum over 256 is the sum of its four heads of 64, in order. -/
theorem sum_heads (f : Fin 256 → EReal) : ∑ k, f k = ∑ a : Fin 4, ∑ e : Fin 64, f ⟨a.val * 64 + e.val, by omega⟩ := by
  have h := (finProdFinEquiv (m := 4) (n := 64)).sum_comp (fun k : Fin (4 * 64) => f k)
  refine Eq.trans h.symm ((Fintype.sum_prod_type _).trans (Finset.sum_congr rfl fun a _ => Finset.sum_congr rfl fun e _ => ?_))
  refine congrArg f (Fin.ext ?_)
  show e.val + 64 * a.val = a.val * 64 + e.val
  omega

/-- A factor leaves a sum of terms that are not negative. -/
theorem sum_mul_nonneg {n : ℕ} (f : Fin n → EReal) (hf : ∀ k, 0 ≤ f k) (c : EReal) : ∑ k, f k * c = (∑ k, f k) * c := by
  have h : ∀ s : Finset (Fin n), ∑ k ∈ s, f k * c = (∑ k ∈ s, f k) * c := by
    intro s
    induction s using Finset.induction_on with
    | empty => simp
    | insert a s ha ih =>
      rw [Finset.sum_insert ha, Finset.sum_insert ha, ih, EReal.right_distrib_of_nonneg (hf a) (Finset.sum_nonneg fun k _ => hf k)]
  exact h Finset.univ

/-- The block-diagonal product is the mean over the head. -/
theorem weighed_eq (p g : Fin 256 → EReal) (w : EReal) (j : Fin 256)
    (hg : ∀ k, g k = if k.val / 64 = j.val / 64 then Ideal.ofBits .f32 0x3C800000#32 else 0) :
    weighed p g w j = headNorm (fun e => p ⟨j.val / 64 * 64 + e.val, by omega⟩) w ⟨j.val % 64, by omega⟩ := by
  unfold weighed headNorm
  have hs : (∑ k, p k * p k * g k) = Ideal.div (∑ e : Fin 64, p ⟨j.val / 64 * 64 + e.val, by omega⟩ * p ⟨j.val / 64 * 64 + e.val, by omega⟩) (Ideal.ofBits .f32 0x42800000#32) := by
    rw [sum_heads, Finset.sum_eq_single (⟨j.val / 64, by omega⟩ : Fin 4)]
    · rw [word_64, Ideal.div_coe (by norm_num), ← sum_mul_nonneg _ (fun _ => mul_self_nonneg' _)]
      refine Finset.sum_congr rfl fun e _ => ?_
      have he : (j.val / 64 * 64 + e.val) / 64 = j.val / 64 := by omega
      rw [hg, if_pos (by exact he), word_inv64, one_div]
    · intro a _ ha
      refine Finset.sum_eq_zero fun e _ => ?_
      have hne : ¬ (a.val * 64 + e.val) / 64 = j.val / 64 := by
        intro h
        exact ha (Fin.ext (by show a.val = j.val / 64; omega))
      rw [hg, if_neg (by exact hne), mul_zero]
    · intro h
      exact absurd (Finset.mem_univ _) h
  rw [hs]
  have hj : (⟨j.val / 64 * 64 + j.val % 64, by omega⟩ : Fin 256) = j := Fin.ext (by show j.val / 64 * 64 + j.val % 64 = j.val; omega)
  show p j * _ * w = p ⟨j.val / 64 * 64 + j.val % 64, _⟩ * _ * w
  rw [hj]

end Cert.RowMath

end
-- ==== Proof.AttnProjBlock.lean ====
/- The input projection of an attention layer: what one grid point computes from its rows, read index by index. -/
module

public import proofs.«01_k».proof.Proof.HeadMath
public import proofs.«01_k».proof.Proof.Gen.AttnProjIdeal.Value
public import Idealize.ShloMosaic.Lib.Pipeline.ValueKit

@[expose] public section

set_option maxRecDepth 16384

noncomputable section

namespace Cert.AttnProjIdeal.Block

open Cert.AttnProjIdeal Cert.AttnProjIdeal.Gen Cert.RowMath Idealize.ShloMosaic Idealize.ShloMosaic.TcCoe

/-- The normed row `r` of a block. -/
def row (x0 : FVec Ideal S512x1024 .f32) (x1 : FVec Ideal S1x1024 .f32) (r : Fin 512) (k : Fin 1024) : EReal :=
  rmsNorm (fun k => x0 (ix2 r k)) (fun k => x1 (ix2 0 k)) k

/-- The normed rows the body holds. -/
theorem held (v0 : FVec Ideal S512x1024 .f32) (v2 : FVec Ideal S1x1024 .f32) (r : Fin 512) (k : Fin 1024) :
    k0_pay2 (F := Ideal) v0 v2 (ix2 r k) = row v0 v2 r k := by
  pointwise [k0_pay2, row, rmsNorm]

/-- The column `j` of a chunk's product, of the normed rows. -/
def chunk (v16 : FVec Ideal S512x1024 .bf16) (v : FVec Ideal S1x1024x256 .bf16) (r : Fin 512) (j : Fin 256) : EReal :=
  dotCol (fun k => v16 (ix2 r k)) (fun k n => v (ix3 0 k n)) j

theorem dot4 (v0 : FVec Ideal S512x1024 .f32) (v2 : FVec Ideal S1x1024 .f32) (v : FVec Ideal S1x1024x256 .bf16) (r : Fin 512) (j : Fin 256) :
    k0_pay4 (F := Ideal) v0 v2 v (ix2 r j) = chunk (k0_pay2 v0 v2) v r j := by
  pointwise [k0_pay4, chunk, dotCol]

theorem dot15 (v16 : FVec Ideal S512x1024 .bf16) (v : FVec Ideal S1x1024x256 .bf16) (r : Fin 512) (j : Fin 256) :
    k0_pay15 (F := Ideal) v16 v (ix2 r j) = chunk v16 v r j := by
  pointwise [k0_pay15, chunk, dotCol]

theorem dot20 (v16 : FVec Ideal S512x1024 .bf16) (v : FVec Ideal S1x1024x256 .bf16) (r : Fin 512) (j : Fin 256) :
    k0_pay20 (F := Ideal) v16 v (ix2 r j) = chunk v16 v r j := by
  pointwise [k0_pay20, chunk, dotCol]

theorem dot24 (v16 : FVec Ideal S512x1024 .bf16) (v : FVec Ideal S1x1024x256 .bf16) (r : Fin 512) (j : Fin 256) :
    k0_pay24 (F := Ideal) v16 v (ix2 r j) = chunk v16 v r j := by
  pointwise [k0_pay24, chunk, dotCol]

theorem dot26 (v16 : FVec Ideal S512x1024 .bf16) (v : FVec Ideal S1x1024x256 .bf16) (r : Fin 512) (j : Fin 256) :
    k0_pay26 (F := Ideal) v16 v (ix2 r j) = chunk v16 v r j := by
  pointwise [k0_pay26, chunk, dotCol]

theorem dot37 (v16 : FVec Ideal S512x1024 .bf16) (v : FVec Ideal S1x1024x256 .bf16) (r : Fin 512) (j : Fin 256) :
    k0_pay37 (F := Ideal) v16 v (ix2 r j) = chunk v16 v r j := by
  pointwise [k0_pay37, chunk, dotCol]

theorem dot48 (v16 : FVec Ideal S512x1024 .bf16) (v : FVec Ideal S1x1024x256 .bf16) (r : Fin 512) (j : Fin 256) :
    k0_pay48 (F := Ideal) v16 v (ix2 r j) = chunk v16 v r j := by
  pointwise [k0_pay48, chunk, dotCol]

theorem dot8 (v16 : FVec Ideal S512x1024 .bf16) (v : FVec Ideal S1x1024x256 .bf16) (r : Fin 512) (j : Fin 256) :
    k0_pay8 (F := Ideal) v16 v (ix2 r j) = chunk v16 v r j := by
  pointwise [k0_pay8, chunk, dotCol]

theorem norm9 (g : FVec Ideal S256x256 .bf16) (v : FVec Ideal S512x256 .f32) (w : FVec Ideal S1x256 .f32) (r : Fin 512) (j : Fin 256) :
    k0_pay9 (F := Ideal) g v w (ix2 j r) = weighed (fun k => v (ix2 r k)) (fun k => g (ix2 k j)) (w (ix2 0 j)) j := by
  pointwise [k0_pay9, weighed]

theorem norm5 (v0 : FVec Ideal S512x1024 .f32) (v2 : FVec Ideal S1x1024 .f32) (g : FVec Ideal S256x256 .bf16) (v : FVec Ideal S1x1024x256 .bf16)
    (w : FVec Ideal S1x256 .f32) (r : Fin 512) (j : Fin 256) :
    k0_pay5 (F := Ideal) v0 v2 g v w (ix2 j r)
      = weighed (fun k => chunk (k0_pay2 v0 v2) v r k) (fun k => g (ix2 k j)) (w (ix2 0 j)) j := by
  pointwise [k0_pay5, k0_pay3, weighed, chunk, dotCol]

theorem norm12 (g : FVec Ideal S256x256 .bf16) (v : FVec Ideal S512x256 .f32) (w : FVec Ideal S1x256 .f32) (r : Fin 512) (j : Fin 256) :
    k0_pay12 (F := Ideal) g v w (ix2 j r) = weighed (fun k => v (ix2 r k)) (fun k => g (ix2 k j)) (w (ix2 0 j)) j := by
  pointwise [k0_pay12, weighed]

theorem norm16 (v16 : FVec Ideal S512x1024 .bf16) (g : FVec Ideal S256x256 .bf16) (v : FVec Ideal S1x1024x256 .bf16)
    (w : FVec Ideal S1x256 .f32) (r : Fin 512) (j : Fin 256) :
    k0_pay16 (F := Ideal) v16 g v w (ix2 j r) = weighed (fun k => chunk v16 v r k) (fun k => g (ix2 k j)) (w (ix2 0 j)) j := by
  pointwise [k0_pay16, weighed, chunk, dotCol]

theorem norm19 (g : FVec Ideal S256x256 .bf16) (v : FVec Ideal S512x256 .f32) (w : FVec Ideal S1x256 .f32) (r : Fin 512) (j : Fin 256) :
    k0_pay19 (F := Ideal) g v w (ix2 r j) = weighed (fun k => v (ix2 r k)) (fun k => g (ix2 k j)) (w (ix2 0 j)) j := by
  pointwise [k0_pay19, weighed]

theorem norm23 (g : FVec Ideal S256x256 .bf16) (v : FVec Ideal S512x256 .f32) (w : FVec Ideal S1x256 .f32) (r : Fin 512) (j : Fin 256) :
    k0_pay23 (F := Ideal) g v w (ix2 r j) = weighed (fun k => v (ix2 r k)) (fun k => g (ix2 k j)) (w (ix2 0 j)) j := by
  pointwise [k0_pay23, weighed]

theorem norm25 (v16 : FVec Ideal S512x1024 .bf16) (g : FVec Ideal S256x256 .bf16) (v : FVec Ideal S1x1024x256 .bf16)
    (w : FVec Ideal S1x256 .f32) (r : Fin 512) (j : Fin 256) :
    k0_pay25 (F := Ideal) v16 g v w (ix2 r j) = weighed (fun k => chunk v16 v r k) (fun k => g (ix2 k j)) (w (ix2 0 j)) j := by
  pointwise [k0_pay25, weighed, chunk, dotCol]

theorem norm22 (v16 : FVec Ideal S512x1024 .bf16) (g : FVec Ideal S256x256 .bf16) (v : FVec Ideal S1x1024x256 .bf16)
    (w : FVec Ideal S1x256 .f32) (r : Fin 512) (j : Fin 256) :
    k0_pay22 (F := Ideal) (k0_pay21 v16 g v) w (ix2 r j) = weighed (fun k => chunk v16 v r k) (fun k => g (ix2 k j)) (w (ix2 0 j)) j := by
  pointwise [k0_pay22, k0_pay21, weighed, chunk, dotCol]

/-- Column `n` of the projection of a block's row `r`. -/
def col (x0 : FVec Ideal S512x1024 .f32) (x1 : FVec Ideal S1x1024 .f32) (x2 : FVec Ideal S1x1024x3072 .bf16) (r : Fin 512) (n : Fin 3072) : EReal :=
  dotCol (row x0 x1 r) (fun k n => x2 (ix3 0 k n)) n

/-- A chunk's column of the normed rows is the projection's column there. -/
theorem chunk_eq (a0 : FVec Ideal S512x1024 .f32) (a1 : FVec Ideal S1x1024 .f32) (a2 : FVec Ideal S1x1024x3072 .bf16) (v : FVec Ideal S1x1024x256 .bf16)
    (r r' : Fin 512) (j : Fin 256) (n : Fin 3072) (hr : r = r') (h : ∀ k, v (ix3 0 k j) = a2 (ix3 0 k n)) :
    chunk (k0_pay2 a0 a1) v r j = col a0 a1 a2 r' n := by
  subst hr
  unfold chunk col dotCol
  exact Fin.sum_fin_congr fun k => Ideal.mul_congr (held a0 a1 r k) (h k)

/-- The value store's row `l` at column `r` of tile `b`: eight heads of 128 columns, each followed by sixteen ones. -/
def padded (a0 : FVec Ideal S512x1024 .f32) (a1 : FVec Ideal S1x1024 .f32) (a2 : FVec Ideal S1x1024x3072 .bf16) (r : Fin 512) (l : Fin 1152) : EReal :=
  if h : l.val % 144 < 128 then col a0 a1 a2 r ⟨2048 + l.val / 144 * 128 + l.val % 144, by omega⟩ else Ideal.ofBits .bf16 0x3F80#16

theorem padded_col (a0 : FVec Ideal S512x1024 .f32) (a1 : FVec Ideal S1x1024 .f32) (a2 : FVec Ideal S1x1024x3072 .bf16) (r : Fin 512) (l : Fin 1152)
    (n : Fin 3072) (h : l.val % 144 < 128) (hn : n.val = 2048 + l.val / 144 * 128 + l.val % 144) : padded a0 a1 a2 r l = col a0 a1 a2 r n := by
  unfold padded
  rw [dif_pos h]
  exact congrArg _ (Fin.ext hn.symm)

theorem padded_one (a0 : FVec Ideal S512x1024 .f32) (a1 : FVec Ideal S1x1024 .f32) (a2 : FVec Ideal S1x1024x3072 .bf16) (r : Fin 512) (l : Fin 1152)
    (h : ¬ l.val % 144 < 128) : padded a0 a1 a2 r l = Ideal.ofBits .bf16 0x3F80#16 := dif_neg h

variable (c : Dev nD) (i : grid0.Coords)
    (arg1 : Memref sig .tc .vmem S512x1024 .f32) (harg1 : arg1.IsWhole) (arg2 : Memref sig .tc .vmem S1x1024 .f32) (harg2 : arg2.IsWhole)
    (arg3 : Memref sig .tc .vmem S1x1024x3072 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S256x256 .bf16) (harg6 : arg6.IsWhole)
    (arg7 : Memref sig .tc .vmem S2x1024x256 .bf16) (harg7 : arg7.IsWhole) (arg8 : Memref sig .tc .vmem S512x1024 .bf16) (harg8 : arg8.IsWhole)
    (arg9 : Memref sig .tc .vmem S2x1152x256 .bf16) (harg9 : arg9.IsWhole)
    (a0 : FVec Ideal S512x1024 .f32) (a1 : FVec Ideal S1x1024 .f32) (a2 : FVec Ideal S1x1024x3072 .bf16) (a3 : FVec Ideal S1x1024 .f32)
    (a4 : FVec Ideal S1x1024 .f32) (a5 : FVec Ideal S256x256 .bf16)

/-- The stored queries, transposed in tiles of 256 rows. -/
theorem stored6 (b : Fin 2) (l : Fin 1024) (r : Fin 256) :
    out0_A_6 (F := Ideal) c i arg1 harg1 arg2 harg2 arg3 harg3 arg4 harg4 arg5 harg5 arg6 harg6 arg7 harg7 arg8 harg8 arg9 harg9 a0 a1 a2 a3 a4 a5 (ix3 b l r)
      = weighed (fun k => col a0 a1 a2 ⟨b.val * 256 + r.val, by omega⟩ ⟨0 + l.val / 256 * 256 + k.val, by omega⟩)
          (fun k => a5 (ix2 k ⟨l.val % 256, by omega⟩)) (a3 (ix2 0 l)) ⟨l.val % 256, by omega⟩ := by
  unfold out0_A_6
  frame_out
  canon_tiles x h
  all_goals
    idx_vars x
    have h1' : l.val = _ := h1
    pointwise [k0_pay6, k0_pay7, k0_pay10, k0_pay11, k0_pay13, k0_pay14, k0_pay17, k0_pay18]
    simp only [norm5, norm9, norm12, norm16, dot4, dot8]
    refine weighed_congr (fun k => chunk_eq _ _ _ _ _ _ _ _ (Fin.ext ?_) fun k' => ?_) (fun k => ?_) ?_ (Fin.ext ?_)
  all_goals first
    | ((try dsimp only) <;> omega)
    | (pointwise; refine congrArg _ (congrArg (ix3 _ _) (Fin.ext ?_)); (try dsimp only) <;> omega)
    | (pointwise [k0_pay3]; refine congrArg _ (congrArg (ix2 _) (Fin.ext ?_)); (try dsimp only) <;> omega)
    | (refine congrArg _ (congrArg (ix2 _) (Fin.ext ?_)); (try dsimp only) <;> omega)
    | (blk_ext; done)
    | (pointwise [k0_pay3]; done)

/-- The stored keys. -/
theorem stored7 (r : Fin 512) (l : Fin 1024) :
    out0_A_7 (F := Ideal) c i arg1 harg1 arg2 harg2 arg3 harg3 arg4 harg4 arg5 harg5 arg6 harg6 arg7 harg7 arg8 harg8 arg9 harg9 a0 a1 a2 a3 a4 a5 (ix2 r l)
      = weighed (fun k => col a0 a1 a2 r ⟨1024 + l.val / 256 * 256 + k.val, by omega⟩)
          (fun k => a5 (ix2 k ⟨l.val % 256, by omega⟩)) (a4 (ix2 0 l)) ⟨l.val % 256, by omega⟩ := by
  unfold out0_A_7
  frame_out
  canon_tiles x h
  all_goals
    idx_vars x
    have h1' : l.val = _ := h1
    simp only [norm19, norm22, norm23, norm25, dot15, dot20]
    refine weighed_congr (fun k => chunk_eq _ _ _ _ _ _ _ _ (Fin.ext ?_) fun k' => ?_) (fun k => ?_) ?_ (Fin.ext ?_)
  all_goals first
    | ((try dsimp only) <;> omega)
    | (pointwise; refine congrArg _ (congrArg (ix3 _ _) (Fin.ext ?_)); (try dsimp only) <;> omega)
    | (pointwise [k0_pay3]; refine congrArg _ (congrArg (ix2 _) (Fin.ext ?_)); (try dsimp only) <;> omega)
    | (refine congrArg _ (congrArg (ix2 _) (Fin.ext ?_)); (try dsimp only) <;> omega)
    | (blk_ext; done)
    | (pointwise [k0_pay3]; done)

/-- The stored values, transposed in tiles of 256 rows, sixteen ones after each head. -/
theorem stored8 (b : Fin 2) (l : Fin 1152) (r : Fin 256) :
    out0_A_8 (F := Ideal) c i arg1 harg1 arg2 harg2 arg3 harg3 arg4 harg4 arg5 harg5 arg6 harg6 arg7 harg7 arg8 harg8 arg9 harg9 a0 a1 a2 a3 a4 a5 (ix3 b l r)
      = padded a0 a1 a2 ⟨b.val * 256 + r.val, by omega⟩ l := by
  unfold out0_A_8
  frame_out
  canon_tiles x h using (View.cover_of_tiledBy _ ![1, 16, 256] (by sl_kernel_rfl) _)
  all_goals
    idx_vars x
    have h1' : l.val = _ := h1
    first
      | rw [padded_one _ _ _ _ _ (by omega)]
        pointwise [k0_pay29, k0_pay31, k0_pay34, k0_pay33, k0_pay36, k0_pay40, k0_pay43, k0_pay42, k0_pay45, k0_pay47, k0_pay52, k0_pay51, k0_pay54, k0_pay56, k0_pay58, k0_pay62, k0_pay64, k0_pay66, k0_pay1, k0_pay68]
      | pointwise [k0_pay27, k0_pay28, k0_pay30, k0_pay32, k0_pay35, k0_pay38, k0_pay39, k0_pay41, k0_pay44, k0_pay46, k0_pay49, k0_pay50, k0_pay53, k0_pay55, k0_pay57, k0_pay59, k0_pay60, k0_pay61, k0_pay63, k0_pay65, k0_pay67]
        simp only [dot24, dot26, dot37, dot48]
        refine Eq.trans (chunk_eq _ _ _ _ _ _ _ ⟨2048 + l.val / 144 * 128 + l.val % 144, by omega⟩ (Fin.ext ?_) fun k' => ?_) (padded_col _ _ _ _ _ _ (by omega) rfl).symm
  all_goals first
    | ((try dsimp only) <;> omega)
    | (pointwise; refine congrArg _ (congrArg (ix3 _ _) (Fin.ext ?_)); (try dsimp only) <;> omega)
    | (pointwise [k0_pay3]; refine congrArg _ (congrArg (ix2 _) (Fin.ext ?_)); (try dsimp only) <;> omega)
    | (refine congrArg _ (congrArg (ix2 _) (Fin.ext ?_)); (try dsimp only) <;> omega)
    | (blk_ext; done)
    | (pointwise [k0_pay3]; done)

end Cert.AttnProjIdeal.Block

end
-- ==== Proof.AttnProjFinal.lean ====
/- The input projection of an attention layer: the three arrays after the run, of the arguments. -/
module

public import proofs.«01_k».proof.Proof.AttnProjBlock

@[expose] public section

set_option maxRecDepth 16384

noncomputable section

namespace Cert.AttnProjIdeal.Block

open Cert.AttnProjIdeal Cert.AttnProjIdeal.Gen Cert.RowMath Idealize.ShloMosaic Idealize.ShloMosaic.TcCoe

/-- Column `n` of the projection of row `r` of the whole array. -/
def proj (x : FVec Ideal S4x4096x1024 .f32) (nw : FVec Ideal S1024 .f32) (w : FVec Ideal S1x1024x3072 .bf16) (r : Fin 16384) (n : Fin 3072) : EReal :=
  dotCol (rmsNorm (fun k => x (ix3 ⟨r / 4096, by omega⟩ ⟨r % 4096, by omega⟩ k)) (fun k => nw (ix1 k))) (fun k n => w (ix3 0 k n)) n

/-- The normed heads of row `r`: those of the projection's columns from `o` on. -/
def headed (x : FVec Ideal S4x4096x1024 .f32) (nw : FVec Ideal S1024 .f32) (w : FVec Ideal S1x1024x3072 .bf16) (hw : FVec Ideal S64 .f32)
    (o : ℕ) (ho : o ≤ 1024) (r : Fin 16384) (l : Fin 1024) : EReal :=
  headNorm (fun e => proj x nw w r ⟨o + l.val / 64 * 64 + e.val, by omega⟩) (hw (ix1 ⟨l.val % 64, by omega⟩)) ⟨l.val % 64, by omega⟩

/-- Row `l` of the values at row `r` of the stream: eight heads of 128 columns, sixteen ones after each. -/
def withOnes (x : FVec Ideal S4x4096x1024 .f32) (nw : FVec Ideal S1024 .f32) (w : FVec Ideal S1x1024x3072 .bf16) (r : Fin 16384) (l : Fin 1152) : EReal :=
  if h : l.val % 144 < 128 then proj x nw w r ⟨2048 + l.val / 144 * 128 + l.val % 144, by omega⟩ else Ideal.ofBits .bf16 0x3F80#16

theorem headed_congr (x : FVec Ideal S4x4096x1024 .f32) (nw : FVec Ideal S1024 .f32) (w : FVec Ideal S1x1024x3072 .bf16) (hw : FVec Ideal S64 .f32)
    (o : ℕ) (ho : o ≤ 1024) {r r' : Fin 16384} {l l' : Fin 1024} (hr : r = r') (hl : l = l') : headed x nw w hw o ho r l = headed x nw w hw o ho r' l' := by
  rw [hr, hl]

/-- The head weight of column `l`, scaled. -/
def scaledWeight (hw : FVec Ideal S64 .f32) (l : Fin 1024) : EReal :=
  hw (ix1 ⟨l.val % 64, by omega⟩) * Scalar.ofBits (F := Ideal) .f32 0x3E38AA3B#32

theorem idx : ∀ t : Fin cfg0.N, win0_0.index t = ![t.val, 0] ∧ win0_1.index t = ![0, 0]
    ∧ win0_2.index t = ![0, 0, 0] ∧ win0_3.index t = ![0, 0] ∧ win0_4.index t = ![0, 0] ∧ win0_5.index t = ![0, 0]
    ∧ win0_6.index t = ![t.val, 0, 0] ∧ win0_7.index t = ![t.val, 0] ∧ win0_8.index t = ![t.val, 0, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg0) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v11 : FVec Ideal S1x1024 .f32) (ix2 0 k) = m ((c : Thread nD τ).loc main_arg1) (ix1 k) := by
  have h : ∀ x : FVec Ideal S1024 .f32, shapeCast S1x1024 x shapeCasts_S1024_S1x1024 (ix2 0 k) = x (ix1 k) := fun x => by pointwise
  entry_read
  exact h _

/-- The head weights of the queries, once per head, times the scale. -/
theorem entry_qn (c : Dev nD) (l : Fin 1024) :
    (V m c main_v6 : FVec Ideal S1x1024 .f32) (ix2 0 l)
      = scaledWeight (m ((c : Thread nD τ).loc main_arg3)) l := by
  have h : ∀ x : FVec Ideal S64 .f32, shapeCast S1x1024 (mulf (shapeCast S1024 (broadcastInDim S16x64 ![0, 1] bcast_S1x64_S16x64_0_1
        (shapeCast S1x64 x shapeCasts_S64_S1x64)) shapeCasts_S16x64_S1024) (broadcastInDim S1024 ![] bcast_S_S1024 (constant S_ .f32 0x3E38AA3B#32)))
        shapeCasts_S1024_S1x1024 (ix2 0 l)
      = scaledWeight x l := fun x => by pointwise [scaledWeight]
  entry_read
  exact h _

/-- The head weights of the keys, once per head. -/
theorem entry_kn (c : Dev nD) (l : Fin 1024) :
    (V m c main_v10 : FVec Ideal S1x1024 .f32) (ix2 0 l) = m ((c : Thread nD τ).loc main_arg4) (ix1 ⟨l.val % 64, by omega⟩) := by
  have h : ∀ x : FVec Ideal S64 .f32, shapeCast S1x1024 (shapeCast S1024 (broadcastInDim S16x64 ![0, 1] bcast_S1x64_S16x64_0_1
        (shapeCast S1x64 x shapeCasts_S64_S1x64)) shapeCasts_S16x64_S1024) shapeCasts_S1024_S1x1024 (ix2 0 l)
      = x (ix1 ⟨l.val % 64, by omega⟩) := fun x => by pointwise
  entry_read
  exact h _

/-- The choice on the equality of two heads' numbers. -/
theorem same_head (a b : Fin 4) (p q : EReal) :
    Scalar.select (IntOp.cmpi .eq (BitVec.ofNat 32 a.val) (BitVec.ofNat 32 b.val)) p q = if a.val = b.val then p else q := by
  fin_cases a <;> fin_cases b <;> simp [Scalar.select, IntOp.cmpi]

/-- The block-diagonal matrix: 1/64 inside a head, zero outside. -/
theorem entry_g (c : Dev nD) (k j : Fin 256) :
    (V m c main_v22 : FVec Ideal S256x256 .bf16) (ix2 k j) = if k.val / 64 = j.val / 64 then Ideal.ofBits .f32 0x3C800000#32 else 0 := by
  have h : (truncf .bf16 (shapeCast S256x256 (broadcastInDim S4x64x4x64 ![0, 1, 2, 3] bcast_S4x1x4x1_S4x64x4x64_0_1_2_3
        (broadcastInDim S4x1x4x1 ![0, 2] bcast_S4x4_S4x1x4x1_0_2
          (select (cmpi .eq (broadcastInDim S4x4 ![0, 1] bcast_S4x1_S4x4_0_1 (broadcastInDim S4x1 ![0] bcast_S4_S4x1_0 (iotaInDim S4 32 0)))
              (broadcastInDim S4x4 ![0, 1] bcast_S1x4_S4x4_0_1 (broadcastInDim S1x4 ![1] bcast_S4_S1x4_1 (iotaInDim S4 32 0))))
            (broadcastInDim S4x4 ![] bcast_S_S4x4 (constant (F := Ideal) S_ .f32 0x3C800000#32))
            (broadcastInDim S4x4 ![] bcast_S_S4x4 (constant (F := Ideal) S_ .f32 0x00000000#32))))) shapeCasts_S4x64x4x64_S256x256) bitsLt_bf16_f32 : FVec Ideal S256x256 .bf16)
        (ix2 k j) = if k.val / 64 = j.val / 64 then Ideal.ofBits .f32 0x3C800000#32 else 0 := by
    pointwise
    exact same_head ⟨k.val / 64, by omega⟩ ⟨j.val / 64, by omega⟩ _ _
  entry_read
  exact h

/-- The columns of a block's row are those of the whole array's row. -/
theorem col_eq (c : Dev nD) (t : Fin cfg0.N) (r : Fin 512) (n n' : Fin 3072) (q : Fin 16384) (hq : q.val = t.val * 512 + r.val) (hn : n = n') :
    col (iblk m c 0 t) (iblk m c 1 t) (iblk m c 2 t) r n
      = proj (m ((c : Thread nD τ).loc main_arg0)) (m ((c : Thread nD τ).loc main_arg1)) (m ((c : Thread nD τ).loc main_arg2)) q n' := by
  subst hn
  unfold col proj dotCol row
  refine Fin.sum_fin_congr fun k => Ideal.mul_congr (congrFun (congrArg₂ rmsNorm (funext fun k => ?_) (funext fun k => ?_)) k) ?_
  · refine Eq.trans ?_ (entry_x m c q k)
    blk_point [iblk, idx t]
  · refine Eq.trans ?_ (entry_nw m c k)
    blk_point [iblk, idx t]
  · refine Eq.trans ?_ (congrFun (V_main_arg2 m c) (ix3 0 k n))
    blk_point [iblk, idx t]

/-- A block's normed heads are those of the whole array's row. -/
theorem head_eq (c : Dev nD) (t : Fin cfg0.N) (r : Fin 512) (l : Fin 1024) (o : ℕ) (ho : o ≤ 1024) (w : EReal) (q : Fin 16384)
    (hq : q.val = t.val * 512 + r.val) :
    weighed (fun k => col (iblk m c 0 t) (iblk m c 1 t) (iblk m c 2 t) r ⟨o + l.val / 256 * 256 + k.val, by omega⟩)
        (fun k => (iblk m c 5 t : FVec Ideal S256x256 .bf16) (ix2 k ⟨l.val % 256, by omega⟩)) w ⟨l.val % 256, by omega⟩
      = headNorm (fun e => proj (m ((c : Thread nD τ).loc main_arg0)) (m ((c : Thread nD τ).loc main_arg1)) (m ((c : Thread nD τ).loc main_arg2)) q
          ⟨o + l.val / 64 * 64 + e.val, by omega⟩) w ⟨l.val % 64, by omega⟩ := by
  rw [weighed_eq _ _ _ _ fun k => ?_]
  · refine headNorm_congr (fun e => col_eq m c t r _ _ q hq (Fin.ext ?_)) rfl (Fin.ext ?_)
    · show o + l.val / 256 * 256 + (l.val % 256 / 64 * 64 + e.val) = o + l.val / 64 * 64 + e.val
      omega
    · show l.val % 256 % 64 = l.val % 64
      omega
  · refine Eq.trans ?_ (entry_g m c k ⟨l.val % 256, by omega⟩)
    blk_point [iblk, idx t]

/-- A block's rows of values are those of the whole array. -/
theorem padded_eq (c : Dev nD) (t : Fin cfg0.N) (r : Fin 512) (l : Fin 1152) (q : Fin 16384) (hq : q.val = t.val * 512 + r.val) :
    padded (iblk m c 0 t) (iblk m c 1 t) (iblk m c 2 t) r l
      = withOnes (m ((c : Thread nD τ).loc main_arg0)) (m ((c : Thread nD τ).loc main_arg1)) (m ((c : Thread nD τ).loc main_arg2)) q l := by
  unfold padded withOnes
  split
  · exact col_eq m c t r _ _ q hq rfl
  · rfl

/-- The query array after the run: the normed heads, scaled, transposed in tiles of 256 rows. -/
theorem final6 (c : Dev nD) :
    (dats m 0 c).arrAt 6 (cfgs 0).N = fun i : S64x1024x256.Idx =>
      headed (m ((c : Thread nD τ).loc main_arg0)) (m ((c : Thread nD τ).loc main_arg1)) (m ((c : Thread nD τ).loc main_arg2))
        (m ((c : Thread nD τ).loc main_arg3)) 0 (by decide) ⟨(i 0).val * 256 + (i 2).val, by have h0 : (i 0).val < 64 := (i 0).isLt; have h2 : (i 2).val < 256 := (i 2).isLt; omega⟩ (i 1)
        * Scalar.ofBits (F := Ideal) .f32 0x3E38AA3B#32 := by
  refine (dats m 0 c).arrAt_eq_of_covers 6 _ (by decide +kernel) fun t _ y => ?_
  blk_simp
  idx_vars y
  rw [after0_6]
  unfold outsAt0
  dsimp only
  rw [stored6]
  have ht : t.val < 32 := t.isLt
  have hw : (iblk m c 3 t : FVec Ideal S1x1024 .f32) (ix2 0 y1) = _ := Eq.trans (by blk_point [iblk, idx t]) (entry_qn m c y1)
  refine Eq.trans (head_eq m c t ⟨y0.val * 256 + y2.val, by omega⟩ y1 0 (by decide) _ ⟨(t.val * 2 + y0.val) * 256 + y2.val, by omega⟩
    (by show (t.val * 2 + y0.val) * 256 + y2.val = t.val * 512 + (y0.val * 256 + y2.val); omega)) ?_
  rw [hw]
  unfold scaledWeight
  rw [headNorm_scale]
  refine congrArg (· * _) (headed_congr _ _ _ _ _ _ (Fin.ext ?_) (Fin.ext ?_))
  all_goals (blk_simp [idx t] <;> try omega)

/-- The key array after the run: the normed heads. -/
theorem final7 (c : Dev nD) :
    (dats m 0 c).arrAt 7 (cfgs 0).N = fun i : S16384x1024.Idx =>
      headed (m ((c : Thread nD τ).loc main_arg0)) (m ((c : Thread nD τ).loc main_arg1)) (m ((c : Thread nD τ).loc main_arg2))
        (m ((c : Thread nD τ).loc main_arg4)) 1024 (by decide) (i 0) (i 1) := by
  refine (dats m 0 c).arrAt_eq_of_covers 7 _ (by decide +kernel) fun t _ y => ?_
  blk_simp
  idx_vars y
  rw [after0_7]
  unfold outsAt0
  dsimp only
  rw [stored7]
  have ht : t.val < 32 := t.isLt
  have hw : (iblk m c 4 t : FVec Ideal S1x1024 .f32) (ix2 0 y1) = _ := Eq.trans (by blk_point [iblk, idx t]) (entry_kn m c y1)
  refine Eq.trans (head_eq m c t y0 y1 1024 (by decide) _ ⟨t.val * 512 + y0.val, by omega⟩ rfl) ?_
  rw [hw]
  refine headed_congr _ _ _ _ _ _ (Fin.ext ?_) (Fin.ext ?_)
  all_goals (blk_simp [idx t] <;> try omega)

/-- The value array after the run. -/
theorem final8 (c : Dev nD) :
    (dats m 0 c).arrAt 8 (cfgs 0).N = fun i : S64x1152x256.Idx =>
      withOnes (m ((c : Thread nD τ).loc main_arg0)) (m ((c : Thread nD τ).loc main_arg1)) (m ((c : Thread nD τ).loc main_arg2))
        ⟨(i 0).val * 256 + (i 2).val, by have h0 : (i 0).val < 64 := (i 0).isLt; have h2 : (i 2).val < 256 := (i 2).isLt; omega⟩ (i 1) := by
  refine (dats m 0 c).arrAt_eq_of_covers 8 _ (by decide +kernel) fun t _ y => ?_
  blk_simp
  idx_vars y
  rw [after0_8]
  unfold outsAt0
  dsimp only
  rw [stored8]
  have ht : t.val < 32 := t.isLt
  refine Eq.trans (padded_eq m c t ⟨y0.val * 256 + y2.val, by omega⟩ y1 ⟨(t.val * 2 + y0.val) * 256 + y2.val, by omega⟩
    (by show (t.val * 2 + y0.val) * 256 + y2.val = t.val * 512 + (y0.val * 256 + y2.val); omega)) ?_
  refine congrArg₂ (withOnes _ _ _) (Fin.ext ?_) (Fin.ext ?_)
  all_goals (blk_simp [idx t] <;> try omega)

end Cert.AttnProjIdeal.Block

end
-- ==== Proof.AttnProjRef.lean ====
/- The reference of the attention layer's input projection: what it computes, read index by index. -/
module

public import proofs.«01_k».proof.Proof.AttnProjFinal
public import proofs.«01_k».proof.Proof.Gen.AttentionInputsIdeal.Run
public import Idealize.ShloMosaic.Lib.Pipeline.ValueKit

@[expose] public section

set_option maxRecDepth 16384

noncomputable section

namespace Cert.AttentionInputsIdeal.Rows

open Cert.AttentionInputsIdeal Cert.AttentionInputsIdeal.Gen Cert.RowMath Cert.AttnProjIdeal.Block Idealize.ShloMosaic Idealize.ShloMosaic.TcCoe

/-- The projection of every normed row. -/
def projV (x : FVec Ideal S4x4096x1024 .f32) (nw : FVec Ideal S1024 .f32) (w : FVec Ideal S1x1024x3072 .bf16) : FVec Ideal S16384x3072 .f32 :=
  (Host.dotGeneral dot_S16384x1024_S1024x3072_S16384x3072_1_0_0_1_n_n none (shapeCast _ (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 nw))) shapeCasts_S4x4096x1024_S16384x1024) (extf .f32 (shapeCast _ w shapeCasts_S1x1024x3072_S1024x3072) bitsLt_bf16_f32))

/-- The heads of the queries. -/
def queryHeads (p : FVec Ideal S16384x3072 .f32) : FVec Ideal S16384x16x64 .f32 :=
  (shapeCast _ (extractStridedSlice S16384x1024 ![0, 0] p slices_S16384x3072_S16384x1024_0_0) shapeCasts_S16384x1024_S16384x16x64)

/-- The heads of the keys. -/
def keyHeads (p : FVec Ideal S16384x3072 .f32) : FVec Ideal S16384x16x64 .f32 :=
  (shapeCast _ (extractStridedSlice S16384x1024 ![0, 1024] p slices_S16384x3072_S16384x1024_0_1024) shapeCasts_S16384x1024_S16384x16x64)

/-- Every head over the root of its mean square, times the head weights. -/
def normedV (t : FVec Ideal S16384x16x64 .f32) (hw : FVec Ideal S64 .f32) : FVec Ideal S16384x16x64 .f32 :=
  (mulf (mulf t (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf t t) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32)))))) (broadcastInDim S16384x16x64 ![0, 1, 2] bcast_S1x1x64_S16384x16x64_0_1_2 (broadcastInDim S1x1x64 ![2] bcast_S64_S1x1x64_2 hw)))

/-- The scaled heads side by side, transposed in tiles of 256 rows. -/
def tilesV (t : FVec Ideal S16384x16x64 .f32) : FVec Ideal S64x1024x256 .bf16 :=
  truncf .bf16 (transpose S64x1024x256 [0, 2, 1] (shapeCast _ (mulf t (broadcastInDim S16384x16x64 ![] bcast_S_S16384x16x64 (constant S_ .f32 0x3E38AA3B#32))) shapeCasts_S16384x16x64_S64x256x1024) transposes_S64x256x1024_S64x1024x256_0_2_1) bitsLt_bf16_f32

/-- The heads side by side. -/
def rowsV (t : FVec Ideal S16384x16x64 .f32) : FVec Ideal S16384x1024 .bf16 :=
  truncf .bf16 (shapeCast _ t shapeCasts_S16384x16x64_S16384x1024) bitsLt_bf16_f32

/-- The values' heads transposed in tiles of 256 rows, sixteen ones after each head. -/
def valuesV (p : FVec Ideal S16384x3072 .f32) : FVec Ideal S64x1152x256 .bf16 :=
  truncf .bf16 (shapeCast _ (concatenate S64x8x144x256 2 [⟨S64x8x128x256, (transpose S64x8x128x256 [0, 2, 3, 1] (shapeCast _ (extractStridedSlice S16384x1024 ![0, 2048] p slices_S16384x3072_S16384x1024_0_2048) shapeCasts_S16384x1024_S64x256x8x128) transposes_S64x256x8x128_S64x8x128x256_0_2_3_1)⟩, ⟨S64x8x16x256, (broadcastInDim S64x8x16x256 ![] bcast_S_S64x8x16x256 (constant S_ .f32 0x3F800000#32))⟩] concatenates_S64x8x128x256_S64x8x16x256_S64x8x144x256_d2) shapeCasts_S64x8x144x256_S64x1152x256) bitsLt_bf16_f32

theorem projV_at (x : FVec Ideal S4x4096x1024 .f32) (nw : FVec Ideal S1024 .f32) (w : FVec Ideal S1x1024x3072 .bf16) (r : Fin 16384) (n : Fin 3072) : projV x nw w (ix2 r n) = proj x nw w r n := by
  pointwise [projV, proj, dotCol, rmsNorm]

theorem queryHeads_at (p : FVec Ideal S16384x3072 .f32) (r : Fin 16384) (h : Fin 16) (e : Fin 64) :
    queryHeads p (ix3 r h e) = p (ix2 r ⟨0 + h.val * 64 + e.val, by omega⟩) := by
  pointwise [queryHeads]
  blk_ext

theorem keyHeads_at (p : FVec Ideal S16384x3072 .f32) (r : Fin 16384) (h : Fin 16) (e : Fin 64) :
    keyHeads p (ix3 r h e) = p (ix2 r ⟨1024 + h.val * 64 + e.val, by omega⟩) := by
  pointwise [keyHeads]
  blk_ext

theorem normedV_at (t : FVec Ideal S16384x16x64 .f32) (hw : FVec Ideal S64 .f32) (r : Fin 16384) (h : Fin 16) (e : Fin 64) :
    normedV t hw (ix3 r h e) = headNorm (fun e => t (ix3 r h e)) (hw (ix1 e)) e := by
  pointwise [normedV, headNorm]

theorem rowsV_at (t : FVec Ideal S16384x16x64 .f32) (r : Fin 16384) (l : Fin 1024) :
    rowsV t (ix2 r l) = t (ix3 r ⟨l.val / 64, by omega⟩ ⟨l.val % 64, by omega⟩) := by
  pointwise [rowsV]

theorem tilesV_at (t : FVec Ideal S16384x16x64 .f32) (b : Fin 64) (l : Fin 1024) (s : Fin 256) :
    tilesV t (ix3 b l s) = t (ix3 ⟨b.val * 256 + s.val, by omega⟩ ⟨l.val / 64, by omega⟩ ⟨l.val % 64, by omega⟩)
      * Scalar.ofBits (F := Ideal) .f32 0x3E38AA3B#32 := by
  pointwise [tilesV]

theorem query (x : FVec Ideal S4x4096x1024 .f32) (nw : FVec Ideal S1024 .f32) (w : FVec Ideal S1x1024x3072 .bf16) (hw : FVec Ideal S64 .f32) :
    tilesV (normedV (queryHeads (projV x nw w)) hw) = fun i : S64x1024x256.Idx =>
      headed x nw w hw 0 (by decide) ⟨(i 0).val * 256 + (i 2).val, by have h0 : (i 0).val < 64 := (i 0).isLt; have h2 : (i 2).val < 256 := (i 2).isLt; omega⟩ (i 1)
        * Scalar.ofBits (F := Ideal) .f32 0x3E38AA3B#32 := by
  funext i
  idx_vars i
  rw [tilesV_at, normedV_at]
  simp only [queryHeads_at, projV_at]
  rfl

theorem key (x : FVec Ideal S4x4096x1024 .f32) (nw : FVec Ideal S1024 .f32) (w : FVec Ideal S1x1024x3072 .bf16) (hw : FVec Ideal S64 .f32) :
    rowsV (normedV (keyHeads (projV x nw w)) hw) = fun i : S16384x1024.Idx => headed x nw w hw 1024 (by decide) (i 0) (i 1) := by
  funext i
  idx_vars i
  rw [rowsV_at, normedV_at]
  simp only [keyHeads_at, projV_at]
  rfl

theorem value (x : FVec Ideal S4x4096x1024 .f32) (nw : FVec Ideal S1024 .f32) (w : FVec Ideal S1x1024x3072 .bf16) :
    valuesV (projV x nw w) = fun i : S64x1152x256.Idx =>
      withOnes x nw w ⟨(i 0).val * 256 + (i 2).val, by have h0 : (i 0).val < 64 := (i 0).isLt; have h2 : (i 2).val < 256 := (i 2).isLt; omega⟩ (i 1) := by
  funext i
  idx_vars i
  unfold withOnes
  pointwise [valuesV]
  split
  · rw [projV_at]
    exact congrArg _ (Fin.ext (Nat.add_assoc _ _ _).symm)
  · rfl

end Cert.AttentionInputsIdeal.Rows

end
-- ==== Proof.AttnProjClaim.lean ====
/- The value claim of an attention layer's input projection. -/
module

public import proofs.«01_k».proof.Defs
public import proofs.«01_k».proof.Proof.AttnProjRef
public import Idealize.ShloMosaic.Adequacy
public import Idealize.ShloMosaic.Init

@[expose] public section

set_option maxRecDepth 16384

noncomputable section

namespace Cert.Proof

open Idealize.ShloMosaic Idealize.SL.Sem

/-- The normed and transposed queries, the normed keys and the transposed values are what the reference computes. -/
theorem attention_projection : Cert.algebraic_AttnProjIdeal_AttentionInputsIdeal := by
  pair_intro
  · run_from Cert.AttnProjIdeal.Value.run_blocks m g
  · refine (θ_run _ _ _).mono (fun r h c => ?_) (Cert.AttentionInputsIdeal.Value.run m' g')
    obtain ⟨h0, h1, h2, hargs⟩ := h c
    obtain ⟨a0, a1, a2, a3, a4⟩ := hagree c
    refine ⟨h0.trans ?_, h1.trans ?_, h2.trans ?_, hargs⟩
    · refine Eq.trans ?_ (Cert.AttnProjIdeal.Block.final6 m c).symm
      unfold Cert.AttentionInputsIdeal.Value.res_main_v58
      rw [a0, a1, a2, a3]
      exact Cert.AttentionInputsIdeal.Rows.query _ _ _ _
    · refine Eq.trans ?_ (Cert.AttnProjIdeal.Block.final7 m c).symm
      unfold Cert.AttentionInputsIdeal.Value.res_main_v59
      rw [a0, a1, a2, a4]
      exact Cert.AttentionInputsIdeal.Rows.key _ _ _ _
    · refine Eq.trans ?_ (Cert.AttnProjIdeal.Block.final8 m c).symm
      rw [a0, a1, a2]
      exact Cert.AttentionInputsIdeal.Rows.value _ _ _

end Cert.Proof

end
-- ==== Proof.MobaProjBlock.lean ====
/- The input projection of the MoBA layer: what one grid point computes from its rows, read index by index. -/
module

public import proofs.«01_k».proof.Proof.HeadMath
public import proofs.«01_k».proof.Proof.Gen.MobaProjIdeal.Value
public import Idealize.ShloMosaic.Lib.Pipeline.ValueKit

@[expose] public section

set_option maxRecDepth 16384

noncomputable section

namespace Cert.MobaProjIdeal.Block

open Cert.MobaProjIdeal Cert.MobaProjIdeal.Gen Cert.RowMath Idealize.ShloMosaic Idealize.ShloMosaic.TcCoe

/-- The normed row `r` of a block. -/
def row (x0 : FVec Ideal S512x1024 .f32) (x1 : FVec Ideal S1x1024 .f32) (r : Fin 512) (k : Fin 1024) : EReal :=
  rmsNorm (fun k => x0 (ix2 r k)) (fun k => x1 (ix2 0 k)) k

/-- The normed rows the body holds. -/
theorem held (v0 : FVec Ideal S512x1024 .f32) (v2 : FVec Ideal S1x1024 .f32) (r : Fin 512) (k : Fin 1024) :
    k0_pay6 (F := Ideal) v0 v2 (ix2 r k) = row v0 v2 r k := by
  pointwise [k0_pay6, row, rmsNorm]

/-- The column `j` of a chunk's product, of the normed rows. -/
def chunk (v16 : FVec Ideal S512x1024 .bf16) (v : FVec Ideal S1x1024x256 .bf16) (r : Fin 512) (j : Fin 256) : EReal :=
  dotCol (fun k => v16 (ix2 r k)) (fun k n => v (ix3 0 k n)) j

theorem dot8 (v0 : FVec Ideal S512x1024 .f32) (v2 : FVec Ideal S1x1024 .f32) (v : FVec Ideal S1x1024x256 .bf16) (r : Fin 512) (j : Fin 256) :
    k0_pay8 (F := Ideal) v0 v2 v (ix2 r j) = chunk (k0_pay6 v0 v2) v r j := by
  pointwise [k0_pay8, chunk, dotCol]

theorem dot19 (v16 : FVec Ideal S512x1024 .bf16) (v : FVec Ideal S1x1024x256 .bf16) (r : Fin 512) (j : Fin 256) :
    k0_pay19 (F := Ideal) v16 v (ix2 r j) = chunk v16 v r j := by
  pointwise [k0_pay19, chunk, dotCol]

theorem dot24 (v16 : FVec Ideal S512x1024 .bf16) (v : FVec Ideal S1x1024x256 .bf16) (r : Fin 512) (j : Fin 256) :
    k0_pay24 (F := Ideal) v16 v (ix2 r j) = chunk v16 v r j := by
  pointwise [k0_pay24, chunk, dotCol]

theorem dot28 (v16 : FVec Ideal S512x1024 .bf16) (v : FVec Ideal S1x1024x256 .bf16) (r : Fin 512) (j : Fin 256) :
    k0_pay28 (F := Ideal) v16 v (ix2 r j) = chunk v16 v r j := by
  pointwise [k0_pay28, chunk, dotCol]

theorem dot30 (v16 : FVec Ideal S512x1024 .bf16) (v : FVec Ideal S1x1024x256 .bf16) (r : Fin 512) (j : Fin 256) :
    k0_pay30 (F := Ideal) v16 v (ix2 r j) = chunk v16 v r j := by
  pointwise [k0_pay30, chunk, dotCol]

theorem dot50 (v16 : FVec Ideal S512x1024 .bf16) (v : FVec Ideal S1x1024x256 .bf16) (r : Fin 512) (j : Fin 256) :
    k0_pay50 (F := Ideal) v16 v (ix2 r j) = chunk v16 v r j := by
  pointwise [k0_pay50, chunk, dotCol]

theorem dot71 (v16 : FVec Ideal S512x1024 .bf16) (v : FVec Ideal S1x1024x256 .bf16) (r : Fin 512) (j : Fin 256) :
    k0_pay71 (F := Ideal) v16 (k0_pay70 v) (constant S512x256 .f32 0x00000000#32) (ix2 r j) = chunk v16 v r j := by
  pointwise [k0_pay71, k0_pay70, chunk, dotCol]

theorem dot12 (v16 : FVec Ideal S512x1024 .bf16) (v : FVec Ideal S1x1024x256 .bf16) (r : Fin 512) (j : Fin 256) :
    k0_pay12 (F := Ideal) v16 v (ix2 r j) = chunk v16 v r j := by
  pointwise [k0_pay12, chunk, dotCol]

theorem norm13 (g : FVec Ideal S256x256 .bf16) (v : FVec Ideal S512x256 .f32) (w : FVec Ideal S1x256 .f32) (r : Fin 512) (j : Fin 256) :
    k0_pay13 (F := Ideal) g v w (ix2 j r) = weighed (fun k => v (ix2 r k)) (fun k => g (ix2 k j)) (w (ix2 0 j)) j := by
  pointwise [k0_pay13, weighed]

theorem norm9 (v0 : FVec Ideal S512x1024 .f32) (v2 : FVec Ideal S1x1024 .f32) (g : FVec Ideal S256x256 .bf16) (v : FVec Ideal S1x1024x256 .bf16)
    (w : FVec Ideal S1x256 .f32) (r : Fin 512) (j : Fin 256) :
    k0_pay9 (F := Ideal) v0 v2 g v w (ix2 j r)
      = weighed (fun k => chunk (k0_pay6 v0 v2) v r k) (fun k => g (ix2 k j)) (w (ix2 0 j)) j := by
  pointwise [k0_pay9, k0_pay7, weighed, chunk, dotCol]

theorem norm16 (g : FVec Ideal S256x256 .bf16) (v : FVec Ideal S512x256 .f32) (w : FVec Ideal S1x256 .f32) (r : Fin 512) (j : Fin 256) :
    k0_pay16 (F := Ideal) g v w (ix2 j r) = weighed (fun k => v (ix2 r k)) (fun k => g (ix2 k j)) (w (ix2 0 j)) j := by
  pointwise [k0_pay16, weighed]

theorem norm20 (v16 : FVec Ideal S512x1024 .bf16) (g : FVec Ideal S256x256 .bf16) (v : FVec Ideal S1x1024x256 .bf16)
    (w : FVec Ideal S1x256 .f32) (r : Fin 512) (j : Fin 256) :
    k0_pay20 (F := Ideal) v16 g v w (ix2 j r) = weighed (fun k => chunk v16 v r k) (fun k => g (ix2 k j)) (w (ix2 0 j)) j := by
  pointwise [k0_pay20, weighed, chunk, dotCol]

theorem norm23 (g : FVec Ideal S256x256 .bf16) (v : FVec Ideal S512x256 .f32) (w : FVec Ideal S1x256 .f32) (r : Fin 512) (j : Fin 256) :
    k0_pay23 (F := Ideal) g v w (ix2 r j) = weighed (fun k => v (ix2 r k)) (fun k => g (ix2 k j)) (w (ix2 0 j)) j := by
  pointwise [k0_pay23, weighed]

theorem norm27 (g : FVec Ideal S256x256 .bf16) (v : FVec Ideal S512x256 .f32) (w : FVec Ideal S1x256 .f32) (r : Fin 512) (j : Fin 256) :
    k0_pay27 (F := Ideal) g v w (ix2 r j) = weighed (fun k => v (ix2 r k)) (fun k => g (ix2 k j)) (w (ix2 0 j)) j := by
  pointwise [k0_pay27, weighed]

theorem norm29 (v16 : FVec Ideal S512x1024 .bf16) (g : FVec Ideal S256x256 .bf16) (v : FVec Ideal S1x1024x256 .bf16)
    (w : FVec Ideal S1x256 .f32) (r : Fin 512) (j : Fin 256) :
    k0_pay29 (F := Ideal) v16 g v w (ix2 r j) = weighed (fun k => chunk v16 v r k) (fun k => g (ix2 k j)) (w (ix2 0 j)) j := by
  pointwise [k0_pay29, weighed, chunk, dotCol]

theorem norm26 (v16 : FVec Ideal S512x1024 .bf16) (g : FVec Ideal S256x256 .bf16) (v : FVec Ideal S1x1024x256 .bf16)
    (w : FVec Ideal S1x256 .f32) (r : Fin 512) (j : Fin 256) :
    k0_pay26 (F := Ideal) (k0_pay25 v16 g v) w (ix2 r j) = weighed (fun k => chunk v16 v r k) (fun k => g (ix2 k j)) (w (ix2 0 j)) j := by
  pointwise [k0_pay26, k0_pay25, weighed, chunk, dotCol]

/-- Column `n` of the projection of a block's row `r`. -/
def col (x0 : FVec Ideal S512x1024 .f32) (x1 : FVec Ideal S1x1024 .f32) (x2 : FVec Ideal S1x1024x3072 .bf16) (r : Fin 512) (n : Fin 3072) : EReal :=
  dotCol (row x0 x1 r) (fun k n => x2 (ix3 0 k n)) n

/-- A chunk's column of the normed rows is the projection's column there. -/
theorem chunk_eq (a0 : FVec Ideal S512x1024 .f32) (a1 : FVec Ideal S1x1024 .f32) (a2 : FVec Ideal S1x1024x3072 .bf16) (v : FVec Ideal S1x1024x256 .bf16)
    (r r' : Fin 512) (j : Fin 256) (n : Fin 3072) (hr : r = r') (h : ∀ k, v (ix3 0 k j) = a2 (ix3 0 k n)) :
    chunk (k0_pay6 a0 a1) v r j = col a0 a1 a2 r' n := by
  subst hr
  unfold chunk col dotCol
  exact Fin.sum_fin_congr fun k => Ideal.mul_congr (held a0 a1 r k) (h k)

/-- The value store's row `l` at column `r` of tile `b`: sixteen heads of 64 columns, each followed by sixteen ones. -/
def padded (a0 : FVec Ideal S512x1024 .f32) (a1 : FVec Ideal S1x1024 .f32) (a2 : FVec Ideal S1x1024x3072 .bf16) (r : Fin 512) (l : Fin 1280) : EReal :=
  if h : l.val % 80 < 64 then col a0 a1 a2 r ⟨2048 + l.val / 80 * 64 + l.val % 80, by omega⟩ else Ideal.ofBits .bf16 0x3F80#16

theorem padded_col (a0 : FVec Ideal S512x1024 .f32) (a1 : FVec Ideal S1x1024 .f32) (a2 : FVec Ideal S1x1024x3072 .bf16) (r : Fin 512) (l : Fin 1280)
    (n : Fin 3072) (h : l.val % 80 < 64) (hn : n.val = 2048 + l.val / 80 * 64 + l.val % 80) : padded a0 a1 a2 r l = col a0 a1 a2 r n := by
  unfold padded
  rw [dif_pos h]
  exact congrArg _ (Fin.ext hn.symm)

theorem padded_one (a0 : FVec Ideal S512x1024 .f32) (a1 : FVec Ideal S1x1024 .f32) (a2 : FVec Ideal S1x1024x3072 .bf16) (r : Fin 512) (l : Fin 1280)
    (h : ¬ l.val % 80 < 64) : padded a0 a1 a2 r l = Ideal.ofBits .bf16 0x3F80#16 := dif_neg h

variable (c : Dev nD) (i : grid0.Coords)
    (arg1 : Memref sig .tc .vmem S512x1024 .f32) (harg1 : arg1.IsWhole) (arg2 : Memref sig .tc .vmem S1x1024 .f32) (harg2 : arg2.IsWhole)
    (arg3 : Memref sig .tc .vmem S1x1024x3072 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S256x256 .bf16) (harg6 : arg6.IsWhole)
    (arg7 : Memref sig .tc .vmem S2x1024x256 .bf16) (harg7 : arg7.IsWhole) (arg8 : Memref sig .tc .vmem S512x1024 .bf16) (harg8 : arg8.IsWhole)
    (arg9 : Memref sig .tc .vmem S2x1280x256 .bf16) (harg9 : arg9.IsWhole)
    (a0 : FVec Ideal S512x1024 .f32) (a1 : FVec Ideal S1x1024 .f32) (a2 : FVec Ideal S1x1024x3072 .bf16) (a3 : FVec Ideal S1x1024 .f32)
    (a4 : FVec Ideal S1x1024 .f32) (a5 : FVec Ideal S256x256 .bf16)

/-- The stored queries, transposed in tiles of 256 rows. -/
theorem stored6 (b : Fin 2) (l : Fin 1024) (r : Fin 256) :
    out0_A_6 (F := Ideal) c i arg1 harg1 arg2 harg2 arg3 harg3 arg4 harg4 arg5 harg5 arg6 harg6 arg7 harg7 arg8 harg8 arg9 harg9 a0 a1 a2 a3 a4 a5 (ix3 b l r)
      = weighed (fun k => col a0 a1 a2 ⟨b.val * 256 + r.val, by omega⟩ ⟨0 + l.val / 256 * 256 + k.val, by omega⟩)
          (fun k => a5 (ix2 k ⟨l.val % 256, by omega⟩)) (a3 (ix2 0 l)) ⟨l.val % 256, by omega⟩ := by
  unfold out0_A_6
  frame_out
  canon_tiles x h
  all_goals
    idx_vars x
    have h1' : l.val = _ := h1
    pointwise [k0_pay10, k0_pay11, k0_pay14, k0_pay15, k0_pay17, k0_pay18, k0_pay21, k0_pay22]
    simp only [norm9, norm13, norm16, norm20, dot8, dot12]
    refine weighed_congr (fun k => chunk_eq _ _ _ _ _ _ _ _ (Fin.ext ?_) fun k' => ?_) (fun k => ?_) ?_ (Fin.ext ?_)
  all_goals first
    | ((try dsimp only) <;> omega)
    | (pointwise; refine congrArg _ (congrArg (ix3 _ _) (Fin.ext ?_)); (try dsimp only) <;> omega)
    | (pointwise [k0_pay7]; refine congrArg _ (congrArg (ix2 _) (Fin.ext ?_)); (try dsimp only) <;> omega)
    | (refine congrArg _ (congrArg (ix2 _) (Fin.ext ?_)); (try dsimp only) <;> omega)
    | (blk_ext; done)
    | (pointwise [k0_pay7]; done)

/-- The stored keys. -/
theorem stored7 (r : Fin 512) (l : Fin 1024) :
    out0_A_7 (F := Ideal) c i arg1 harg1 arg2 harg2 arg3 harg3 arg4 harg4 arg5 harg5 arg6 harg6 arg7 harg7 arg8 harg8 arg9 harg9 a0 a1 a2 a3 a4 a5 (ix2 r l)
      = weighed (fun k => col a0 a1 a2 r ⟨1024 + l.val / 256 * 256 + k.val, by omega⟩)
          (fun k => a5 (ix2 k ⟨l.val % 256, by omega⟩)) (a4 (ix2 0 l)) ⟨l.val % 256, by omega⟩ := by
  unfold out0_A_7
  frame_out
  canon_tiles x h
  all_goals
    idx_vars x
    have h1' : l.val = _ := h1
    simp only [norm23, norm26, norm27, norm29, dot19, dot24]
    refine weighed_congr (fun k => chunk_eq _ _ _ _ _ _ _ _ (Fin.ext ?_) fun k' => ?_) (fun k => ?_) ?_ (Fin.ext ?_)
  all_goals first
    | ((try dsimp only) <;> omega)
    | (pointwise; refine congrArg _ (congrArg (ix3 _ _) (Fin.ext ?_)); (try dsimp only) <;> omega)
    | (pointwise [k0_pay7]; refine congrArg _ (congrArg (ix2 _) (Fin.ext ?_)); (try dsimp only) <;> omega)
    | (refine congrArg _ (congrArg (ix2 _) (Fin.ext ?_)); (try dsimp only) <;> omega)
    | (blk_ext; done)
    | (pointwise [k0_pay7]; done)

/-- The stored values, transposed in tiles of 256 rows, sixteen ones after each head. -/
theorem stored8 (b : Fin 2) (l : Fin 1280) (r : Fin 256) :
    out0_A_8 (F := Ideal) c i arg1 harg1 arg2 harg2 arg3 harg3 arg4 harg4 arg5 harg5 arg6 harg6 arg7 harg7 arg8 harg8 arg9 harg9 a0 a1 a2 a3 a4 a5 (ix3 b l r)
      = padded a0 a1 a2 ⟨b.val * 256 + r.val, by omega⟩ l := by
  unfold out0_A_8
  frame_out
  canon_tiles x h using (View.cover_of_tiledBy _ ![1, 16, 256] (by sl_kernel_rfl) _)
  all_goals
    idx_vars x
    have h1' : l.val = _ := h1
    first
      | rw [padded_one _ _ _ _ _ (by omega)]
        pointwise [k0_pay3, k0_pay5, k0_pay33, k0_pay35, k0_pay37, k0_pay38, k0_pay40, k0_pay42, k0_pay44, k0_pay47, k0_pay49, k0_pay53, k0_pay56, k0_pay58, k0_pay60, k0_pay62, k0_pay63, k0_pay65, k0_pay67, k0_pay69, k0_pay74, k0_pay76, k0_pay78, k0_pay81, k0_pay83, k0_pay85, k0_pay87, k0_pay88, k0_pay90, k0_pay93, k0_pay95, k0_pay98, k0_pay100, k0_pay102, k0_pay104, k0_pay1]
      | pointwise [k0_pay31, k0_pay32, k0_pay34, k0_pay36, k0_pay39, k0_pay41, k0_pay43, k0_pay45, k0_pay46, k0_pay48, k0_pay51, k0_pay52, k0_pay54, k0_pay55, k0_pay57, k0_pay59, k0_pay61, k0_pay64, k0_pay66, k0_pay68, k0_pay72, k0_pay73, k0_pay75, k0_pay77, k0_pay79, k0_pay80, k0_pay82, k0_pay84, k0_pay86, k0_pay89, k0_pay91, k0_pay92, k0_pay94, k0_pay96, k0_pay97, k0_pay99, k0_pay101, k0_pay103, k0_pay2, k0_pay4]
        simp only [dot28, dot30, dot50, dot71]
        refine Eq.trans (chunk_eq _ _ _ _ _ _ _ ⟨2048 + l.val / 80 * 64 + l.val % 80, by omega⟩ (Fin.ext ?_) fun k' => ?_) (padded_col _ _ _ _ _ _ (by omega) rfl).symm
  all_goals first
    | ((try dsimp only) <;> omega)
    | (pointwise; refine congrArg _ (congrArg (ix3 _ _) (Fin.ext ?_)); (try dsimp only) <;> omega)
    | (pointwise [k0_pay7]; refine congrArg _ (congrArg (ix2 _) (Fin.ext ?_)); (try dsimp only) <;> omega)
    | (refine congrArg _ (congrArg (ix2 _) (Fin.ext ?_)); (try dsimp only) <;> omega)
    | (blk_ext; done)
    | (pointwise [k0_pay7]; done)

end Cert.MobaProjIdeal.Block

end
-- ==== Proof.MobaProjFinal.lean ====
/- The input projection of the MoBA layer: the three arrays after the run, of the arguments. -/
module

public import proofs.«01_k».proof.Proof.MobaProjBlock

@[expose] public section

set_option maxRecDepth 16384

noncomputable section

namespace Cert.MobaProjIdeal.Block

open Cert.MobaProjIdeal Cert.MobaProjIdeal.Gen Cert.RowMath Idealize.ShloMosaic Idealize.ShloMosaic.TcCoe

/-- Column `n` of the projection of row `r` of the whole array. -/
def proj (x : FVec Ideal S4x4096x1024 .f32) (nw : FVec Ideal S1024 .f32) (w : FVec Ideal S1x1024x3072 .bf16) (r : Fin 16384) (n : Fin 3072) : EReal :=
  dotCol (rmsNorm (fun k => x (ix3 ⟨r / 4096, by omega⟩ ⟨r % 4096, by omega⟩ k)) (fun k => nw (ix1 k))) (fun k n => w (ix3 0 k n)) n

/-- The normed heads of row `r`: those of the projection's columns from `o` on. -/
def headed (x : FVec Ideal S4x4096x1024 .f32) (nw : FVec Ideal S1024 .f32) (w : FVec Ideal S1x1024x3072 .bf16) (hw : FVec Ideal S64 .f32)
    (o : ℕ) (ho : o ≤ 1024) (r : Fin 16384) (l : Fin 1024) : EReal :=
  headNorm (fun e => proj x nw w r ⟨o + l.val / 64 * 64 + e.val, by omega⟩) (hw (ix1 ⟨l.val % 64, by omega⟩)) ⟨l.val % 64, by omega⟩

/-- Row `l` of the values at row `r` of the stream: sixteen heads of 64 columns, sixteen ones after each. -/
def withOnes (x : FVec Ideal S4x4096x1024 .f32) (nw : FVec Ideal S1024 .f32) (w : FVec Ideal S1x1024x3072 .bf16) (r : Fin 16384) (l : Fin 1280) : EReal :=
  if h : l.val % 80 < 64 then proj x nw w r ⟨2048 + l.val / 80 * 64 + l.val % 80, by omega⟩ else Ideal.ofBits .bf16 0x3F80#16

theorem headed_congr (x : FVec Ideal S4x4096x1024 .f32) (nw : FVec Ideal S1024 .f32) (w : FVec Ideal S1x1024x3072 .bf16) (hw : FVec Ideal S64 .f32)
    (o : ℕ) (ho : o ≤ 1024) {r r' : Fin 16384} {l l' : Fin 1024} (hr : r = r') (hl : l = l') : headed x nw w hw o ho r l = headed x nw w hw o ho r' l' := by
  rw [hr, hl]

/-- The head weight of column `l`, scaled. -/
def scaledWeight (hw : FVec Ideal S64 .f32) (l : Fin 1024) : EReal :=
  hw (ix1 ⟨l.val % 64, by omega⟩) * Scalar.ofBits (F := Ideal) .f32 0x3E38AA3B#32

theorem idx : ∀ t : Fin cfg0.N, win0_0.index t = ![t.val, 0] ∧ win0_1.index t = ![0, 0]
    ∧ win0_2.index t = ![0, 0, 0] ∧ win0_3.index t = ![0, 0] ∧ win0_4.index t = ![0, 0] ∧ win0_5.index t = ![0, 0]
    ∧ win0_6.index t = ![t.val, 0, 0] ∧ win0_7.index t = ![t.val, 0] ∧ win0_8.index t = ![t.val, 0, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg0) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v11 : FVec Ideal S1x1024 .f32) (ix2 0 k) = m ((c : Thread nD τ).loc main_arg1) (ix1 k) := by
  have h : ∀ x : FVec Ideal S1024 .f32, shapeCast S1x1024 x shapeCasts_S1024_S1x1024 (ix2 0 k) = x (ix1 k) := fun x => by pointwise
  entry_read
  exact h _

/-- The head weights of the queries, once per head, times the scale. -/
theorem entry_qn (c : Dev nD) (l : Fin 1024) :
    (V m c main_v6 : FVec Ideal S1x1024 .f32) (ix2 0 l)
      = scaledWeight (m ((c : Thread nD τ).loc main_arg3)) l := by
  have h : ∀ x : FVec Ideal S64 .f32, shapeCast S1x1024 (mulf (shapeCast S1024 (broadcastInDim S16x64 ![0, 1] bcast_S1x64_S16x64_0_1
        (shapeCast S1x64 x shapeCasts_S64_S1x64)) shapeCasts_S16x64_S1024) (broadcastInDim S1024 ![] bcast_S_S1024 (constant S_ .f32 0x3E38AA3B#32)))
        shapeCasts_S1024_S1x1024 (ix2 0 l)
      = scaledWeight x l := fun x => by pointwise [scaledWeight]
  entry_read
  exact h _

/-- The head weights of the keys, once per head. -/
theorem entry_kn (c : Dev nD) (l : Fin 1024) :
    (V m c main_v10 : FVec Ideal S1x1024 .f32) (ix2 0 l) = m ((c : Thread nD τ).loc main_arg4) (ix1 ⟨l.val % 64, by omega⟩) := by
  have h : ∀ x : FVec Ideal S64 .f32, shapeCast S1x1024 (shapeCast S1024 (broadcastInDim S16x64 ![0, 1] bcast_S1x64_S16x64_0_1
        (shapeCast S1x64 x shapeCasts_S64_S1x64)) shapeCasts_S16x64_S1024) shapeCasts_S1024_S1x1024 (ix2 0 l)
      = x (ix1 ⟨l.val % 64, by omega⟩) := fun x => by pointwise
  entry_read
  exact h _

/-- The choice on the equality of two heads' numbers. -/
theorem same_head (a b : Fin 4) (p q : EReal) :
    Scalar.select (IntOp.cmpi .eq (BitVec.ofNat 32 a.val) (BitVec.ofNat 32 b.val)) p q = if a.val = b.val then p else q := by
  fin_cases a <;> fin_cases b <;> simp [Scalar.select, IntOp.cmpi]

/-- The block-diagonal matrix: 1/64 inside a head, zero outside. -/
theorem entry_g (c : Dev nD) (k j : Fin 256) :
    (V m c main_v22 : FVec Ideal S256x256 .bf16) (ix2 k j) = if k.val / 64 = j.val / 64 then Ideal.ofBits .f32 0x3C800000#32 else 0 := by
  have h : (truncf .bf16 (shapeCast S256x256 (broadcastInDim S4x64x4x64 ![0, 1, 2, 3] bcast_S4x1x4x1_S4x64x4x64_0_1_2_3
        (broadcastInDim S4x1x4x1 ![0, 2] bcast_S4x4_S4x1x4x1_0_2
          (select (cmpi .eq (broadcastInDim S4x4 ![0, 1] bcast_S4x1_S4x4_0_1 (broadcastInDim S4x1 ![0] bcast_S4_S4x1_0 (iotaInDim S4 32 0)))
              (broadcastInDim S4x4 ![0, 1] bcast_S1x4_S4x4_0_1 (broadcastInDim S1x4 ![1] bcast_S4_S1x4_1 (iotaInDim S4 32 0))))
            (broadcastInDim S4x4 ![] bcast_S_S4x4 (constant (F := Ideal) S_ .f32 0x3C800000#32))
            (broadcastInDim S4x4 ![] bcast_S_S4x4 (constant (F := Ideal) S_ .f32 0x00000000#32))))) shapeCasts_S4x64x4x64_S256x256) bitsLt_bf16_f32 : FVec Ideal S256x256 .bf16)
        (ix2 k j) = if k.val / 64 = j.val / 64 then Ideal.ofBits .f32 0x3C800000#32 else 0 := by
    pointwise
    exact same_head ⟨k.val / 64, by omega⟩ ⟨j.val / 64, by omega⟩ _ _
  entry_read
  exact h

/-- The columns of a block's row are those of the whole array's row. -/
theorem col_eq (c : Dev nD) (t : Fin cfg0.N) (r : Fin 512) (n n' : Fin 3072) (q : Fin 16384) (hq : q.val = t.val * 512 + r.val) (hn : n = n') :
    col (iblk m c 0 t) (iblk m c 1 t) (iblk m c 2 t) r n
      = proj (m ((c : Thread nD τ).loc main_arg0)) (m ((c : Thread nD τ).loc main_arg1)) (m ((c : Thread nD τ).loc main_arg2)) q n' := by
  subst hn
  unfold col proj dotCol row
  refine Fin.sum_fin_congr fun k => Ideal.mul_congr (congrFun (congrArg₂ rmsNorm (funext fun k => ?_) (funext fun k => ?_)) k) ?_
  · refine Eq.trans ?_ (entry_x m c q k)
    blk_point [iblk, idx t]
  · refine Eq.trans ?_ (entry_nw m c k)
    blk_point [iblk, idx t]
  · refine Eq.trans ?_ (congrFun (V_main_arg2 m c) (ix3 0 k n))
    blk_point [iblk, idx t]

/-- A block's normed heads are those of the whole array's row. -/
theorem head_eq (c : Dev nD) (t : Fin cfg0.N) (r : Fin 512) (l : Fin 1024) (o : ℕ) (ho : o ≤ 1024) (w : EReal) (q : Fin 16384)
    (hq : q.val = t.val * 512 + r.val) :
    weighed (fun k => col (iblk m c 0 t) (iblk m c 1 t) (iblk m c 2 t) r ⟨o + l.val / 256 * 256 + k.val, by omega⟩)
        (fun k => (iblk m c 5 t : FVec Ideal S256x256 .bf16) (ix2 k ⟨l.val % 256, by omega⟩)) w ⟨l.val % 256, by omega⟩
      = headNorm (fun e => proj (m ((c : Thread nD τ).loc main_arg0)) (m ((c : Thread nD τ).loc main_arg1)) (m ((c : Thread nD τ).loc main_arg2)) q
          ⟨o + l.val / 64 * 64 + e.val, by omega⟩) w ⟨l.val % 64, by omega⟩ := by
  rw [weighed_eq _ _ _ _ fun k => ?_]
  · refine headNorm_congr (fun e => col_eq m c t r _ _ q hq (Fin.ext ?_)) rfl (Fin.ext ?_)
    · show o + l.val / 256 * 256 + (l.val % 256 / 64 * 64 + e.val) = o + l.val / 64 * 64 + e.val
      omega
    · show l.val % 256 % 64 = l.val % 64
      omega
  · refine Eq.trans ?_ (entry_g m c k ⟨l.val % 256, by omega⟩)
    blk_point [iblk, idx t]

/-- A block's rows of values are those of the whole array. -/
theorem padded_eq (c : Dev nD) (t : Fin cfg0.N) (r : Fin 512) (l : Fin 1280) (q : Fin 16384) (hq : q.val = t.val * 512 + r.val) :
    padded (iblk m c 0 t) (iblk m c 1 t) (iblk m c 2 t) r l
      = withOnes (m ((c : Thread nD τ).loc main_arg0)) (m ((c : Thread nD τ).loc main_arg1)) (m ((c : Thread nD τ).loc main_arg2)) q l := by
  unfold padded withOnes
  split
  · exact col_eq m c t r _ _ q hq rfl
  · rfl

/-- The query array after the run: the normed heads, scaled, transposed in tiles of 256 rows. -/
theorem final6 (c : Dev nD) :
    (dats m 0 c).arrAt 6 (cfgs 0).N = fun i : S64x1024x256.Idx =>
      headed (m ((c : Thread nD τ).loc main_arg0)) (m ((c : Thread nD τ).loc main_arg1)) (m ((c : Thread nD τ).loc main_arg2))
        (m ((c : Thread nD τ).loc main_arg3)) 0 (by decide) ⟨(i 0).val * 256 + (i 2).val, by have h0 : (i 0).val < 64 := (i 0).isLt; have h2 : (i 2).val < 256 := (i 2).isLt; omega⟩ (i 1)
        * Scalar.ofBits (F := Ideal) .f32 0x3E38AA3B#32 := by
  refine (dats m 0 c).arrAt_eq_of_covers 6 _ (by decide +kernel) fun t _ y => ?_
  blk_simp
  idx_vars y
  rw [after0_6]
  unfold outsAt0
  dsimp only
  rw [stored6]
  have ht : t.val < 32 := t.isLt
  have hw : (iblk m c 3 t : FVec Ideal S1x1024 .f32) (ix2 0 y1) = _ := Eq.trans (by blk_point [iblk, idx t]) (entry_qn m c y1)
  refine Eq.trans (head_eq m c t ⟨y0.val * 256 + y2.val, by omega⟩ y1 0 (by decide) _ ⟨(t.val * 2 + y0.val) * 256 + y2.val, by omega⟩
    (by show (t.val * 2 + y0.val) * 256 + y2.val = t.val * 512 + (y0.val * 256 + y2.val); omega)) ?_
  rw [hw]
  unfold scaledWeight
  rw [headNorm_scale]
  refine congrArg (· * _) (headed_congr _ _ _ _ _ _ (Fin.ext ?_) (Fin.ext ?_))
  all_goals (blk_simp [idx t] <;> try omega)

/-- The key array after the run: the normed heads. -/
theorem final7 (c : Dev nD) :
    (dats m 0 c).arrAt 7 (cfgs 0).N = fun i : S16384x1024.Idx =>
      headed (m ((c : Thread nD τ).loc main_arg0)) (m ((c : Thread nD τ).loc main_arg1)) (m ((c : Thread nD τ).loc main_arg2))
        (m ((c : Thread nD τ).loc main_arg4)) 1024 (by decide) (i 0) (i 1) := by
  refine (dats m 0 c).arrAt_eq_of_covers 7 _ (by decide +kernel) fun t _ y => ?_
  blk_simp
  idx_vars y
  rw [after0_7]
  unfold outsAt0
  dsimp only
  rw [stored7]
  have ht : t.val < 32 := t.isLt
  have hw : (iblk m c 4 t : FVec Ideal S1x1024 .f32) (ix2 0 y1) = _ := Eq.trans (by blk_point [iblk, idx t]) (entry_kn m c y1)
  refine Eq.trans (head_eq m c t y0 y1 1024 (by decide) _ ⟨t.val * 512 + y0.val, by omega⟩ rfl) ?_
  rw [hw]
  refine headed_congr _ _ _ _ _ _ (Fin.ext ?_) (Fin.ext ?_)
  all_goals (blk_simp [idx t] <;> try omega)

/-- The value array after the run. -/
theorem final8 (c : Dev nD) :
    (dats m 0 c).arrAt 8 (cfgs 0).N = fun i : S64x1280x256.Idx =>
      withOnes (m ((c : Thread nD τ).loc main_arg0)) (m ((c : Thread nD τ).loc main_arg1)) (m ((c : Thread nD τ).loc main_arg2))
        ⟨(i 0).val * 256 + (i 2).val, by have h0 : (i 0).val < 64 := (i 0).isLt; have h2 : (i 2).val < 256 := (i 2).isLt; omega⟩ (i 1) := by
  refine (dats m 0 c).arrAt_eq_of_covers 8 _ (by decide +kernel) fun t _ y => ?_
  blk_simp
  idx_vars y
  rw [after0_8]
  unfold outsAt0
  dsimp only
  rw [stored8]
  have ht : t.val < 32 := t.isLt
  refine Eq.trans (padded_eq m c t ⟨y0.val * 256 + y2.val, by omega⟩ y1 ⟨(t.val * 2 + y0.val) * 256 + y2.val, by omega⟩
    (by show (t.val * 2 + y0.val) * 256 + y2.val = t.val * 512 + (y0.val * 256 + y2.val); omega)) ?_
  refine congrArg₂ (withOnes _ _ _) (Fin.ext ?_) (Fin.ext ?_)
  all_goals (blk_simp [idx t] <;> try omega)

end Cert.MobaProjIdeal.Block

end
-- ==== Proof.MobaProjRef.lean ====
/- The reference of the MoBA layer's input projection: what it computes, read index by index. -/
module

public import proofs.«01_k».proof.Proof.MobaProjFinal
public import proofs.«01_k».proof.Proof.Gen.MobaInputsIdeal.Run
public import Idealize.ShloMosaic.Lib.Pipeline.ValueKit

@[expose] public section

set_option maxRecDepth 16384

noncomputable section

namespace Cert.MobaInputsIdeal.Rows

open Cert.MobaInputsIdeal Cert.MobaInputsIdeal.Gen Cert.RowMath Cert.MobaProjIdeal.Block Idealize.ShloMosaic Idealize.ShloMosaic.TcCoe

/-- The projection of every normed row. -/
def projV (x : FVec Ideal S4x4096x1024 .f32) (nw : FVec Ideal S1024 .f32) (w : FVec Ideal S1x1024x3072 .bf16) : FVec Ideal S16384x3072 .f32 :=
  (Host.dotGeneral dot_S16384x1024_S1024x3072_S16384x3072_1_0_0_1_n_n none (shapeCast _ (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 nw))) shapeCasts_S4x4096x1024_S16384x1024) (extf .f32 (shapeCast _ w shapeCasts_S1x1024x3072_S1024x3072) bitsLt_bf16_f32))

/-- The heads of the queries. -/
def queryHeads (p : FVec Ideal S16384x3072 .f32) : FVec Ideal S16384x16x64 .f32 :=
  (shapeCast _ (extractStridedSlice S16384x1024 ![0, 0] p slices_S16384x3072_S16384x1024_0_0) shapeCasts_S16384x1024_S16384x16x64)

/-- The heads of the keys. -/
def keyHeads (p : FVec Ideal S16384x3072 .f32) : FVec Ideal S16384x16x64 .f32 :=
  (shapeCast _ (extractStridedSlice S16384x1024 ![0, 1024] p slices_S16384x3072_S16384x1024_0_1024) shapeCasts_S16384x1024_S16384x16x64)

/-- Every head over the root of its mean square, times the head weights. -/
def normedV (t : FVec Ideal S16384x16x64 .f32) (hw : FVec Ideal S64 .f32) : FVec Ideal S16384x16x64 .f32 :=
  (mulf (mulf t (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf t t) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32)))))) (broadcastInDim S16384x16x64 ![0, 1, 2] bcast_S1x1x64_S16384x16x64_0_1_2 (broadcastInDim S1x1x64 ![2] bcast_S64_S1x1x64_2 hw)))

/-- The scaled heads side by side, transposed in tiles of 256 rows. -/
def tilesV (t : FVec Ideal S16384x16x64 .f32) : FVec Ideal S64x1024x256 .bf16 :=
  truncf .bf16 (transpose S64x1024x256 [0, 2, 1] (shapeCast _ (mulf t (broadcastInDim S16384x16x64 ![] bcast_S_S16384x16x64 (constant S_ .f32 0x3E38AA3B#32))) shapeCasts_S16384x16x64_S64x256x1024) transposes_S64x256x1024_S64x1024x256_0_2_1) bitsLt_bf16_f32

/-- The heads side by side. -/
def rowsV (t : FVec Ideal S16384x16x64 .f32) : FVec Ideal S16384x1024 .bf16 :=
  truncf .bf16 (shapeCast _ t shapeCasts_S16384x16x64_S16384x1024) bitsLt_bf16_f32

/-- The values' heads transposed in tiles of 256 rows, sixteen ones after each head. -/
def valuesV (p : FVec Ideal S16384x3072 .f32) : FVec Ideal S64x1280x256 .bf16 :=
  truncf .bf16 (shapeCast _ (concatenate S64x16x80x256 2 [⟨S64x16x64x256, (transpose S64x16x64x256 [0, 2, 3, 1] (shapeCast _ (extractStridedSlice S16384x1024 ![0, 2048] p slices_S16384x3072_S16384x1024_0_2048) shapeCasts_S16384x1024_S64x256x16x64) transposes_S64x256x16x64_S64x16x64x256_0_2_3_1)⟩, ⟨S64x16x16x256, (broadcastInDim S64x16x16x256 ![] bcast_S_S64x16x16x256 (constant S_ .f32 0x3F800000#32))⟩] concatenates_S64x16x64x256_S64x16x16x256_S64x16x80x256_d2) shapeCasts_S64x16x80x256_S64x1280x256) bitsLt_bf16_f32

theorem projV_at (x : FVec Ideal S4x4096x1024 .f32) (nw : FVec Ideal S1024 .f32) (w : FVec Ideal S1x1024x3072 .bf16) (r : Fin 16384) (n : Fin 3072) : projV x nw w (ix2 r n) = proj x nw w r n := by
  pointwise [projV, proj, dotCol, rmsNorm]

theorem queryHeads_at (p : FVec Ideal S16384x3072 .f32) (r : Fin 16384) (h : Fin 16) (e : Fin 64) :
    queryHeads p (ix3 r h e) = p (ix2 r ⟨0 + h.val * 64 + e.val, by omega⟩) := by
  pointwise [queryHeads]
  blk_ext

theorem keyHeads_at (p : FVec Ideal S16384x3072 .f32) (r : Fin 16384) (h : Fin 16) (e : Fin 64) :
    keyHeads p (ix3 r h e) = p (ix2 r ⟨1024 + h.val * 64 + e.val, by omega⟩) := by
  pointwise [keyHeads]
  blk_ext

theorem normedV_at (t : FVec Ideal S16384x16x64 .f32) (hw : FVec Ideal S64 .f32) (r : Fin 16384) (h : Fin 16) (e : Fin 64) :
    normedV t hw (ix3 r h e) = headNorm (fun e => t (ix3 r h e)) (hw (ix1 e)) e := by
  pointwise [normedV, headNorm]

theorem rowsV_at (t : FVec Ideal S16384x16x64 .f32) (r : Fin 16384) (l : Fin 1024) :
    rowsV t (ix2 r l) = t (ix3 r ⟨l.val / 64, by omega⟩ ⟨l.val % 64, by omega⟩) := by
  pointwise [rowsV]

theorem tilesV_at (t : FVec Ideal S16384x16x64 .f32) (b : Fin 64) (l : Fin 1024) (s : Fin 256) :
    tilesV t (ix3 b l s) = t (ix3 ⟨b.val * 256 + s.val, by omega⟩ ⟨l.val / 64, by omega⟩ ⟨l.val % 64, by omega⟩)
      * Scalar.ofBits (F := Ideal) .f32 0x3E38AA3B#32 := by
  pointwise [tilesV]

theorem query (x : FVec Ideal S4x4096x1024 .f32) (nw : FVec Ideal S1024 .f32) (w : FVec Ideal S1x1024x3072 .bf16) (hw : FVec Ideal S64 .f32) :
    tilesV (normedV (queryHeads (projV x nw w)) hw) = fun i : S64x1024x256.Idx =>
      headed x nw w hw 0 (by decide) ⟨(i 0).val * 256 + (i 2).val, by have h0 : (i 0).val < 64 := (i 0).isLt; have h2 : (i 2).val < 256 := (i 2).isLt; omega⟩ (i 1)
        * Scalar.ofBits (F := Ideal) .f32 0x3E38AA3B#32 := by
  funext i
  idx_vars i
  rw [tilesV_at, normedV_at]
  simp only [queryHeads_at, projV_at]
  rfl

theorem key (x : FVec Ideal S4x4096x1024 .f32) (nw : FVec Ideal S1024 .f32) (w : FVec Ideal S1x1024x3072 .bf16) (hw : FVec Ideal S64 .f32) :
    rowsV (normedV (keyHeads (projV x nw w)) hw) = fun i : S16384x1024.Idx => headed x nw w hw 1024 (by decide) (i 0) (i 1) := by
  funext i
  idx_vars i
  rw [rowsV_at, normedV_at]
  simp only [keyHeads_at, projV_at]
  rfl

theorem value (x : FVec Ideal S4x4096x1024 .f32) (nw : FVec Ideal S1024 .f32) (w : FVec Ideal S1x1024x3072 .bf16) :
    valuesV (projV x nw w) = fun i : S64x1280x256.Idx =>
      withOnes x nw w ⟨(i 0).val * 256 + (i 2).val, by have h0 : (i 0).val < 64 := (i 0).isLt; have h2 : (i 2).val < 256 := (i 2).isLt; omega⟩ (i 1) := by
  funext i
  idx_vars i
  unfold withOnes
  pointwise [valuesV]
  split
  · rw [projV_at]
    exact congrArg _ (Fin.ext (Nat.add_assoc _ _ _).symm)
  · rfl

end Cert.MobaInputsIdeal.Rows

end
-- ==== Proof.MobaProjClaim.lean ====
/- The value claim of the MoBA layer's input projection. -/
module

public import proofs.«01_k».proof.Defs
public import proofs.«01_k».proof.Proof.MobaProjRef
public import Idealize.ShloMosaic.Adequacy
public import Idealize.ShloMosaic.Init

@[expose] public section

set_option maxRecDepth 16384

noncomputable section

namespace Cert.Proof

open Idealize.ShloMosaic Idealize.SL.Sem

/-- The normed and transposed queries, the normed keys and the transposed values are what the reference computes. -/
theorem moba_projection : Cert.algebraic_MobaProjIdeal_MobaInputsIdeal := by
  pair_intro
  · run_from Cert.MobaProjIdeal.Value.run_blocks m g
  · refine (θ_run _ _ _).mono (fun r h c => ?_) (Cert.MobaInputsIdeal.Value.run m' g')
    obtain ⟨h0, h1, h2, hargs⟩ := h c
    obtain ⟨a0, a1, a2, a3, a4⟩ := hagree c
    refine ⟨h0.trans ?_, h1.trans ?_, h2.trans ?_, hargs⟩
    · refine Eq.trans ?_ (Cert.MobaProjIdeal.Block.final6 m c).symm
      unfold Cert.MobaInputsIdeal.Value.res_main_v58
      rw [a0, a1, a2, a3]
      exact Cert.MobaInputsIdeal.Rows.query _ _ _ _
    · refine Eq.trans ?_ (Cert.MobaProjIdeal.Block.final7 m c).symm
      unfold Cert.MobaInputsIdeal.Value.res_main_v59
      rw [a0, a1, a2, a4]
      exact Cert.MobaInputsIdeal.Rows.key _ _ _ _
    · refine Eq.trans ?_ (Cert.MobaProjIdeal.Block.final8 m c).symm
      rw [a0, a1, a2]
      exact Cert.MobaInputsIdeal.Rows.value _ _ _

end Cert.Proof

end
-- ==== Proof.BucketMath.lean ====
/- The bucket of a distance between two positions: the distance itself below 16, above it a step of a logarithm, at most 31.
   Then the choice of one of a list of buckets by a chain of comparisons. -/
module

public import Idealize.ShloMosaic.Lib.Claim
public import Idealize.ShloMosaic.Lib.Pointwise
public import Mathlib.Analysis.Complex.Exponential

@[expose] public section

noncomputable section

namespace Cert.BucketMath

open Idealize.ShloMosaic

/-- The divisor of the logarithm, close to `log 64`, as the 32-bit float it is. -/
def logSpan : EReal := Ideal.ofBits .f32 0x40851592#32

theorem word_16 : Ideal.ofBits .f32 0x41800000#32 = ((16 : ℝ) : EReal) := by
  simp [Ideal.ofBits, Ideal.ieee, -EReal.coe_mul, -EReal.coe_neg]; norm_num
theorem word_span : logSpan = ((8721810 / 2097152 : ℝ) : EReal) := by
  simp [logSpan, Ideal.ofBits, Ideal.ieee, -EReal.coe_mul, -EReal.coe_neg]; norm_num

/-- The steps past bucket 16 of a distance given as a word: `16 · log (distance / 16) / logSpan`, rounded toward zero. -/
def steps (w : BitVec 32) : BitVec 32 :=
  Ideal.fptosi 32 (Ideal.div (Ideal.log (Ideal.div ((w.toInt : ℝ) : EReal) (Ideal.ofBits .f32 0x41800000#32))) logSpan
    * Ideal.ofBits .f32 0x41800000#32)

/-- The bucket of a distance, negative distances counting as zero. -/
def bucketWord (w : BitVec 32) : BitVec 32 :=
  Scalar.select (IntOp.cmpi .slt (IntOp.maxsi w 0#32) 16#32) (IntOp.maxsi w 0#32)
    (IntOp.minsi (IntOp.addi 16#32 (steps (IntOp.maxsi (IntOp.maxsi w 0#32) 1#32))) 31#32)

theorem toInt_small (n : ℕ) (h : n < 2048) : (BitVec.ofNat 32 n).toInt = n := by
  rw [BitVec.toInt_eq_toNat_of_lt (by rw [BitVec.toNat_ofNat]; omega), BitVec.toNat_ofNat]; omega

theorem maxsi_small (n k : ℕ) (h : n < 2048) (hk : k ≤ n) : IntOp.maxsi (BitVec.ofNat 32 n) (BitVec.ofNat 32 k) = BitVec.ofNat 32 n := by
  unfold IntOp.maxsi
  simp only [BitVec.slt, toInt_small n h, toInt_small k (by omega), decide_eq_true_eq]
  split_ifs with h'
  · rfl
  · congr 1; omega

theorem minsi_small (n k : ℕ) (h : n < 2048) (hk : k < 2048) : IntOp.minsi (BitVec.ofNat 32 n) (BitVec.ofNat 32 k) = BitVec.ofNat 32 (min n k) := by
  unfold IntOp.minsi
  simp only [BitVec.slt, toInt_small n h, toInt_small k hk, decide_eq_true_eq]
  split_ifs with h' <;> congr 1 <;> omega

theorem slt_small (n k : ℕ) (h : n < 2048) (hk : k < 2048) :
    IntOp.cmpi .slt (BitVec.ofNat 32 n) (BitVec.ofNat 32 k) = if n < k then 1#1 else 0#1 := by
  simp only [IntOp.cmpi, BitVec.slt, toInt_small n h, toInt_small k hk, Nat.cast_lt]
  split_ifs with h' <;> simp [h']

/-- The logarithm of a distance up to `16 · 2 ^ a`. -/
theorem log_le (n a : ℕ) (h0 : 0 < n) (h : n ≤ 16 * 2 ^ a) : Real.log ((n : ℝ) / 16) ≤ a * Real.log 2 := by
  rw [← Real.log_pow]
  have h0' : (0 : ℝ) < n := by exact_mod_cast h0
  have h' : (n : ℝ) ≤ 16 * 2 ^ a := by exact_mod_cast h
  exact Real.log_le_log (by positivity) (by rw [div_le_iff₀ (by norm_num)]; linarith)

/-- The logarithm of a distance from `16 · 2 ^ a` on. -/
theorem le_log (n a : ℕ) (h : 16 * 2 ^ a ≤ n) : a * Real.log 2 ≤ Real.log ((n : ℝ) / 16) := by
  rw [← Real.log_pow]
  have h' : (16 : ℝ) * 2 ^ a ≤ n := by exact_mod_cast h
  exact Real.log_le_log (by positivity) (by rw [le_div_iff₀ (by norm_num)]; linarith)

/-- Bounds of the logarithm of two, from the first terms of the exponential series. -/
theorem log_two_gt : (0.68 : ℝ) < Real.log 2 := by
  rw [Real.lt_log_iff_exp_lt (by norm_num)]
  have h := abs_le.mp (Real.exp_bound (x := 0.68) (by norm_num [abs_le]) (n := 5) (by norm_num))
  norm_num [Finset.sum_range_succ, Nat.factorial] at h
  linarith [h.2]

theorem log_two_lt : Real.log 2 < (0.7 : ℝ) := by
  rw [Real.log_lt_iff_lt_exp (by norm_num)]
  have h := abs_le.mp (Real.exp_bound (x := 0.7) (by norm_num [abs_le]) (n := 5) (by norm_num))
  norm_num [Finset.sum_range_succ, Nat.factorial] at h
  linarith [h.1]

/-- The steps of a distance as a real number, before rounding. -/
def stepsReal (n : ℕ) : ℝ := Real.log ((n : ℝ) / 16) * (1 / (8721810 / 2097152)) * 16

theorem steps_word (n : ℕ) (h16 : 16 ≤ n) (hn : n < 2048) : steps (BitVec.ofNat 32 n) = Ideal.fptosi 32 (stepsReal n : EReal) := by
  have hd : (0 : ℝ) < (n : ℝ) / 16 := by have : (0 : ℝ) < n := by exact_mod_cast (by omega : 0 < n)
                                         positivity
  have hl : Ideal.log (((n : ℝ) / 16 : ℝ) : EReal) = (Real.log ((n : ℝ) / 16) : EReal) := if_neg (not_le.mpr hd)
  unfold steps stepsReal
  have h1 : Ideal.div ((n : ℝ) : EReal) ((16 : ℝ) : EReal) = (((n : ℝ) / 16 : ℝ) : EReal) := by
    rw [Ideal.div_coe (by norm_num), ← EReal.coe_mul, mul_one_div]
  rw [toInt_small n hn, Int.cast_natCast, word_16, word_span, h1, hl, Ideal.div_coe (by norm_num), ← EReal.coe_mul, ← EReal.coe_mul]

/-- The steps of a distance from 16 on, with the bounds the tiles of the table rest on. -/
theorem steps_bounds (n : ℕ) (h16 : 16 ≤ n) (hn : n < 2048) :
    ∃ k : ℕ, steps (BitVec.ofNat 32 n) = BitVec.ofNat 32 k ∧ k ≤ 18 ∧ (n ≤ 256 → k ≤ 10) ∧ (n ≤ 512 → k ≤ 13)
      ∧ (256 ≤ n → 10 ≤ k) ∧ (512 ≤ n → 13 ≤ k) ∧ (1024 ≤ n → 15 ≤ k) := by
  have hlo := log_two_gt
  have hhi := log_two_lt
  have hx0 : 0 ≤ Real.log ((n : ℝ) / 16) := by have := le_log n 0 (by omega); simpa using this
  have hr0 : 0 ≤ stepsReal n := by unfold stepsReal; positivity
  have hlt : ∀ a b : ℕ, n ≤ 16 * 2 ^ a → (a : ℝ) * 0.7 * 16 < b * (8721810 / 2097152) → ⌊stepsReal n⌋₊ < b := by
    intro a b h hb
    rw [Nat.floor_lt hr0]
    have h1 := log_le n a (by omega) h
    have h2 : (a : ℝ) * Real.log 2 ≤ a * 0.7 := mul_le_mul_of_nonneg_left hhi.le (Nat.cast_nonneg a)
    unfold stepsReal
    linarith
  have hge : ∀ a b : ℕ, 16 * 2 ^ a ≤ n → (b : ℝ) * (8721810 / 2097152) ≤ a * 0.68 * 16 → b ≤ ⌊stepsReal n⌋₊ := by
    intro a b h hb
    rw [Nat.le_floor_iff hr0]
    have h1 := le_log n a h
    have h2 : (a : ℝ) * 0.68 ≤ a * Real.log 2 := mul_le_mul_of_nonneg_left hlo.le (Nat.cast_nonneg a)
    unfold stepsReal
    linarith
  have h18 : ⌊stepsReal n⌋₊ < 19 := hlt 7 19 (by norm_num; omega) (by norm_num)
  refine ⟨⌊stepsReal n⌋₊, ?_, by omega, fun h => ?_, fun h => ?_, fun h => ?_, fun h => ?_, fun h => ?_⟩
  · have hf : ⌊stepsReal n⌋ = (⌊stepsReal n⌋₊ : ℤ) := (Int.natCast_floor_eq_floor hr0).symm
    rw [steps_word n h16 hn, Ideal.fptosi, Ideal.toIntClamped_coe, if_pos hr0, hf]
    refine (congrArg (BitVec.ofInt 32) ?_).trans (BitVec.ofInt_natCast _ _)
    push_cast
    omega
  · have := hlt 4 11 (by omega) (by norm_num); omega
  · have := hlt 5 14 (by omega) (by norm_num); omega
  · exact hge 4 10 (by omega) (by norm_num)
  · exact hge 5 13 (by omega) (by norm_num)
  · exact hge 6 15 (by omega) (by norm_num)

/-- The bucket of a distance, with the bounds the tiles of the table rest on. -/
theorem bucket_bounds (n : ℕ) (hn : n < 2048) :
    ∃ b : ℕ, bucketWord (BitVec.ofNat 32 n) = BitVec.ofNat 32 b ∧ b ≤ 31 ∧ (n ≤ 256 → b ≤ 26) ∧ (n ≤ 512 → b ≤ 29)
      ∧ (256 ≤ n → 26 ≤ b) ∧ (512 ≤ n → 29 ≤ b) ∧ (1024 ≤ n → 31 ≤ b) := by
  unfold bucketWord
  rw [maxsi_small n 0 hn (Nat.zero_le _), slt_small n 16 hn (by norm_num)]
  by_cases h : n < 16
  · rw [if_pos h]
    exact ⟨n, rfl, by omega, by omega, by omega, by omega, by omega, by omega⟩
  · rw [if_neg h, maxsi_small n 1 hn (by omega)]
    obtain ⟨k, hk, h1, h2, h3, h4, h5, h6⟩ := steps_bounds n (by omega) hn
    refine ⟨min (16 + k) 31, ?_, by omega, by omega, by omega, by omega, by omega, by omega⟩
    rw [hk]
    show IntOp.minsi (BitVec.ofNat 32 16 + BitVec.ofNat 32 k) _ = _
    rw [← BitVec.ofNat_add, minsi_small _ 31 (by omega) (by norm_num)]

/-- The distance of key `i` and query `j` of the tile `d` blocks below the diagonal, as the word the programs compute. -/
def distWord (d i j : ℕ) : BitVec 32 :=
  IntOp.subi (IntOp.addi (IntOp.muli (BitVec.ofNat 32 d) 256#32) (BitVec.ofNat 32 j)) (BitVec.ofNat 32 i)

theorem dist_nonneg (d i j : ℕ) (hd : d < 6) (hi : i < 256) (hj : j < 256) (h : i ≤ d * 256 + j) :
    distWord d i j = BitVec.ofNat 32 (d * 256 + j - i) := by
  apply BitVec.eq_of_toNat_eq
  simp only [distWord, IntOp.subi, IntOp.addi, IntOp.muli, BitVec.toNat_sub, BitVec.toNat_add, BitVec.toNat_mul, BitVec.toNat_ofNat]
  omega

theorem sge_zero (d i j : ℕ) (hd : d < 6) (hi : i < 256) (hj : j < 256) :
    IntOp.cmpi .sge (distWord d i j) 0#32 = if i ≤ d * 256 + j then 1#1 else 0#1 := by
  by_cases h : i ≤ d * 256 + j
  · rw [if_pos h, dist_nonneg d i j hd hi hj h]
    simp [IntOp.cmpi, BitVec.sle, toInt_small _ (show d * 256 + j - i < 2048 by omega)]
  · rw [if_neg h]
    have ht : (distWord d i j).toNat = 2 ^ 32 + (d * 256 + j) - i := by
      simp only [distWord, IntOp.subi, IntOp.addi, IntOp.muli, BitVec.toNat_sub, BitVec.toNat_add, BitVec.toNat_mul, BitVec.toNat_ofNat]
      omega
    have hi' : (distWord d i j).toInt < 0 := by rw [BitVec.toInt_eq_toNat_cond, ht]; split_ifs <;> omega
    simp [IntOp.cmpi, BitVec.sle, not_le.mpr hi']

/-- The bucket of key `i` and query `j` of a tile; 32, which is no bucket, where the key comes after the query. -/
def tileWord (d i j : ℕ) : BitVec 32 :=
  Scalar.select (IntOp.cmpi .sge (distWord d i j) 0#32) (bucketWord (distWord d i j)) 32#32

/-- A chain of comparisons: the value of the last bucket of the list that the word is, else the start. -/
def pick (g : ℕ → EReal) (w : BitVec 32) : List ℕ → EReal → EReal
  | [], z => z
  | b :: l, z => pick g w l (Scalar.select (IntOp.cmpi .eq w (BitVec.ofNat 32 b)) (g b) z)

theorem eq_small (n k : ℕ) (h : n < 2048) (hk : k < 2048) :
    IntOp.cmpi .eq (BitVec.ofNat 32 n) (BitVec.ofNat 32 k) = if n = k then 1#1 else 0#1 := by
  have : (BitVec.ofNat 32 n == BitVec.ofNat 32 k) = decide (n = k) := by
    rw [Bool.eq_iff_iff, beq_iff_eq, decide_eq_true_eq]
    constructor
    · intro e
      have := congrArg BitVec.toNat e
      simp only [BitVec.toNat_ofNat] at this
      omega
    · rintro rfl; rfl
  simp only [IntOp.cmpi, this]
  split_ifs with h' <;> simp [h']

/-- A word that is none of the list's buckets leaves the start. -/
theorem pick_none (g : ℕ → EReal) (n : ℕ) (hn : n < 2048) (l : List ℕ) (hl : ∀ b ∈ l, b < 2048 ∧ b ≠ n) (z : EReal) :
    pick g (BitVec.ofNat 32 n) l z = z := by
  induction l generalizing z with
  | nil => rfl
  | cons b l ih =>
    obtain ⟨hb, hne⟩ := hl b (List.mem_cons_self ..)
    unfold pick
    rw [eq_small n b hn hb, if_neg (Ne.symm hne)]
    exact ih (fun b' h' => hl b' (List.mem_cons_of_mem _ h')) z

/-- A word that is one of the list's buckets picks that bucket's value. -/
theorem pick_some (g : ℕ → EReal) (n : ℕ) (hn : n < 2048) (l : List ℕ) (hl : ∀ b ∈ l, b < 2048) (hm : n ∈ l) (z : EReal) :
    pick g (BitVec.ofNat 32 n) l z = g n := by
  induction l generalizing z with
  | nil => exact absurd hm List.not_mem_nil
  | cons b l ih =>
    unfold pick
    by_cases h : n ∈ l
    · exact ih (fun b' h' => hl b' (List.mem_cons_of_mem _ h')) h _
    · obtain rfl : n = b := (List.mem_cons.mp hm).resolve_right h
      rw [eq_small n n hn hn, if_pos rfl]
      refine (pick_none g n hn l (fun b' h' => ⟨hl b' (List.mem_cons_of_mem _ h'), ?_⟩) _).trans rfl
      rintro rfl; exact h h'

/-- The buckets a tile compares with. -/
def tileBuckets (d : ℕ) : List ℕ :=
  match d with
  | 0 => [0, 1, 2, 3, 4, 5, 6, 7, 8, 9, 10, 11, 12, 13, 14, 15, 16, 17, 18, 19, 20, 21, 22, 23, 24, 25, 26, 27]
  | 1 => [0, 1, 2, 3, 4, 5, 6, 7, 8, 9, 10, 11, 12, 13, 14, 15, 16, 17, 18, 19, 20, 21, 22, 23, 24, 25, 26, 27, 28, 29, 30]
  | 2 => [25, 26, 27, 28, 29, 30, 31]
  | 3 => [28, 29, 30, 31]
  | 4 => [29, 30, 31]
  | _ => [30, 31]

/-- What a tile's chain of comparisons leaves: the value of the distance's bucket, or the start where the key comes after the query. -/
theorem pick_tile (g : ℕ → EReal) (z : EReal) (d i j : ℕ) (hd : d < 6) (hi : i < 256) (hj : j < 256) :
    pick g (tileWord d i j) (tileBuckets d) z
      = Scalar.select (IntOp.cmpi .sge (distWord d i j) 0#32) (g (bucketWord (distWord d i j)).toNat) z := by
  have hs : ∀ b ∈ tileBuckets d, b < 32 := by
    have : ∀ d : Fin 6, ∀ b ∈ tileBuckets d.val, b < 32 := by decide
    exact this ⟨d, hd⟩
  unfold tileWord
  rw [sge_zero d i j hd hi hj]
  by_cases h : i ≤ d * 256 + j
  · rw [if_pos h, dist_nonneg d i j hd hi hj h]
    obtain ⟨b, hb, h1, h2, h3, h4, h5, h6⟩ := bucket_bounds (d * 256 + j - i) (by omega)
    rw [hb]
    have ht : (BitVec.ofNat 32 b).toNat = b := by rw [BitVec.toNat_ofNat]; omega
    rw [ht]
    refine pick_some g b (by omega) _ (fun b' h' => lt_trans (hs b' h') (by norm_num)) ?_ z
    interval_cases d
    · have := h2 (by omega); simp only [tileBuckets, List.mem_cons, List.not_mem_nil, or_false]; omega
    · have := h3 (by omega); simp only [tileBuckets, List.mem_cons, List.not_mem_nil, or_false]; omega
    · have := h4 (by omega); simp only [tileBuckets, List.mem_cons, List.not_mem_nil, or_false]; omega
    · have := h5 (by omega); simp only [tileBuckets, List.mem_cons, List.not_mem_nil, or_false]; omega
    · have := h5 (by omega); simp only [tileBuckets, List.mem_cons, List.not_mem_nil, or_false]; omega
    · have := h6 (by omega); simp only [tileBuckets, List.mem_cons, List.not_mem_nil, or_false]; omega
  · rw [if_neg h]
    exact pick_none g 32 (by norm_num) _ (fun b' h' => ⟨lt_trans (hs b' h') (by norm_num), ne_of_lt (hs b' h')⟩) z

/-- An index counted from the end where it is negative, as indexing an axis of 32 reads it. -/
def wrapWord (w : BitVec 32) : BitVec 32 := Scalar.select (IntOp.cmpi .slt w 0#32) (IntOp.addi w 32#32) w

/-- The row that indexing with the bucket of a distance reads is the bucket. -/
theorem row_eq (n : ℕ) (hn : n < 2048) : min (wrapWord (bucketWord (BitVec.ofNat 32 n))).toInt.toNat 31 = (bucketWord (BitVec.ofNat 32 n)).toNat % 32 := by
  obtain ⟨b, hb, h1, -⟩ := bucket_bounds n hn
  have hw : wrapWord (BitVec.ofNat 32 b) = BitVec.ofNat 32 b := by
    unfold wrapWord
    rw [slt_small b 0 (by omega) (by norm_num), if_neg (by omega)]
    rfl
  rw [hb, hw, toInt_small b (by omega), BitVec.toNat_ofNat]
  omega

end Cert.BucketMath

end
-- ==== Proof.BiasTilesBlock.lean ====
/- The position bias tiles: what one grid point computes from its head's column of the table, read index by index. -/
module

public import proofs.«01_k».proof.Proof.BucketMath
public import proofs.«01_k».proof.Proof.Gen.BiasTilesIdeal.Value
public import Idealize.ShloMosaic.Lib.Pipeline.ValueKit

@[expose] public section

set_option maxRecDepth 16384

noncomputable section

namespace Cert.BiasTilesIdeal.Block

open Cert.BiasTilesIdeal Cert.BiasTilesIdeal.Gen Cert.BucketMath Idealize.ShloMosaic Idealize.ShloMosaic.TcCoe

/-- The value of the entries no bucket reaches. -/
def masked : EReal := Ideal.ofBits .f32 0xF149F2CA#32

/-- A table entry scaled for a softmax to the base 2. -/
def scaled (x : EReal) : EReal := x * Ideal.ofBits .f32 0x3FB8AA3B#32

/-- The index of the table that a load of one entry at given offsets reads. -/
theorem idx_first (off : Fin 2 → ℕ) (h : ∀ a, off a + (![1, 1] : Fin 2 → ℕ) a ≤ S32x16.size a)
    (h' : 0 < (Rect.unit (s := S32x16) off ![1, 1] h).shape.numel) :
    (Rect.unit (s := S32x16) off ![1, 1] h).idx (Shape.Idx.first h')
      = ix2 ⟨off 0, by have := h 0; exact this⟩ ⟨off 1, by have := h 1; exact this⟩ := by
  refine funext fun a => Fin.ext ?_
  match a with
  | ⟨0, _⟩ => show off 0 + 0 * 1 = off 0; omega
  | ⟨1, _⟩ => show off 1 + 0 * 1 = off 1; omega

/-- The table's column of a grid point, as the loads name it. -/
def column (i : grid0.Coords) (x : FVec Ideal S32x16 .f32) (n : ℕ) : EReal :=
  x (ix2 ⟨n % 32, Nat.mod_lt _ (by norm_num)⟩ ⟨(Scalar.indexCast (BitVec.ofNat 32 (i 0).val) : Index).toNat, by have := k0_off1_inb i 1; exact this⟩)

variable (c : Dev nD) (i : grid0.Coords)
    (arg1 : Memref sig .tc .smem S32x16 .f32) (harg1 : arg1.IsWhole) (arg2 : Memref sig .tc .vmem S6x256x256 .i32) (harg2 : arg2.IsWhole)
    (arg3 : Memref sig .tc .vmem S1x6x256x256 .f32) (harg3 : arg3.IsWhole)
    (tbl : FVec Ideal S32x16 .f32) (bkt : IVec S6x256x256 32)

/-- The block a grid point stores: each entry picks its bucket's value of the column. -/
theorem stored (d : Fin 6) (a b : Fin 256) :
    out0_A_2 (F := Ideal) c i arg1 harg1 arg2 harg2 arg3 harg3 tbl bkt (ix4 0 d a b)
      = pick (fun n => scaled (column i tbl n)) (bkt (ix3 d a b)) (tileBuckets d.val) masked := by
  unfold out0_A_2
  frame_out
  canon_tiles x h
  all_goals
    idx_vars x
    simp only [View.ld, idx_first]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    obtain rfl : a = x2 := Fin.ext h2
    obtain rfl : b = x3 := Fin.ext h3
    first
      | (obtain rfl : d = 0 := Fin.ext (by show d.val = 0; omega)); rfl
      | (obtain rfl : d = 1 := Fin.ext (by show d.val = 1; omega)); rfl
      | (obtain rfl : d = 2 := Fin.ext (by show d.val = 2; omega)); rfl
      | (obtain rfl : d = 3 := Fin.ext (by show d.val = 3; omega)); rfl
      | (obtain rfl : d = 4 := Fin.ext (by show d.val = 4; omega)); rfl
      | (obtain rfl : d = 5 := Fin.ext (by show d.val = 5; omega)); rfl

end Cert.BiasTilesIdeal.Block

end
-- ==== Proof.BiasTilesFinal.lean ====
/- The position bias tiles: the whole array after the run, of the table. -/
module

public import proofs.«01_k».proof.Proof.BiasTilesBlock

@[expose] public section

set_option maxRecDepth 16384

noncomputable section

namespace Cert.BiasTilesIdeal.Block

open Cert.BiasTilesIdeal Cert.BiasTilesIdeal.Gen Cert.BucketMath Idealize.ShloMosaic Idealize.ShloMosaic.TcCoe

/-- The bias of head `h` for key `i` and query `j` of the tile `d` blocks below the diagonal:
    the scaled table entry of the distance's bucket, or the masked value where the key comes after the query. -/
def biasAt (tbl : FVec Ideal S32x16 .f32) (h : Fin 16) (d i j : ℕ) : EReal :=
  Scalar.select (IntOp.cmpi .sge (distWord d i j) 0#32)
    (scaled (tbl (ix2 ⟨(bucketWord (distWord d i j)).toNat % 32, Nat.mod_lt _ (by norm_num)⟩ h))) masked

theorem biasAt_congr (tbl : FVec Ideal S32x16 .f32) {h h' : Fin 16} {d d' i i' j j' : ℕ} (hh : h = h') (hd : d = d') (hi : i = i') (hj : j = j') :
    biasAt tbl h d i j = biasAt tbl h' d' i' j' := by
  rw [hh, hd, hi, hj]

theorem idx : ∀ t : Fin cfg0.N, win0_0.index t = ![0, 0] ∧ win0_1.index t = ![0, 0, 0] ∧ win0_2.index t = ![t.val, 0, 0, 0] :=
  (by decide +kernel : ∀ t : Fin grid0.N, _)

/-- The head of a grid point, as the loads name it. -/
theorem head_word : ∀ t : Fin cfg0.N, (Scalar.indexCast (BitVec.ofNat 32 (grid0.coords t 0).val) : Index).toNat = t.val :=
  (by decide +kernel : ∀ t : Fin grid0.N, _)

variable (m : (ℓ : Loc nD τ sig) → Buf (Elt Ideal) ℓ)

/-- The array of buckets the kernel reads. -/
theorem entry_buckets (c : Dev nD) (d : Fin 6) (i j : Fin 256) :
    (V m c main_v35 : IVec S6x256x256 32) (ix3 d i j) = tileWord d.val i.val j.val := by
  show StableHlo.after [hostOps0, hostOps0_1, hostOps0_2, hostOps0_3].flatten (fun b => m (c, b)) (Proc.tc.devRef main_v35) (ix3 d i j) = _
  simp only [List.flatten_cons, List.flatten_nil, List.cons_append, List.nil_append, List.append_nil, StableHlo.TRef.ternary, StableHlo.TRef.unary, StableHlo.TRef.toBuf, StableHlo.TRef.ofBuf, cast_eq]
  after_results_simp
  simp only [StableHlo.TRef.toBuf, StableHlo.TRef.ofBuf, cast_eq, id]
  pointwise [tileWord, bucketWord, steps, logSpan, distWord]
  rfl

/-- A grid point's column of the table. -/
theorem column_eq (c : Dev nD) (t : Fin cfg0.N) (n : ℕ) :
    column (grid0.coords t) (iblk m c 0 t) n
      = m ((c : Thread nD τ).loc main_arg0) (ix2 ⟨n % 32, Nat.mod_lt _ (by norm_num)⟩ ⟨t.val, t.isLt⟩) := by
  unfold column
  have hw := head_word t
  refine Eq.trans ?_ (congrFun (V_main_arg0 m c) (ix2 ⟨n % 32, Nat.mod_lt _ (by norm_num)⟩ ⟨t.val, t.isLt⟩))
  blk_point [iblk, idx t, hw]

/-- The array after the run. -/
theorem final2 (c : Dev nD) :
    (dats m 0 c).arrAt 2 (cfgs 0).N = fun i : S16x6x256x256.Idx =>
      biasAt (m ((c : Thread nD τ).loc main_arg0)) (i 0) (i 1).val (i 2).val (i 3).val := by
  refine (dats m 0 c).arrAt_eq_of_covers 2 _ (by decide +kernel) fun t _ y => ?_
  blk_simp
  idx_vars y
  rw [after0_2]
  unfold outsAt0
  obtain rfl : y0 = 0 := Subsingleton.elim _ _
  rw [stored]
  have ht : t.val < 16 := t.isLt
  have hb : (iblk m c 1 t : IVec S6x256x256 32) (ix3 y1 y2 y3) = _ := Eq.trans (by blk_point [iblk, idx t]) (entry_buckets m c y1 y2 y3)
  rw [hb, pick_tile _ _ _ _ _ y1.isLt y2.isLt y3.isLt]
  simp only [column_eq]
  refine Eq.trans (show _ = biasAt (m ((c : Thread nD τ).loc main_arg0)) ⟨t.val, ht⟩ y1.val y2.val y3.val from rfl)
    (biasAt_congr _ (Fin.ext ?_) ?_ ?_ ?_)
  all_goals (blk_simp [idx t] <;> first | rfl | omega)

end Cert.BiasTilesIdeal.Block

end
-- ==== Proof.BiasTilesRef.lean ====
/- The reference of the position bias tiles: what it computes, read index by index. -/
module

public import proofs.«01_k».proof.Proof.BiasTilesFinal
public import proofs.«01_k».proof.Proof.Gen.PositionBiasIdeal.Run
public import Idealize.ShloMosaic.Lib.Pipeline.ValueKit

@[expose] public section

set_option maxRecDepth 16384

noncomputable section

namespace Cert.PositionBiasIdeal.Tiles

open Cert.PositionBiasIdeal Cert.PositionBiasIdeal.Gen Cert.BucketMath Cert.BiasTilesIdeal.Block Idealize.ShloMosaic Idealize.ShloMosaic.TcCoe

/-- The distances of every tile. -/
def distV : IVec S6x256x256 32 :=
  subi (broadcastInDim S6x256x256 ![0, 1, 2] bcast_S6x1x256_S6x256x256_0_1_2 (addi (broadcastInDim S6x1x256 ![0, 1, 2] bcast_S6x1x1_S6x1x256_0_1_2 (muli (broadcastInDim S6x1x1 ![0] bcast_S6_S6x1x1_0 (iotaInDim S6 32 0)) (broadcastInDim S6x1x1 ![] bcast_S_S6x1x1 (constantI S_ 32 256#32)))) (broadcastInDim S6x1x256 ![0, 1, 2] bcast_S1x1x256_S6x1x256_0_1_2 (broadcastInDim S1x1x256 ![2] bcast_S256_S1x1x256_2 (iotaInDim S256 32 0))))) (broadcastInDim S6x256x256 ![0, 1, 2] bcast_S1x256x1_S6x256x256_0_1_2 (broadcastInDim S1x256x1 ![1] bcast_S256_S1x256x1_1 (iotaInDim S256 32 0)))

/-- The buckets of an array of distances. -/
def bucketV (D : IVec S6x256x256 32) : IVec S6x256x256 32 :=
  select (cmpi .slt (maxsi D (broadcastInDim S6x256x256 ![] bcast_S_S6x256x256 (constantI S_ 32 0#32))) (broadcastInDim S6x256x256 ![] bcast_S_S6x256x256 (constantI S_ 32 16#32))) (maxsi D (broadcastInDim S6x256x256 ![] bcast_S_S6x256x256 (constantI S_ 32 0#32))) (minsi (addi (broadcastInDim S6x256x256 ![] bcast_S_S6x256x256 (constantI S_ 32 16#32)) (fptosi 32 (mulf (Host.divf (Host.log (Host.divf (sitofp .f32 (maxsi (maxsi D (broadcastInDim S6x256x256 ![] bcast_S_S6x256x256 (constantI S_ 32 0#32))) (broadcastInDim S6x256x256 ![] bcast_S_S6x256x256 (constantI S_ 32 1#32)))) (broadcastInDim S6x256x256 ![] bcast_S_S6x256x256 (constant S_ .f32 0x41800000#32)))) (broadcastInDim S6x256x256 ![] bcast_S_S6x256x256 (constant S_ .f32 0x40851592#32))) (broadcastInDim S6x256x256 ![] bcast_S_S6x256x256 (constant S_ .f32 0x41800000#32)) : FVec Ideal S6x256x256 .f32))) (broadcastInDim S6x256x256 ![] bcast_S_S6x256x256 (constantI S_ 32 31#32)))

/-- The buckets as row numbers of the table. -/
def rowV (b : IVec S6x256x256 32) : IVec S6x256x256x1 32 :=
  broadcastInDim S6x256x256x1 ![0, 1, 2] bcast_S6x256x256_S6x256x256x1_0_1_2 (select (cmpi .slt b (broadcastInDim S6x256x256 ![] bcast_S_S6x256x256 (constantI S_ 32 0#32))) (addi b (broadcastInDim S6x256x256 ![] bcast_S_S6x256x256 (constantI S_ 32 32#32))) b)

/-- The rows of every head, taken from the table at an array of row numbers. -/
def takeV (x : FVec Ideal S32x16 .f32) (r : IVec S6x256x256x1 32) : FVec Ideal S16x6x256x256 .f32 :=
  Host.gather gather_S16x32_S6x256x256x1_S16x6x256x256_0_1_n_n_1_3_161 (transpose S16x32 [1, 0] x transposes_S32x16_S16x32_1_0) r

/-- The scaled entries, masked where the distance is negative. -/
def maskV (D : IVec S6x256x256 32) (y : FVec Ideal S16x6x256x256 .f32) : FVec Ideal S16x6x256x256 .f32 :=
  select (broadcastInDim S16x6x256x256 ![1, 2, 3] bcast_S6x256x256_S16x6x256x256_1_2_3 (cmpi .sge D (broadcastInDim S6x256x256 ![] bcast_S_S6x256x256 (constantI S_ 32 0#32)))) (mulf y (broadcastInDim S16x6x256x256 ![] bcast_S_S16x6x256x256 (constant S_ .f32 0x3FB8AA3B#32))) (broadcastInDim S16x6x256x256 ![] bcast_S_S16x6x256x256 (id (constant S_ .f32 0xF149F2CA#32)))

theorem distV_at (d : Fin 6) (i j : Fin 256) : distV (ix3 d i j) = distWord d.val i.val j.val := by
  pointwise [distV, distWord]

theorem bucketV_at (D : IVec S6x256x256 32) (d : Fin 6) (i j : Fin 256) : bucketV D (ix3 d i j) = bucketWord (D (ix3 d i j)) := by
  pointwise [bucketV, bucketWord, steps, logSpan]
  rfl

theorem rowV_at (b : IVec S6x256x256 32) (d : Fin 6) (i j : Fin 256) : rowV b (ix4 d i j 0) = wrapWord (b (ix3 d i j)) := by
  pointwise [rowV, wrapWord]

theorem maskV_at (D : IVec S6x256x256 32) (y : FVec Ideal S16x6x256x256 .f32) (h : Fin 16) (d : Fin 6) (i j : Fin 256) :
    maskV D y (ix4 h d i j) = Scalar.select (IntOp.cmpi .sge (D (ix3 d i j)) 0#32) (scaled (y (ix4 h d i j))) masked := by
  pointwise [maskV, scaled, masked]
  rfl

/-- The entry taken: the table at the row number, read signed and clamped to the table, in the head's column. -/
theorem takeV_at (x : FVec Ideal S32x16 .f32) (r : IVec S6x256x256x1 32) (h : Fin 16) (d : Fin 6) (i j : Fin 256) :
    takeV x r (ix4 h d i j) = x (ix2 ⟨min (r (ix4 d i j 0)).toInt.toNat 31, by omega⟩ h) := by
  have ht : ∀ n : Fin 32, transpose S16x32 [1, 0] x transposes_S32x16_S16x32_1_0 (ix2 h n) = x (ix2 n h) := fun n => by pointwise
  rw [← ht]
  unfold takeV Host.gather
  congr 1
  funext a
  refine Fin.ext ?_
  have hb : ∀ a, GatherDims.batchCoord gather_S16x32_S6x256x256x1_S16x6x256x256_0_1_n_n_1_3_161 (ix4 h d i j) a = 0 := fun a =>
    GatherDims.batchCoord_eq_zero _ _ _ List.not_mem_nil
  have hs0 : GatherDims.start gather_S16x32_S6x256x256x1_S16x6x256x256_0_1_n_n_1_3_161 (ix4 h d i j) r 0 = 0 := dif_neg (by decide)
  have ho0 : GatherDims.offCoord gather_S16x32_S6x256x256x1_S16x6x256x256_0_1_n_n_1_3_161 (ix4 h d i j) 0 = h.val := by
    unfold GatherDims.offCoord
    rw [dif_pos ((GatherDims.mem_sKept _ _).mpr ⟨by decide, List.not_mem_nil⟩)]
    rfl
  have ho1 : GatherDims.offCoord gather_S16x32_S6x256x256x1_S16x6x256x256_0_1_n_n_1_3_161 (ix4 h d i j) 1 = 0 :=
    GatherDims.offCoord_eq_zero _ _ _ (fun h => ((GatherDims.mem_sKept _ _).mp h).1 (List.mem_singleton.mpr rfl))
  have hs1 : GatherDims.start gather_S16x32_S6x256x256x1_S16x6x256x256_0_1_n_n_1_3_161 (ix4 h d i j) r 1 = min (r (ix4 d i j 0)).toInt.toNat 31 := by
    have hsi : ∀ k, GatherDims.siIdx gather_S16x32_S6x256x256x1_S16x6x256x256_0_1_n_n_1_3_161 (ix4 h d i j) k = ix4 d i j 0 := by
      intro k
      funext b
      refine Fin.ext ?_
      match b with
      | ⟨0, _⟩ => rfl
      | ⟨1, _⟩ => rfl
      | ⟨2, _⟩ => rfl
      | ⟨3, _⟩ => exact Nat.lt_one_iff.mp k.isLt
    unfold GatherDims.start
    rw [dif_pos (show (1 : Fin 2) ∈ gather_S16x32_S6x256x256x1_S16x6x256x256_0_1_n_n_1_3_161.startIndexMap from List.mem_singleton.mpr rfl), hsi]
    rfl
  match a with
  | ⟨0, _⟩ => exact (congrArg₂ (· + ·) (congrArg₂ (· + ·) hs0 (hb 0)) ho0).trans (Nat.zero_add _)
  | ⟨1, _⟩ => exact congrArg₂ (· + ·) (congrArg₂ (· + ·) hs1 (hb 1)) ho1

/-- One entry: the table at the row of the distance's bucket is the table at the bucket. -/
theorem entry_eq (x : FVec Ideal S32x16 .f32) (h : Fin 16) (d : Fin 6) (i j : Fin 256) :
    maskV distV (takeV x (rowV (bucketV distV))) (ix4 h d i j) = biasAt x h d.val i.val j.val := by
  rw [maskV_at, takeV_at]
  unfold biasAt
  have hr : rowV (bucketV distV) (ix4 d i j 0) = wrapWord (bucketWord (distWord d.val i.val j.val)) := by
    rw [rowV_at, bucketV_at, distV_at]
  rw [distV_at, sge_zero _ _ _ d.isLt i.isLt j.isLt]
  by_cases hc : i.val ≤ d.val * 256 + j.val
  · have hn : min (rowV (bucketV distV) (ix4 d i j 0)).toInt.toNat 31 = (bucketWord (distWord d.val i.val j.val)).toNat % 32 := by
      rw [hr, dist_nonneg _ _ _ d.isLt i.isLt j.isLt hc]
      exact row_eq _ (by omega)
    rw [if_pos hc]
    exact congrArg (fun n => Scalar.select 1#1 (scaled (x (ix2 n h))) masked) (Fin.ext hn)
  · rw [if_neg hc]
    exact (ValueIdx.select_zero _ _).trans (ValueIdx.select_zero _ _).symm

/-- The reference's array is the kernel's. -/
theorem bias (x : FVec Ideal S32x16 .f32) :
    maskV distV (takeV x (rowV (bucketV distV))) = fun i : S16x6x256x256.Idx => biasAt x (i 0) (i 1).val (i 2).val (i 3).val := by
  funext y
  idx_vars y
  exact entry_eq x y0 y1 y2 y3

end Cert.PositionBiasIdeal.Tiles

end
-- ==== Proof.BiasTilesClaim.lean ====
/- The value claim of the position bias tiles. -/
module

public import proofs.«01_k».proof.Defs
public import proofs.«01_k».proof.Proof.BiasTilesRef
public import Idealize.ShloMosaic.Adequacy
public import Idealize.ShloMosaic.Init

@[expose] public section

set_option maxRecDepth 16384

noncomputable section

namespace Cert.Proof

open Idealize.ShloMosaic Idealize.SL.Sem

/-- The stored tiles hold, for every head, key and query, the bias the reference computes. -/
theorem position_bias : Cert.algebraic_BiasTilesIdeal_PositionBiasIdeal := by
  pair_intro
  · run_from Cert.BiasTilesIdeal.Value.run_blocks m g
  · refine (θ_run _ _ _).mono (fun r h c => ?_) (Cert.PositionBiasIdeal.Value.run m' g')
    obtain ⟨h0, hargs⟩ := h c
    have a0 := hagree c
    refine ⟨h0.trans ?_, hargs⟩
    refine Eq.trans ?_ (Cert.BiasTilesIdeal.Block.final2 m c).symm
    unfold Cert.PositionBiasIdeal.Value.res_main_v46
    rw [a0]
    exact Cert.PositionBiasIdeal.Tiles.bias _

end Cert.Proof

end
-- ==== Proof.FirstBlock.lean ====
/- The gated output block of the first layer: what one grid point computes from its rows, read index by index, and
   the weights of the next layer it passes on. -/
module

public import proofs.«01_k».proof.Proof.RowMath
public import proofs.«01_k».proof.Proof.Gen.OutMlpFirstIdeal.Value
public import Idealize.ShloMosaic.Lib.Pipeline.ValueKit

@[expose] public section

set_option maxRecDepth 16384

noncomputable section

namespace Cert.OutMlpFirstIdeal.Block

open Cert.OutMlpFirstIdeal Cert.OutMlpFirstIdeal.Gen Cert.RowMath Idealize.ShloMosaic Idealize.ShloMosaic.TcCoe

/-- The mean square of a row. -/
theorem mean (x0 x1 : FVec Ideal S512x2048 .bf16) (x2 : FVec Ideal S1x2048x1024 .bf16) (x3 : FVec Ideal S512x1024 .f32)
    (x4 : FVec Ideal S1x1024 .f32) (x5 : FVec Ideal S1x1024x4096 .bf16) (x6 : FVec Ideal S1x4096x1024 .bf16)
    (x7 : FVec Ideal S1x32x3072 .f32) (x8 : FVec Ideal S1x32x1024 .f32) (x9 : FVec Ideal S1x32x4096 .f32) (x10 : FVec Ideal S1x128x1024 .f32)
    (r : Fin 512) :
    k0_pay28 (F := Ideal) x0 x1 x2 x3 x4 x5 x6 x7 x8 x9 x10 (ix2 r 0)
      = Ideal.div (∑ k : Fin 1024, k0_pay26 (F := Ideal) x0 x1 x2 x3 x4 x5 x6 x7 x8 x9 x10 (ix2 r k) * k0_pay26 (F := Ideal) x0 x1 x2 x3 x4 x5 x6 x7 x8 x9 x10 (ix2 r k))
          (Ideal.ofBits .f32 0x44800000#32) := by
  pointwise [k0_pay28, k0_pay19, k0_pay26]

/-- The normed rows, from a row, its weights and its mean square. -/
theorem scaled (h : FVec Ideal S512x1024 .f32) (w : FVec Ideal S1x1024 .f32) (s : FVec Ideal S512x1 .f32) (r : Fin 512) (l : Fin 1024) :
    k0_pay20 (F := Ideal) h w s (ix2 r l)
      = h (ix2 r l) * Ideal.rsqrt (s (ix2 r 0) + Ideal.ofBits .f32 0x358637BD#32) * w (ix2 0 l) := by
  pointwise [k0_pay20]

/-- The norm weights. -/
theorem weights (x0 x1 : FVec Ideal S512x2048 .bf16) (x2 : FVec Ideal S1x2048x1024 .bf16) (x3 : FVec Ideal S512x1024 .f32)
    (x4 : FVec Ideal S1x1024 .f32) (x5 : FVec Ideal S1x1024x4096 .bf16) (x6 : FVec Ideal S1x4096x1024 .bf16)
    (x7 : FVec Ideal S1x32x3072 .f32) (x8 : FVec Ideal S1x32x1024 .f32) (x9 : FVec Ideal S1x32x4096 .f32) (x10 : FVec Ideal S1x128x1024 .f32)
    (l : Fin 1024) : k0_pay27 (F := Ideal) x0 x1 x2 x3 x4 x5 x6 x7 x8 x9 x10 (ix2 0 l) = x4 (ix2 0 l) := by
  pointwise [k0_pay27, k0_pay18]

/-- The normed rows. -/
theorem normed (x0 x1 : FVec Ideal S512x2048 .bf16) (x2 : FVec Ideal S1x2048x1024 .bf16) (x3 : FVec Ideal S512x1024 .f32)
    (x4 : FVec Ideal S1x1024 .f32) (x5 : FVec Ideal S1x1024x4096 .bf16) (x6 : FVec Ideal S1x4096x1024 .bf16)
    (x7 : FVec Ideal S1x32x3072 .f32) (x8 : FVec Ideal S1x32x1024 .f32) (x9 : FVec Ideal S1x32x4096 .f32) (x10 : FVec Ideal S1x128x1024 .f32)
    (r : Fin 512) (l : Fin 1024) :
    k0_pay20 (F := Ideal) (k0_pay26 x0 x1 x2 x3 x4 x5 x6 x7 x8 x9 x10) (k0_pay27 x0 x1 x2 x3 x4 x5 x6 x7 x8 x9 x10) (k0_pay28 x0 x1 x2 x3 x4 x5 x6 x7 x8 x9 x10) (ix2 r l)
      = rmsNorm (fun k => k0_pay26 (F := Ideal) x0 x1 x2 x3 x4 x5 x6 x7 x8 x9 x10 (ix2 r k)) (fun k => x4 (ix2 0 k)) l := by
  rw [scaled, mean, weights]
  rfl

/-- The first two quarters of the hidden units, added to the rows. -/
theorem half (h : FVec Ideal S512x1024 .f32) (w : FVec Ideal S1x1024 .f32) (s : FVec Ideal S512x1 .f32) (u0 d0 u1 d1 : FVec Ideal S1x1024x1024 .bf16)
    (r : Fin 512) (l : Fin 1024) :
    k0_pay21 (F := Ideal) h w s u0 d0 u1 d1 (ix2 r l)
      = h (ix2 r l)
        + (∑ k : Fin 1024, hid (fun k => k0_pay20 (F := Ideal) h w s (ix2 r k)) (fun x => u0 (ix3 0 x k))
            * hid (fun k => k0_pay20 (F := Ideal) h w s (ix2 r k)) (fun x => u0 (ix3 0 x k)) * d0 (ix3 0 k l))
        + (∑ k : Fin 1024, hid (fun k => k0_pay20 (F := Ideal) h w s (ix2 r k)) (fun x => u1 (ix3 0 x k))
            * hid (fun k => k0_pay20 (F := Ideal) h w s (ix2 r k)) (fun x => u1 (ix3 0 x k)) * d1 (ix3 0 k l)) := by
  pointwise [k0_pay21]
  simp only [hid, zero_add]

/-- The squares of the third quarter of the hidden units. -/
theorem square (h : FVec Ideal S512x1024 .f32) (w : FVec Ideal S1x1024 .f32) (s : FVec Ideal S512x1 .f32) (u : FVec Ideal S1x1024x1024 .bf16)
    (r : Fin 512) (k : Fin 1024) :
    k0_pay22 (F := Ideal) h w s u (ix2 r k)
      = hid (fun k => k0_pay20 (F := Ideal) h w s (ix2 r k)) (fun x => u (ix3 0 x k)) * hid (fun k => k0_pay20 (F := Ideal) h w s (ix2 r k)) (fun x => u (ix3 0 x k)) := by
  pointwise [k0_pay22, hid]

/-- The last two quarters of the hidden units, added to what the first two gave. -/
theorem rest (n : FVec Ideal S512x1024 .bf16) (a q : FVec Ideal S512x1024 .f32) (d0 u1 d1 : FVec Ideal S1x1024x1024 .bf16)
    (r : Fin 512) (l : Fin 1024) :
    k0_pay1 (F := Ideal) n a q d0 u1 d1 (ix2 r l)
      = a (ix2 r l)
        + (∑ k : Fin 1024, q (ix2 r k) * d0 (ix3 0 k l))
        + (∑ k : Fin 1024, hid (fun k => n (ix2 r k)) (fun x => u1 (ix3 0 x k))
            * hid (fun k => n (ix2 r k)) (fun x => u1 (ix3 0 x k)) * d1 (ix3 0 k l)) := by
  pointwise [k0_pay1, hid]

/-- The gated row times the output projection, added to the residual row: the eight tiles of 256 are one sum. -/
theorem mixed (x0 x1 : FVec Ideal S512x2048 .bf16) (x2 : FVec Ideal S1x2048x1024 .bf16) (x3 : FVec Ideal S512x1024 .f32)
    (x4 : FVec Ideal S1x1024 .f32) (x5 : FVec Ideal S1x1024x4096 .bf16) (x6 : FVec Ideal S1x4096x1024 .bf16)
    (x7 : FVec Ideal S1x32x3072 .f32) (x8 : FVec Ideal S1x32x1024 .f32) (x9 : FVec Ideal S1x32x4096 .f32) (x10 : FVec Ideal S1x128x1024 .f32)
    (r : Fin 512) (l : Fin 1024) :
    k0_pay26 (F := Ideal) x0 x1 x2 x3 x4 x5 x6 x7 x8 x9 x10 (ix2 r l)
      = x3 (ix2 r l) + ∑ k : Fin 2048, silu (x1 (ix2 r k)) * x0 (ix2 r k) * x2 (ix3 0 k l) := by
  rw [sum_eighths]
  pointwise [k0_pay26, k0_pay25, k0_pay24, k0_pay23, k0_pay6, k0_pay7, k0_pay8, k0_pay9, k0_pay10, k0_pay11, k0_pay12, k0_pay13, k0_pay14, k0_pay15, k0_pay16, k0_pay17, silu]
  simp only [zero_add, zero_sub]

/-- What one grid point stores at row `r`, from its input blocks. -/
theorem stored (x0 x1 : FVec Ideal S512x2048 .bf16) (x2 : FVec Ideal S1x2048x1024 .bf16) (x3 : FVec Ideal S512x1024 .f32)
    (x4 : FVec Ideal S1x1024 .f32) (x5 : FVec Ideal S1x1024x4096 .bf16) (x6 : FVec Ideal S1x4096x1024 .bf16)
    (x7 : FVec Ideal S1x32x3072 .f32) (x8 : FVec Ideal S1x32x1024 .f32) (x9 : FVec Ideal S1x32x4096 .f32) (x10 : FVec Ideal S1x128x1024 .f32) (y : S512x1024.Idx) :
    out0_11 (F := Ideal) x0 x1 x2 x3 x4 x5 x6 x7 x8 x9 x10 y
      = block (fun l => x3 (ix2 (y 0) l) + ∑ k : Fin 2048, silu (x1 (ix2 (y 0) k)) * x0 (ix2 (y 0) k) * x2 (ix3 0 k l))
          (fun k => x4 (ix2 0 k)) (fun k f => x5 (ix3 0 k f)) (fun f l => x6 (ix3 0 f l)) (y 1) := by
  idx_vars y
  unfold out0_11
  frame_out
  rw [rest, half]
  simp only [square, normed, mixed]
  unfold block mlp
  rw [sum_quarters]
  pointwise
  simp only [add_assoc]

/-- What the call computes at row `r`, column `l`, as one function of its arguments: the residual row plus its
    gated projection, then the MLP of that row's norm on top. -/
def G (o g : FVec Ideal S16384x2048 .bf16) (w : FVec Ideal S1x2048x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l)
      + ∑ k : Fin 2048, silu (g (ix2 r k)) * o (ix2 r k) * w (ix3 0 k l))
    (fun k => nw (ix1 k)) (fun k f => wu (ix3 0 k f)) (fun f l => wd (ix3 0 f l)) l

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![0, 0, 0] ∧ win0_6.index t = ![0, 0, 0]
    ∧ win0_11.index t = ![t.val, 0] :=
  (by decide +kernel : ∀ t : Fin grid0.N, _)

theorem idx_cast : ∀ t : Fin cfg0.N, win0_7.index t = ![0, t.val, 0] ∧ win0_8.index t = ![0, t.val, 0]
    ∧ win0_9.index t = ![1, t.val, 0] ∧ win0_10.index t = ![1, t.val, 0] ∧ win0_12.index t = ![0, t.val, 0] ∧ win0_13.index t = ![0, t.val, 0]
    ∧ win0_14.index t = ![0, t.val, 0] ∧ win0_15.index t = ![0, t.val, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg3) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v1 : FVec Ideal S1x1024 .f32) (ix2 0 k) = m ((c : Thread nD τ).loc main_arg4) (ix1 k) := by
  have h : ∀ x : FVec Ideal S1024 .f32, shapeCast S1x1024 x shapeCasts_S1024_S1x1024 (ix2 0 k) = x (ix1 k) := fun x => by pointwise
  entry_read
  exact h _

/-- The result array after the run. -/
theorem final (c : Dev nD) :
    (dats m 0 c).arrAt 11 (cfgs 0).N = fun i : S16384x1024.Idx =>
      G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (i 0) (i 1) := by
  refine (dats m 0 c).arrAt_eq_of_covers 11 _ (by decide +kernel) fun t _ y => ?_
  blk_simp
  rw [after0_11, stored]
  unfold G
  idx_vars y
  refine block_congr (fun l => Ideal.add_congr ?_ (Fin.sum_fin_congr fun k => Ideal.mul_congr (Ideal.mul_congr (congrArg silu ?_) ?_) ?_)) (fun k => ?_) (fun k f => ?_) (fun f k => ?_) ?_
  · have ht : t.val < 32 := lt_of_lt_of_eq t.isLt N_0
    refine Eq.trans ?_ ((entry_x m c ⟨t.val * 512 + y0, by omega⟩ l).trans ?_)
    · blk_point [iblk, idx t]
    · blk_ext [idx t]
  · blk_point [iblk, V, idx t]
  · blk_point [iblk, V, idx t]
  · blk_point [iblk, V, idx t]
  · refine Eq.trans ?_ (entry_nw m c k)
    blk_point [iblk, idx t]
  · blk_point [iblk, V, idx t]
  · blk_point [iblk, V, idx t]
  · exact Fin.ext (by blk_simp [idx t])

/-- The next layer's input projection, passed on as it is. -/
theorem final12 (c : Dev nD) :
    (dats m 0 c).arrAt 12 (cfgs 0).N = fun i : S1x1024x3072.Idx => m ((c : Thread nD τ).loc main_arg7) i := by
  refine (dats m 0 c).arrAt_eq_of_covers 12 _ (by decide +kernel) fun t _ y => ?_
  blk_simp
  rw [after0_12]
  unfold out0_12
  frame_out
  pointwise [k0_pay2]
  blk_point [iblk, V, idx_cast t]

/-- The next layer's output projection. -/
theorem final13 (c : Dev nD) :
    (dats m 0 c).arrAt 13 (cfgs 0).N = fun i : S1x1024x1024.Idx => m ((c : Thread nD τ).loc main_arg8) i := by
  refine (dats m 0 c).arrAt_eq_of_covers 13 _ (by decide +kernel) fun t _ y => ?_
  blk_simp
  rw [after0_13]
  unfold out0_13
  frame_out
  pointwise [k0_pay3]
  blk_point [iblk, V, idx_cast t]

/-- The next layer's up projection: layer 1 of the stack. -/
theorem final14 (c : Dev nD) :
    (dats m 0 c).arrAt 14 (cfgs 0).N = fun i : S1x1024x4096.Idx => m ((c : Thread nD τ).loc main_arg9) (ix3 1 (i 1) (i 2)) := by
  refine (dats m 0 c).arrAt_eq_of_covers 14 _ (by decide +kernel) fun t _ y => ?_
  blk_simp
  rw [after0_14]
  unfold out0_14
  frame_out
  pointwise [k0_pay4]
  blk_point [iblk, V, idx_cast t]

/-- The next layer's down projection: layer 1 of the stack. -/
theorem final15 (c : Dev nD) :
    (dats m 0 c).arrAt 15 (cfgs 0).N = fun i : S1x4096x1024.Idx => m ((c : Thread nD τ).loc main_arg10) (ix3 1 (i 1) (i 2)) := by
  refine (dats m 0 c).arrAt_eq_of_covers 15 _ (by decide +kernel) fun t _ y => ?_
  blk_simp
  rw [after0_15]
  unfold out0_15
  frame_out
  pointwise [k0_pay5]
  blk_point [iblk, V, idx_cast t]

end Cert.OutMlpFirstIdeal.Block

end
-- ==== Proof.FirstRef.lean ====
/- The first layer's output block as the reference computes it, read index by index. -/
module

public import proofs.«01_k».proof.Proof.RowMath
public import proofs.«01_k».proof.Proof.Gen.FirstBlockIdeal.Run
public import Idealize.ShloMosaic.Lib.Pipeline.ValueKit

@[expose] public section

set_option maxRecDepth 16384

noncomputable section

namespace Cert.FirstBlockIdeal.Rows

open Cert.FirstBlockIdeal Cert.FirstBlockIdeal.Gen Cert.RowMath Idealize.ShloMosaic Idealize.ShloMosaic.TcCoe

/-- The residual rows plus the gated projection. -/
def mixV (o g : FVec Ideal S16384x2048 .bf16) (w : FVec Ideal S1x2048x1024 .bf16) (x : FVec Ideal S4x4096x1024 .f32) : FVec Ideal S16384x1024 .f32 :=
  addf (shapeCast _ x shapeCasts_S4x4096x1024_S16384x1024) (Host.dotGeneral dot_S16384x2048_S2048x1024_S16384x1024_1_0_0_1_n_n none (mulf (mulf (extf .f32 g bitsLt_bf16_f32) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 g bitsLt_bf16_f32)))))) (extf .f32 o bitsLt_bf16_f32)) (extf .f32 (shapeCast _ w shapeCasts_S1x2048x1024_S2048x1024) bitsLt_bf16_f32))

theorem mixV_at (o g : FVec Ideal S16384x2048 .bf16) (w : FVec Ideal S1x2048x1024 .bf16) (x : FVec Ideal S4x4096x1024 .f32) (r : Fin 16384) (l : Fin 1024) :
    mixV o g w x (ix2 r l) = x (ix3 ⟨r / 4096, by omega⟩ ⟨r % 4096, by omega⟩ l)
      + ∑ k : Fin 2048, silu (g (ix2 r k)) * o (ix2 r k) * w (ix3 0 k l) := by
  pointwise [mixV, silu]

/-- The norm of every row. -/
def normV (h : FVec Ideal S16384x1024 .f32) (nw : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 nw))

/-- The hidden units before their square. -/
def hidV (n : FVec Ideal S16384x1024 .f32) (wu : FVec Ideal S1x1024x4096 .bf16) : FVec Ideal S16384x4096 .f32 :=
  maximumf (Host.dotGeneral dot_S16384x1024_S1024x4096_S16384x4096_1_0_0_1_n_n none n (extf .f32 (shapeCast _ wu shapeCasts_S1x1024x4096_S1024x4096) bitsLt_bf16_f32)) (broadcastInDim S16384x4096 ![] bcast_S_S16384x4096 (constant S_ .f32 0x00000000#32))

/-- The rows plus the MLP's output. -/
def outV (h : FVec Ideal S16384x1024 .f32) (u : FVec Ideal S16384x4096 .f32) (wd : FVec Ideal S1x4096x1024 .bf16) : FVec Ideal S16384x1024 .f32 :=
  addf h (Host.dotGeneral dot_S16384x4096_S4096x1024_S16384x1024_1_0_0_1_n_n none (mulf u u) (extf .f32 (shapeCast _ wd shapeCasts_S1x4096x1024_S4096x1024) bitsLt_bf16_f32))

theorem normV_at (h : FVec Ideal S16384x1024 .f32) (nw : FVec Ideal S1024 .f32) (r : Fin 16384) (l : Fin 1024) :
    normV h nw (ix2 r l) = rmsNorm (fun k => h (ix2 r k)) (fun k => nw (ix1 k)) l := by
  pointwise [normV, rmsNorm]

theorem hidV_at (n : FVec Ideal S16384x1024 .f32) (wu : FVec Ideal S1x1024x4096 .bf16) (r : Fin 16384) (f : Fin 4096) :
    hidV n wu (ix2 r f) = hid (fun k => n (ix2 r k)) (fun k => wu (ix3 0 k f)) := by
  pointwise [hidV, hid]

theorem outV_at (h : FVec Ideal S16384x1024 .f32) (u : FVec Ideal S16384x4096 .f32) (wd : FVec Ideal S1x4096x1024 .bf16) (r : Fin 16384) (l : Fin 1024) :
    outV h u wd (ix2 r l) = h (ix2 r l) + ∑ f : Fin 4096, u (ix2 r f) * u (ix2 r f) * wd (ix3 0 f l) := by
  pointwise [outV]

/-- The whole reference term at row `r`, column `l`. -/
theorem whole (h : FVec Ideal S16384x1024 .f32) (nw : FVec Ideal S1024 .f32) (wu : FVec Ideal S1x1024x4096 .bf16)
    (wd : FVec Ideal S1x4096x1024 .bf16) (r : Fin 16384) (l : Fin 1024) :
    outV h (hidV (normV h nw) wu) wd (ix2 r l)
      = block (fun k => h (ix2 r k)) (fun k => nw (ix1 k)) (fun k f => wu (ix3 0 k f)) (fun f l => wd (ix3 0 f l)) l := by
  rw [outV_at]
  simp only [hidV_at, normV_at]
  rfl

/-- What the reference computes at row `r`, column `l`, as one function of its arguments. -/
def R (o g : FVec Ideal S16384x2048 .bf16) (w : FVec Ideal S1x2048x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l)
      + ∑ k : Fin 2048, silu (g (ix2 r k)) * o (ix2 r k) * w (ix3 0 k l))
    (fun k => nw (ix1 k)) (fun k f => wu (ix3 0 k f)) (fun f l => wd (ix3 0 f l)) l

variable (m : (ℓ : Loc nD τ sig) → Buf (Elt Ideal) ℓ)

/-- The reference's result buffer, index by index. -/
theorem ref_eq (c : Dev nD) :
    (Value.res_out0 (F := Ideal) m c : FVec Ideal S16384x1024 .f32)
      = fun i => R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  funext i
  idx_vars i
  refine (whole (mixV (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) i0 i1).trans ?_
  simp only [mixV_at]
  rfl

/-- The second layer of the stacked up projections, in the narrower format. -/
theorem second (w : FVec Ideal S4x1024x4096 .f32) :
    truncf .bf16 (extractStridedSlice S1x1024x4096 ![1, 0, 0] w slices_S4x1024x4096_S1x1024x4096_1_0_0) bitsLt_bf16_f32
      = fun i : S1x1024x4096.Idx => w (ix3 1 (i 1) (i 2)) := by
  funext i
  idx_vars i
  pointwise
  blk_ext

/-- The second layer of the stacked down projections, in the narrower format. -/
theorem second' (w : FVec Ideal S4x4096x1024 .f32) :
    truncf .bf16 (extractStridedSlice S1x4096x1024 ![1, 0, 0] w slices_S4x4096x1024_S1x4096x1024_1_0_0) bitsLt_bf16_f32
      = fun i : S1x4096x1024.Idx => w (ix3 1 (i 1) (i 2)) := by
  funext i
  idx_vars i
  pointwise
  blk_ext

end Cert.FirstBlockIdeal.Rows

end
-- ==== Proof.FirstClaim.lean ====
/- The value claim of the first layer's output block. -/
module

public import proofs.«01_k».proof.Defs
public import proofs.«01_k».proof.Proof.FirstBlock
public import proofs.«01_k».proof.Proof.FirstRef
public import Idealize.ShloMosaic.Adequacy
public import Idealize.ShloMosaic.Init

@[expose] public section

set_option maxRecDepth 16384

noncomputable section

namespace Cert.Proof

open Idealize.ShloMosaic Idealize.SL.Sem

/-- The first layer's output block computes what the reference computes, and passes the same weights on. -/
theorem first_block : Cert.algebraic_OutMlpFirstIdeal_FirstBlockIdeal := by
  pair_intro
  · run_from Cert.OutMlpFirstIdeal.Value.run_blocks m g
  · refine (θ_run _ _ _).mono (fun r h c => ?_) (Cert.FirstBlockIdeal.Value.run m' g')
    obtain ⟨h0, h1, h2, h3, h4, hargs⟩ := h c
    obtain ⟨a0, a1, a2, a3, a4, a5, a6, a7, a8, a9, a10⟩ := hagree c
    refine ⟨h0.trans ?_, h1.trans ?_, h2.trans ?_, h3.trans ?_, h4.trans ?_, hargs⟩
    · refine (Cert.FirstBlockIdeal.Rows.ref_eq m' c).trans (Eq.trans ?_ (Cert.OutMlpFirstIdeal.Block.final m c).symm)
      rw [a0, a1, a2, a3, a4, a5, a6]
      rfl
    · rw [a7]; exact (Cert.OutMlpFirstIdeal.Block.final12 m c).symm
    · rw [a8]; exact (Cert.OutMlpFirstIdeal.Block.final13 m c).symm
    · rw [a9]; exact Eq.trans (Cert.FirstBlockIdeal.Rows.second _) (Cert.OutMlpFirstIdeal.Block.final14 m c).symm
    · rw [a10]; exact Eq.trans (Cert.FirstBlockIdeal.Rows.second' _) (Cert.OutMlpFirstIdeal.Block.final15 m c).symm

end Cert.Proof
-- ==== Proof.ThirdBlock.lean ====
/- The ungated output block of the third layer: what one grid point computes from its rows, read index by index, and
   the weights of the next layer it passes on. -/
module

public import proofs.«01_k».proof.Proof.RowMath
public import proofs.«01_k».proof.Proof.Gen.OutMlpThirdIdeal.Value
public import Idealize.ShloMosaic.Lib.Pipeline.ValueKit

@[expose] public section

set_option maxRecDepth 16384

noncomputable section

namespace Cert.OutMlpThirdIdeal.Block

open Cert.OutMlpThirdIdeal Cert.OutMlpThirdIdeal.Gen Cert.RowMath Idealize.ShloMosaic Idealize.ShloMosaic.TcCoe

/-- The residual rows plus the projection of the transposed mixer output. -/
theorem mixed (x0 : FVec Ideal S1024x512 .bf16) (x1 : FVec Ideal S1x1024x1024 .bf16) (x2 : FVec Ideal S512x1024 .f32) (r : Fin 512) (l : Fin 1024) :
    k0_pay6 (F := Ideal) x0 x1 x2 (ix2 r l) = x2 (ix2 r l) + ∑ k : Fin 1024, x0 (ix2 k r) * x1 (ix3 0 k l) := by
  pointwise [k0_pay6]

/-- The normed rows. -/
theorem normed (x0 : FVec Ideal S1024x512 .bf16) (x1 : FVec Ideal S1x1024x1024 .bf16) (x2 : FVec Ideal S512x1024 .f32) (w : FVec Ideal S1x1024 .f32)
    (r : Fin 512) (l : Fin 1024) :
    k0_pay7 (F := Ideal) x0 x1 x2 w (ix2 r l) = rmsNorm (fun k => k0_pay6 (F := Ideal) x0 x1 x2 (ix2 r k)) (fun k => w (ix2 0 k)) l := by
  pointwise [k0_pay7, rmsNorm]

/-- The first quarter of the hidden units, added to the rows. -/
theorem quarter (x0 : FVec Ideal S1024x512 .bf16) (x1 : FVec Ideal S1x1024x1024 .bf16) (x2 : FVec Ideal S512x1024 .f32) (w : FVec Ideal S1x1024 .f32)
    (u d : FVec Ideal S1x1024x1024 .bf16) (r : Fin 512) (l : Fin 1024) :
    k0_pay8 (F := Ideal) x0 x1 x2 w u d (ix2 r l)
      = k0_pay6 (F := Ideal) x0 x1 x2 (ix2 r l)
        + ∑ k : Fin 1024, hid (fun k => k0_pay7 (F := Ideal) x0 x1 x2 w (ix2 r k)) (fun x => u (ix3 0 x k))
            * hid (fun k => k0_pay7 (F := Ideal) x0 x1 x2 w (ix2 r k)) (fun x => u (ix3 0 x k)) * d (ix3 0 k l) := by
  pointwise [k0_pay8, hid]

/-- The squares of the second quarter of the hidden units. -/
theorem square (x0 : FVec Ideal S1024x512 .bf16) (x1 : FVec Ideal S1x1024x1024 .bf16) (x2 : FVec Ideal S512x1024 .f32) (w : FVec Ideal S1x1024 .f32)
    (u : FVec Ideal S1x1024x1024 .bf16) (r : Fin 512) (k : Fin 1024) :
    k0_pay9 (F := Ideal) x0 x1 x2 w u (ix2 r k)
      = hid (fun k => k0_pay7 (F := Ideal) x0 x1 x2 w (ix2 r k)) (fun x => u (ix3 0 x k))
            * hid (fun k => k0_pay7 (F := Ideal) x0 x1 x2 w (ix2 r k)) (fun x => u (ix3 0 x k)) := by
  pointwise [k0_pay9, hid]

/-- The other quarters, added in turn. -/
theorem rest (n : FVec Ideal S512x1024 .bf16) (a : FVec Ideal S512x1024 .f32) (s : FVec Ideal S512x1024 .bf16) (d1 u2 d2 u3 d3 : FVec Ideal S1x1024x1024 .bf16)
    (r : Fin 512) (l : Fin 1024) :
    k0_pay1 (F := Ideal) n a s d1 u2 d2 u3 d3 (ix2 r l)
      = a (ix2 r l)
        + (∑ k : Fin 1024, s (ix2 r k) * d1 (ix3 0 k l))
        + (∑ k : Fin 1024, hid (fun k => n (ix2 r k)) (fun x => u2 (ix3 0 x k))
            * hid (fun k => n (ix2 r k)) (fun x => u2 (ix3 0 x k)) * d2 (ix3 0 k l))
        + (∑ k : Fin 1024, hid (fun k => n (ix2 r k)) (fun x => u3 (ix3 0 x k))
            * hid (fun k => n (ix2 r k)) (fun x => u3 (ix3 0 x k)) * d3 (ix3 0 k l)) := by
  pointwise [k0_pay1, hid]

/-- What one grid point stores at row `r`, from its input blocks. -/
theorem stored (x0 : FVec Ideal S1024x512 .bf16) (x1 : FVec Ideal S1x1024x1024 .bf16) (x2 : FVec Ideal S512x1024 .f32) (x3 : FVec Ideal S1x1024 .f32)
    (x4 : FVec Ideal S1x1024x4096 .bf16) (x5 : FVec Ideal S1x4096x1024 .bf16) (x6 : FVec Ideal S1x32x6144 .f32) (x7 : FVec Ideal S1x64x1024 .f32)
    (x8 : FVec Ideal S1x32x4096 .f32) (x9 : FVec Ideal S1x128x1024 .f32) (y : S512x1024.Idx) :
    out0_10 (F := Ideal) x0 x1 x2 x3 x4 x5 x6 x7 x8 x9 y
      = block (fun l => x2 (ix2 (y 0) l) + ∑ k : Fin 1024, x0 (ix2 k (y 0)) * x1 (ix3 0 k l))
          (fun k => x3 (ix2 0 k)) (fun k f => x4 (ix3 0 k f)) (fun f l => x5 (ix3 0 f l)) (y 1) := by
  idx_vars y
  unfold out0_10
  frame_out
  rw [rest, quarter]
  simp only [square, normed, mixed]
  unfold block mlp
  rw [sum_quarters]
  pointwise
  simp only [add_assoc]

/-- What the call computes at row `r`, column `l`, as one function of its arguments: the residual row plus its
    projection, then the MLP of that row's norm on top. -/
def G (o : FVec Ideal S1024x16384 .bf16) (w : FVec Ideal S1x1024x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l) + ∑ k : Fin 1024, o (ix2 k r) * w (ix3 0 k l))
    (fun k => nw (ix1 k)) (fun k f => wu (ix3 0 k f)) (fun f l => wd (ix3 0 f l)) l

theorem idx : ∀ t : Fin cfg0.N, win0_0.index t = ![0, t.val] ∧ win0_1.index t = ![0, 0, 0]
    ∧ win0_2.index t = ![t.val, 0] ∧ win0_3.index t = ![0, 0] ∧ win0_4.index t = ![0, 0, 0] ∧ win0_5.index t = ![0, 0, 0]
    ∧ win0_10.index t = ![t.val, 0] :=
  (by decide +kernel : ∀ t : Fin grid0.N, _)

theorem idx_cast : ∀ t : Fin cfg0.N, win0_6.index t = ![1, t.val, 0] ∧ win0_7.index t = ![1, t.val, 0]
    ∧ win0_8.index t = ![3, t.val, 0] ∧ win0_9.index t = ![3, t.val, 0] ∧ win0_11.index t = ![0, t.val, 0] ∧ win0_12.index t = ![0, t.val, 0]
    ∧ win0_13.index t = ![0, t.val, 0] ∧ win0_14.index t = ![0, t.val, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg2) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v1 : FVec Ideal S1x1024 .f32) (ix2 0 k) = m ((c : Thread nD τ).loc main_arg3) (ix1 k) := by
  have h : ∀ x : FVec Ideal S1024 .f32, shapeCast S1x1024 x shapeCasts_S1024_S1x1024 (ix2 0 k) = x (ix1 k) := fun x => by pointwise
  entry_read
  exact h _

/-- The first result array after the run. -/
theorem final (c : Dev nD) :
    (dats m 0 c).arrAt 10 (cfgs 0).N = fun i : S16384x1024.Idx =>
      G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (i 0) (i 1) := by
  refine (dats m 0 c).arrAt_eq_of_covers 10 _ (by decide +kernel) fun t _ y => ?_
  blk_simp
  rw [after0_10, stored]
  unfold G
  idx_vars y
  refine block_congr (fun l => Ideal.add_congr ?_ (Fin.sum_fin_congr fun k => Ideal.mul_congr ?_ ?_)) (fun k => ?_) (fun k f => ?_) (fun f k => ?_) ?_
  · have ht : t.val < 32 := lt_of_lt_of_eq t.isLt N_0
    refine Eq.trans ?_ ((entry_x m c ⟨t.val * 512 + y0, by omega⟩ l).trans ?_)
    · blk_point [iblk, idx t]
    · blk_ext [idx t]
  · blk_point [iblk, V, idx t]
  · blk_point [iblk, V, idx t]
  · refine Eq.trans ?_ (entry_nw m c k)
    blk_point [iblk, idx t]
  · blk_point [iblk, V, idx t]
  · blk_point [iblk, V, idx t]
  · exact Fin.ext (by blk_simp [idx t])

/-- The next layer's input projection: layer 1 of its stack. -/
theorem final11 (c : Dev nD) :
    (dats m 0 c).arrAt 11 (cfgs 0).N = fun i : S1x1024x6144.Idx => m ((c : Thread nD τ).loc main_arg6) (ix3 1 (i 1) (i 2)) := by
  refine (dats m 0 c).arrAt_eq_of_covers 11 _ (by decide +kernel) fun t _ y => ?_
  blk_simp
  rw [after0_11]
  unfold out0_11
  frame_out
  pointwise [k0_pay2]
  blk_point [iblk, V, idx_cast t]

/-- The next layer's output projection: layer 1 of its stack. -/
theorem final12 (c : Dev nD) :
    (dats m 0 c).arrAt 12 (cfgs 0).N = fun i : S1x2048x1024.Idx => m ((c : Thread nD τ).loc main_arg7) (ix3 1 (i 1) (i 2)) := by
  refine (dats m 0 c).arrAt_eq_of_covers 12 _ (by decide +kernel) fun t _ y => ?_
  blk_simp
  rw [after0_12]
  unfold out0_12
  frame_out
  pointwise [k0_pay3]
  blk_point [iblk, V, idx_cast t]

/-- The next layer's up projection: layer 3 of the stack. -/
theorem final13 (c : Dev nD) :
    (dats m 0 c).arrAt 13 (cfgs 0).N = fun i : S1x1024x4096.Idx => m ((c : Thread nD τ).loc main_arg8) (ix3 3 (i 1) (i 2)) := by
  refine (dats m 0 c).arrAt_eq_of_covers 13 _ (by decide +kernel) fun t _ y => ?_
  blk_simp
  rw [after0_13]
  unfold out0_13
  frame_out
  pointwise [k0_pay4]
  blk_point [iblk, V, idx_cast t]

/-- The next layer's down projection: layer 3 of the stack. -/
theorem final14 (c : Dev nD) :
    (dats m 0 c).arrAt 14 (cfgs 0).N = fun i : S1x4096x1024.Idx => m ((c : Thread nD τ).loc main_arg9) (ix3 3 (i 1) (i 2)) := by
  refine (dats m 0 c).arrAt_eq_of_covers 14 _ (by decide +kernel) fun t _ y => ?_
  blk_simp
  rw [after0_14]
  unfold out0_14
  frame_out
  pointwise [k0_pay5]
  blk_point [iblk, V, idx_cast t]

end Cert.OutMlpThirdIdeal.Block

end
-- ==== Proof.ThirdRef.lean ====
/- The third layer's output block as the reference computes it, read index by index. -/
module

public import proofs.«01_k».proof.Proof.RowMath
public import proofs.«01_k».proof.Proof.Gen.ThirdBlockIdeal.Run
public import Idealize.ShloMosaic.Lib.Pipeline.ValueKit

@[expose] public section

set_option maxRecDepth 16384

noncomputable section

namespace Cert.ThirdBlockIdeal.Rows

open Cert.ThirdBlockIdeal Cert.ThirdBlockIdeal.Gen Cert.RowMath Idealize.ShloMosaic Idealize.ShloMosaic.TcCoe

/-- The residual rows plus the projection of the transposed mixer output. -/
def mixV (o : FVec Ideal S1024x16384 .bf16) (w : FVec Ideal S1x1024x1024 .bf16) (x : FVec Ideal S4x4096x1024 .f32) : FVec Ideal S16384x1024 .f32 :=
  addf (shapeCast _ x shapeCasts_S4x4096x1024_S16384x1024) (Host.dotGeneral dot_S16384x1024_S1024x1024_S16384x1024_1_0_0_1_n_n none (transpose S16384x1024 [1, 0] (extf .f32 o bitsLt_bf16_f32) transposes_S1024x16384_S16384x1024_1_0) (extf .f32 (shapeCast _ w shapeCasts_S1x1024x1024_S1024x1024) bitsLt_bf16_f32))

theorem mixV_at (o : FVec Ideal S1024x16384 .bf16) (w : FVec Ideal S1x1024x1024 .bf16) (x : FVec Ideal S4x4096x1024 .f32) (r : Fin 16384) (l : Fin 1024) :
    mixV o w x (ix2 r l) = x (ix3 ⟨r / 4096, by omega⟩ ⟨r % 4096, by omega⟩ l) + ∑ k : Fin 1024, o (ix2 k r) * w (ix3 0 k l) := by
  pointwise [mixV]

/-- The norm of every row. -/
def normV (h : FVec Ideal S16384x1024 .f32) (nw : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 nw))

/-- The hidden units before their square. -/
def hidV (n : FVec Ideal S16384x1024 .f32) (wu : FVec Ideal S1x1024x4096 .bf16) : FVec Ideal S16384x4096 .f32 :=
  maximumf (Host.dotGeneral dot_S16384x1024_S1024x4096_S16384x4096_1_0_0_1_n_n none n (extf .f32 (shapeCast _ wu shapeCasts_S1x1024x4096_S1024x4096) bitsLt_bf16_f32)) (broadcastInDim S16384x4096 ![] bcast_S_S16384x4096 (constant S_ .f32 0x00000000#32))

/-- The rows plus the MLP's output. -/
def outV (h : FVec Ideal S16384x1024 .f32) (u : FVec Ideal S16384x4096 .f32) (wd : FVec Ideal S1x4096x1024 .bf16) : FVec Ideal S16384x1024 .f32 :=
  addf h (Host.dotGeneral dot_S16384x4096_S4096x1024_S16384x1024_1_0_0_1_n_n none (mulf u u) (extf .f32 (shapeCast _ wd shapeCasts_S1x4096x1024_S4096x1024) bitsLt_bf16_f32))

theorem normV_at (h : FVec Ideal S16384x1024 .f32) (nw : FVec Ideal S1024 .f32) (r : Fin 16384) (l : Fin 1024) :
    normV h nw (ix2 r l) = rmsNorm (fun k => h (ix2 r k)) (fun k => nw (ix1 k)) l := by
  pointwise [normV, rmsNorm]

theorem hidV_at (n : FVec Ideal S16384x1024 .f32) (wu : FVec Ideal S1x1024x4096 .bf16) (r : Fin 16384) (f : Fin 4096) :
    hidV n wu (ix2 r f) = hid (fun k => n (ix2 r k)) (fun k => wu (ix3 0 k f)) := by
  pointwise [hidV, hid]

theorem outV_at (h : FVec Ideal S16384x1024 .f32) (u : FVec Ideal S16384x4096 .f32) (wd : FVec Ideal S1x4096x1024 .bf16) (r : Fin 16384) (l : Fin 1024) :
    outV h u wd (ix2 r l) = h (ix2 r l) + ∑ f : Fin 4096, u (ix2 r f) * u (ix2 r f) * wd (ix3 0 f l) := by
  pointwise [outV]

/-- The whole reference term at row `r`, column `l`. -/
theorem whole (h : FVec Ideal S16384x1024 .f32) (nw : FVec Ideal S1024 .f32) (wu : FVec Ideal S1x1024x4096 .bf16)
    (wd : FVec Ideal S1x4096x1024 .bf16) (r : Fin 16384) (l : Fin 1024) :
    outV h (hidV (normV h nw) wu) wd (ix2 r l)
      = block (fun k => h (ix2 r k)) (fun k => nw (ix1 k)) (fun k f => wu (ix3 0 k f)) (fun f l => wd (ix3 0 f l)) l := by
  rw [outV_at]
  simp only [hidV_at, normV_at]
  rfl

/-- What the reference computes at row `r`, column `l`, as one function of its arguments. -/
def R (o : FVec Ideal S1024x16384 .bf16) (w : FVec Ideal S1x1024x1024 .bf16) (x : FVec Ideal S4x4096x1024 .f32)
    (nw : FVec Ideal S1024 .f32) (wu : FVec Ideal S1x1024x4096 .bf16) (wd : FVec Ideal S1x4096x1024 .bf16)
    (r : Fin 16384) (l : Fin 1024) : EReal :=
  block (fun l => x (ix3 ⟨r / 4096, by omega⟩ ⟨r % 4096, by omega⟩ l) + ∑ k : Fin 1024, o (ix2 k r) * w (ix3 0 k l))
    (fun k => nw (ix1 k)) (fun k f => wu (ix3 0 k f)) (fun f l => wd (ix3 0 f l)) l

variable (m : (ℓ : Loc nD τ sig) → Buf (Elt Ideal) ℓ)

/-- The reference's first result buffer, index by index. -/
theorem ref_eq (c : Dev nD) :
    (Value.res_out0 (F := Ideal) m c : FVec Ideal S16384x1024 .f32)
      = fun i => R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  funext i
  idx_vars i
  refine (whole (mixV (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) i0 i1).trans ?_
  simp only [mixV_at]
  rfl

/-- The last layer of the stacked up projections, in the narrower format. -/
theorem last (w : FVec Ideal S4x1024x4096 .f32) :
    truncf .bf16 (extractStridedSlice S1x1024x4096 ![3, 0, 0] w slices_S4x1024x4096_S1x1024x4096_3_0_0) bitsLt_bf16_f32
      = fun i : S1x1024x4096.Idx => w (ix3 3 (i 1) (i 2)) := by
  funext i
  idx_vars i
  pointwise
  blk_ext

/-- The last layer of the stacked down projections, in the narrower format. -/
theorem last' (w : FVec Ideal S4x4096x1024 .f32) :
    truncf .bf16 (extractStridedSlice S1x4096x1024 ![3, 0, 0] w slices_S4x4096x1024_S1x4096x1024_3_0_0) bitsLt_bf16_f32
      = fun i : S1x4096x1024.Idx => w (ix3 3 (i 1) (i 2)) := by
  funext i
  idx_vars i
  pointwise
  blk_ext

/-- The second layer of the stacked input projections, in the narrower format. -/
theorem second (w : FVec Ideal S2x1024x6144 .f32) :
    truncf .bf16 (extractStridedSlice S1x1024x6144 ![1, 0, 0] w slices_S2x1024x6144_S1x1024x6144_1_0_0) bitsLt_bf16_f32
      = fun i : S1x1024x6144.Idx => w (ix3 1 (i 1) (i 2)) := by
  funext i
  idx_vars i
  pointwise
  blk_ext

/-- The second layer of the stacked output projections, in the narrower format. -/
theorem second' (w : FVec Ideal S2x2048x1024 .f32) :
    truncf .bf16 (extractStridedSlice S1x2048x1024 ![1, 0, 0] w slices_S2x2048x1024_S1x2048x1024_1_0_0) bitsLt_bf16_f32
      = fun i : S1x2048x1024.Idx => w (ix3 1 (i 1) (i 2)) := by
  funext i
  idx_vars i
  pointwise
  blk_ext

end Cert.ThirdBlockIdeal.Rows

end
-- ==== Proof.ThirdClaim.lean ====
/- The value claim of the third layer's output block. -/
module

public import proofs.«01_k».proof.Defs
public import proofs.«01_k».proof.Proof.ThirdBlock
public import proofs.«01_k».proof.Proof.ThirdRef
public import Idealize.ShloMosaic.Adequacy
public import Idealize.ShloMosaic.Init

@[expose] public section

set_option maxRecDepth 16384

noncomputable section

namespace Cert.Proof

open Idealize.ShloMosaic Idealize.SL.Sem

/-- The third layer's output block computes what the reference computes, and passes the same weights on. -/
theorem third_block : Cert.algebraic_OutMlpThirdIdeal_ThirdBlockIdeal := by
  pair_intro
  · run_from Cert.OutMlpThirdIdeal.Value.run_blocks m g
  · refine (θ_run _ _ _).mono (fun r h c => ?_) (Cert.ThirdBlockIdeal.Value.run m' g')
    obtain ⟨h0, h1, h2, h3, h4, hargs⟩ := h c
    obtain ⟨a0, a1, a2, a3, a4, a5, a6, a7, a8, a9⟩ := hagree c
    refine ⟨h0.trans ?_, h1.trans ?_, h2.trans ?_, h3.trans ?_, h4.trans ?_, hargs⟩
    · refine (Cert.ThirdBlockIdeal.Rows.ref_eq m' c).trans (Eq.trans ?_ (Cert.OutMlpThirdIdeal.Block.final m c).symm)
      rw [a0, a1, a2, a3, a4, a5]
      rfl
    · rw [a6]; exact Eq.trans (Cert.ThirdBlockIdeal.Rows.second _) (Cert.OutMlpThirdIdeal.Block.final11 m c).symm
    · rw [a7]; exact Eq.trans (Cert.ThirdBlockIdeal.Rows.second' _) (Cert.OutMlpThirdIdeal.Block.final12 m c).symm
    · rw [a8]; exact Eq.trans (Cert.ThirdBlockIdeal.Rows.last _) (Cert.OutMlpThirdIdeal.Block.final13 m c).symm
    · rw [a9]; exact Eq.trans (Cert.ThirdBlockIdeal.Rows.last' _) (Cert.OutMlpThirdIdeal.Block.final14 m c).symm

end Cert.Proof
-- ==== Proof.RetLastBlock.lean ====
/- The input projection of the last layer, which casts no weights: what one grid point computes from its rows, read index by index. -/
module

public import proofs.«01_k».proof.Proof.RotaryMath
public import proofs.«01_k».proof.Proof.Gen.RetProjLastIdeal.Value
public import Idealize.ShloMosaic.Lib.Pipeline.ValueKit

@[expose] public section

set_option maxRecDepth 16384

noncomputable section

namespace Cert.RetProjLastIdeal.Block

open Cert.RetProjLastIdeal Cert.RetProjLastIdeal.Gen Cert.RowMath Idealize.ShloMosaic Idealize.ShloMosaic.TcCoe

/-- The normed row `r` of a block. -/
def row (x0 : FVec Ideal S512x1024 .f32) (x1 : FVec Ideal S1x1024 .f32) (r : Fin 512) (k : Fin 1024) : EReal :=
  rmsNorm (fun k => x0 (ix2 r k)) (fun k => x1 (ix2 0 k)) k

/-- The normed rows the body holds. -/
theorem held (a0 : FVec Ideal S512x1024 .f32) (a1 : FVec Ideal S1x1024 .f32) (r : Fin 512) (k : Fin 1024) :
    k0_pay4 (F := Ideal) (View.ld a0 r0_0) (View.ld a1 r0_1) (ix2 r k) = row a0 a1 r k := by
  pointwise [k0_pay4, row, rmsNorm]

/-- Column `n` of the projection of a block's row `r`. -/
def col (x0 : FVec Ideal S512x1024 .f32) (x1 : FVec Ideal S1x1024 .f32) (x2 : FVec Ideal S1x1024x6144 .bf16) (r : Fin 512) (n : Fin 6144) : EReal :=
  dotCol (row x0 x1 r) (fun k n => x2 (ix3 0 k n)) n

/-- The stored queries: each head of the projected row, rotated. -/
theorem stored5 (a0 : FVec Ideal S512x1024 .f32) (a1 : FVec Ideal S1x1024 .f32) (a2 : FVec Ideal S1x1024x6144 .bf16) (a3 a4 : FVec Ideal S512x128 .f32) (r : Fin 512) (l : Fin 1024) :
    out0_5 (F := Ideal) a0 a1 a2 a3 a4 (ix2 r l)
      = rotary (fun e => col a0 a1 a2 r ⟨l.val / 256 * 256 + e.val, by omega⟩) (fun j => a3 (ix2 r j)) (fun j => a4 (ix2 r j))
          ⟨l.val % 256, by omega⟩ := by
  unfold out0_5
  canon_tiles x h
  all_goals
    idx_vars x
    obtain rfl : r = x0 := Fin.ext h0
    first
      | rw [rotary_high _ _ _ _ x1 (show l.val % 256 = _ by have h1' : l.val = _ := h1; omega)]
      | rw [rotary_low _ _ _ _ x1 (show l.val % 256 = _ by have h1' : l.val = _ := h1; omega)]
    have h1' : l.val = _ := h1
    unfold col dotCol
    simp only [← held]
    try simp only [k0_pay75, k0_pay74, k0_pay73, k0_pay72, k0_pay71, k0_pay70, k0_pay69, k0_pay68, k0_pay67, k0_pay66]
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    first
      | refine congrArg₂ (fun p q : EReal => p + q) (Ideal.mul_congr (Fin.sum_fin_congr fun k => Ideal.mul_congr rfl ?_) rfl) (Ideal.mul_congr (Fin.sum_fin_congr fun k => Ideal.mul_congr rfl ?_) rfl)
      | refine congrArg₂ (fun p q : EReal => p - q) (Ideal.mul_congr (Fin.sum_fin_congr fun k => Ideal.mul_congr rfl ?_) rfl) (Ideal.mul_congr (Fin.sum_fin_congr fun k => Ideal.mul_congr rfl ?_) rfl)
    all_goals blk_ext [lo, hi]

/-- The stored keys: each head of the projected row, rotated and scaled. -/
theorem stored6 (a0 : FVec Ideal S512x1024 .f32) (a1 : FVec Ideal S1x1024 .f32) (a2 : FVec Ideal S1x1024x6144 .bf16) (a3 a4 : FVec Ideal S512x128 .f32) (r : Fin 512) (l : Fin 1024) :
    out0_6 (F := Ideal) a0 a1 a2 a3 a4 (ix2 r l)
      = rotary (fun e => col a0 a1 a2 r ⟨1024 + l.val / 256 * 256 + e.val, by omega⟩) (fun j => a3 (ix2 r j)) (fun j => a4 (ix2 r j))
          ⟨l.val % 256, by omega⟩ * Scalar.ofBits (F := Ideal) .f32 0x3D800000#32 := by
  unfold out0_6
  canon_tiles x h
  all_goals
    idx_vars x
    obtain rfl : r = x0 := Fin.ext h0
    first
      | rw [rotary_high _ _ _ _ x1 (show l.val % 256 = _ by have h1' : l.val = _ := h1; omega)]
      | rw [rotary_low _ _ _ _ x1 (show l.val % 256 = _ by have h1' : l.val = _ := h1; omega)]
    have h1' : l.val = _ := h1
    unfold col dotCol
    simp only [← held]
    simp only [k0_pay75, k0_pay74, k0_pay73, k0_pay72, k0_pay71, k0_pay70, k0_pay69, k0_pay68, k0_pay67, k0_pay66]
    pointwise [k0_pay5, k0_pay6, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49]
    first
      | refine congrArg (· * _) (congrArg₂ (fun p q : EReal => p + q) (Ideal.mul_congr (Fin.sum_fin_congr fun k => Ideal.mul_congr rfl ?_) rfl) (Ideal.mul_congr (Fin.sum_fin_congr fun k => Ideal.mul_congr rfl ?_) rfl))
      | refine congrArg (· * _) (congrArg₂ (fun p q : EReal => p - q) (Ideal.mul_congr (Fin.sum_fin_congr fun k => Ideal.mul_congr rfl ?_) rfl) (Ideal.mul_congr (Fin.sum_fin_congr fun k => Ideal.mul_congr rfl ?_) rfl))
    all_goals blk_ext [lo, hi]

/-- The stored values. -/
theorem stored7 (a0 : FVec Ideal S512x1024 .f32) (a1 : FVec Ideal S1x1024 .f32) (a2 : FVec Ideal S1x1024x6144 .bf16) (a3 a4 : FVec Ideal S512x128 .f32) (r : Fin 512) (l : Fin 2048) :
    out0_7 (F := Ideal) a0 a1 a2 a3 a4 (ix2 r l) = col a0 a1 a2 r ⟨2048 + l.val, by omega⟩ := by
  unfold out0_7
  canon_tiles x h
  all_goals
    idx_vars x
    obtain rfl : r = x0 := Fin.ext h0
    have h1' : l.val = _ := h1
    unfold col dotCol
    simp only [← held]
    simp only [k0_pay75, k0_pay74, k0_pay73, k0_pay72, k0_pay71, k0_pay70, k0_pay69, k0_pay68, k0_pay67, k0_pay66]
    pointwise [k0_pay45, k0_pay50, k0_pay51, k0_pay52, k0_pay53, k0_pay54, k0_pay55, k0_pay56, k0_pay57, k0_pay58, k0_pay59]
    refine Fin.sum_fin_congr fun k => Ideal.mul_congr rfl ?_
    blk_ext

/-- The stored gate. -/
theorem stored8 (a0 : FVec Ideal S512x1024 .f32) (a1 : FVec Ideal S1x1024 .f32) (a2 : FVec Ideal S1x1024x6144 .bf16) (a3 a4 : FVec Ideal S512x128 .f32) (r : Fin 512) (l : Fin 2048) :
    out0_8 (F := Ideal) a0 a1 a2 a3 a4 (ix2 r l) = col a0 a1 a2 r ⟨4096 + l.val, by omega⟩ := by
  unfold out0_8
  canon_tiles x h
  all_goals
    idx_vars x
    obtain rfl : r = x0 := Fin.ext h0
    have h1' : l.val = _ := h1
    unfold col dotCol
    simp only [← held]
    simp only [k0_pay75, k0_pay74, k0_pay73, k0_pay72, k0_pay71, k0_pay70, k0_pay69, k0_pay68, k0_pay67, k0_pay66]
    pointwise [k0_pay1, k0_pay2, k0_pay3, k0_pay58, k0_pay59, k0_pay60, k0_pay61, k0_pay62, k0_pay63, k0_pay64, k0_pay65]
    refine Fin.sum_fin_congr fun k => Ideal.mul_congr rfl ?_
    blk_ext

/-- The angle of position `s` and frequency `j`: the position times 10000 to the power −2j/256. -/
def ang : FVec Ideal S4096x128 .f32 :=
  mulf (broadcastInDim S4096x128 ![0, 1] bcast_S4096x1_S4096x128_0_1 (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
            (mulf (broadcastInDim S128 ![] bcast_S_S128 (constant S_ .f32 0x40000000#32)) (sitofp .f32 (iotaInDim S128 32 0)))))
          (broadcastInDim S128 ![] bcast_S_S128 (constant S_ .f32 0x43800000#32))))))

/-- Column `n` of the projection of row `r` of the whole array. -/
def proj (x : FVec Ideal S4x4096x1024 .f32) (nw : FVec Ideal S1024 .f32) (w : FVec Ideal S1x1024x6144 .bf16) (r : Fin 16384) (n : Fin 6144) : EReal :=
  dotCol (rmsNorm (fun k => x (ix3 ⟨r / 4096, by omega⟩ ⟨r % 4096, by omega⟩ k)) (fun k => nw (ix1 k))) (fun k n => w (ix3 0 k n)) n

/-- Column `o + l` of the projection. -/
def plainCol (x : FVec Ideal S4x4096x1024 .f32) (nw : FVec Ideal S1024 .f32) (w : FVec Ideal S1x1024x6144 .bf16) (o : ℕ) (ho : o ≤ 4096)
    (r : Fin 16384) (l : Fin 2048) : EReal :=
  proj x nw w r ⟨o + l.val, by omega⟩

/-- The rotated heads of row `r`: those of the projection's columns from `o` on. -/
def turned (x : FVec Ideal S4x4096x1024 .f32) (nw : FVec Ideal S1024 .f32) (w : FVec Ideal S1x1024x6144 .bf16) (o : ℕ) (ho : o ≤ 1024)
    (r : Fin 16384) (l : Fin 1024) : EReal :=
  rotary (fun e => proj x nw w r ⟨o + l.val / 256 * 256 + e.val, by omega⟩) (fun j => Host.cos ang (ix2 ⟨r % 4096, by omega⟩ j))
    (fun j => Host.sin ang (ix2 ⟨r % 4096, by omega⟩ j)) ⟨l.val % 256, by omega⟩

theorem idx : ∀ t : Fin cfg0.N, win0_0.index t = ![t.val, 0] ∧ win0_1.index t = ![0, 0]
    ∧ win0_2.index t = ![0, 0, 0] ∧ win0_3.index t = ![t.val % 8, 0] ∧ win0_4.index t = ![t.val % 8, 0]
    ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ)

/-- The residual stream's buffer is the argument with its first two axes joined. -/
theorem entry_x (c : Dev nD) (r : Fin 16384) (l : Fin 1024) :
    (V m c main_v0 : FVec Ideal S16384x1024 .f32) (ix2 r l)
      = m ((c : Thread nD τ).loc main_arg0) (ix3 ⟨r / 4096, by omega⟩ ⟨r % 4096, by omega⟩ l) := by
  have h : ∀ x : FVec Ideal S4x4096x1024 .f32, shapeCast S16384x1024 x shapeCasts_S4x4096x1024_S16384x1024 (ix2 r l)
      = x (ix3 ⟨r / 4096, by omega⟩ ⟨r % 4096, by omega⟩ l) := fun x => by pointwise
  entry_read
  exact h _

/-- The norm weights' buffer is the argument as one row. -/
theorem entry_nw (c : Dev nD) (k : Fin 1024) :
    (V m c main_v19 : FVec Ideal S1x1024 .f32) (ix2 0 k) = m ((c : Thread nD τ).loc main_arg1) (ix1 k) := by
  have h : ∀ x : FVec Ideal S1024 .f32, shapeCast S1x1024 x shapeCasts_S1024_S1x1024 (ix2 0 k) = x (ix1 k) := fun x => by pointwise
  entry_read
  exact h _

/-- The cosine table. -/
theorem entry_cos (c : Dev nD) : (V m c main_v17 : FVec Ideal S4096x128 .f32) = Host.cos ang := by
  entry_read
  rfl

/-- The sine table. -/
theorem entry_sin (c : Dev nD) : (V m c main_v18 : FVec Ideal S4096x128 .f32) = Host.sin ang := by
  entry_read
  rfl

/-- The columns of a block's row are those of the whole array's row. -/
theorem col_eq (c : Dev nD) (t : Fin cfg0.N) (r : Fin 512) (n n' : Fin 6144) (q : Fin 16384) (hq : q.val = t.val * 512 + r.val) (hn : n = n') :
    col (iblk m c 0 t) (iblk m c 1 t) (iblk m c 2 t) r n
      = proj (m ((c : Thread nD τ).loc main_arg0)) (m ((c : Thread nD τ).loc main_arg1)) (m ((c : Thread nD τ).loc main_arg2)) q n' := by
  subst hn
  unfold col proj dotCol row
  refine Fin.sum_fin_congr fun k => Ideal.mul_congr (congrFun (congrArg₂ rmsNorm (funext fun k => ?_) (funext fun k => ?_)) k) ?_
  · refine Eq.trans ?_ (entry_x m c q k)
    blk_point [iblk, idx t]
  · refine Eq.trans ?_ (entry_nw m c k)
    blk_point [iblk, idx t]
  · blk_point [iblk, V, idx t]

/-- A row of a block's cosines. -/
theorem cos_eq (c : Dev nD) (t : Fin cfg0.N) (r : Fin 512) (j : Fin 128) (q : Fin 16384) (hq : q.val = t.val * 512 + r.val) :
    (iblk m c 3 t : FVec Ideal S512x128 .f32) (ix2 r j) = Host.cos ang (ix2 ⟨q.val % 4096, by omega⟩ j) := by
  rw [← entry_cos m c]
  have e : q.val % 4096 = t.val % 8 * 512 + r.val := by omega
  blk_point [iblk, idx t]

/-- A row of a block's sines. -/
theorem sin_eq (c : Dev nD) (t : Fin cfg0.N) (r : Fin 512) (j : Fin 128) (q : Fin 16384) (hq : q.val = t.val * 512 + r.val) :
    (iblk m c 4 t : FVec Ideal S512x128 .f32) (ix2 r j) = Host.sin ang (ix2 ⟨q.val % 4096, by omega⟩ j) := by
  rw [← entry_sin m c]
  have e : q.val % 4096 = t.val % 8 * 512 + r.val := by omega
  blk_point [iblk, idx t]

/-- The query array after the run. -/
theorem final5 (c : Dev nD) :
    (dats m 0 c).arrAt 5 (cfgs 0).N = fun i : S16384x1024.Idx =>
      turned (m ((c : Thread nD τ).loc main_arg0)) (m ((c : Thread nD τ).loc main_arg1)) (m ((c : Thread nD τ).loc main_arg2)) 0 (by decide) (i 0) (i 1) := by
  refine (dats m 0 c).arrAt_eq_of_covers 5 _ (by decide +kernel) fun t _ y => ?_
  blk_simp
  idx_vars y
  rw [after0_5, stored5]
  unfold turned
  refine rotary_congr (fun e => col_eq m c t y0 _ _ _ ?_ (Fin.ext ?_)) (fun j => cos_eq m c t y0 j _ ?_) (fun j => sin_eq m c t y0 j _ ?_) (Fin.ext ?_)
  all_goals (blk_simp [idx t] <;> try omega)

/-- The key array after the run: the rotated heads, scaled. -/
theorem final6 (c : Dev nD) :
    (dats m 0 c).arrAt 6 (cfgs 0).N = fun i : S16384x1024.Idx =>
      turned (m ((c : Thread nD τ).loc main_arg0)) (m ((c : Thread nD τ).loc main_arg1)) (m ((c : Thread nD τ).loc main_arg2)) 1024 (by decide) (i 0) (i 1)
        * Scalar.ofBits (F := Ideal) .f32 0x3D800000#32 := by
  refine (dats m 0 c).arrAt_eq_of_covers 6 _ (by decide +kernel) fun t _ y => ?_
  blk_simp
  idx_vars y
  rw [after0_6, stored6]
  unfold turned
  refine congrArg (· * _) ?_
  refine rotary_congr (fun e => col_eq m c t y0 _ _ _ ?_ (Fin.ext ?_)) (fun j => cos_eq m c t y0 j _ ?_) (fun j => sin_eq m c t y0 j _ ?_) (Fin.ext ?_)
  all_goals (blk_simp [idx t] <;> try omega)

/-- The value array after the run. -/
theorem final7 (c : Dev nD) :
    (dats m 0 c).arrAt 7 (cfgs 0).N = fun i : S16384x2048.Idx =>
      plainCol (m ((c : Thread nD τ).loc main_arg0)) (m ((c : Thread nD τ).loc main_arg1)) (m ((c : Thread nD τ).loc main_arg2)) 2048 (by decide) (i 0) (i 1) := by
  refine (dats m 0 c).arrAt_eq_of_covers 7 _ (by decide +kernel) fun t _ y => ?_
  blk_simp
  idx_vars y
  rw [after0_7, stored7]
  unfold plainCol
  refine col_eq m c t y0 _ _ _ ?_ (Fin.ext ?_)
  all_goals (blk_simp [idx t] <;> try omega)

/-- The gate array after the run. -/
theorem final8 (c : Dev nD) :
    (dats m 0 c).arrAt 8 (cfgs 0).N = fun i : S16384x2048.Idx =>
      plainCol (m ((c : Thread nD τ).loc main_arg0)) (m ((c : Thread nD τ).loc main_arg1)) (m ((c : Thread nD τ).loc main_arg2)) 4096 (by decide) (i 0) (i 1) := by
  refine (dats m 0 c).arrAt_eq_of_covers 8 _ (by decide +kernel) fun t _ y => ?_
  blk_simp
  idx_vars y
  rw [after0_8, stored8]
  unfold plainCol
  refine col_eq m c t y0 _ _ _ ?_ (Fin.ext ?_)
  all_goals (blk_simp [idx t] <;> try omega)

end Cert.RetProjLastIdeal.Block

end
-- ==== Proof.RetLastRef.lean ====
/- The reference of the last layer's input projection: what it computes, read index by index. -/
module

public import proofs.«01_k».proof.Proof.RetLastBlock
public import proofs.«01_k».proof.Proof.Gen.LastInputsIdeal.Run
public import Idealize.ShloMosaic.Lib.Pipeline.ValueKit

@[expose] public section

set_option maxRecDepth 16384

noncomputable section

namespace Cert.LastInputsIdeal.Rows

open Cert.LastInputsIdeal Cert.LastInputsIdeal.Gen Cert.RowMath Cert.RetProjLastIdeal.Block Idealize.ShloMosaic Idealize.ShloMosaic.TcCoe

/-- The projection of every normed row. -/
def projV (x : FVec Ideal S4x4096x1024 .f32) (nw : FVec Ideal S1024 .f32) (w : FVec Ideal S1x1024x6144 .bf16) : FVec Ideal S4x4096x6144 .f32 :=
  (Host.dotGeneral dot_S4x4096x1024_S1024x6144_S4x4096x6144_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 nw))) (extf .f32 (shapeCast _ w shapeCasts_S1x1024x6144_S1024x6144) bitsLt_bf16_f32))

/-- The heads of the queries. -/
def queryHeads (p : FVec Ideal S4x4096x6144 .f32) : FVec Ideal S4x4x4096x256 .f32 :=
  (transpose S4x4x4096x256 [0, 2, 1, 3] (shapeCast _ (extractStridedSlice S4x4096x1024 ![0, 0, 0] p slices_S4x4096x6144_S4x4096x1024_0_0_0) shapeCasts_S4x4096x1024_S4x4096x4x256) transposes_S4x4096x4x256_S4x4x4096x256_0_2_1_3)

/-- The heads of the keys. -/
def keyHeads (p : FVec Ideal S4x4096x6144 .f32) : FVec Ideal S4x4x4096x256 .f32 :=
  (transpose S4x4x4096x256 [0, 2, 1, 3] (shapeCast _ (extractStridedSlice S4x4096x1024 ![0, 0, 1024] p slices_S4x4096x6144_S4x4096x1024_0_0_1024) shapeCasts_S4x4096x1024_S4x4096x4x256) transposes_S4x4096x4x256_S4x4x4096x256_0_2_1_3)

/-- The angle of each position and frequency. -/
def angV : FVec Ideal S4096x128 .f32 :=
  (mulf (broadcastInDim S4096x128 ![0, 1] bcast_S4096x1_S4096x128_0_1 (broadcastInDim S4096x1 ![0] bcast_S4096_S4096x1_0 (sitofp .f32 (iotaInDim S4096 32 0)))) (broadcastInDim S4096x128 ![0, 1] bcast_S1x128_S4096x128_0_1 (broadcastInDim S1x128 ![1] bcast_S128_S1x128_1 (Host.powf (broadcastInDim S128 ![] bcast_S_S128 (constant S_ .f32 0x461C4000#32)) (Host.divf (Host.negf (addf (broadcastInDim S128 ![] bcast_S_S128 (constant S_ .f32 0x00000000#32)) (mulf (broadcastInDim S128 ![] bcast_S_S128 (constant S_ .f32 0x40000000#32)) (sitofp .f32 (iotaInDim S128 32 0))))) (broadcastInDim S128 ![] bcast_S_S128 (constant S_ .f32 0x43800000#32)))))))

/-- Every head rotated, from the cosines and the sines. -/
def rotated (co si : FVec Ideal S4096x128 .f32) (t : FVec Ideal S4x4x4096x256 .f32) : FVec Ideal S4x4x4096x256 .f32 :=
  (concatenate S4x4x4096x256 3 [⟨S4x4x4096x128, (subf (mulf (extractStridedSlice S4x4x4096x128 ![0, 0, 0, 0] t slices_S4x4x4096x256_S4x4x4096x128_0_0_0_0) (broadcastInDim S4x4x4096x128 ![0, 1, 2, 3] bcast_S1x1x4096x128_S4x4x4096x128_0_1_2_3 (broadcastInDim S1x1x4096x128 ![2, 3] bcast_S4096x128_S1x1x4096x128_2_3 co))) (mulf (extractStridedSlice S4x4x4096x128 ![0, 0, 0, 128] t slices_S4x4x4096x256_S4x4x4096x128_0_0_0_128) (broadcastInDim S4x4x4096x128 ![0, 1, 2, 3] bcast_S1x1x4096x128_S4x4x4096x128_0_1_2_3 (broadcastInDim S1x1x4096x128 ![2, 3] bcast_S4096x128_S1x1x4096x128_2_3 si))))⟩, ⟨S4x4x4096x128, (addf (mulf (extractStridedSlice S4x4x4096x128 ![0, 0, 0, 0] t slices_S4x4x4096x256_S4x4x4096x128_0_0_0_0) (broadcastInDim S4x4x4096x128 ![0, 1, 2, 3] bcast_S1x1x4096x128_S4x4x4096x128_0_1_2_3 (broadcastInDim S1x1x4096x128 ![2, 3] bcast_S4096x128_S1x1x4096x128_2_3 si))) (mulf (extractStridedSlice S4x4x4096x128 ![0, 0, 0, 128] t slices_S4x4x4096x256_S4x4x4096x128_0_0_0_128) (broadcastInDim S4x4x4096x128 ![0, 1, 2, 3] bcast_S1x1x4096x128_S4x4x4096x128_0_1_2_3 (broadcastInDim S1x1x4096x128 ![2, 3] bcast_S4096x128_S1x1x4096x128_2_3 co))))⟩] concatenates_S4x4x4096x128_S4x4x4096x128_S4x4x4096x256_d3)

/-- The heads side by side again. -/
def rowsV (t : FVec Ideal S4x4x4096x256 .f32) : FVec Ideal S16384x1024 .bf16 :=
  truncf .bf16 (shapeCast _ (transpose S4x4096x4x256 [0, 2, 1, 3] t transposes_S4x4x4096x256_S4x4096x4x256_0_2_1_3) shapeCasts_S4x4096x4x256_S16384x1024) bitsLt_bf16_f32

/-- The scaled heads side by side again. -/
def scaledRowsV (t : FVec Ideal S4x4x4096x256 .f32) : FVec Ideal S16384x1024 .bf16 :=
  truncf .bf16 (shapeCast _ (transpose S4x4096x4x256 [0, 2, 1, 3] (mulf t (broadcastInDim S4x4x4096x256 ![] bcast_S_S4x4x4096x256 (constant S_ .f32 0x3D800000#32))) transposes_S4x4x4096x256_S4x4096x4x256_0_2_1_3) shapeCasts_S4x4096x4x256_S16384x1024) bitsLt_bf16_f32

theorem projV_at (x : FVec Ideal S4x4096x1024 .f32) (nw : FVec Ideal S1024 .f32) (w : FVec Ideal S1x1024x6144 .bf16)
    (b : Fin 4) (s : Fin 4096) (n : Fin 6144) :
    projV x nw w (ix3 b s n) = dotCol (rmsNorm (fun k => x (ix3 b s k)) (fun k => nw (ix1 k))) (fun k n => w (ix3 0 k n)) n := by
  pointwise [projV, dotCol, rmsNorm]

theorem queryHeads_at (p : FVec Ideal S4x4096x6144 .f32) (b h : Fin 4) (s : Fin 4096) (e : Fin 256) :
    queryHeads p (ix4 b h s e) = p (ix3 b s ⟨0 + h.val * 256 + e.val, by omega⟩) := by
  pointwise [queryHeads]
  blk_ext

theorem keyHeads_at (p : FVec Ideal S4x4096x6144 .f32) (b h : Fin 4) (s : Fin 4096) (e : Fin 256) :
    keyHeads p (ix4 b h s e) = p (ix3 b s ⟨1024 + h.val * 256 + e.val, by omega⟩) := by
  pointwise [keyHeads]
  blk_ext

theorem rotated_at (co si : FVec Ideal S4096x128 .f32) (t : FVec Ideal S4x4x4096x256 .f32) (b h : Fin 4) (s : Fin 4096) (e : Fin 256) :
    rotated co si t (ix4 b h s e) = rotary (fun e => t (ix4 b h s e)) (fun j => co (ix2 s j)) (fun j => si (ix2 s j)) e := by
  unfold rotary
  pointwise [rotated]
  split
  · refine congrArg₂ (fun p q : EReal => p - q) rfl (Ideal.mul_congr ?_ rfl)
    blk_ext
  · refine congrArg₂ (fun p q : EReal => p + q) rfl (Ideal.mul_congr ?_ rfl)
    blk_ext

theorem rowsV_at (t : FVec Ideal S4x4x4096x256 .f32) (r : Fin 16384) (l : Fin 1024) :
    rowsV t (ix2 r l) = t (ix4 ⟨r.val / 4096, by omega⟩ ⟨l.val / 256, by omega⟩ ⟨r.val % 4096, by omega⟩ ⟨l.val % 256, by omega⟩) := by
  pointwise [rowsV]
  blk_ext

theorem scaledRowsV_at (t : FVec Ideal S4x4x4096x256 .f32) (r : Fin 16384) (l : Fin 1024) :
    scaledRowsV t (ix2 r l) = t (ix4 ⟨r.val / 4096, by omega⟩ ⟨l.val / 256, by omega⟩ ⟨r.val % 4096, by omega⟩ ⟨l.val % 256, by omega⟩)
      * Scalar.ofBits (F := Ideal) .f32 0x3D800000#32 := by
  pointwise [scaledRowsV]
  blk_ext

/-- The two programs' angles are one. -/
theorem ang_eq : angV = ang := rfl

theorem query (x : FVec Ideal S4x4096x1024 .f32) (nw : FVec Ideal S1024 .f32) (w : FVec Ideal S1x1024x6144 .bf16) :
    rowsV (rotated (Host.cos angV) (Host.sin angV) (queryHeads (projV x nw w)))
      = fun i : S16384x1024.Idx => turned x nw w 0 (by decide) (i 0) (i 1) := by
  funext i
  idx_vars i
  rw [rowsV_at, rotated_at]
  simp only [queryHeads_at, projV_at, ang_eq]
  rfl

theorem key (x : FVec Ideal S4x4096x1024 .f32) (nw : FVec Ideal S1024 .f32) (w : FVec Ideal S1x1024x6144 .bf16) :
    scaledRowsV (rotated (Host.cos angV) (Host.sin angV) (keyHeads (projV x nw w)))
      = fun i : S16384x1024.Idx => turned x nw w 1024 (by decide) (i 0) (i 1) * Scalar.ofBits (F := Ideal) .f32 0x3D800000#32 := by
  funext i
  idx_vars i
  rw [scaledRowsV_at, rotated_at]
  simp only [keyHeads_at, projV_at, ang_eq]
  rfl

theorem value (x : FVec Ideal S4x4096x1024 .f32) (nw : FVec Ideal S1024 .f32) (w : FVec Ideal S1x1024x6144 .bf16) :
    truncf .bf16 (shapeCast S16384x2048 (extractStridedSlice S4x4096x2048 ![0, 0, 2048] (projV x nw w) slices_S4x4096x6144_S4x4096x2048_0_0_2048)
        shapeCasts_S4x4096x2048_S16384x2048) bitsLt_bf16_f32
      = fun i : S16384x2048.Idx => plainCol x nw w 2048 (by decide) (i 0) (i 1) := by
  funext i
  idx_vars i
  unfold plainCol proj
  refine Eq.trans ?_ (projV_at x nw w _ _ _)
  pointwise
  blk_ext

theorem gate (x : FVec Ideal S4x4096x1024 .f32) (nw : FVec Ideal S1024 .f32) (w : FVec Ideal S1x1024x6144 .bf16) :
    truncf .bf16 (shapeCast S16384x2048 (extractStridedSlice S4x4096x2048 ![0, 0, 4096] (projV x nw w) slices_S4x4096x6144_S4x4096x2048_0_0_4096)
        shapeCasts_S4x4096x2048_S16384x2048) bitsLt_bf16_f32
      = fun i : S16384x2048.Idx => plainCol x nw w 4096 (by decide) (i 0) (i 1) := by
  funext i
  idx_vars i
  unfold plainCol proj
  refine Eq.trans ?_ (projV_at x nw w _ _ _)
  pointwise
  blk_ext

end Cert.LastInputsIdeal.Rows

end
-- ==== Proof.RetLastClaim.lean ====
/- The value claim of the last layer's input projection. -/
module

public import proofs.«01_k».proof.Defs
public import proofs.«01_k».proof.Proof.RetLastRef
public import Idealize.ShloMosaic.Adequacy
public import Idealize.ShloMosaic.Init

@[expose] public section

set_option maxRecDepth 16384

noncomputable section

namespace Cert.Proof

open Idealize.ShloMosaic Idealize.SL.Sem

/-- The last layer's projection and its rotary embedding are what the reference computes. -/
theorem last_projection : Cert.algebraic_RetProjLastIdeal_LastInputsIdeal := by
  pair_intro
  · run_from Cert.RetProjLastIdeal.Value.run_blocks m g
  · refine (θ_run _ _ _).mono (fun r h c => ?_) (Cert.LastInputsIdeal.Value.run m' g')
    obtain ⟨h0, h1, h2, h3, hargs⟩ := h c
    obtain ⟨a0, a1, a2⟩ := hagree c
    refine ⟨h0.trans ?_, h1.trans ?_, h2.trans ?_, h3.trans ?_, hargs⟩
    · refine Eq.trans ?_ (Cert.RetProjLastIdeal.Block.final5 m c).symm
      unfold Cert.LastInputsIdeal.Value.res_main_v102
      rw [a0, a1, a2]
      exact Cert.LastInputsIdeal.Rows.query _ _ _
    · refine Eq.trans ?_ (Cert.RetProjLastIdeal.Block.final6 m c).symm
      unfold Cert.LastInputsIdeal.Value.res_main_v103
      rw [a0, a1, a2]
      exact Cert.LastInputsIdeal.Rows.key _ _ _
    · refine Eq.trans ?_ (Cert.RetProjLastIdeal.Block.final7 m c).symm
      rw [a0, a1, a2]
      exact Cert.LastInputsIdeal.Rows.value _ _ _
    · refine Eq.trans ?_ (Cert.RetProjLastIdeal.Block.final8 m c).symm
      rw [a0, a1, a2]
      exact Cert.LastInputsIdeal.Rows.gate _ _ _

end Cert.Proof
-- ==== Proof.RetCoreSteps.lean ====
/- The retention core one chunk at a time: what the kernel's unrolled loop computes for chunk `c` of one head, as functions of the
   blocks it is handed.

   A head's 4096 positions are cut into sixteen chunks of 256. For each chunk the kernel forms the masked scores within the chunk, adds
   what the running state contributes, keeps that unnormalised result in one of two slots, and normalises it one step later. -/
module

public import proofs.«01_k».proof.Defs
public import proofs.«01_k».proof.Proof.Gen.RetCoreIdeal.Loops
public import proofs.«01_k».proof.Proof.Gen.RetCoreIdeal.Frame
public import Idealize.ShloMosaic.Lib.VecWindow
public import Idealize.ShloMosaic.Lib.WritesUnit
public import Idealize.ShloMosaic.Lib.Pipeline.ValueKit
public import Idealize.ShloMosaic.Adequacy
public import Idealize.ShloMosaic.Init

@[expose] public section

set_option maxRecDepth 16384

noncomputable section

namespace Cert.RetCoreIdeal.Steps

open Idealize.ShloMosaic Idealize.ShloMosaic.TcCoe Idealize.ShloMosaic.Tactic
open Cert.RetCoreIdeal.Gen

variable {F : FTy → Type} [FloatOps F]

/-- The seven blocks the kernel reads for one head: queries, keys and values, the decay within a chunk, the decay of the state seen from
    each row, the decay of each key up to the chunk's end, and the decay over one chunk. -/
structure Blocks (F : FTy → Type) [FloatOps F] where
  /-- The queries. -/
  q : Vec F S4096x256 .bf16
  /-- The keys. -/
  k : Vec F S4096x256 .bf16
  /-- The values. -/
  v : Vec F S4096x512 .bf16
  /-- The decay from one row of a chunk to a later one. -/
  dm : Vec F S1x256x256 .f32
  /-- The decay of the state seen from each row. -/
  rs : Vec F S1x256x1 .f32
  /-- The decay of each key up to the end of its chunk. -/
  ks : Vec F S1x256x1 .f32
  /-- The decay over a whole chunk. -/
  cd : Vec F S1x1x1 .f32

/-- Chunk `c` of an array of 256 columns (the last chunk when there is none such). -/
def rows256 {e : EltTy} (x : Vec F S4096x256 e) (c : ℕ) : Vec F S256x256 e :=
  VecWindow.window x ![256 * min c 15, 0] S256x256.size (by intro a; fin_cases a <;> simp <;> omega)

/-- Chunk `c` of an array of 512 columns (the last chunk when there is none such). -/
def rows512 {e : EltTy} (x : Vec F S4096x512 e) (c : ℕ) : Vec F S256x512 e :=
  VecWindow.window x ![256 * min c 15, 0] S256x512.size (by intro a; fin_cases a <;> simp <;> omega)

/-- One of the two slots of the buffer of unnormalised chunks. -/
def slot (x : Vec F S2x256x512 .f32) (s : Fin 2) : Vec F S1x256x512 .f32 :=
  VecWindow.window x ![s.val, 0, 0] S1x256x512.size (by intro a; fin_cases a <;> simp <;> omega)

/-- The decayed scores of chunk `c` against itself. -/
def scores (B : Blocks F) (c : ℕ) : FVec F S256x256 .bf16 := k0_pay33 (rows256 B.q c) (rows256 B.k c) B.dm

/-- What chunk `c` adds to the state. -/
def gain (B : Blocks F) (c : ℕ) : FVec F S256x512 .f32 := k0_pay2 (rows256 B.k c) (rows512 B.v c) B.ks

/-- The state before chunk `c`. -/
def state (B : Blocks F) : ℕ → FVec F S256x512 .f32
  | 0 => k0_pay31
  | c + 1 => k0_pay9 (state B c) (gain B c) B.cd

/-- Chunk `c` of the result before normalisation. -/
def raw (B : Blocks F) (c : ℕ) : FVec F S1x256x512 .f32 :=
  k0_pay8 (k0_pay3 (scores B c) (rows512 B.v c)) (k0_pay4 (rows256 B.q c) (state B c)) B.rs

/-- Chunk `c` of the result. -/
def outChunk (B : Blocks F) (c : ℕ) : FVec F S256x512 .bf16 := k0_pay7 (raw B c)

/-- The place of a row within its chunk. -/
def within (y : S4096x512.Idx) : S256x512.Idx := ix2 ⟨(y (0 : Fin 2)).val % 256, Nat.mod_lt _ (by decide)⟩ (y (1 : Fin 2))

/-- The whole result block of one head. -/
def result (B : Blocks F) : Vec F S4096x512 .bf16 := fun y => outChunk B ((y (0 : Fin 2)).val / 256) (within y)

/-! ## Where the loop reads and writes -/

theorem off1 : ∀ (k : Fin k0_t1_loop.trips) (r : Fin 4), k0_off1 k (BitVec.ofNat 32 r.val) = ![256 * min (4 * k.val + r.val) 15, 0] := by
  decide +kernel
theorem off2 : ∀ (k : Fin k0_t1_loop.trips) (r : Fin 4), k0_off2 k (BitVec.ofNat 32 r.val) = ![256 * min (4 * k.val + r.val) 15, 0] := by
  decide +kernel
theorem off3 : ∀ (k : Fin k0_t1_loop.trips) (r : Fin 4), k0_off3 k (BitVec.ofNat 32 r.val) = ![256 * min (4 * k.val + r.val + 1) 15, 0] := by
  decide +kernel
theorem off4 : ∀ (k : Fin k0_t1_loop.trips) (r : Fin 4), k0_off4 k (BitVec.ofNat 32 r.val) = ![256 * (4 * k.val + r.val - 1), 0] := by
  decide +kernel
theorem trips_eq : k0_t1_loop.trips = 4 := by decide +kernel

/-- Loading the rows of chunk `4k + r` of an array of 256 columns. -/
theorem load256 {e : EltTy} (m : Memref sig .tc .vmem S4096x256 e) (X : BufTy.Contents (Elt F) m.view.ty) (k : Fin k0_t1_loop.trips) (r : ℕ)
    (hr : r < 4) (inb) :
    m.view.readAt (Elt F) (Rect.unit (s := S4096x256) (k0_off1 k (BitVec.ofNat 32 r)) ![256, 256] inb).toLoadRect X
      = rows256 (m.view.read (Elt F) X) (4 * k.val + r) :=
  View.readAt_unit _ _ _ (off1 k ⟨r, hr⟩) (by intro a; fin_cases a <;> simp <;> omega)

/-- Loading the rows of chunk `4k + r` of an array of 512 columns. -/
theorem load512 {e : EltTy} (m : Memref sig .tc .vmem S4096x512 e) (X : BufTy.Contents (Elt F) m.view.ty) (k : Fin k0_t1_loop.trips) (r : ℕ)
    (hr : r < 4) (inb) :
    m.view.readAt (Elt F) (Rect.unit (s := S4096x512) (k0_off2 k (BitVec.ofNat 32 r)) ![256, 512] inb).toLoadRect X
      = rows512 (m.view.read (Elt F) X) (4 * k.val + r) :=
  View.readAt_unit _ _ _ (off2 k ⟨r, hr⟩) (by intro a; fin_cases a <;> simp <;> omega)

/-- Loading the rows of the chunk after `4k + r`. -/
theorem loadNext {e : EltTy} (m : Memref sig .tc .vmem S4096x256 e) (X : BufTy.Contents (Elt F) m.view.ty) (k : Fin k0_t1_loop.trips) (r : ℕ)
    (hr : r < 4) (inb) :
    m.view.readAt (Elt F) (Rect.unit (s := S4096x256) (k0_off3 k (BitVec.ofNat 32 r)) ![256, 256] inb).toLoadRect X
      = rows256 (m.view.read (Elt F) X) (4 * k.val + r + 1) :=
  View.readAt_unit _ _ _ (off3 k ⟨r, hr⟩) (by intro a; fin_cases a <;> simp <;> omega)

/-- Loading a slot just stored yields what was stored. -/
theorem load_stored {s : Shape} {e : EltTy} (v : View sig .tc .vmem s e) (f : v.ty.Contents (Elt F)) {off size : Fin s.rank → ℕ}
    (inb : ∀ a, off a + size a ≤ s.size a) (w : (Rect.unit off size inb).shape.Idx → Elt F e) (L : List (View.Piece (Elt F) s e)) :
    v.readAt (Elt F) (Rect.unit off size inb).toLoadRect (v.writes (Elt F) f (⟨Rect.unit off size inb, w⟩ :: L)) = w := by
  funext x
  refine View.read_writes_cons_unit_of_mem v f inb w L _ x rfl fun a => ?_
  show off a + 1 * (x a).val = off a + (x a).val
  omega

end Cert.RetCoreIdeal.Steps
-- ==== Proof.RetCoreTrip.lean ====
/- One turn of the retention core's loop, which handles four chunks: from the state, the scores and the unnormalised chunk the turn finds,
   what it leaves behind and what it writes into the result. -/
module

public import proofs.«01_k».proof.Proof.RetCoreSteps

@[expose] public section

set_option maxRecDepth 16384

noncomputable section

namespace Cert.RetCoreIdeal.Steps

open Idealize.ShloMosaic Idealize.ShloMosaic.TcCoe Idealize.ShloMosaic.Tactic
open Cert.RetCoreIdeal.Gen

variable {F : FTy → Type} [FloatOps F]

/-! The printed program writes each of the four chunks out anew; these say the pieces are the same. -/

theorem same14 : @k0_pay14 F _ = k0_pay7 := rfl
theorem same21 : @k0_pay21 F _ = k0_pay7 := rfl
theorem same28 : @k0_pay28 F _ = k0_pay7 := rfl
theorem same15 : @k0_pay15 F _ = k0_pay8 := rfl
theorem same22 : @k0_pay22 F _ = k0_pay8 := rfl
theorem same29 : @k0_pay29 F _ = k0_pay8 := rfl
theorem same16 : @k0_pay16 F _ = k0_pay9 := rfl
theorem same23 : @k0_pay23 F _ = k0_pay9 := rfl
theorem same10 : @k0_pay10 F _ = k0_pay2 := rfl
theorem same17 : @k0_pay17 F _ = k0_pay2 := rfl
theorem same24 : @k0_pay24 F _ = k0_pay2 := rfl
theorem same11 : @k0_pay11 F _ = k0_pay3 := rfl
theorem same18 : @k0_pay18 F _ = k0_pay3 := rfl
theorem same25 : @k0_pay25 F _ = k0_pay3 := rfl
theorem same12 : @k0_pay12 F _ = k0_pay4 := rfl
theorem same19 : @k0_pay19 F _ = k0_pay4 := rfl
theorem same26 : @k0_pay26 F _ = k0_pay4 := rfl
theorem same13 : @k0_pay13 F _ = k0_pay33 := rfl
theorem same20 : @k0_pay20 F _ = k0_pay33 := rfl
theorem same27 : @k0_pay27 F _ = k0_pay33 := rfl
theorem same6 (q k : Vec F S256x256 .bf16) (d : Vec F S1x256x256 .f32) : k0_pay6 (k0_pay5 q k d) = k0_pay33 q k d := rfl
theorem same34 (s : Vec F S256x512 .f32) (g : Vec F S256x512 .f32) (c : Vec F S1x1x1 .f32) : k0_pay34 (k0_pay30 s g c) = k0_pay9 s g c := rfl

variable (𝒱 : Variants) (c : Dev nD) (bd : Option 𝒱.V) (i : grid0.Coords) (arg2 : Memref sig .tc .vmem S4096x256 .bf16) (harg2 :
  arg2.IsWhole) (arg3 : Memref sig .tc .vmem S4096x256 .bf16) (harg3 : arg3.IsWhole) (arg4 : Memref sig .tc .vmem S4096x512 .bf16)
  (harg4 : arg4.IsWhole) (arg5 : Memref sig .tc .vmem S1x256x256 .f32) (harg5 : arg5.IsWhole) (arg6 : Memref sig .tc .vmem S1x256x1
  .f32) (harg6 : arg6.IsWhole) (arg7 : Memref sig .tc .vmem S1x256x1 .f32) (harg7 : arg7.IsWhole) (arg8 : Memref sig .tc .vmem
  S1x1x1 .f32) (harg8 : arg8.IsWhole) (arg9 : Memref sig .tc .vmem S4096x512 .bf16) (harg9 : arg9.IsWhole) (arg10 : Memref sig .tc
  .vmem S256x512 .f32) (harg10 : arg10.IsWhole) (arg11 : Memref sig .tc .vmem S2x256x512 .f32) (harg11 : arg11.IsWhole) (X_arg2 :
  BufTy.Contents (Elt F) arg2.view.ty) (X_arg3 : BufTy.Contents (Elt F) arg3.view.ty) (X_arg4 : BufTy.Contents (Elt F) arg4.view.ty)
  (X_arg5 : BufTy.Contents (Elt F) arg5.view.ty) (X_arg6 : BufTy.Contents (Elt F) arg6.view.ty) (X_arg7 : BufTy.Contents (Elt F)
  arg7.view.ty) (X_arg8 : BufTy.Contents (Elt F) arg8.view.ty)

/-- The blocks as the kernel's references hold them. -/
abbrev blocksOf (arg2 : Memref sig .tc .vmem S4096x256 .bf16) (arg3 : Memref sig .tc .vmem S4096x256 .bf16) (arg4 : Memref sig .tc .vmem S4096x512 .bf16)
    (arg5 : Memref sig .tc .vmem S1x256x256 .f32) (arg6 : Memref sig .tc .vmem S1x256x1 .f32) (arg7 : Memref sig .tc .vmem S1x256x1 .f32)
    (arg8 : Memref sig .tc .vmem S1x1x1 .f32)
    (X_arg2 : BufTy.Contents (Elt F) arg2.view.ty) (X_arg3 : BufTy.Contents (Elt F) arg3.view.ty) (X_arg4 : BufTy.Contents (Elt F) arg4.view.ty)
    (X_arg5 : BufTy.Contents (Elt F) arg5.view.ty) (X_arg6 : BufTy.Contents (Elt F) arg6.view.ty) (X_arg7 : BufTy.Contents (Elt F) arg7.view.ty)
    (X_arg8 : BufTy.Contents (Elt F) arg8.view.ty) : Blocks F :=
  ⟨arg2.view.read (Elt F) X_arg2, arg3.view.read (Elt F) X_arg3, arg4.view.read (Elt F) X_arg4, arg5.view.read (Elt F) X_arg5,
    arg6.view.read (Elt F) X_arg6, arg7.view.read (Elt F) X_arg7, arg8.view.read (Elt F) X_arg8⟩

set_option maxHeartbeats 1600000 in
/-- What one turn leaves: the next chunk's scores, the state after its four chunks, the last chunk unnormalised in slot one, and the four
    chunks before that one in the result. -/
theorem trip (k : Fin k0_t1_loop.trips) (acc : FVec F S256x256 .bf16) (f9 : BufTy.Contents (Elt F) arg9.view.ty)
    (f10 : BufTy.Contents (Elt F) arg10.view.ty) (f11 : BufTy.Contents (Elt F) arg11.view.ty) (B : Blocks F)
    (hB : B = blocksOf arg2 arg3 arg4 arg5 arg6 arg7 arg8 X_arg2 X_arg3 X_arg4 X_arg5 X_arg6 X_arg7 X_arg8)
    (hacc : acc = scores B (4 * k.val)) (hst : arg10.view.read (Elt F) f10 = state B (4 * k.val)) :
    tripR_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k acc f9 f10 f11 = scores B (4 * k.val + 4)
      ∧ arg10.view.read (Elt F) (arg10.view.writes (Elt F) f10 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k acc f9 f10 f11).2.1) = state B (4 * k.val + 4)
      ∧ slot (arg11.view.read (Elt F) (arg11.view.writes (Elt F) f11 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k acc f9 f10 f11).2.2)) 1 = raw B (4 * k.val + 3)
      ∧ ∃ i0 i1 i2 i3, (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k acc f9 f10 f11).1
        = [⟨Rect.unit (k0_off4 k 3#32) S256x512.size i3, outChunk B (4 * k.val + 2)⟩, ⟨Rect.unit (k0_off4 k 2#32) S256x512.size i2, outChunk B (4 * k.val + 1)⟩,
           ⟨Rect.unit (k0_off4 k 1#32) S256x512.size i1, outChunk B (4 * k.val)⟩,
           ⟨Rect.unit (k0_off4 k 0#32) S256x512.size i0, k0_pay7 (slot (arg11.view.read (Elt F) f11) 1)⟩] := by
  have q0 := fun inb => load256 arg2 X_arg2 k 0 (by decide) inb
  have q1 := fun inb => load256 arg2 X_arg2 k 1 (by decide) inb
  have q2 := fun inb => load256 arg2 X_arg2 k 2 (by decide) inb
  have q3 := fun inb => load256 arg2 X_arg2 k 3 (by decide) inb
  have k0 := fun inb => load256 arg3 X_arg3 k 0 (by decide) inb
  have k1 := fun inb => load256 arg3 X_arg3 k 1 (by decide) inb
  have k2 := fun inb => load256 arg3 X_arg3 k 2 (by decide) inb
  have k3 := fun inb => load256 arg3 X_arg3 k 3 (by decide) inb
  have v0 := fun inb => load512 arg4 X_arg4 k 0 (by decide) inb
  have v1 := fun inb => load512 arg4 X_arg4 k 1 (by decide) inb
  have v2 := fun inb => load512 arg4 X_arg4 k 2 (by decide) inb
  have v3 := fun inb => load512 arg4 X_arg4 k 3 (by decide) inb
  have n0 := fun inb => loadNext arg2 X_arg2 k 0 (by decide) inb
  have n1 := fun inb => loadNext arg2 X_arg2 k 1 (by decide) inb
  have n2 := fun inb => loadNext arg2 X_arg2 k 2 (by decide) inb
  have n3 := fun inb => loadNext arg2 X_arg2 k 3 (by decide) inb
  have m0 := fun inb => loadNext arg3 X_arg3 k 0 (by decide) inb
  have m1 := fun inb => loadNext arg3 X_arg3 k 1 (by decide) inb
  have m2 := fun inb => loadNext arg3 X_arg3 k 2 (by decide) inb
  have m3 := fun inb => loadNext arg3 X_arg3 k 3 (by decide) inb
  have hdm := fun inb => View.readAt_full (Val := Elt F) arg5.view X_arg5 (off := ![0, 0, 0]) inb
  have hrs := fun inb => View.readAt_full (Val := Elt F) arg6.view X_arg6 (off := ![0, 0, 0]) inb
  have hks := fun inb => View.readAt_full (Val := Elt F) arg7.view X_arg7 (off := ![0, 0, 0]) inb
  have hcd := fun inb => View.readAt_full (Val := Elt F) arg8.view X_arg8 (off := ![0, 0, 0]) inb
  have hs := fun inb => View.readAt_full (Val := Elt F) arg10.view f10 (off := ![0, 0]) inb
  have hslot : ∀ inb, arg11.view.readAt (Elt F) (Rect.unit (s := S2x256x512) ![1, 0, 0] ![1, 256, 512] inb).toLoadRect f11
      = slot (arg11.view.read (Elt F) f11) 1 := fun inb => View.readAt_unit _ _ _ rfl _
  dsimp only at hdm hrs hks hcd hs
  subst hB hacc
  unfold tripR_k0_t1 tripL_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.v118, trip_k0_t1.sl.v189, trip_k0_t1.sl.v260, trip_k0_t1.sl.v146, trip_k0_t1.sl.v217, trip_k0_t1.sl.v288, trip_k0_t1.sl.HW_arg10_1, trip_k0_t1.sl.HW_arg10_2, trip_k0_t1.sl.HW_arg10_3, trip_k0_t1.sl.HW_arg11_1, trip_k0_t1.sl.HW_arg11_2, trip_k0_t1.sl.HW_arg11_3]
  simp only [View.readCov, load_stored, q0, q1, q2, q3, k0, k1, k2, k3, v0, v1, v2, v3, n0, n1, n2, n3, m0, m1, m2, m3, hdm, hrs, hks, hcd, hs,
    hslot, hst]
  simp only [same14, same21, same28, same15, same22, same29, same16, same23, same10, same17, same24, same11, same18, same25, same12, same19, same26, same13, same20, same27, same6, same34, outChunk, raw, scores, gain, state, Nat.add_zero, Nat.reduceAdd, Nat.add_assoc]
  refine ⟨trivial, ?_, ?_, ?_⟩
  · exact View.read_writes_full ..
  · exact (View.readAt_unit _ _ _ rfl _).symm.trans (load_stored ..)
  · exact ⟨k0_off4_inb k 0, k0_off4_inb k 1, k0_off4_inb k 2, k0_off4_inb k 3, trivial⟩

/-- A stored chunk read back: rows of the chunk read what was stored, other rows what was there before. -/
theorem read_chunk (v : View sig .tc .vmem S4096x512 .bf16) (f : v.ty.Contents (Elt F)) {off : Fin 2 → ℕ} (c : ℕ) (hoff : off = ![256 * c, 0])
    (inb : ∀ a : Fin 2, off a + ![256, 512] a ≤ ![4096, 512] a) (w : FVec F S256x512 .bf16) (L : List (View.Piece (Elt F) S4096x512 .bf16))
    (y : S4096x512.Idx) :
    v.read (Elt F) (v.writes (Elt F) f ((⟨Rect.unit (s := S4096x512) off ![256, 512] inb, w⟩ : View.Piece (Elt F) S4096x512 .bf16) :: L)) y
      = if (y (0 : Fin 2)).val / 256 = c then w (within y) else v.read (Elt F) (v.writes (Elt F) f L) y := by
  split
  · rename_i h
    refine View.read_writes_cons_rows_of_mem (d := ![4096, 512]) v f inb w L y (within y) hoff ?_ rfl
    show (y (0 : Fin 2)).val = 256 * c + (y (0 : Fin 2)).val % 256
    omega
  · rename_i h
    exact View.read_writes_cons_rows_of_not_mem (d := ![4096, 512]) v f inb w L y hoff (W := 256) rfl (by omega)

/-- What holds before turn `k`: the scores carried, the state and slot one are those of the chunks reached, and the rows written so far
    are the result's. -/
theorem turns (G9 : BufTy.Contents (Elt F) arg9.view.ty) (G10 : BufTy.Contents (Elt F) arg10.view.ty) (G11 : BufTy.Contents (Elt F) arg11.view.ty)
    (init : FVec F S256x256 .bf16) (B : Blocks F)
    (hB : B = blocksOf arg2 arg3 arg4 arg5 arg6 arg7 arg8 X_arg2 X_arg3 X_arg4 X_arg5 X_arg6 X_arg7 X_arg8)
    (hinit : init = scores B 0) (h10 : arg10.view.read (Elt F) G10 = state B 0) (k : ℕ) (hk : k ≤ 4) :
    (st_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init k).1 = scores B (4 * k)
      ∧ arg10.view.read (Elt F) (arg10.view.writes (Elt F) G10 (st_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init k).2.2.1) = state B (4 * k)
      ∧ (0 < k → slot (arg11.view.read (Elt F) (arg11.view.writes (Elt F) G11 (st_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init k).2.2.2)) 1 = raw B (4 * k - 1))
      ∧ ∀ y : S4096x512.Idx, (y (0 : Fin 2)).val / 256 < 4 * k - 1 →
          arg9.view.read (Elt F) (arg9.view.writes (Elt F) G9 (st_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init k).2.1) y = result B y := by
  induction k with
  | zero => exact ⟨hinit, h10, fun h => absurd h (lt_irrefl _), fun y h => absurd h (by omega)⟩
  | succ k ih =>
    obtain ⟨i1, i2, i3, i4⟩ := ih (by omega)
    have hk4 : k < k0_t1_loop.trips := by rw [trips_eq]; omega
    have hs := st_k0_t1_succ (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init ⟨k, hk4⟩
    dsimp only at hs
    rw [hs]
    dsimp only
    clear ih
    generalize st_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init k = s at *
    obtain ⟨t1, t2, t3, p0, p1, p2, p3, t4⟩ := trip 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 ⟨k, hk4⟩ s.1 (arg9.view.writes (Elt F) G9 s.2.1) (arg10.view.writes (Elt F) G10 s.2.2.1)
      (arg11.view.writes (Elt F) G11 s.2.2.2) B hB i1 i2
    simp only [View.writes_append]
    refine ⟨t1, t2, fun _ => t3, fun y hy => ?_⟩
    refine (congrArg (fun L => arg9.view.read (Elt F) (arg9.view.writes (Elt F) (arg9.view.writes (Elt F) G9 s.2.1) L) y) t4).trans ?_
    dsimp only
    have e3 : k0_off4 ⟨k, hk4⟩ 3#32 = ![256 * (4 * k + 2), 0] := off4 ⟨k, hk4⟩ 3
    have e2 : k0_off4 ⟨k, hk4⟩ 2#32 = ![256 * (4 * k + 1), 0] := off4 ⟨k, hk4⟩ 2
    have e1 : k0_off4 ⟨k, hk4⟩ 1#32 = ![256 * (4 * k), 0] := off4 ⟨k, hk4⟩ 1
    have e0 : k0_off4 ⟨k, hk4⟩ 0#32 = ![256 * (4 * k - 1), 0] := off4 ⟨k, hk4⟩ 0
    rw [read_chunk _ _ _ e3 p3, read_chunk _ _ _ e2 p2, read_chunk _ _ _ e1 p1, read_chunk _ _ _ e0 p0]
    split
    · rename_i h; rw [result, h]
    split
    · rename_i h; rw [result, h]
    split
    · rename_i h; rw [result, h]
    split
    · rename_i h
      rw [result, h]
      by_cases hk0 : 0 < k
      · rw [i3 hk0]; rfl
      · omega
    · exact i4 y (by omega)

/-- After the fourth turn, storing the last chunk completes the result. -/
theorem assembled (G9 : BufTy.Contents (Elt F) arg9.view.ty) (G10 : BufTy.Contents (Elt F) arg10.view.ty) (G11 : BufTy.Contents (Elt F) arg11.view.ty)
    (init : FVec F S256x256 .bf16) (B : Blocks F)
    (hB : B = blocksOf arg2 arg3 arg4 arg5 arg6 arg7 arg8 X_arg2 X_arg3 X_arg4 X_arg5 X_arg6 X_arg7 X_arg8)
    (hinit : init = scores B 0) (h10 : arg10.view.read (Elt F) G10 = state B 0) (inb : ∀ a : Fin 2, ![3840, 0] a + ![256, 512] a ≤ ![4096, 512] a)
    (w : FVec F S256x512 .bf16) (n : ℕ) (hn : n = 4)
    (hw : w = k0_pay7 (slot (arg11.view.read (Elt F) (arg11.view.writes (Elt F) G11 (st_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init n).2.2.2)) 1)) :
    arg9.view.read (Elt F) (arg9.view.writes (Elt F) G9 ((⟨Rect.unit (s := S4096x512) ![3840, 0] ![256, 512] inb, w⟩ : View.Piece (Elt F) S4096x512 .bf16)
        :: (st_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init n).2.1)) = result B := by
  subst hn
  obtain ⟨-, -, i3, i4⟩ := turns 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 G9 G10 G11 init B hB hinit h10 4 le_rfl
  funext y
  rw [read_chunk _ _ 15 rfl inb]
  have hy : (y (0 : Fin 2)).val < 4096 := (y (0 : Fin 2)).isLt
  split
  · rename_i h
    rw [hw, i3 (by decide), result, h]
    rfl
  · exact i4 y (by omega)

end Cert.RetCoreIdeal.Steps
-- ==== Proof.RetCoreRun.lean ====
/- The retention core's run: one head's block computed by `result`, whatever the buffers it is handed hold, and from it the run of the
   whole program: every buffer's contents after it, and its arguments unchanged. -/
module

public import proofs.«01_k».proof.Proof.RetCoreTrip
public import Idealize.ShloMosaic.Lib.Pipeline.Value

@[expose] public section

set_option maxRecDepth 16384

noncomputable section

namespace Cert.RetCoreIdeal.Steps

open Cert.RetCoreIdeal Cert.RetCoreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last chunk is normalised as the others are. -/
theorem last_chunk (x : Vec F S1x256x512 .f32) : k0_pay1 (k0_pay35 x) (k0_pay36 x) = k0_pay7 x := rfl

set_option maxHeartbeats 800000 in
/-- One head: the seven blocks stay as they were, the result block ends at `result`, the two scratch buffers at something. -/
theorem head_run (c : Dev nD) (E : Set ℕ) (i : grid0.Coords)
    (arg2 : Memref sig .tc .vmem S4096x256 .bf16) (harg2 : arg2.IsWhole) (arg3 : Memref sig .tc .vmem S4096x256 .bf16) (harg3 :
    arg3.IsWhole) (arg4 : Memref sig .tc .vmem S4096x512 .bf16) (harg4 : arg4.IsWhole) (arg5 : Memref sig .tc .vmem S1x256x256 .f32)
    (harg5 : arg5.IsWhole) (arg6 : Memref sig .tc .vmem S1x256x1 .f32) (harg6 : arg6.IsWhole) (arg7 : Memref sig .tc .vmem S1x256x1
    .f32) (harg7 : arg7.IsWhole) (arg8 : Memref sig .tc .vmem S1x1x1 .f32) (harg8 : arg8.IsWhole) (arg9 : Memref sig .tc .vmem
    S4096x512 .bf16) (harg9 : arg9.IsWhole) (arg10 : Memref sig .tc .vmem S256x512 .f32) (harg10 : arg10.IsWhole) (arg11 : Memref sig
    .tc .vmem S2x256x512 .f32) (harg11 : arg11.IsWhole)
    (x0 x1 : Vec F S4096x256 .bf16) (x2 : Vec F S4096x512 .bf16) (x3 : Vec F S1x256x256 .f32) (x4 x5 : Vec F S1x256x1 .f32) (x6 : Vec F S1x1x1 .f32)
    (K : PUnit → sProp 𝕄) :
    iprop(owns (c : Thread nD τ) arg2 fullShare x0 ∗ owns (c : Thread nD τ) arg3 fullShare x1 ∗ owns (c : Thread nD τ) arg4 fullShare x2 ∗
    owns (c : Thread nD τ) arg5 fullShare x3 ∗ owns (c : Thread nD τ) arg6 fullShare x4 ∗ owns (c : Thread nD τ) arg7 fullShare x5 ∗
    owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗
    owns (c : Thread nD τ) arg5 fullShare x3 ∗ owns (c : Thread nD τ) arg6 fullShare x4 ∗ owns (c : Thread nD τ) arg7 fullShare x5 ∗
    owns (c : Thread nD τ) arg8 fullShare x6
            ∗ owns (c : Thread nD τ) arg9 fullShare (result ⟨x0, x1, x2, x3, x4, x5, x6⟩)
            ∗ (∃ d, owns (c : Thread nD τ) arg10 fullShare d) ∗ (∃ d, owns (c : Thread nD τ) arg11 fullShare d)) -∗ K ⟨⟩))
      ⊢ wp frame (wpE (defs₀ (F := F)) Variants.none c none) E (cc0_ret_core i arg2 harg2 arg3 harg3 arg4 harg4 arg5 harg5 arg6 harg6 arg7 harg7 arg8 harg8 arg9 harg9 arg10 harg10 arg11 harg11) K := by
  simp only [cc0_ret_core_eq_skeleton]; unfold cc0_ret_core_skel
  simp only [k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine assembled Variants.none c none i arg2 harg2 arg3 harg3 arg4 harg4 arg5 harg5 arg6 harg6 arg7 harg7 arg8 harg8 arg9 harg9 arg10 harg10 arg11 harg11 f0 f1 f2 f3 f4 f5 f6 f7 _ _ _ _ rfl ?_ ?_ _ _ _ (by decide +kernel) ?_
    · refine congr (congr (congrArg k0_pay33 (View.readAt_unit _ _ _ rfl _)) (View.readAt_unit _ _ _ rfl _)) (View.readAt_full ..)
    · exact View.read_writes_full ..
    · delta head_run.sl.r head_run.sl.r_1
      refine (last_chunk _).trans (congrArg k0_pay7 ?_)
      delta head_run.sl.v21
      simp only [View.readCov, View.writes_append]
      exact View.readAt_unit arg11.view _ _ rfl _
  isplitl [H8]
  · iexists _, _; isplitr
    swap; · iexact H8
    ipureintro; rfl
  iexists _, _; isplitr
  swap; · iexact H9
  ipureintro; rfl

/-! ## The pipeline's proof data -/

/-- The seven blocks point `t` is handed. -/
def blocksAt (c : Dev nD) (t : Fin cfg0.N) : Blocks F :=
  ⟨iblk m c 0 t, iblk m c 1 t, iblk m c 2 t, iblk m c 3 t, iblk m c 4 t, iblk m c 5 t, iblk m c 6 t⟩

/-- What each window's buffer holds after the body at a point: an input's block, or the head's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => result (blocksAt m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = result (blocksAt m c t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-! ## The body obligation -/

/-- The two scratch buffers, each at some contents. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
        ∗ ∃ r, prngReg c r) := by
  unfold Pipeline.ΦA
  rw [scopedRest0_eq]
  simp only [owns_whole]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl, scratch_eq,
    after_0, after_1, after_2, after_3, after_4, after_5, after_6, after_7]
  iintro ⟨⟨⟨H8, H9⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (head_run c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  iintro ⟨H0, H1, H2, H3, H4, H5, H6, H7, H8, H9⟩
  isplitl [H8 H9 Hr]
  · isplitl [H8 H9]
    · isplitl [H8]; · iexact H8
      iexact H9
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every array of the pipeline ends as the proof data says, every other buffer as the region found it, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_quiescent m ρ))

/-! ## The result array block by block -/

theorem idx_inj7 : ∀ t t' : Fin cfg0.N, win0_7.index t = win0_7.index t' → t = t' :=
  (by decide +kernel : ∀ t t' : Fin grid0.N, win0_7.index t = win0_7.index t' → t = t')

/-- Two points' result blocks share no index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- Block `t` of the result array is what point `t` left in its buffer. -/
theorem blocks7 (c : Dev nD) (t : Fin cfg0.N) (hf : (cfg0.win 7).flush t = true) :
    ((cfg0.win 7).blk t).view.read (Elt F) ((dats m 0 c).arrAt 7 cfg0.N) = (cfg0.win 7).cut (grid0.coords t) (result (blocksAt m c t)) := by
  rw [(dats m 0 c).read_blk_arrAt_eq_flushed 7 disjoint7 cfg0.N t t.isLt hf]
  show (cfg0.win 7).cut (grid0.coords t) ((dats m 0 c).after 7 t) = _
  rw [after_7]

/-- The run with the result array named and the arguments unchanged. -/
theorem run_blocks : θ_run defs (onTc (τ := τ) (main (F := F))) ⟨m, fun _ => 0, ρ⟩ fun r => ∀ c : Dev nD,
      r.2.mem ((c : Thread nD τ).loc main_v47) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.RetCoreIdeal.Steps
-- ==== Proof.ChunkMath.lean ====
/- Retention over the reals, cut into chunks: how the running state of a head moves over one chunk, and how the retention of a row splits
   into the part within its chunk and the part the state carries in. The chunk's length is a parameter. -/
module

public import Mathlib.Analysis.SpecialFunctions.Exp
public import Mathlib.Data.EReal.Operations
public import Mathlib.Algebra.BigOperators.Fin

@[expose] public section

noncomputable section

namespace Cert.ChunkMath

variable {D E : ℕ} (L : ℝ) (q k : ℕ → Fin D → ℝ) (v : ℕ → Fin E → ℝ)

/-- The state after the first `n` positions: each key times its value, decayed by `exp L` for every position since. -/
def memory (n : ℕ) (d : Fin D) (e : Fin E) : ℝ := ∑ j ∈ Finset.range n, Real.exp (((n : ℝ) - 1 - j) * L) * (k j d * v j e)

/-- The retention of position `n`: every earlier value weighted by query times key and by the decay since. -/
def mixed (n : ℕ) (e : Fin E) : ℝ :=
  ∑ j ∈ Finset.range (n + 1), Real.exp (((n : ℝ) - j) * L) * ((∑ d, q n d * k j d) * v j e)

/-- The decay from position `a` of a chunk to position `i` of it: nothing flows backwards. -/
def decay (i a : ℕ) : ℝ := if a ≤ i then Real.exp (((i : ℝ) - a) * L) else 0

theorem memory_zero (d : Fin D) (e : Fin E) : memory L k v 0 d e = 0 := rfl

/-- The state over one chunk of `C` positions. -/
theorem memory_step (C N : ℕ) (d : Fin D) (e : Fin E) :
    memory L k v (C * (N + 1)) d e = memory L k v (C * N) d e * Real.exp (C * L)
      + ∑ a : Fin C, (k (C * N + a) d * Real.exp (((C : ℝ) - 1 - a) * L)) * v (C * N + a) e := by
  unfold memory
  rw [Nat.mul_add, Nat.mul_one, Finset.sum_range_add, Finset.sum_mul, Finset.sum_range (fun x => Real.exp _ * (k (C * N + x) d * v (C * N + x) e))]
  refine congrArg₂ _ (Finset.sum_congr rfl fun j _ => ?_) (Finset.sum_congr rfl fun a _ => ?_)
  · have : Real.exp ((((C * N + C : ℕ) : ℝ) - 1 - j) * L) = Real.exp ((((C * N : ℕ) : ℝ) - 1 - j) * L) * Real.exp (C * L) := by
      rw [← Real.exp_add]; congr 1; push_cast; ring
    rw [this]; ring
  · have : (((C * N + C : ℕ) : ℝ) - 1 - ((C * N + a : ℕ) : ℝ)) = (C : ℝ) - 1 - a := by push_cast; ring
    rw [this]; ring

/-- A sum over a chunk in which only the positions up to `i` count. -/
theorem sum_upto {C : ℕ} (i : Fin C) (f : ℕ → ℝ) :
    ∑ a ∈ Finset.range (i.val + 1), f a = ∑ a : Fin C, if a.val ≤ i.val then f a else 0 := by
  rw [← Finset.sum_range (fun a => if a ≤ i.val then f a else 0), ← Finset.sum_filter]
  refine Finset.sum_congr (Finset.ext fun a => ?_) fun _ _ => rfl
  have := i.isLt
  simp only [Finset.mem_range, Finset.mem_filter]
  omega

/-- The retention of position `i` of a chunk: within the chunk, and through the state before it. -/
theorem mixed_split (C N : ℕ) (i : Fin C) (e : Fin E) :
    mixed L q k v (C * N + i) e
      = ∑ a : Fin C, ((∑ d, q (C * N + i) d * k (C * N + a) d) * decay L i a) * v (C * N + a) e
        + (∑ d, q (C * N + i) d * memory L k v (C * N) d e) * Real.exp (((i : ℕ) + 1 : ℝ) * L) := by
  unfold mixed
  rw [Nat.add_assoc, Finset.sum_range_add, add_comm,
    sum_upto i fun x => Real.exp (((C * N + i : ℕ) - ((C * N + x : ℕ) : ℝ)) * L) * ((∑ d, q (C * N + i) d * k (C * N + x) d) * v (C * N + x) e)]
  refine congrArg₂ _ (Finset.sum_congr rfl fun a _ => ?_) ?_
  · unfold decay
    have : (((C * N + i : ℕ) : ℝ) - ((C * N + a : ℕ) : ℝ)) = (i : ℝ) - a := by push_cast; ring
    rw [this]
    split
    · ring
    · ring
  · unfold memory
    simp only [Finset.mul_sum, Finset.sum_mul]
    rw [Finset.sum_comm]
    refine Finset.sum_congr rfl fun d _ => Finset.sum_congr rfl fun j _ => ?_
    have : Real.exp ((((C * N + i : ℕ) : ℝ) - j) * L) = Real.exp ((((C * N : ℕ) : ℝ) - 1 - j) * L) * Real.exp (((i : ℕ) + 1 : ℝ) * L) := by
      rw [← Real.exp_add]; congr 1; push_cast; ring
    rw [this]; ring

/-- The same with the decay of the state multiplied into the query. -/
theorem mixed_split' (C N : ℕ) (i : Fin C) (e : Fin E) :
    mixed L q k v (C * N + i) e
      = ∑ a : Fin C, ((∑ d, q (C * N + i) d * k (C * N + a) d) * decay L i a) * v (C * N + a) e
        + ∑ d, (q (C * N + i) d * Real.exp (((i : ℕ) + 1 : ℝ) * L)) * memory L k v (C * N) d e := by
  rw [mixed_split, Finset.sum_mul]
  exact congrArg₂ _ rfl (Finset.sum_congr rfl fun d _ => by ring)

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.ChunkMath

end
-- ==== Proof.DecayMath.lean ====
/- The decays of retention as real numbers: each head's logarithm of its decay per position, and the powers of it the tables hold.
   Then the whole result of the retention core on finite arguments, as one function of them. -/
module

public import proofs.«01_k».proof.Proof.ChunkMath
public import Idealize.ShloMosaic.Lib.Claim
public import Idealize.ShloMosaic.Lib.Pointwise

@[expose] public section

noncomputable section

namespace Cert.ChunkMath

open Idealize.ShloMosaic

/-- The logarithm of head `h`'s decay per position, `log (1 - 2 ^ (-5 - h))`. -/
def logGamma (h : ℕ) : ℝ := Real.log (1 - Real.rpow 2 (-5 - h))

theorem word_2 : Ideal.ofBits .f32 0x40000000#32 = ((2 : ℝ) : EReal) := by
  simp [Ideal.ofBits, Ideal.ieee, -EReal.coe_mul, -EReal.coe_neg]; norm_num
theorem word_neg5 : Ideal.ofBits .f32 0xC0A00000#32 = ((-5 : ℝ) : EReal) := by
  simp [Ideal.ofBits, Ideal.ieee, -EReal.coe_mul, -EReal.coe_neg]; norm_num
theorem word_127 : Ideal.ofBits .f32 0x42FE0000#32 = ((127 : ℝ) : EReal) := by
  simp [Ideal.ofBits, Ideal.ieee, -EReal.coe_mul, -EReal.coe_neg]; norm_num
theorem word_128 : Ideal.ofBits .f32 0x43000000#32 = ((128 : ℝ) : EReal) := by
  simp [Ideal.ofBits, Ideal.ieee, -EReal.coe_mul, -EReal.coe_neg]; norm_num
theorem word_255 : Ideal.ofBits .f32 0x437F0000#32 = ((255 : ℝ) : EReal) := by
  simp [Ideal.ofBits, Ideal.ieee, -EReal.coe_mul, -EReal.coe_neg]; norm_num
theorem word_256 : Ideal.ofBits .f32 0x43800000#32 = ((256 : ℝ) : EReal) := by
  simp [Ideal.ofBits, Ideal.ieee, -EReal.coe_mul, -EReal.coe_neg]; norm_num

/-- A small index converted to a float is itself. -/
theorem index_word (n : ℕ) (h : n < 256) : FloatOps.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_of_lt (by rw [BitVec.toNat_ofNat]; omega), BitVec.toNat_ofNat]; omega
  rw [this, Int.cast_natCast]

theorem logGamma_word (h : ℕ) :
    Ideal.log (1 - Ideal.pow (Ideal.ofBits .f32 0x40000000#32) (Ideal.ofBits .f32 0xC0A00000#32 - ((h : ℝ) : EReal))) = (logGamma h : EReal) := by
  rw [word_2, word_neg5, ← EReal.coe_sub]
  show Ideal.log (1 - (Real.rpow 2 (-5 - h) : EReal)) = _
  rw [← EReal.coe_one, ← EReal.coe_sub]
  have : Real.rpow 2 (-5 - (h : ℝ)) < 1 := Real.rpow_lt_one_of_one_lt_of_neg (by norm_num) (by have : (0 : ℝ) ≤ h := Nat.cast_nonneg h; linarith)
  exact if_neg (by linarith)

/-- A real number times a head's logarithm, exponentiated. -/
theorem exp_word (x L : ℝ) : Ideal.exp ((x : EReal) * (L : EReal)) = (Real.exp (x * L) : EReal) := by
  rw [← EReal.coe_mul]; rfl

/-- The masked decay within a chunk. -/
theorem decay_word (i a : ℕ) (L : ℝ) :
    (if 0 ≤ ((i : ℝ) : EReal) - ((a : ℝ) : EReal) then Ideal.exp (max (((i : ℝ) : EReal) - ((a : ℝ) : EReal)) 0 * (L : EReal)) else 0)
      = (decay L i a : EReal) := by
  rw [← EReal.coe_sub]
  unfold decay
  by_cases h : a ≤ i
  · have h' : (0 : ℝ) ≤ (i : ℝ) - a := sub_nonneg.mpr (Nat.cast_le.mpr h)
    rw [if_pos (EReal.coe_nonneg.mpr h'), if_pos h, max_eq_left (EReal.coe_nonneg.mpr h'), exp_word]
  · have h' : ¬ (0 : ℝ) ≤ (i : ℝ) - a := fun h' => h (Nat.cast_le.mp (sub_nonneg.mp h'))
    rw [if_neg (fun h'' => h' (EReal.coe_nonneg.mp h'')), if_neg h, EReal.coe_zero]

/-- A row of 512 entries divided by its root mean square, at entry `e`. -/
def headNorm (o : Fin 512 → EReal) (e : Fin 512) : EReal :=
  o e * Ideal.rsqrt (Ideal.div (∑ k, o k * o k) (Ideal.ofBits .f32 0x44000000#32) + Ideal.ofBits .f32 0x358637BD#32)

/-- The queries or keys by row and column. -/
def cols256 (x : FVec Ideal ⟨2, ![16384, 1024]⟩ .bf16) (r : Fin 16384) (l : Fin 1024) : EReal := x (ix2 r l)

/-- The values by row and column. -/
def cols512 (x : FVec Ideal ⟨2, ![16384, 2048]⟩ .bf16) (r : Fin 16384) (l : Fin 2048) : EReal := x (ix2 r l)

/-- Head `h` of batch `b` of the queries or keys, by position. -/
def head256 (x : Fin 16384 → Fin 1024 → EReal) (b h : Fin 4) (r : ℕ) (d : Fin 256) : ℝ :=
  (x ⟨(b.val * 4096 + r) % 16384, Nat.mod_lt _ (by decide)⟩ ⟨h.val * 256 + d.val, by omega⟩).toReal

/-- Head `h` of batch `b` of the values, by position. -/
def head512 (x : Fin 16384 → Fin 2048 → EReal) (b h : Fin 4) (r : ℕ) (e : Fin 512) : ℝ :=
  (x ⟨(b.val * 4096 + r) % 16384, Nat.mod_lt _ (by decide)⟩ ⟨h.val * 512 + e.val, by omega⟩).toReal

/-- A finite entry of the queries or keys is its real value. -/
theorem head256_at (x : Fin 16384 → Fin 1024 → EReal) (hx : ∀ r l, x r l ≠ ⊤ ∧ x r l ≠ ⊥) (b h : Fin 4) (r : ℕ) (d : Fin 256) (i : Fin 16384)
    (l : Fin 1024) (hr : r < 4096) (hi : i.val = b.val * 4096 + r) (hl : l.val = h.val * 256 + d.val) : x i l = (head256 x b h r d : EReal) := by
  unfold head256
  rw [show (⟨(b.val * 4096 + r) % 16384, Nat.mod_lt _ (by decide)⟩ : Fin 16384) = i from Fin.ext (by simp only; omega),
    show (⟨h.val * 256 + d.val, by omega⟩ : Fin 1024) = l from Fin.ext hl.symm, EReal.coe_toReal (hx i l).1 (hx i l).2]

/-- A finite entry of the values is its real value. -/
theorem head512_at (x : Fin 16384 → Fin 2048 → EReal) (hx : ∀ r l, x r l ≠ ⊤ ∧ x r l ≠ ⊥) (b h : Fin 4) (r : ℕ) (e : Fin 512) (i : Fin 16384)
    (l : Fin 2048) (hr : r < 4096) (hi : i.val = b.val * 4096 + r) (hl : l.val = h.val * 512 + e.val) : x i l = (head512 x b h r e : EReal) := by
  unfold head512
  rw [show (⟨(b.val * 4096 + r) % 16384, Nat.mod_lt _ (by decide)⟩ : Fin 16384) = i from Fin.ext (by simp only; omega),
    show (⟨h.val * 512 + e.val, by omega⟩ : Fin 2048) = l from Fin.ext hl.symm, EReal.coe_toReal (hx i l).1 (hx i l).2]

/-- The retention of position `r` of head `h` of batch `b`, normalised over the head, at entry `e`. -/
def retained (q k : Fin 16384 → Fin 1024 → EReal) (v : Fin 16384 → Fin 2048 → EReal) (b h : Fin 4) (r : ℕ) (e : Fin 512) : EReal :=
  headNorm (fun e => (mixed (logGamma h.val) (head256 q b h) (head256 k b h) (head512 v b h) r e : EReal)) e

theorem retained_congr (q k : Fin 16384 → Fin 1024 → EReal) (v : Fin 16384 → Fin 2048 → EReal) {b b' h h' : Fin 4} {r r' : ℕ} {e e' : Fin 512}
    (hb : b.val = b'.val) (hh : h.val = h'.val) (hr : r = r') (he : e.val = e'.val) : retained q k v b h r e = retained q k v b' h' r' e' := by
  obtain rfl := Fin.ext hb
  obtain rfl := Fin.ext hh
  obtain rfl := Fin.ext he
  rw [hr]

end Cert.ChunkMath

end
-- ==== Proof.RetCoreReal.lean ====
/- The retention core read index by index over the extended reals: when the blocks hold real numbers and the decays are powers of one
   base, the state before a chunk and the unnormalised rows of a chunk are those of `Cert.ChunkMath`. -/
module

public import proofs.«01_k».proof.Proof.RetCoreSteps
public import proofs.«01_k».proof.Proof.DecayMath

@[expose] public section

set_option maxRecDepth 16384

noncomputable section

namespace Cert.RetCoreIdeal.Steps

open Idealize.ShloMosaic Idealize.ShloMosaic.TcCoe Idealize.ShloMosaic.Tactic
open Cert.RetCoreIdeal.Gen Cert.ChunkMath

/-- Row `i` of chunk `c`. -/
def at16 (c : Fin 16) (i : Fin 256) : Fin 4096 := ⟨256 * c.val + i.val, by omega⟩

theorem rows256_at (x : Vec Ideal S4096x256 .bf16) (c : Fin 16) (i d : Fin 256) :
    rows256 x c.val (ix2 i d) = x (ix2 (at16 c i) d) := by
  unfold rows256 VecWindow.window
  refine congrArg x (funext fun a => Fin.ext ?_)
  fin_cases a
  · show 256 * min c.val 15 + 1 * i.val = 256 * c.val + i.val
    omega
  · show 0 + 1 * d.val = d.val
    omega

theorem rows512_at (x : Vec Ideal S4096x512 .bf16) (c : Fin 16) (i : Fin 256) (e : Fin 512) :
    rows512 x c.val (ix2 i e) = x (ix2 (at16 c i) e) := by
  unfold rows512 VecWindow.window
  refine congrArg x (funext fun a => Fin.ext ?_)
  fin_cases a
  · show 256 * min c.val 15 + 1 * i.val = 256 * c.val + i.val
    omega
  · show 0 + 1 * e.val = e.val
    omega

theorem scores_at (B : Blocks Ideal) (c : ℕ) (i a : Fin 256) :
    scores B c (ix2 i a) = (∑ d : Fin 256, rows256 B.q c (ix2 i d) * rows256 B.k c (ix2 a d)) * B.dm (ix3 0 i a) := by
  unfold scores
  pointwise [k0_pay33]

theorem gain_at (B : Blocks Ideal) (c : ℕ) (d : Fin 256) (e : Fin 512) :
    gain B c (ix2 d e) = ∑ a : Fin 256, (rows256 B.k c (ix2 a d) * B.ks (ix3 0 a 0)) * rows512 B.v c (ix2 a e) := by
  unfold gain
  pointwise [k0_pay2]

theorem state_zero_at (B : Blocks Ideal) (d : Fin 256) (e : Fin 512) : state B 0 (ix2 d e) = 0 := by
  unfold state
  pointwise [k0_pay31]

theorem state_succ_at (B : Blocks Ideal) (c : ℕ) (d : Fin 256) (e : Fin 512) :
    state B (c + 1) (ix2 d e) = state B c (ix2 d e) * B.cd (ix3 0 0 0) + gain B c (ix2 d e) := by
  rw [state]
  pointwise [k0_pay9]

theorem raw_at (B : Blocks Ideal) (c : ℕ) (i : Fin 256) (e : Fin 512) :
    raw B c (ix3 0 i e) = (∑ a : Fin 256, scores B c (ix2 i a) * rows512 B.v c (ix2 a e))
      + (∑ d : Fin 256, rows256 B.q c (ix2 i d) * state B c (ix2 d e)) * B.rs (ix3 0 i 0) := by
  unfold raw
  pointwise [k0_pay8, k0_pay3, k0_pay4]

theorem outChunk_at (B : Blocks Ideal) (c : ℕ) (i : Fin 256) (e : Fin 512) :
    outChunk B c (ix2 i e) = headNorm (fun k => raw B c (ix3 0 i k)) e := by
  unfold outChunk
  pointwise [k0_pay7, headNorm]

/-! ## Real blocks -/

/-- The blocks hold the real queries, keys and values given by position, and the decays are those of one base `exp L`. -/
structure Real (B : Blocks Ideal) (L : ℝ) (q k : ℕ → Fin 256 → ℝ) (v : ℕ → Fin 512 → ℝ) : Prop where
  q_at : ∀ (r : Fin 4096) (d : Fin 256), B.q (ix2 r d) = (q r.val d : EReal)
  k_at : ∀ (r : Fin 4096) (d : Fin 256), B.k (ix2 r d) = (k r.val d : EReal)
  v_at : ∀ (r : Fin 4096) (e : Fin 512), B.v (ix2 r e) = (v r.val e : EReal)
  dm_at : ∀ (i a : Fin 256), B.dm (ix3 0 i a) = (decay L i.val a.val : EReal)
  rs_at : ∀ (i : Fin 256), B.rs (ix3 0 i 0) = (Real.exp (((i.val : ℕ) + 1 : ℝ) * L) : EReal)
  ks_at : ∀ (a : Fin 256), B.ks (ix3 0 a 0) = (Real.exp (((256 : ℕ) - 1 - a.val : ℝ) * L) : EReal)
  cd_at : B.cd (ix3 0 0 0) = (Real.exp ((256 : ℕ) * L) : EReal)

variable {B : Blocks Ideal} {L : ℝ} {q k : ℕ → Fin 256 → ℝ} {v : ℕ → Fin 512 → ℝ}

/-- The state before chunk `c` is the memory of the positions before it. -/
theorem state_real (h : Real B L q k v) (d : Fin 256) (e : Fin 512) :
    ∀ c : ℕ, c ≤ 16 → state B c (ix2 d e) = (memory L k v (256 * c) d e : EReal)
  | 0, _ => state_zero_at B d e
  | c + 1, hc => by
    rw [state_succ_at, state_real h d e c (by omega), gain_at, memory_step, EReal.coe_add, EReal.coe_mul, coe_sum, h.cd_at]
    refine congrArg _ (Fin.sum_fin_congr fun a => ?_)
    rw [rows256_at B.k ⟨c, by omega⟩ a d, rows512_at B.v ⟨c, by omega⟩ a e, h.k_at, h.v_at, h.ks_at, EReal.coe_mul, EReal.coe_mul]
    rfl

/-- Row `i` of chunk `c`, before it is normalised, is the retention of its position. -/
theorem raw_real (h : Real B L q k v) (c : Fin 16) (i : Fin 256) (e : Fin 512) :
    raw B c.val (ix3 0 i e) = (mixed L q k v (256 * c.val + i.val) e : EReal) := by
  rw [raw_at, mixed_split, EReal.coe_add, EReal.coe_mul, coe_sum, coe_sum, h.rs_at]
  refine congrArg₂ _ (Fin.sum_fin_congr fun a => ?_) (congrArg (· * _) (Fin.sum_fin_congr fun d => ?_))
  · rw [scores_at, EReal.coe_mul, EReal.coe_mul, coe_sum, h.dm_at, rows512_at, h.v_at]
    refine congrArg (· * _) (congrArg (· * _) (Fin.sum_fin_congr fun d => ?_))
    rw [rows256_at, rows256_at, h.q_at, h.k_at, EReal.coe_mul]
    rfl
  · rw [rows256_at, h.q_at, state_real h d e c.val (by omega), EReal.coe_mul]
    rfl

/-- The result block, row by row: the retention of each position, normalised over the head. -/
theorem result_real (h : Real B L q k v) (r : Fin 4096) (e : Fin 512) :
    result B (ix2 r e) = headNorm (fun e => (mixed L q k v r.val e : EReal)) e := by
  have hr : 256 * (r.val / 256) + r.val % 256 = r.val := Nat.div_add_mod _ _
  refine (outChunk_at B (r.val / 256) ⟨r.val % 256, Nat.mod_lt _ (by decide)⟩ e).trans ?_
  refine congrArg (headNorm · e) (funext fun e => ?_)
  refine (raw_real h ⟨r.val / 256, by omega⟩ ⟨r.val % 256, Nat.mod_lt _ (by decide)⟩ e).trans ?_
  rw [hr]

end Cert.RetCoreIdeal.Steps

end
-- ==== Proof.RetCoreTables.lean ====
/- The decay tables the retention core is handed: what the operations before the kernel leave in them, entry by entry. -/
module

public import proofs.«01_k».proof.Proof.RetCoreReal

@[expose] public section

set_option maxRecDepth 16384

noncomputable section

namespace Cert.RetCoreIdeal.Steps

open Idealize.ShloMosaic Idealize.ShloMosaic.TcCoe Idealize.ShloMosaic.Tactic
open Cert.RetCoreIdeal Cert.RetCoreIdeal.Gen Cert.ChunkMath

/-- The logarithm of each head's decay, `log (1 - 2 ^ (-5 - h))`. -/
def logT : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The positions within a chunk. -/
def posT : FVec Ideal S256 .f32 := sitofp .f32 (iotaInDim S256 32 0)

/-- Row minus column within a chunk. -/
def relT : FVec Ideal S256x256 .f32 :=
  subf (broadcastInDim S256x256 ![0, 1] bcast_S256x1_S256x256_0_1 (broadcastInDim S256x1 ![0] bcast_S256_S256x1_0 posT))
    (broadcastInDim S256x256 ![0, 1] bcast_S1x256_S256x256_0_1 (broadcastInDim S1x256 ![1] bcast_S256_S1x256_1 posT))

/-- The decay within a chunk: nothing above the diagonal. -/
def decayT : FVec Ideal S4x256x256 .f32 :=
  select (broadcastInDim S4x256x256 ![1, 2] bcast_S256x256_S4x256x256_1_2
      (cmpf .oge relT (broadcastInDim S256x256 ![] bcast_S_S256x256 (constant S_ .f32 0x00000000#32))))
    (Host.exp (mulf
      (broadcastInDim S4x256x256 ![0, 1, 2] bcast_S1x256x256_S4x256x256_0_1_2 (broadcastInDim S1x256x256 ![1, 2] bcast_S256x256_S1x256x256_1_2
        (maximumf relT (broadcastInDim S256x256 ![] bcast_S_S256x256 (constant S_ .f32 0x00000000#32)))))
      (broadcastInDim S4x256x256 ![0, 1, 2] bcast_S4x1x1_S4x256x256_0_1_2 (broadcastInDim S4x1x1 ![0] bcast_S4_S4x1x1_0 logT))))
    (broadcastInDim S4x256x256 ![] bcast_S_S4x256x256 (constant S_ .f32 0x00000000#32))

/-- A number for each position times each head's logarithm, exponentiated. -/
def powers (p : FVec Ideal S256 .f32) : FVec Ideal S4x256 .f32 :=
  Host.exp (mulf (broadcastInDim S4x256 ![0, 1] bcast_S1x256_S4x256_0_1 (broadcastInDim S1x256 ![1] bcast_S256_S1x256_1 p))
    (broadcastInDim S4x256 ![0, 1] bcast_S4x1_S4x256_0_1 (broadcastInDim S4x1 ![0] bcast_S4_S4x1_0 logT)))

/-- The decay of the state seen from each row. -/
def rowT : FVec Ideal S4x256x1 .f32 :=
  broadcastInDim S4x256x1 ![0, 1] bcast_S4x256_S4x256x1_0_1 (powers (addf posT (broadcastInDim S256 ![] bcast_S_S256 (constant S_ .f32 0x3F800000#32))))

/-- The decay of each key up to the end of its chunk. -/
def keyT : FVec Ideal S4x256x1 .f32 :=
  broadcastInDim S4x256x1 ![0, 1] bcast_S4x256_S4x256x1_0_1 (powers (subf (broadcastInDim S256 ![] bcast_S_S256 (constant S_ .f32 0x437F0000#32)) posT))

/-- The decay over a whole chunk. -/
def chunkT : FVec Ideal S4x1x1 .f32 :=
  broadcastInDim S4x1x1 ![0] bcast_S4_S4x1x1_0 (Host.exp (mulf (broadcastInDim S4 ![] bcast_S_S4 (constant S_ .f32 0x43800000#32)) logT))

theorem logT_at (h : Fin 4) : logT (ix1 h) = (logGamma h.val : EReal) := by
  have e : logT (ix1 h) = Ideal.log (1 - Ideal.pow (Ideal.ofBits .f32 0x40000000#32)
      (Ideal.ofBits .f32 0xC0A00000#32 - FloatOps.sitofp (F := Ideal) .f32 (BitVec.ofNat 32 h.val))) := by pointwise [logT]
  rw [e, index_word h.val (by omega), logGamma_word]

theorem posT_at (i : Fin 256) : posT (ix1 i) = ((i.val : ℝ) : EReal) := by
  refine Eq.trans ?_ (index_word i.val i.isLt)
  pointwise [posT]

theorem relT_at (i a : Fin 256) : relT (ix2 i a) = ((i.val : ℝ) : EReal) - ((a.val : ℝ) : EReal) := by
  rw [← posT_at, ← posT_at]
  pointwise [relT]

theorem decayT_at (h : Fin 4) (i a : Fin 256) : decayT (ix3 h i a) = (decay (logGamma h.val) i.val a.val : EReal) := by
  have e : decayT (ix3 h i a) = if 0 ≤ relT (ix2 i a) then Ideal.exp (max (relT (ix2 i a)) 0 * logT (ix1 h)) else 0 := by pointwise [decayT]
  rw [e, relT_at, logT_at, decay_word]

theorem powers_at (p : FVec Ideal S256 .f32) (h : Fin 4) (i : Fin 256) : powers p (ix2 h i) = Ideal.exp (p (ix1 i) * logT (ix1 h)) := by
  pointwise [powers]

theorem rowT_at (h : Fin 4) (i : Fin 256) : rowT (ix3 h i 0) = (Real.exp (((i.val : ℕ) + 1 : ℝ) * logGamma h.val) : EReal) := by
  have e : rowT (ix3 h i 0) = Ideal.exp ((posT (ix1 i) + 1) * logT (ix1 h)) := by pointwise [rowT, powers]
  rw [e, posT_at, logT_at, ← EReal.coe_one, ← EReal.coe_add, exp_word]

theorem keyT_at (h : Fin 4) (a : Fin 256) : keyT (ix3 h a 0) = (Real.exp (((256 : ℕ) - 1 - a.val : ℝ) * logGamma h.val) : EReal) := by
  have e : keyT (ix3 h a 0) = Ideal.exp ((Ideal.ofBits .f32 0x437F0000#32 - posT (ix1 a)) * logT (ix1 h)) := by pointwise [keyT, powers]
  rw [e, posT_at, logT_at, word_255, ← EReal.coe_sub, exp_word]
  norm_num

theorem chunkT_at (h : Fin 4) : chunkT (ix3 h 0 0) = (Real.exp ((256 : ℕ) * logGamma h.val) : EReal) := by
  have e : chunkT (ix3 h 0 0) = Ideal.exp (Ideal.ofBits .f32 0x43800000#32 * logT (ix1 h)) := by pointwise [chunkT]
  rw [e, logT_at, word_256, exp_word]
  norm_num

variable (m : (ℓ : Loc nD τ sig) → Buf (Elt Ideal) ℓ)

theorem entry_dm (c : Dev nD) : (V m c main_v24 : FVec Ideal S4x256x256 .f32) = decayT := by
  entry_read
  rfl

theorem entry_rs (c : Dev nD) : (V m c main_v33 : FVec Ideal S4x256x1 .f32) = rowT := by
  entry_read
  rfl

theorem entry_ks (c : Dev nD) : (V m c main_v42 : FVec Ideal S4x256x1 .f32) = keyT := by
  entry_read
  rfl

theorem entry_cd (c : Dev nD) : (V m c main_v46 : FVec Ideal S4x1x1 .f32) = chunkT := by
  entry_read
  rfl

end Cert.RetCoreIdeal.Steps

end
-- ==== Proof.RetCoreFinal.lean ====
/- The retention core's result array, over the extended reals and for finite arguments: every row is the normalised retention of its
   position in its head. -/
module

public import proofs.«01_k».proof.Proof.RetCoreRun
public import proofs.«01_k».proof.Proof.RetCoreTables

@[expose] public section

set_option maxRecDepth 16384

noncomputable section

namespace Cert.RetCoreIdeal.Steps

open Idealize.ShloMosaic Idealize.ShloMosaic.TcCoe Idealize.ShloMosaic.Tactic
open Cert.RetCoreIdeal Cert.RetCoreIdeal.Gen Cert.ChunkMath

/-- Which block each window is on at each of the sixteen points: batch `t / 4`, head `t % 4`. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val % 4, 0, 0] ∧ win0_4.index t = ![t.val % 4, 0, 0]
    ∧ win0_5.index t = ![t.val % 4, 0, 0] ∧ win0_6.index t = ![t.val % 4, 0, 0] ∧ win0_7.index t = ![t.val / 4, t.val % 4] :=
  (by decide +kernel : ∀ t : Fin grid0.N, _)

theorem points (t : Fin cfg0.N) : t.val < 16 := lt_of_lt_of_eq t.isLt N_0

variable (m : (ℓ : Loc nD τ sig) → Buf (Elt Ideal) ℓ)

theorem block_q (c : Dev nD) (t : Fin cfg0.N) (r : Fin 4096) (d : Fin 256) (i : Fin 16384) (l : Fin 1024) (hi : i.val = t.val / 4 * 4096 + r.val)
    (hl : l.val = t.val % 4 * 256 + d.val) :
    (iblk m c 0 t : FVec Ideal S4096x256 .bf16) (ix2 r d) = m ((c : Thread nD τ).loc main_arg0) (ix2 i l) := by
  blk_point [iblk, V, idx t]

theorem block_k (c : Dev nD) (t : Fin cfg0.N) (r : Fin 4096) (d : Fin 256) (i : Fin 16384) (l : Fin 1024) (hi : i.val = t.val / 4 * 4096 + r.val)
    (hl : l.val = t.val % 4 * 256 + d.val) :
    (iblk m c 1 t : FVec Ideal S4096x256 .bf16) (ix2 r d) = m ((c : Thread nD τ).loc main_arg1) (ix2 i l) := by
  blk_point [iblk, V, idx t]

theorem block_v (c : Dev nD) (t : Fin cfg0.N) (r : Fin 4096) (d : Fin 512) (i : Fin 16384) (l : Fin 2048) (hi : i.val = t.val / 4 * 4096 + r.val)
    (hl : l.val = t.val % 4 * 512 + d.val) :
    (iblk m c 2 t : FVec Ideal S4096x512 .bf16) (ix2 r d) = m ((c : Thread nD τ).loc main_arg2) (ix2 i l) := by
  blk_point [iblk, V, idx t]

theorem block_dm (c : Dev nD) (t : Fin cfg0.N) (h : Fin 4) (hh : h.val = t.val % 4) (i a : Fin 256) :
    (iblk m c 3 t : FVec Ideal S1x256x256 .f32) (ix3 0 i a) = (V m c main_v24 : FVec Ideal S4x256x256 .f32) (ix3 h i a) := by
  blk_point [iblk, idx t]

theorem block_rs (c : Dev nD) (t : Fin cfg0.N) (h : Fin 4) (hh : h.val = t.val % 4) (i : Fin 256) :
    (iblk m c 4 t : FVec Ideal S1x256x1 .f32) (ix3 0 i 0) = (V m c main_v33 : FVec Ideal S4x256x1 .f32) (ix3 h i 0) := by
  blk_point [iblk, idx t]

theorem block_ks (c : Dev nD) (t : Fin cfg0.N) (h : Fin 4) (hh : h.val = t.val % 4) (i : Fin 256) :
    (iblk m c 5 t : FVec Ideal S1x256x1 .f32) (ix3 0 i 0) = (V m c main_v42 : FVec Ideal S4x256x1 .f32) (ix3 h i 0) := by
  blk_point [iblk, idx t]

theorem block_cd (c : Dev nD) (t : Fin cfg0.N) (h : Fin 4) (hh : h.val = t.val % 4) :
    (iblk m c 6 t : FVec Ideal S1x1x1 .f32) (ix3 0 0 0) = (V m c main_v46 : FVec Ideal S4x1x1 .f32) (ix3 h 0 0) := by
  blk_point [iblk, idx t]

theorem q_real (c : Dev nD) (t : Fin cfg0.N)
    (hx : ∀ r l, cols256 (m ((c : Thread nD τ).loc main_arg0)) r l ≠ ⊤ ∧ cols256 (m ((c : Thread nD τ).loc main_arg0)) r l ≠ ⊥) (b h : Fin 4)
    (hb : b.val = t.val / 4) (hh : h.val = t.val % 4) (r : Fin 4096) (d : Fin 256) :
    (iblk m c 0 t : FVec Ideal S4096x256 .bf16) (ix2 r d) = (head256 (cols256 (m ((c : Thread nD τ).loc main_arg0))) b h r.val d : EReal) :=
  (block_q m c t r d ⟨b.val * 4096 + r.val, by omega⟩ ⟨h.val * 256 + d.val, by omega⟩ (congrArg (· * 4096 + r.val) hb) (congrArg (· * 256 + d.val) hh)).trans
    (head256_at _ hx b h r.val d _ _ r.isLt rfl rfl)

theorem k_real (c : Dev nD) (t : Fin cfg0.N)
    (hx : ∀ r l, cols256 (m ((c : Thread nD τ).loc main_arg1)) r l ≠ ⊤ ∧ cols256 (m ((c : Thread nD τ).loc main_arg1)) r l ≠ ⊥) (b h : Fin 4)
    (hb : b.val = t.val / 4) (hh : h.val = t.val % 4) (r : Fin 4096) (d : Fin 256) :
    (iblk m c 1 t : FVec Ideal S4096x256 .bf16) (ix2 r d) = (head256 (cols256 (m ((c : Thread nD τ).loc main_arg1))) b h r.val d : EReal) :=
  (block_k m c t r d ⟨b.val * 4096 + r.val, by omega⟩ ⟨h.val * 256 + d.val, by omega⟩ (congrArg (· * 4096 + r.val) hb) (congrArg (· * 256 + d.val) hh)).trans
    (head256_at _ hx b h r.val d _ _ r.isLt rfl rfl)

theorem v_real (c : Dev nD) (t : Fin cfg0.N)
    (hx : ∀ r l, cols512 (m ((c : Thread nD τ).loc main_arg2)) r l ≠ ⊤ ∧ cols512 (m ((c : Thread nD τ).loc main_arg2)) r l ≠ ⊥) (b h : Fin 4)
    (hb : b.val = t.val / 4) (hh : h.val = t.val % 4) (r : Fin 4096) (d : Fin 512) :
    (iblk m c 2 t : FVec Ideal S4096x512 .bf16) (ix2 r d) = (head512 (cols512 (m ((c : Thread nD τ).loc main_arg2))) b h r.val d : EReal) :=
  (block_v m c t r d ⟨b.val * 4096 + r.val, by omega⟩ ⟨h.val * 512 + d.val, by omega⟩ (congrArg (· * 4096 + r.val) hb) (congrArg (· * 512 + d.val) hh)).trans
    (head512_at _ hx b h r.val d _ _ r.isLt rfl rfl)

theorem dm_real (c : Dev nD) (t : Fin cfg0.N) (h : Fin 4) (hh : h.val = t.val % 4) (i a : Fin 256) :
    (iblk m c 3 t : FVec Ideal S1x256x256 .f32) (ix3 0 i a) = (decay (logGamma h.val) i.val a.val : EReal) :=
  (block_dm m c t h hh i a).trans ((congrFun (entry_dm m c) _).trans (decayT_at h i a))

theorem rs_real (c : Dev nD) (t : Fin cfg0.N) (h : Fin 4) (hh : h.val = t.val % 4) (i : Fin 256) :
    (iblk m c 4 t : FVec Ideal S1x256x1 .f32) (ix3 0 i 0) = (Real.exp (((i.val : ℕ) + 1 : ℝ) * logGamma h.val) : EReal) :=
  (block_rs m c t h hh i).trans ((congrFun (entry_rs m c) _).trans (rowT_at h i))

theorem ks_real (c : Dev nD) (t : Fin cfg0.N) (h : Fin 4) (hh : h.val = t.val % 4) (a : Fin 256) :
    (iblk m c 5 t : FVec Ideal S1x256x1 .f32) (ix3 0 a 0) = (Real.exp (((256 : ℕ) - 1 - a.val : ℝ) * logGamma h.val) : EReal) :=
  (block_ks m c t h hh a).trans ((congrFun (entry_ks m c) _).trans (keyT_at h a))

theorem cd_real (c : Dev nD) (t : Fin cfg0.N) (h : Fin 4) (hh : h.val = t.val % 4) :
    (iblk m c 6 t : FVec Ideal S1x1x1 .f32) (ix3 0 0 0) = (Real.exp ((256 : ℕ) * logGamma h.val) : EReal) :=
  (block_cd m c t h hh).trans ((congrFun (entry_cd m c) _).trans (chunkT_at h))

set_option maxHeartbeats 2000000 in
/-- At every point the blocks are those of one head of finite queries, keys and values. -/
theorem blocks_real (c : Dev nD) (t : Fin cfg0.N)
    (hq : ∀ r l, cols256 (m ((c : Thread nD τ).loc main_arg0)) r l ≠ ⊤ ∧ cols256 (m ((c : Thread nD τ).loc main_arg0)) r l ≠ ⊥)
    (hk : ∀ r l, cols256 (m ((c : Thread nD τ).loc main_arg1)) r l ≠ ⊤ ∧ cols256 (m ((c : Thread nD τ).loc main_arg1)) r l ≠ ⊥)
    (hv : ∀ r l, cols512 (m ((c : Thread nD τ).loc main_arg2)) r l ≠ ⊤ ∧ cols512 (m ((c : Thread nD τ).loc main_arg2)) r l ≠ ⊥) (b h : Fin 4)
    (hb : b.val = t.val / 4) (hh : h.val = t.val % 4) :
    Real (blocksAt m c t) (logGamma h.val) (head256 (cols256 (m ((c : Thread nD τ).loc main_arg0))) b h)
      (head256 (cols256 (m ((c : Thread nD τ).loc main_arg1))) b h) (head512 (cols512 (m ((c : Thread nD τ).loc main_arg2))) b h) :=
  ⟨q_real m c t hq b h hb hh, k_real m c t hk b h hb hh, v_real m c t hv b h hb hh, dm_real m c t h hh, rs_real m c t h hh, ks_real m c t h hh,
    cd_real m c t h hh⟩

/-- The result array after the run. -/
theorem final (c : Dev nD)
    (hq : ∀ r l, cols256 (m ((c : Thread nD τ).loc main_arg0)) r l ≠ ⊤ ∧ cols256 (m ((c : Thread nD τ).loc main_arg0)) r l ≠ ⊥)
    (hk : ∀ r l, cols256 (m ((c : Thread nD τ).loc main_arg1)) r l ≠ ⊤ ∧ cols256 (m ((c : Thread nD τ).loc main_arg1)) r l ≠ ⊥)
    (hv : ∀ r l, cols512 (m ((c : Thread nD τ).loc main_arg2)) r l ≠ ⊤ ∧ cols512 (m ((c : Thread nD τ).loc main_arg2)) r l ≠ ⊥) :
    (dats m 0 c).arrAt 7 (cfgs 0).N = fun i : S16384x2048.Idx =>
      retained (cols256 (m ((c : Thread nD τ).loc main_arg0))) (cols256 (m ((c : Thread nD τ).loc main_arg1)))
        (cols512 (m ((c : Thread nD τ).loc main_arg2))) ⟨(i 0).val / 4096, Nat.div_lt_of_lt_mul (i 0).isLt⟩
        ⟨(i 1).val / 512, Nat.div_lt_of_lt_mul (i 1).isLt⟩ ((i 0).val % 4096) ⟨(i 1).val % 512, Nat.mod_lt _ (by decide)⟩ := by
  refine (dats m 0 c).arrAt_eq_of_covers 7 _ (by decide +kernel) fun t _ y => ?_
  have ht := points t
  blk_simp
  idx_vars y
  rw [after_7, result_real (blocks_real m c t hq hk hv ⟨t.val / 4, by omega⟩ ⟨t.val % 4, by omega⟩ rfl rfl)]
  refine retained_congr _ _ _ ?_ ?_ ?_ ?_
  all_goals blk_simp [idx t]
  · show t.val / 4 = (t.val / 4 * 4096 + y0.val) / 4096
    omega
  · show t.val % 4 = (t.val % 4 * 512 + y1.val) / 512
    omega
  · show y0.val = (t.val / 4 * 4096 + y0.val) % 4096
    omega
  · show y1.val = (t.val % 4 * 512 + y1.val) % 512
    omega

end Cert.RetCoreIdeal.Steps

end
-- ==== Proof.RetScanTables.lean ====
/- The reference of the retention core before its scan: the chunks of the heads, the decays, and the part within the chunks. -/
module

public import proofs.«01_k».proof.Proof.DecayMath
public import proofs.«01_k».proof.Proof.Gen.RetentionIdeal.Run
public import Idealize.ShloMosaic.Lib.Pipeline.ValueKit

@[expose] public section

set_option maxRecDepth 16384

noncomputable section

namespace Cert.RetentionIdeal.Scan

open Idealize.ShloMosaic Idealize.ShloMosaic.TcCoe Idealize.ShloMosaic.StableHlo Idealize.ShloMosaic.Tactic
open Cert.RetentionIdeal Cert.RetentionIdeal.Gen Cert.RetentionIdeal.Value Cert.ChunkMath

/-- The chunks of the heads of the queries or the keys. -/
def chunks256 (x : FVec Ideal S16384x1024 .bf16) : FVec Ideal S4x4x32x128x256 .f32 :=
  shapeCast _ (transpose S4x4x4096x256 [0, 2, 1, 3] (shapeCast _ (extf .f32 x bitsLt_bf16_f32) shapeCasts_S16384x1024_S4x4096x4x256)
    transposes_S4x4096x4x256_S4x4x4096x256_0_2_1_3) shapeCasts_S4x4x4096x256_S4x4x32x128x256

/-- The chunks of the heads of the values. -/
def chunks512 (x : FVec Ideal S16384x2048 .bf16) : FVec Ideal S4x4x32x128x512 .f32 :=
  shapeCast _ (transpose S4x4x4096x512 [0, 2, 1, 3] (shapeCast _ (extf .f32 x bitsLt_bf16_f32) shapeCasts_S16384x2048_S4x4096x4x512)
    transposes_S4x4096x4x512_S4x4x4096x512_0_2_1_3) shapeCasts_S4x4x4096x512_S4x4x32x128x512

/-- The logarithm of each head's decay. -/
def logV : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The positions within a chunk. -/
def posV : FVec Ideal S128 .f32 := sitofp .f32 (iotaInDim S128 32 0)

/-- Row minus column within a chunk. -/
def relV : FVec Ideal S128x128 .f32 :=
  subf (broadcastInDim S128x128 ![0, 1] bcast_S128x1_S128x128_0_1 (broadcastInDim S128x1 ![0] bcast_S128_S128x1_0 posV))
    (broadcastInDim S128x128 ![0, 1] bcast_S1x128_S128x128_0_1 (broadcastInDim S1x128 ![1] bcast_S128_S1x128_1 posV))

/-- The decay within a chunk: nothing above the diagonal. -/
def decayV : FVec Ideal S4x128x128 .f32 :=
  select (broadcastInDim S4x128x128 ![1, 2] bcast_S128x128_S4x128x128_1_2
      (cmpf .oge relV (broadcastInDim S128x128 ![] bcast_S_S128x128 (constant S_ .f32 0x00000000#32))))
    (Host.exp (mulf
      (broadcastInDim S4x128x128 ![0, 1, 2] bcast_S1x128x128_S4x128x128_0_1_2 (broadcastInDim S1x128x128 ![1, 2] bcast_S128x128_S1x128x128_1_2
        (maximumf relV (broadcastInDim S128x128 ![] bcast_S_S128x128 (constant S_ .f32 0x00000000#32)))))
      (broadcastInDim S4x128x128 ![0, 1, 2] bcast_S4x1x1_S4x128x128_0_1_2 (broadcastInDim S4x1x1 ![0] bcast_S4_S4x1x1_0 logV))))
    (broadcastInDim S4x128x128 ![] bcast_S_S4x128x128 (constant S_ .f32 0x00000000#32))

/-- The decay within a chunk, laid out for every batch and chunk. -/
def decayAll : FVec Ideal S4x4x32x128x128 .f32 :=
  broadcastInDim S4x4x32x128x128 ![0, 1, 2, 3, 4] bcast_S1x4x1x128x128_S4x4x32x128x128_0_1_2_3_4
    (broadcastInDim S1x4x1x128x128 ![1, 2, 3, 4] bcast_S4x1x128x128_S1x4x1x128x128_1_2_3_4
      (broadcastInDim S4x1x128x128 ![0, 2, 3] bcast_S4x128x128_S4x1x128x128_0_2_3 decayV))

/-- What the positions of a chunk give each other. -/
def innerV (q k : FVec Ideal S4x4x32x128x256 .f32) (v : FVec Ideal S4x4x32x128x512 .f32) : FVec Ideal S4x4x32x128x512 .f32 :=
  Host.dotGeneral dot_S4x4x32x128x128_S4x4x32x128x512_S4x4x32x128x512_4_3_3_4_012_012 none
    (mulf (Host.dotGeneral dot_S4x4x32x128x256_S4x4x32x128x256_S4x4x32x128x128_4_4_3_3_012_012 none q k) decayAll) v

/-- A number for each position times each head's logarithm, exponentiated. -/
def powersV (p : FVec Ideal S128 .f32) : FVec Ideal S4x128 .f32 :=
  Host.exp (mulf (broadcastInDim S4x128 ![0, 1] bcast_S1x128_S4x128_0_1 (broadcastInDim S1x128 ![1] bcast_S128_S1x128_1 p))
    (broadcastInDim S4x128 ![0, 1] bcast_S4x1_S4x128_0_1 (broadcastInDim S4x1 ![0] bcast_S4_S4x1_0 logV)))

/-- Numbers for each head and position, laid out for every batch, chunk and entry. -/
def laid (p : FVec Ideal S4x128 .f32) : FVec Ideal S4x4x32x128x256 .f32 :=
  broadcastInDim S4x4x32x128x256 ![0, 1, 2, 3, 4] bcast_S1x4x1x128x1_S4x4x32x128x256_0_1_2_3_4
    (broadcastInDim S1x4x1x128x1 ![1, 2, 3, 4] bcast_S4x1x128x1_S1x4x1x128x1_1_2_3_4
      (broadcastInDim S4x1x128x1 ![0, 2] bcast_S4x128_S4x1x128x1_0_2 p))

/-- The queries with the decay of the state seen from their rows, chunk by chunk. -/
def queriesV (q : FVec Ideal S4x4x32x128x256 .f32) : FVec Ideal S32x4x4x128x256 .f32 :=
  transpose S32x4x4x128x256 [2, 0, 1, 3, 4]
    (mulf q (laid (powersV (addf posV (broadcastInDim S128 ![] bcast_S_S128 (constant S_ .f32 0x3F800000#32))))))
    transposes_S4x4x32x128x256_S32x4x4x128x256_2_0_1_3_4

/-- The keys with their decay up to the end of the chunk, chunk by chunk. -/
def keysV (k : FVec Ideal S4x4x32x128x256 .f32) : FVec Ideal S32x4x4x128x256 .f32 :=
  transpose S32x4x4x128x256 [2, 0, 1, 3, 4]
    (mulf k (laid (powersV (subf (broadcastInDim S128 ![] bcast_S_S128 (constant S_ .f32 0x42FE0000#32)) posV))))
    transposes_S4x4x32x128x256_S32x4x4x128x256_2_0_1_3_4

/-- The values, chunk by chunk. -/
def valuesV (v : FVec Ideal S4x4x32x128x512 .f32) : FVec Ideal S32x4x4x128x512 .f32 :=
  transpose S32x4x4x128x512 [2, 0, 1, 3, 4] v transposes_S4x4x32x128x512_S32x4x4x128x512_2_0_1_3_4

/-- The decay over a whole chunk. -/
def wholeV : FVec Ideal S4x1x1 .f32 :=
  broadcastInDim S4x1x1 ![0] bcast_S4_S4x1x1_0 (Host.exp (mulf (broadcastInDim S4 ![] bcast_S_S4 (constant S_ .f32 0x43000000#32)) logV))

theorem chunks256_at (x : FVec Ideal S16384x1024 .bf16) (b h : Fin 4) (n : Fin 32) (i : Fin 128) (d : Fin 256) :
    chunks256 x (ix5 b h n i d) = x (ix2 ⟨b.val * 4096 + (n.val * 128 + i.val), by omega⟩ ⟨h.val * 256 + d.val, by omega⟩) := by
  pointwise [chunks256]
  blk_ext

theorem chunks512_at (x : FVec Ideal S16384x2048 .bf16) (b h : Fin 4) (n : Fin 32) (i : Fin 128) (e : Fin 512) :
    chunks512 x (ix5 b h n i e) = x (ix2 ⟨b.val * 4096 + (n.val * 128 + i.val), by omega⟩ ⟨h.val * 512 + e.val, by omega⟩) := by
  pointwise [chunks512]
  blk_ext

theorem logV_at (h : Fin 4) : logV (ix1 h) = (logGamma h.val : EReal) := by
  have e : logV (ix1 h) = Ideal.log (1 - Ideal.pow (Ideal.ofBits .f32 0x40000000#32)
      (Ideal.ofBits .f32 0xC0A00000#32 - FloatOps.sitofp (F := Ideal) .f32 (BitVec.ofNat 32 h.val))) := by pointwise [logV]
  rw [e, index_word h.val (by omega), logGamma_word]

theorem posV_at (i : Fin 128) : posV (ix1 i) = ((i.val : ℝ) : EReal) := by
  refine Eq.trans ?_ (index_word i.val (by omega))
  pointwise [posV]

theorem relV_at (i a : Fin 128) : relV (ix2 i a) = ((i.val : ℝ) : EReal) - ((a.val : ℝ) : EReal) := by
  rw [← posV_at, ← posV_at]
  pointwise [relV]

theorem decayV_at (h : Fin 4) (i a : Fin 128) : decayV (ix3 h i a) = (decay (logGamma h.val) i.val a.val : EReal) := by
  have e : decayV (ix3 h i a) = if 0 ≤ relV (ix2 i a) then Ideal.exp (max (relV (ix2 i a)) 0 * logV (ix1 h)) else 0 := by pointwise [decayV]
  rw [e, relV_at, logV_at, decay_word]

theorem decayAll_at (b h : Fin 4) (n : Fin 32) (i a : Fin 128) : decayAll (ix5 b h n i a) = (decay (logGamma h.val) i.val a.val : EReal) := by
  rw [← decayV_at]
  pointwise [decayAll]

theorem innerV_at (q k : FVec Ideal S4x4x32x128x256 .f32) (v : FVec Ideal S4x4x32x128x512 .f32) (b h : Fin 4) (n : Fin 32) (i : Fin 128) (e : Fin 512) :
    innerV q k v (ix5 b h n i e)
      = ∑ a : Fin 128, ((∑ d : Fin 256, q (ix5 b h n i d) * k (ix5 b h n a d)) * decayAll (ix5 b h n i a)) * v (ix5 b h n a e) := by
  pointwise [innerV]

theorem powersV_at (p : FVec Ideal S128 .f32) (h : Fin 4) (i : Fin 128) : powersV p (ix2 h i) = Ideal.exp (p (ix1 i) * logV (ix1 h)) := by
  pointwise [powersV]

theorem laid_at (p : FVec Ideal S4x128 .f32) (b h : Fin 4) (n : Fin 32) (i : Fin 128) (d : Fin 256) : laid p (ix5 b h n i d) = p (ix2 h i) := by
  pointwise [laid]

theorem queriesV_at (q : FVec Ideal S4x4x32x128x256 .f32) (b h : Fin 4) (n : Fin 32) (i : Fin 128) (d : Fin 256) :
    queriesV q (ix5 n b h i d) = q (ix5 b h n i d) * (Real.exp (((i.val : ℕ) + 1 : ℝ) * logGamma h.val) : EReal) := by
  have e : queriesV q (ix5 n b h i d) = q (ix5 b h n i d)
      * laid (powersV (addf posV (broadcastInDim S128 ![] bcast_S_S128 (constant S_ .f32 0x3F800000#32)))) (ix5 b h n i d) := by pointwise [queriesV]
  have e' : addf posV (broadcastInDim S128 ![] bcast_S_S128 (constant S_ .f32 0x3F800000#32)) (ix1 i) = posV (ix1 i) + 1 := by pointwise
  rw [e, laid_at, powersV_at, e', posV_at, logV_at, ← EReal.coe_one, ← EReal.coe_add, exp_word]

theorem keysV_at (k : FVec Ideal S4x4x32x128x256 .f32) (b h : Fin 4) (n : Fin 32) (a : Fin 128) (d : Fin 256) :
    keysV k (ix5 n b h a d) = k (ix5 b h n a d) * (Real.exp (((128 : ℕ) - 1 - a.val : ℝ) * logGamma h.val) : EReal) := by
  have e : keysV k (ix5 n b h a d) = k (ix5 b h n a d)
      * laid (powersV (subf (broadcastInDim S128 ![] bcast_S_S128 (constant S_ .f32 0x42FE0000#32)) posV)) (ix5 b h n a d) := by pointwise [keysV]
  have e' : subf (broadcastInDim S128 ![] bcast_S_S128 (constant S_ .f32 0x42FE0000#32)) posV (ix1 a) = Ideal.ofBits .f32 0x42FE0000#32 - posV (ix1 a) := by
    pointwise
  rw [e, laid_at, powersV_at, e', posV_at, logV_at, word_127, ← EReal.coe_sub, exp_word]
  norm_num

theorem valuesV_at (v : FVec Ideal S4x4x32x128x512 .f32) (b h : Fin 4) (n : Fin 32) (a : Fin 128) (e : Fin 512) :
    valuesV v (ix5 n b h a e) = v (ix5 b h n a e) := by
  pointwise [valuesV]

theorem wholeV_at (h : Fin 4) : wholeV (ix3 h 0 0) = (Real.exp ((128 : ℕ) * logGamma h.val) : EReal) := by
  have e : wholeV (ix3 h 0 0) = Ideal.exp (Ideal.ofBits .f32 0x43000000#32 * logV (ix1 h)) := by pointwise [wholeV]
  rw [e, logV_at, word_128, exp_word]
  norm_num

end Cert.RetentionIdeal.Scan

end
-- ==== Proof.RetScanEntry.lean ====
/- The buffers of the retention core's reference at the entry of its scan and after it. -/
module

public import proofs.«01_k».proof.Proof.RetScanTables

@[expose] public section

set_option maxRecDepth 16384

noncomputable section

namespace Cert.RetentionIdeal.Scan

open Idealize.ShloMosaic Idealize.ShloMosaic.TcCoe Idealize.ShloMosaic.StableHlo Idealize.ShloMosaic.Tactic
open Cert.RetentionIdeal Cert.RetentionIdeal.Gen Cert.RetentionIdeal.Value Cert.ChunkMath

variable (m : (ℓ : Loc nD τ sig) → Buf (Elt Ideal) ℓ)

/-- A buffer no operation before the scan writes is as it was. -/
theorem entry_keep (c : Dev nD) (r : Ref sig .tc) (h0 : r ∉ hostOps0_W) (h1 : r ∉ hostOps0_1_W) (h2 : r ∉ hostOps0_2_W) :
    entryContents (preI (F := Ideal)) m c (Proc.devRef .tc r) = m ((c : Thread nD τ).loc r) := by
  simp only [entryContents, preI, afterL_cons, afterL_nil]
  rw [after_of_writes_sub hostOps0_2 _ hostOps0_2_writes h2, after_of_writes_sub hostOps0_1 _ hostOps0_1_writes h1,
    after_of_writes_sub hostOps0 _ hostOps0_writes h0]

/-- A buffer the scan does not write is as it was. -/
theorem scan_keep (c : Dev nD) (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) :
    ∀ k, atK m k c (Proc.devRef .tc r) = entryContents (preI (F := Ideal)) m c (Proc.devRef .tc r)
  | 0 => rfl
  | k + 1 => by
    refine (show atK m (k + 1) c (Proc.devRef .tc r) = after while0Ops0_5 (after while0Ops0_4 (after while0Ops0_3 (after while0Ops0_2
      (after while0Ops0_1 (after while0Ops0 (after condOps (atK m k c))))))) (Proc.devRef .tc r) from rfl).trans ?_
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, scan_keep c r hc h0 h1 h2 h3 h4 h5 k]

/-- The references the operations after the scan write. -/
abbrev hostOps0_3_W : List (Ref sig .tc) := [main_v77, main_v78, main_v79, main_v80, main_cst_10, main_v81, main_v82, main_cst_11, main_v83, main_v84,
  main_cst_12, main_v85, main_v86, main_v87, main_v88, main_v89, main_v90, main_v91, main_v92]
theorem hostOps0_3_writes : (hostOps0_3 : List (HloOp τ sig (Elt Ideal))).Forall fun op => op.writes ⊆ (hostOps0_3_W.map (Proc.devRef (τ := τ) .tc)).toFinset :=
  StableHlo.forall_writes_sub_of_map rfl

/-- The contents at the end: the last stretch, from the contents after the last trip. -/
theorem final_eq (c : Dev nD) : finalContents condOps (preI (F := Ideal)) bodyI postI 32 m c = after hostOps0_3 (after condOps (atK m 32 c)) := rfl

/-- A buffer the program does not write is as it was. -/
theorem final_keep (c : Dev nD) (r : Ref sig .tc) (a0 : r ∉ hostOps0_W) (a1 : r ∉ hostOps0_1_W) (a2 : r ∉ hostOps0_2_W) (hc : r ∉ condOps_W)
    (h0 : r ∉ while0Ops0_W) (h1 : r ∉ while0Ops0_1_W) (h2 : r ∉ while0Ops0_2_W) (h3 : r ∉ while0Ops0_3_W) (h4 : r ∉ while0Ops0_4_W)
    (h5 : r ∉ while0Ops0_5_W) (a3 : r ∉ hostOps0_3_W) :
    finalContents condOps (preI (F := Ideal)) bodyI postI 32 m c (Proc.devRef .tc r) = m ((c : Thread nD τ).loc r) := by
  rw [final_eq, after_of_writes_sub hostOps0_3 _ hostOps0_3_writes a3, after_of_writes_sub condOps _ condOps_writes hc,
    scan_keep m c r hc h0 h1 h2 h3 h4 h5, entry_keep m c r a0 a1 a2]

/-- The arguments are as they were. -/
theorem argument0 (c : Dev nD) : finalContents condOps (preI (F := Ideal)) bodyI postI 32 m c (Proc.devRef .tc main_arg0) = m ((c : Thread nD τ).loc main_arg0) := by
  apply final_keep <;> decide +kernel
theorem argument1 (c : Dev nD) : finalContents condOps (preI (F := Ideal)) bodyI postI 32 m c (Proc.devRef .tc main_arg1) = m ((c : Thread nD τ).loc main_arg1) := by
  apply final_keep <;> decide +kernel
theorem argument2 (c : Dev nD) : finalContents condOps (preI (F := Ideal)) bodyI postI 32 m c (Proc.devRef .tc main_arg2) = m ((c : Thread nD τ).loc main_arg2) := by
  apply final_keep <;> decide +kernel

/-- The rows divided by their root mean square, the heads side by side again. -/
def normedV (x y : FVec Ideal S4x4x32x128x512 .f32) : FVec Ideal S16384x2048 .bf16 :=
  let o : FVec Ideal S4x4x4096x512 .f32 := shapeCast _ (addf x y) shapeCasts_S4x4x32x128x512_S4x4x4096x512
  truncf .bf16 (shapeCast _ (transpose S4x4096x4x512 [0, 2, 1, 3] (mulf o (broadcastInDim S4x4x4096x512 ![0, 1, 2, 3] bcast_S4x4x4096x1_S4x4x4096x512_0_1_2_3
    (Host.rsqrt (addf (Host.divf (broadcastInDim S4x4x4096x1 ![0, 1, 2] bcast_S4x4x4096_S4x4x4096x1_0_1_2
        (Host.reduceAdd (mulf o o) (constant S_ .f32 0x00000000#32) reducesTo_S4x4x4096x512_S4x4x4096_d3 h_S_))
      (broadcastInDim S4x4x4096x1 ![] bcast_S_S4x4x4096x1 (constant S_ .f32 0x44000000#32)))
      (broadcastInDim S4x4x4096x1 ![] bcast_S_S4x4x4096x1 (constant S_ .f32 0x358637BD#32))))))
    transposes_S4x4x4096x512_S4x4096x4x512_0_2_1_3) shapeCasts_S4x4096x4x512_S16384x2048) bitsLt_bf16_f32

/-- The chunks in their places in the heads. -/
def backV (y : FVec Ideal S32x4x4x128x512 .f32) : FVec Ideal S4x4x32x128x512 .f32 :=
  transpose S4x4x32x128x512 [1, 2, 0, 3, 4] y transposes_S32x4x4x128x512_S4x4x32x128x512_1_2_0_3_4

theorem after_scan (X : Valuation τ sig (Elt Ideal)) :
    after hostOps0_3 X (Proc.devRef .tc main_v92) = normedV (X (Proc.devRef .tc main_v42)) (backV (X (Proc.devRef .tc main_v76_6))) := by
  after_results
  rfl

theorem entry_inner (c : Dev nD) : entryContents (preI (F := Ideal)) m c (Proc.devRef .tc main_v42)
    = innerV (chunks256 (m ((c : Thread nD τ).loc main_arg0))) (chunks256 (m ((c : Thread nD τ).loc main_arg1)))
        (chunks512 (m ((c : Thread nD τ).loc main_arg2))) := by
  simp only [entryContents, afterL_cons, afterL_nil]
  after_reads_simp
  rfl

theorem entry_queries (c : Dev nD) : entryContents (preI (F := Ideal)) m c (Proc.devRef .tc main_v76_0)
    = queriesV (chunks256 (m ((c : Thread nD τ).loc main_arg0))) := by
  simp only [entryContents, afterL_cons, afterL_nil]
  after_reads_simp
  rfl

theorem entry_keys (c : Dev nD) : entryContents (preI (F := Ideal)) m c (Proc.devRef .tc main_v76_1)
    = keysV (chunks256 (m ((c : Thread nD τ).loc main_arg1))) := by
  simp only [entryContents, afterL_cons, afterL_nil]
  after_reads_simp
  rfl

theorem entry_values (c : Dev nD) : entryContents (preI (F := Ideal)) m c (Proc.devRef .tc main_v76_2)
    = valuesV (chunks512 (m ((c : Thread nD τ).loc main_arg2))) := by
  simp only [entryContents, afterL_cons, afterL_nil]
  after_reads_simp
  rfl

theorem entry_whole (c : Dev nD) : entryContents (preI (F := Ideal)) m c (Proc.devRef .tc main_v76_3) = wholeV := by
  simp only [entryContents, afterL_cons, afterL_nil]
  after_reads_simp
  rfl

theorem entry_state (c : Dev nD) : entryContents (preI (F := Ideal)) m c (Proc.devRef .tc main_v76_5)
    = broadcastInDim S4x4x256x512 ![] bcast_S_S4x4x256x512 (constant (F := Ideal) S_ .f32 0x00000000#32) := by
  simp only [entryContents, afterL_cons, afterL_nil]
  after_reads_simp
  rfl

end Cert.RetentionIdeal.Scan

end
-- ==== Proof.RetScanSteps.lean ====
/- The scan of the retention core's reference: the state before each chunk, and what each chunk receives from it. -/
module

public import proofs.«01_k».proof.Proof.RetScanEntry
public import Idealize.ShloMosaic.Lib.DynamicIndex

@[expose] public section

set_option maxRecDepth 16384

noncomputable section

namespace Cert.RetentionIdeal.Scan

open Idealize.ShloMosaic Idealize.ShloMosaic.TcCoe Idealize.ShloMosaic.StableHlo Idealize.ShloMosaic.Tactic
open Cert.RetentionIdeal Cert.RetentionIdeal.Gen Cert.RetentionIdeal.Value Cert.ChunkMath

/-- Where the chunk a counter names begins. -/
def starts (s : IVec S_ 32) : Fin 5 → Int :=
  fun k => ((![s, constantI S_ 32 0#32, constantI S_ 32 0#32, constantI S_ 32 0#32, constantI S_ 32 0#32] : Fin 5 → IVec S_ 32) k (Shape.Idx.first h_S_)).toInt

/-- The counter after `n` trips. -/
def counter (n : ℕ) : IVec S_ 32 := fun _ => Scf.iv 0#32 1#32 n

theorem counter_word : ∀ n : ℕ, Scf.iv 0#32 1#32 n = BitVec.ofNat 32 n
  | 0 => Scf.iv_zero _ _
  | n + 1 => by rw [Scf.iv_succ, counter_word n, BitVec.ofNat_add]

theorem starts_at (n : Fin 32) : ∀ a : Fin 5, starts (counter n.val) a = ((![n.val, 0, 0, 0, 0] : Fin 5 → ℕ) a : Int)
  | 0 => by
    show (Scf.iv 0#32 1#32 n.val).toInt = _
    rw [counter_word, toInt_ofNat_of_lt (by omega)]; rfl
  | 1 => rfl
  | 2 => rfl
  | 3 => rfl
  | 4 => rfl

/-- One chunk of the queries or keys. -/
def pick256 (x : FVec Ideal S32x4x4x128x256 .f32) (s : IVec S_ 32) : FVec Ideal S4x4x128x256 .f32 :=
  shapeCast S4x4x128x256 (Host.dynamicSlice S1x4x4x128x256 x (starts s) sliceFits_S32x4x4x128x256_S1x4x4x128x256) shapeCasts_S1x4x4x128x256_S4x4x128x256

/-- One chunk of the values. -/
def pick512 (x : FVec Ideal S32x4x4x128x512 .f32) (s : IVec S_ 32) : FVec Ideal S4x4x128x512 .f32 :=
  shapeCast S4x4x128x512 (Host.dynamicSlice S1x4x4x128x512 x (starts s) sliceFits_S32x4x4x128x512_S1x4x4x128x512) shapeCasts_S1x4x4x128x512_S4x4x128x512

/-- The state after a chunk. -/
def nextState (k : FVec Ideal S4x4x128x256 .f32) (v : FVec Ideal S4x4x128x512 .f32) (g : FVec Ideal S4x1x1 .f32) (st : FVec Ideal S4x4x256x512 .f32) :
    FVec Ideal S4x4x256x512 .f32 :=
  addf (mulf st (broadcastInDim S4x4x256x512 ![0, 1, 2, 3] bcast_S1x4x1x1_S4x4x256x512_0_1_2_3 (broadcastInDim S1x4x1x1 ![1, 2, 3] bcast_S4x1x1_S1x4x1x1_1_2_3 g)))
    (Host.dotGeneral dot_S4x4x128x256_S4x4x128x512_S4x4x256x512_2_2_3_3_01_01 none k v)

/-- What a chunk receives from the state before it. -/
def fromState (q : FVec Ideal S4x4x128x256 .f32) (st : FVec Ideal S4x4x256x512 .f32) : FVec Ideal S1x4x4x128x512 .f32 :=
  broadcastInDim S1x4x4x128x512 ![1, 2, 3, 4] bcast_S4x4x128x512_S1x4x4x128x512_1_2_3_4
    (Host.dotGeneral dot_S4x4x128x256_S4x4x256x512_S4x4x128x512_3_2_2_3_01_01 none q st)

/-- The chunks' parts with one more in its place. -/
def place (x : FVec Ideal S32x4x4x128x512 .f32) (y : FVec Ideal S1x4x4x128x512 .f32) (s : IVec S_ 32) : FVec Ideal S32x4x4x128x512 .f32 :=
  Host.dynamicUpdateSlice x y (starts s) updateFits_S32x4x4x128x512_S1x4x4x128x512

theorem pick256_at (x : FVec Ideal S32x4x4x128x256 .f32) (n : Fin 32) (b h : Fin 4) (i : Fin 128) (d : Fin 256) :
    pick256 x (counter n.val) (ix4 b h i d) = x (ix5 n b h i d) := by
  unfold pick256
  rw [Host.dynamicSlice_eq_extractStridedSlice S1x4x4x128x256 x _ ![n.val, 0, 0, 0, 0] _
    ⟨rfl, fun a => by have := n.isLt; fin_cases a <;> simp <;> omega⟩ (starts_at n)]
  pointwise
  blk_ext

theorem pick512_at (x : FVec Ideal S32x4x4x128x512 .f32) (n : Fin 32) (b h : Fin 4) (i : Fin 128) (d : Fin 512) :
    pick512 x (counter n.val) (ix4 b h i d) = x (ix5 n b h i d) := by
  unfold pick512
  rw [Host.dynamicSlice_eq_extractStridedSlice S1x4x4x128x512 x _ ![n.val, 0, 0, 0, 0] _
    ⟨rfl, fun a => by have := n.isLt; fin_cases a <;> simp <;> omega⟩ (starts_at n)]
  pointwise
  blk_ext

theorem nextState_at (k : FVec Ideal S4x4x128x256 .f32) (v : FVec Ideal S4x4x128x512 .f32) (g : FVec Ideal S4x1x1 .f32) (st : FVec Ideal S4x4x256x512 .f32)
    (b h : Fin 4) (d : Fin 256) (e : Fin 512) :
    nextState k v g st (ix4 b h d e) = st (ix4 b h d e) * g (ix3 h 0 0) + ∑ a : Fin 128, k (ix4 b h a d) * v (ix4 b h a e) := by
  pointwise [nextState]

theorem fromState_at (q : FVec Ideal S4x4x128x256 .f32) (st : FVec Ideal S4x4x256x512 .f32) (b h : Fin 4) (i : Fin 128) (e : Fin 512) :
    fromState q st (ix5 0 b h i e) = ∑ d : Fin 256, q (ix4 b h i d) * st (ix4 b h d e) := by
  pointwise [fromState]

theorem place_at (x : FVec Ideal S32x4x4x128x512 .f32) (y : FVec Ideal S1x4x4x128x512 .f32) (n n' : Fin 32) (b h : Fin 4) (i : Fin 128) (e : Fin 512) :
    place x y (counter n.val) (ix5 n' b h i e) = if n' = n then y (ix5 0 b h i e) else x (ix5 n' b h i e) := by
  unfold place
  rw [Host.dynamicUpdateSlice_eq_updateSlice x y _ _ ![n.val, 0, 0, 0, 0]
    (fun a => by have := n.isLt; rw [starts_at]; fin_cases a <;> simp <;> omega)
    ⟨rfl, fun a => by have := n.isLt; fin_cases a <;> simp <;> omega⟩]
  pointwise
  by_cases hn : n' = n
  · subst hn
    rw [dif_pos ⟨le_refl _, Nat.lt_succ_self _⟩, if_pos rfl]
    exact congrArg (fun z : Fin 1 => y (ix5 z b h i e)) (Subsingleton.elim _ _)
  · rw [dif_neg (fun h => hn (Fin.ext (by omega))), if_neg hn]

variable (m : (ℓ : Loc nD τ sig) → Buf (Elt Ideal) ℓ)

/-- The state before chunk `n`. -/
def stateOf (c : Dev nD) (n : ℕ) : FVec Ideal S4x4x256x512 .f32 := atK m n c (Proc.devRef .tc main_v76_5)

/-- The parts the chunks before chunk `n` received. -/
def partsOf (c : Dev nD) (n : ℕ) : FVec Ideal S32x4x4x128x512 .f32 := atK m n c (Proc.devRef .tc main_v76_6)

/-- The chunks the scan reads, and the decay over one. -/
def scanQ (c : Dev nD) : FVec Ideal S32x4x4x128x256 .f32 := queriesV (chunks256 (m ((c : Thread nD τ).loc main_arg0)))
def scanK (c : Dev nD) : FVec Ideal S32x4x4x128x256 .f32 := keysV (chunks256 (m ((c : Thread nD τ).loc main_arg1)))
def scanV (c : Dev nD) : FVec Ideal S32x4x4x128x512 .f32 := valuesV (chunks512 (m ((c : Thread nD τ).loc main_arg2)))

theorem at_queries (c : Dev nD) (n : ℕ) : atK m n c (Proc.devRef .tc main_v76_0) = scanQ m c :=
  (scan_keep m c main_v76_0 (by decide +kernel) (by decide +kernel) (by decide +kernel) (by decide +kernel) (by decide +kernel) (by decide +kernel)
    (by decide +kernel) n).trans (entry_queries m c)
theorem at_keys (c : Dev nD) (n : ℕ) : atK m n c (Proc.devRef .tc main_v76_1) = scanK m c :=
  (scan_keep m c main_v76_1 (by decide +kernel) (by decide +kernel) (by decide +kernel) (by decide +kernel) (by decide +kernel) (by decide +kernel)
    (by decide +kernel) n).trans (entry_keys m c)
theorem at_values (c : Dev nD) (n : ℕ) : atK m n c (Proc.devRef .tc main_v76_2) = scanV m c :=
  (scan_keep m c main_v76_2 (by decide +kernel) (by decide +kernel) (by decide +kernel) (by decide +kernel) (by decide +kernel) (by decide +kernel)
    (by decide +kernel) n).trans (entry_values m c)
theorem at_whole (c : Dev nD) (n : ℕ) : atK m n c (Proc.devRef .tc main_v76_3) = wholeV :=
  (scan_keep m c main_v76_3 (by decide +kernel) (by decide +kernel) (by decide +kernel) (by decide +kernel) (by decide +kernel) (by decide +kernel)
    (by decide +kernel) n).trans (entry_whole m c)
theorem at_inner (c : Dev nD) (n : ℕ) : atK m n c (Proc.devRef .tc main_v42)
    = innerV (chunks256 (m ((c : Thread nD τ).loc main_arg0))) (chunks256 (m ((c : Thread nD τ).loc main_arg1)))
        (chunks512 (m ((c : Thread nD τ).loc main_arg2))) :=
  (scan_keep m c main_v42 (by decide +kernel) (by decide +kernel) (by decide +kernel) (by decide +kernel) (by decide +kernel) (by decide +kernel)
    (by decide +kernel) n).trans (entry_inner m c)

theorem state_next (c : Dev nD) (n : ℕ) :
    stateOf m c (n + 1) = nextState (pick256 (scanK m c) (counter n)) (pick512 (scanV m c) (counter n)) wholeV (stateOf m c n) := by
  refine (trip_agree (atK m n c) main_v76_5 (by decide)).trans ((STEP_main_v76_5 _).trans ?_)
  unfold step_main_v76_5
  rw [at_keys, at_values, at_whole, atK_ctr]
  rfl

theorem parts_next (c : Dev nD) (n : ℕ) :
    partsOf m c (n + 1) = place (partsOf m c n) (fromState (pick256 (scanQ m c) (counter n)) (stateOf m c n)) (counter n) := by
  refine (trip_agree (atK m n c) main_v76_6 (by decide)).trans ((STEP_main_v76_6 _).trans ?_)
  unfold step_main_v76_6
  rw [at_queries, atK_ctr]
  rfl

theorem state_zero (c : Dev nD) (b h : Fin 4) (d : Fin 256) (e : Fin 512) : stateOf m c 0 (ix4 b h d e) = 0 := by
  refine (congrFun (entry_state m c) (ix4 b h d e)).trans ?_
  pointwise

theorem state_succ (c : Dev nD) (n : Fin 32) (b h : Fin 4) (d : Fin 256) (e : Fin 512) :
    stateOf m c (n.val + 1) (ix4 b h d e)
      = stateOf m c n.val (ix4 b h d e) * wholeV (ix3 h 0 0) + ∑ a : Fin 128, scanK m c (ix5 n b h a d) * scanV m c (ix5 n b h a e) := by
  rw [state_next, nextState_at]
  simp only [pick256_at, pick512_at]

/-- A chunk's part, once it has been placed, is what it received from the state before it. -/
theorem parts_at (c : Dev nD) (n' : Fin 32) (b h : Fin 4) (i : Fin 128) (e : Fin 512) :
    ∀ n : ℕ, n'.val < n → n ≤ 32 → partsOf m c n (ix5 n' b h i e) = ∑ d : Fin 256, scanQ m c (ix5 n' b h i d) * stateOf m c n'.val (ix4 b h d e)
  | 0, h0, _ => absurd h0 (Nat.not_lt_zero _)
  | n + 1, h0, h1 => by
    have e' := place_at (partsOf m c n) (fromState (pick256 (scanQ m c) (counter n)) (stateOf m c n)) ⟨n, by omega⟩ n' b h i e
    rw [parts_next]
    refine e'.trans ?_
    by_cases hn : n' = ⟨n, by omega⟩
    · rw [if_pos hn, fromState_at, hn]
      exact Fin.sum_fin_congr fun d => congrArg (· * _) (pick256_at (scanQ m c) ⟨n, by omega⟩ b h i d)
    · rw [if_neg hn]
      exact parts_at c n' b h i e n (lt_of_le_of_ne (Nat.lt_succ_iff.mp h0) fun h => hn (Fin.ext h)) (by omega)

section finite

variable (c : Dev nD)
  (hq : ∀ r l, cols256 (m ((c : Thread nD τ).loc main_arg0)) r l ≠ ⊤ ∧ cols256 (m ((c : Thread nD τ).loc main_arg0)) r l ≠ ⊥)
  (hk : ∀ r l, cols256 (m ((c : Thread nD τ).loc main_arg1)) r l ≠ ⊤ ∧ cols256 (m ((c : Thread nD τ).loc main_arg1)) r l ≠ ⊥)
  (hv : ∀ r l, cols512 (m ((c : Thread nD τ).loc main_arg2)) r l ≠ ⊤ ∧ cols512 (m ((c : Thread nD τ).loc main_arg2)) r l ≠ ⊥)

/-- The heads by position, as real numbers. -/
def rq (b h : Fin 4) : ℕ → Fin 256 → ℝ := head256 (cols256 (m ((c : Thread nD τ).loc main_arg0))) b h
def rk (b h : Fin 4) : ℕ → Fin 256 → ℝ := head256 (cols256 (m ((c : Thread nD τ).loc main_arg1))) b h
def rv (b h : Fin 4) : ℕ → Fin 512 → ℝ := head512 (cols512 (m ((c : Thread nD τ).loc main_arg2))) b h

include hq in
theorem q_at (b h : Fin 4) (n : Fin 32) (i : Fin 128) (d : Fin 256) :
    chunks256 (m ((c : Thread nD τ).loc main_arg0)) (ix5 b h n i d) = (rq m c b h (128 * n.val + i.val) d : EReal) := by
  rw [chunks256_at]
  exact head256_at _ hq b h _ d _ _ (by omega) (by show b.val * 4096 + (n.val * 128 + i.val) = _; omega) rfl

include hk in
theorem k_at (b h : Fin 4) (n : Fin 32) (i : Fin 128) (d : Fin 256) :
    chunks256 (m ((c : Thread nD τ).loc main_arg1)) (ix5 b h n i d) = (rk m c b h (128 * n.val + i.val) d : EReal) := by
  rw [chunks256_at]
  exact head256_at _ hk b h _ d _ _ (by omega) (by show b.val * 4096 + (n.val * 128 + i.val) = _; omega) rfl

include hv in
theorem v_at (b h : Fin 4) (n : Fin 32) (i : Fin 128) (e : Fin 512) :
    chunks512 (m ((c : Thread nD τ).loc main_arg2)) (ix5 b h n i e) = (rv m c b h (128 * n.val + i.val) e : EReal) := by
  rw [chunks512_at]
  exact head512_at _ hv b h _ e _ _ (by omega) (by show b.val * 4096 + (n.val * 128 + i.val) = _; omega) rfl

include hk hv in
/-- The state before chunk `n` is the memory of the positions before it. -/
theorem state_real (b h : Fin 4) (d : Fin 256) (e : Fin 512) :
    ∀ n : ℕ, n ≤ 32 → stateOf m c n (ix4 b h d e) = (memory (logGamma h.val) (rk m c b h) (rv m c b h) (128 * n) d e : EReal)
  | 0, _ => state_zero m c b h d e
  | n + 1, hn => by
    rw [state_succ m c ⟨n, by omega⟩ b h d e, state_real b h d e n (by omega), wholeV_at, memory_step, EReal.coe_add, EReal.coe_mul, coe_sum]
    refine congrArg _ (Fin.sum_fin_congr fun a => ?_)
    unfold scanK scanV
    rw [keysV_at, valuesV_at, k_at m c hk, v_at m c hv, EReal.coe_mul, EReal.coe_mul]

include hq hk hv in
/-- The two parts of a position, added, are its retention. -/
theorem both_real (b h : Fin 4) (n : Fin 32) (i : Fin 128) (e : Fin 512) :
    innerV (chunks256 (m ((c : Thread nD τ).loc main_arg0))) (chunks256 (m ((c : Thread nD τ).loc main_arg1)))
        (chunks512 (m ((c : Thread nD τ).loc main_arg2))) (ix5 b h n i e) + partsOf m c 32 (ix5 n b h i e)
      = (mixed (logGamma h.val) (rq m c b h) (rk m c b h) (rv m c b h) (128 * n.val + i.val) e : EReal) := by
  rw [mixed_split', EReal.coe_add, coe_sum, coe_sum, parts_at m c n b h i e 32 n.isLt (le_refl _), innerV_at]
  refine congrArg₂ (fun x y : EReal => x + y) (Fin.sum_fin_congr fun a => ?_) (Fin.sum_fin_congr fun d => ?_)
  · rw [decayAll_at, v_at m c hv, EReal.coe_mul, EReal.coe_mul, coe_sum]
    refine congrArg (fun x : EReal => x * _ * _) (Fin.sum_fin_congr fun d => ?_)
    rw [q_at m c hq, k_at m c hk, EReal.coe_mul]
  · unfold scanQ
    rw [queriesV_at, q_at m c hq, state_real m c hk hv b h d e n.val (by omega), EReal.coe_mul, EReal.coe_mul]

end finite

end Cert.RetentionIdeal.Scan

end
-- ==== Proof.RetScanRun.lean ====
/- The whole run of the retention core's reference: its result on finite arguments, and its frame. -/
module

public import proofs.«01_k».proof.Proof.RetScanSteps
public import Idealize.ShloMosaic.Adequacy
public import Idealize.ShloMosaic.Init

@[expose] public section

set_option maxRecDepth 16384

noncomputable section

namespace Cert.RetentionIdeal.Scan

open Idealize.ShloMosaic Idealize.ShloMosaic.TcCoe Idealize.ShloMosaic.StableHlo Idealize.ShloMosaic.Tactic Idealize.SL.Sem
open Cert.RetentionIdeal Cert.RetentionIdeal.Gen Cert.RetentionIdeal.Value Cert.ChunkMath

theorem normedV_at (x y : FVec Ideal S4x4x32x128x512 .f32) (r : Fin 16384) (l : Fin 2048) :
    normedV x y (ix2 r l) = headNorm (fun e =>
        x (ix5 ⟨r.val / 4096, by omega⟩ ⟨l.val / 512, by omega⟩ ⟨r.val % 4096 / 128, by omega⟩ ⟨r.val % 4096 % 128, by omega⟩ e)
        + y (ix5 ⟨r.val / 4096, by omega⟩ ⟨l.val / 512, by omega⟩ ⟨r.val % 4096 / 128, by omega⟩ ⟨r.val % 4096 % 128, by omega⟩ e))
      ⟨l.val % 512, by omega⟩ := by
  unfold headNorm
  pointwise [normedV]

theorem backV_at (y : FVec Ideal S32x4x4x128x512 .f32) (b h : Fin 4) (n : Fin 32) (i : Fin 128) (e : Fin 512) :
    backV y (ix5 b h n i e) = y (ix5 n b h i e) := by
  pointwise [backV]

variable (m : (ℓ : Loc nD τ sig) → Buf (Elt Ideal) ℓ)

/-- The result on finite arguments. -/
theorem final_value (c : Dev nD)
    (hq : ∀ r l, cols256 (m ((c : Thread nD τ).loc main_arg0)) r l ≠ ⊤ ∧ cols256 (m ((c : Thread nD τ).loc main_arg0)) r l ≠ ⊥)
    (hk : ∀ r l, cols256 (m ((c : Thread nD τ).loc main_arg1)) r l ≠ ⊤ ∧ cols256 (m ((c : Thread nD τ).loc main_arg1)) r l ≠ ⊥)
    (hv : ∀ r l, cols512 (m ((c : Thread nD τ).loc main_arg2)) r l ≠ ⊤ ∧ cols512 (m ((c : Thread nD τ).loc main_arg2)) r l ≠ ⊥) :
    finalContents condOps (preI (F := Ideal)) bodyI postI 32 m c (Proc.devRef .tc main_v92) = fun i : S16384x2048.Idx =>
      retained (cols256 (m ((c : Thread nD τ).loc main_arg0))) (cols256 (m ((c : Thread nD τ).loc main_arg1)))
        (cols512 (m ((c : Thread nD τ).loc main_arg2))) ⟨(i 0).val / 4096, Nat.div_lt_of_lt_mul (i 0).isLt⟩
        ⟨(i 1).val / 512, Nat.div_lt_of_lt_mul (i 1).isLt⟩ ((i 0).val % 4096) ⟨(i 1).val % 512, Nat.mod_lt _ (by decide)⟩ := by
  rw [final_eq, after_scan, after_of_writes_sub condOps _ condOps_writes (by decide +kernel : main_v42 ∉ condOps_W),
    after_of_writes_sub condOps _ condOps_writes (by decide +kernel : main_v76_6 ∉ condOps_W), at_inner]
  funext y
  idx_vars y
  refine (normedV_at _ _ y0 y1).trans ?_
  unfold retained
  refine congrArg (fun o => headNorm o _) (funext fun e => ?_)
  rw [backV_at]
  refine (both_real m c hq hk hv _ _ _ _ e).trans ?_
  refine congrArg (fun r => (mixed _ _ _ _ r e : EReal)) ?_
  show 128 * (y0.val % 4096 / 128) + y0.val % 4096 % 128 = y0.val % 4096
  exact Nat.div_add_mod _ _

/-- The reference ends with its arguments unchanged and its counters at zero. -/
theorem frame (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (argument0 m c), (h c main_arg1 rfl).trans (argument1 m c),
    (h c main_arg2 rfl).trans (argument2 m c)⟩, sem_eq_zero_of_no_sems (by decide) r.2⟩) (run_fold m ρ)

end Cert.RetentionIdeal.Scan

end
-- ==== Proof.RetCoreClaim.lean ====
/- The value claim of the retention core: on finite queries, keys and values the kernel's chunks of 256 and the reference's chunks of 128 give the same
   retention. -/
module

public import proofs.«01_k».proof.Defs
public import proofs.«01_k».proof.Proof.RetCoreFinal
public import proofs.«01_k».proof.Proof.RetScanRun
public import proofs.«01_k».proof.Proof.Gen.Pre_finite
public import Idealize.ShloMosaic.Lib.ReduceAll

@[expose] public section

set_option maxRecDepth 16384

noncomputable section

namespace Cert.Proof

open Idealize.ShloMosaic Idealize.ShloMosaic.TcCoe Idealize.SL.Sem Cert.ChunkMath

theorem word_inf : Ideal.ofBits .f32 0x7F800000#32 = ⊤ := by
  simp [Ideal.ofBits, Ideal.ieee]

/-- A number whose magnitude compares below infinity is finite. -/
theorem finite_of_word (x : EReal) (h : Ideal.cmp .olt (max x (-x)) (Ideal.ofBits .f32 0x7F800000#32) = 1#1) : x ≠ ⊤ ∧ x ≠ ⊥ := by
  rw [word_inf] at h
  constructor
  · rintro rfl
    simp [Ideal.cmp] at h
  · rintro rfl
    simp [Ideal.cmp] at h

/-- The precondition says that every entry is finite. -/
theorem finite_entries (q k : FVec Ideal Cert.Pre_finite.S16384x1024 .bf16) (v : FVec Ideal Cert.Pre_finite.S16384x2048 .bf16)
    (h : Cert.Pre_finite.fn (F := Ideal) q k v = fun _ => 1#1) :
    (∀ r l, cols256 q r l ≠ ⊤ ∧ cols256 q r l ≠ ⊥) ∧ (∀ r l, cols256 k r l ≠ ⊤ ∧ cols256 k r l ≠ ⊥) ∧ (∀ r l, cols512 v r l ≠ ⊤ ∧ cols512 v r l ≠ ⊥) := by
  have h0 := congrFun h ix0
  unfold Cert.Pre_finite.fn at h0
  obtain ⟨h1, hv⟩ := IntOp.andi_eq_one.1 h0
  obtain ⟨hq, hk⟩ := IntOp.andi_eq_one.1 h1
  exact ⟨fun r l => finite_of_word _ (Host.reduce_andi_all _ _ _ _ _ hq (ix2 r l)), fun r l => finite_of_word _ (Host.reduce_andi_all _ _ _ _ _ hk (ix2 r l)),
    fun r l => finite_of_word _ (Host.reduce_andi_all _ _ _ _ _ hv (ix2 r l))⟩

/-- The kernel's normalised retention of finite queries, keys and values is what the reference computes. -/
theorem retention : Cert.algebraic_RetCoreIdeal_RetentionIdeal_pre_finite := by
  intro m g m' g' hpre hagree
  refine ⟨fun c => (Cert.RetCoreIdeal.Steps.dats m 0 c).arrAt 7 Cert.RetCoreIdeal.cfg0.N, ?_, ?_⟩
  · exact Cert.RetCoreIdeal.Steps.run_blocks m g
  · refine (θ_run _ _ _).mono (fun r h c => ?_) (Cert.RetentionIdeal.Value.run_fold m' g')
    obtain ⟨a0, a1, a2⟩ := hagree c
    obtain ⟨hq, hk, hv⟩ := finite_entries _ _ _ (hpre c)
    refine ⟨(h c Cert.RetentionIdeal.main_v92 rfl).trans ?_, (h c Cert.RetentionIdeal.main_arg0 rfl).trans (Cert.RetentionIdeal.Scan.argument0 m' c),
      (h c Cert.RetentionIdeal.main_arg1 rfl).trans (Cert.RetentionIdeal.Scan.argument1 m' c),
      (h c Cert.RetentionIdeal.main_arg2 rfl).trans (Cert.RetentionIdeal.Scan.argument2 m' c)⟩
    refine Eq.trans (Cert.RetentionIdeal.Scan.final_value m' c ?_ ?_ ?_) (Eq.trans ?_ (Cert.RetCoreIdeal.Steps.final m c hq hk hv).symm)
    · rw [a0]; exact hq
    · rw [a1]; exact hk
    · rw [a2]; exact hv
    · rw [a0, a1, a2]

end Cert.Proof

end
-- ==== Proof.RetCoreSame.lean ====
/- The two printings of the retention core, the one on bits and the one on extended reals, are one text: their tables of functions and their main functions
   are equal, and the frame proved of the one holds of the other. -/
module

public import proofs.«01_k».proof.Proof.RetCoreRun
public import proofs.«01_k».proof.Proof.Gen.RetCore

@[expose] public section

set_option maxRecDepth 16384

noncomputable section

namespace Cert.RetCore.Same

open Idealize.ShloMosaic Idealize.SL.Sem

variable {F : FTy → Type} [FloatOps F]

set_option maxHeartbeats 1000000 in
/-- The kernel bodies are the same, label by label. -/
theorem bodies : Cert.RetCore.defs₀ (F := F) = Cert.RetCoreIdeal.defs₀ (F := F) := by
  refine congrArg Defs.onTc ?_
  funext l x
  match l, x with
  | 0, (t, s) => rfl

/-- So the tables with the pipelines in them are the same. -/
theorem tables : Cert.RetCore.defs (F := F) = Cert.RetCoreIdeal.defs (F := F) := congrArg (Pipeline.defs _) bodies

set_option maxHeartbeats 4000000 in
/-- The main functions are the same, operation by operation. -/
theorem text : Cert.RetCore.main (F := F) = Cert.RetCoreIdeal.main (F := F) := rfl

variable (m : (ℓ : Loc Cert.RetCore.nD Cert.RetCore.τ Cert.RetCore.sig) → Buf (Elt F) ℓ) (ρ : Dev Cert.RetCore.nD → PrngReg)

open Cert.RetCore in
/-- The frame of the printing on bits. -/
theorem frame : θ_run (Cert.RetCore.defs (F := F)) (onTc (τ := τ) (Cert.RetCore.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  rw [tables, text]
  exact Cert.RetCoreIdeal.Steps.frame m ρ

end Cert.RetCore.Same
-- ==== Proof.lean ====
module

public import proofs.«01_k».proof.Defs
public import proofs.«01_k».proof.Proof.Gen.RetCore
public import proofs.«01_k».proof.Proof.Gen.RetCore.Skeleton
public import proofs.«01_k».proof.Proof.Gen.RetCore.Loops
public import proofs.«01_k».proof.Proof.Gen.RetCore.Launch
public import proofs.«01_k».proof.Proof.Gen.RetCore.Points
public import proofs.«01_k».proof.Proof.Gen.RetCore.Frame
public import proofs.«01_k».proof.Proof.Gen.RetCoreIdeal
public import proofs.«01_k».proof.Proof.Gen.RetCoreIdeal.Skeleton
public import proofs.«01_k».proof.Proof.Gen.RetCoreIdeal.Loops
public import proofs.«01_k».proof.Proof.Gen.RetCoreIdeal.Launch
public import proofs.«01_k».proof.Proof.Gen.RetCoreIdeal.Points
public import proofs.«01_k».proof.Proof.Gen.RetCoreIdeal.Frame
public import proofs.«01_k».proof.Proof.Gen.RetentionIdeal
public import proofs.«01_k».proof.Proof.Gen.Pre_finite
public import proofs.«01_k».proof.Proof.Gen.RetentionIdeal.Run
public import proofs.«01_k».proof.Proof.Gen.AttnProj
public import proofs.«01_k».proof.Proof.Gen.AttnProj.Skeleton
public import proofs.«01_k».proof.Proof.Gen.AttnProj.Launch
public import proofs.«01_k».proof.Proof.Gen.AttnProj.Points
public import proofs.«01_k».proof.Proof.Gen.AttnProj.Frame
public import proofs.«01_k».proof.Proof.Gen.AttnProjIdeal
public import proofs.«01_k».proof.Proof.Gen.AttnProjIdeal.Skeleton
public import proofs.«01_k».proof.Proof.Gen.AttnProjIdeal.Launch
public import proofs.«01_k».proof.Proof.Gen.AttnProjIdeal.Points
public import proofs.«01_k».proof.Proof.Gen.AttnProjIdeal.Frame
public import proofs.«01_k».proof.Proof.Gen.AttnProjIdeal.Value
public import proofs.«01_k».proof.Proof.Gen.AttentionInputsIdeal
public import proofs.«01_k».proof.Proof.Gen.AttentionInputsIdeal.Run
public import proofs.«01_k».proof.Proof.Gen.MobaProj
public import proofs.«01_k».proof.Proof.Gen.MobaProj.Skeleton
public import proofs.«01_k».proof.Proof.Gen.MobaProj.Launch
public import proofs.«01_k».proof.Proof.Gen.MobaProj.Points
public import proofs.«01_k».proof.Proof.Gen.MobaProj.Frame
public import proofs.«01_k».proof.Proof.Gen.MobaProjIdeal
public import proofs.«01_k».proof.Proof.Gen.MobaProjIdeal.Skeleton
public import proofs.«01_k».proof.Proof.Gen.MobaProjIdeal.Launch
public import proofs.«01_k».proof.Proof.Gen.MobaProjIdeal.Points
public import proofs.«01_k».proof.Proof.Gen.MobaProjIdeal.Frame
public import proofs.«01_k».proof.Proof.Gen.MobaProjIdeal.Value
public import proofs.«01_k».proof.Proof.Gen.MobaInputsIdeal
public import proofs.«01_k».proof.Proof.Gen.MobaInputsIdeal.Run
public import proofs.«01_k».proof.Proof.Gen.RetProj
public import proofs.«01_k».proof.Proof.Gen.RetProj.Skeleton
public import proofs.«01_k».proof.Proof.Gen.RetProj.Launch
public import proofs.«01_k».proof.Proof.Gen.RetProj.Points
public import proofs.«01_k».proof.Proof.Gen.RetProj.Frame
public import proofs.«01_k».proof.Proof.Gen.RetProjIdeal
public import proofs.«01_k».proof.Proof.Gen.RetProjIdeal.Skeleton
public import proofs.«01_k».proof.Proof.Gen.RetProjIdeal.Launch
public import proofs.«01_k».proof.Proof.Gen.RetProjIdeal.Points
public import proofs.«01_k».proof.Proof.Gen.RetProjIdeal.Frame
public import proofs.«01_k».proof.Proof.Gen.RetentionInputsIdeal
public import proofs.«01_k».proof.Proof.Gen.RetProjIdeal.Value
public import proofs.«01_k».proof.Proof.Gen.RetentionInputsIdeal.Run
public import proofs.«01_k».proof.Proof.Gen.OutMlpGated
public import proofs.«01_k».proof.Proof.Gen.OutMlpGated.Skeleton
public import proofs.«01_k».proof.Proof.Gen.OutMlpGated.Launch
public import proofs.«01_k».proof.Proof.Gen.OutMlpGated.Points
public import proofs.«01_k».proof.Proof.Gen.OutMlpGated.Frame
public import proofs.«01_k».proof.Proof.Gen.OutMlpGatedIdeal
public import proofs.«01_k».proof.Proof.Gen.OutMlpGatedIdeal.Skeleton
public import proofs.«01_k».proof.Proof.Gen.OutMlpGatedIdeal.Launch
public import proofs.«01_k».proof.Proof.Gen.OutMlpGatedIdeal.Points
public import proofs.«01_k».proof.Proof.Gen.OutMlpGatedIdeal.Frame
public import proofs.«01_k».proof.Proof.Gen.GatedBlockIdeal
public import proofs.«01_k».proof.Proof.Gen.OutMlp
public import proofs.«01_k».proof.Proof.Gen.OutMlp.Skeleton
public import proofs.«01_k».proof.Proof.Gen.OutMlp.Launch
public import proofs.«01_k».proof.Proof.Gen.OutMlp.Points
public import proofs.«01_k».proof.Proof.Gen.OutMlp.Frame
public import proofs.«01_k».proof.Proof.Gen.OutMlpIdeal
public import proofs.«01_k».proof.Proof.Gen.OutMlpIdeal.Skeleton
public import proofs.«01_k».proof.Proof.Gen.OutMlpIdeal.Launch
public import proofs.«01_k».proof.Proof.Gen.OutMlpIdeal.Points
public import proofs.«01_k».proof.Proof.Gen.OutMlpIdeal.Frame
public import proofs.«01_k».proof.Proof.Gen.PlainBlockIdeal
public import proofs.«01_k».proof.Proof.Gen.OutMlpGatedIdeal.Value
public import proofs.«01_k».proof.Proof.Gen.OutMlpIdeal.Value
public import proofs.«01_k».proof.Proof.Gen.GatedBlockIdeal.Run
public import proofs.«01_k».proof.Proof.Gen.PlainBlockIdeal.Run
public import proofs.«01_k».proof.Proof.GatedClaim
public import proofs.«01_k».proof.Proof.PlainClaim
public import proofs.«01_k».proof.Proof.RetProjClaim
public import proofs.«01_k».proof.Proof.AttnProjClaim
public import proofs.«01_k».proof.Proof.MobaProjClaim
public import proofs.«01_k».proof.Proof.Gen.BiasTiles
public import proofs.«01_k».proof.Proof.Gen.BiasTiles.Skeleton
public import proofs.«01_k».proof.Proof.Gen.BiasTiles.Launch
public import proofs.«01_k».proof.Proof.Gen.BiasTiles.Points
public import proofs.«01_k».proof.Proof.Gen.BiasTiles.Frame
public import proofs.«01_k».proof.Proof.Gen.BiasTilesIdeal
public import proofs.«01_k».proof.Proof.Gen.BiasTilesIdeal.Skeleton
public import proofs.«01_k».proof.Proof.Gen.BiasTilesIdeal.Launch
public import proofs.«01_k».proof.Proof.Gen.BiasTilesIdeal.Points
public import proofs.«01_k».proof.Proof.Gen.BiasTilesIdeal.Frame
public import proofs.«01_k».proof.Proof.Gen.BiasTilesIdeal.Value
public import proofs.«01_k».proof.Proof.Gen.PositionBiasIdeal
public import proofs.«01_k».proof.Proof.Gen.PositionBiasIdeal.Run
public import proofs.«01_k».proof.Proof.BiasTilesClaim
public import proofs.«01_k».proof.Proof.Gen.OutMlpFirst
public import proofs.«01_k».proof.Proof.Gen.OutMlpFirst.Skeleton
public import proofs.«01_k».proof.Proof.Gen.OutMlpFirst.Launch
public import proofs.«01_k».proof.Proof.Gen.OutMlpFirst.Points
public import proofs.«01_k».proof.Proof.Gen.OutMlpFirst.Frame
public import proofs.«01_k».proof.Proof.Gen.OutMlpFirstIdeal
public import proofs.«01_k».proof.Proof.Gen.OutMlpFirstIdeal.Skeleton
public import proofs.«01_k».proof.Proof.Gen.OutMlpFirstIdeal.Launch
public import proofs.«01_k».proof.Proof.Gen.OutMlpFirstIdeal.Points
public import proofs.«01_k».proof.Proof.Gen.OutMlpFirstIdeal.Frame
public import proofs.«01_k».proof.Proof.Gen.OutMlpFirstIdeal.Value
public import proofs.«01_k».proof.Proof.Gen.FirstBlockIdeal
public import proofs.«01_k».proof.Proof.Gen.FirstBlockIdeal.Run
public import proofs.«01_k».proof.Proof.FirstClaim
public import proofs.«01_k».proof.Proof.Gen.OutMlpThird
public import proofs.«01_k».proof.Proof.Gen.OutMlpThird.Skeleton
public import proofs.«01_k».proof.Proof.Gen.OutMlpThird.Launch
public import proofs.«01_k».proof.Proof.Gen.OutMlpThird.Points
public import proofs.«01_k».proof.Proof.Gen.OutMlpThird.Frame
public import proofs.«01_k».proof.Proof.Gen.OutMlpThirdIdeal
public import proofs.«01_k».proof.Proof.Gen.OutMlpThirdIdeal.Skeleton
public import proofs.«01_k».proof.Proof.Gen.OutMlpThirdIdeal.Launch
public import proofs.«01_k».proof.Proof.Gen.OutMlpThirdIdeal.Points
public import proofs.«01_k».proof.Proof.Gen.OutMlpThirdIdeal.Frame
public import proofs.«01_k».proof.Proof.Gen.OutMlpThirdIdeal.Value
public import proofs.«01_k».proof.Proof.Gen.ThirdBlockIdeal
public import proofs.«01_k».proof.Proof.Gen.ThirdBlockIdeal.Run
public import proofs.«01_k».proof.Proof.ThirdClaim
public import proofs.«01_k».proof.Proof.Gen.RetProjLast
public import proofs.«01_k».proof.Proof.Gen.RetProjLast.Skeleton
public import proofs.«01_k».proof.Proof.Gen.RetProjLast.Launch
public import proofs.«01_k».proof.Proof.Gen.RetProjLast.Points
public import proofs.«01_k».proof.Proof.Gen.RetProjLast.Frame
public import proofs.«01_k».proof.Proof.Gen.RetProjLastIdeal
public import proofs.«01_k».proof.Proof.Gen.RetProjLastIdeal.Skeleton
public import proofs.«01_k».proof.Proof.Gen.RetProjLastIdeal.Launch
public import proofs.«01_k».proof.Proof.Gen.RetProjLastIdeal.Points
public import proofs.«01_k».proof.Proof.Gen.RetProjLastIdeal.Frame
public import proofs.«01_k».proof.Proof.Gen.RetProjLastIdeal.Value
public import proofs.«01_k».proof.Proof.Gen.LastInputsIdeal
public import proofs.«01_k».proof.Proof.Gen.LastInputsIdeal.Run
public import proofs.«01_k».proof.Proof.RetLastClaim
public import proofs.«01_k».proof.Proof.RetCoreClaim
public import proofs.«01_k».proof.Proof.RetCoreSame
public import Idealize.ShloMosaic.Adequacy
public import Idealize.ShloMosaic.Init

@[expose] public section

noncomputable section

namespace Cert.Proof

open Idealize.ShloMosaic Idealize.SL.Sem

theorem claim : Cert.Claim := ⟨Cert.RetCore.Gen.facts, Cert.RetCoreIdeal.Gen.facts, Cert.RetentionIdeal.Gen.facts,
  Cert.OutMlpGated.Gen.facts, Cert.OutMlpGatedIdeal.Gen.facts, Cert.GatedBlockIdeal.Gen.facts, Cert.OutMlp.Gen.facts, Cert.OutMlpIdeal.Gen.facts, Cert.PlainBlockIdeal.Gen.facts,
  Cert.RetProj.Gen.facts, Cert.RetProjIdeal.Gen.facts, Cert.RetentionInputsIdeal.Gen.facts,
  Cert.AttnProj.Gen.facts, Cert.AttnProjIdeal.Gen.facts, Cert.AttentionInputsIdeal.Gen.facts,
  Cert.MobaProj.Gen.facts, Cert.MobaProjIdeal.Gen.facts, Cert.MobaInputsIdeal.Gen.facts,
  Cert.BiasTiles.Gen.facts, Cert.BiasTilesIdeal.Gen.facts, Cert.PositionBiasIdeal.Gen.facts,
  Cert.OutMlpFirst.Gen.facts, Cert.OutMlpFirstIdeal.Gen.facts, Cert.FirstBlockIdeal.Gen.facts,
  Cert.OutMlpThird.Gen.facts, Cert.OutMlpThirdIdeal.Gen.facts, Cert.ThirdBlockIdeal.Gen.facts,
  Cert.RetProjLast.Gen.facts, Cert.RetProjLastIdeal.Gen.facts, Cert.LastInputsIdeal.Gen.facts, Cert.Pre_finite.Gen.facts,
  fun m ρ _ => Cert.RetCore.Same.frame m ρ,
  fun m ρ _ => Cert.RetCoreIdeal.Steps.frame m ρ,
  fun m ρ _ => Cert.RetCoreIdeal.Steps.frame m ρ,
  fun m ρ _ => Cert.RetentionIdeal.Scan.frame m ρ,
  fun m ρ _ => Cert.RetentionIdeal.Scan.frame m ρ,
  fun m ρ _ => Cert.OutMlpGated.Gen.frame m ρ,
  fun m ρ _ => Cert.OutMlpGatedIdeal.Gen.frame m ρ,
  fun m ρ _ => (θ_run Cert.GatedBlockIdeal.defs _ _).mono
    (fun r h => ⟨fun c => (h c).2, sem_eq_zero_of_no_sems (by decide) r.2⟩) (Cert.GatedBlockIdeal.Value.run m ρ),
  fun m ρ _ => Cert.OutMlp.Gen.frame m ρ,
  fun m ρ _ => Cert.OutMlpIdeal.Gen.frame m ρ,
  fun m ρ _ => (θ_run Cert.PlainBlockIdeal.defs _ _).mono
    (fun r h => ⟨fun c => (h c).2.2.2.2.2, sem_eq_zero_of_no_sems (by decide) r.2⟩) (Cert.PlainBlockIdeal.Value.run m ρ),
  fun m ρ _ => Cert.RetProj.Gen.frame m ρ,
  fun m ρ _ => Cert.RetProjIdeal.Gen.frame m ρ,
  fun m ρ _ => (θ_run Cert.RetentionInputsIdeal.defs _ _).mono
    (fun r h => ⟨fun c => (h c).2.2.2.2.2.2.2, sem_eq_zero_of_no_sems (by decide) r.2⟩) (Cert.RetentionInputsIdeal.Value.run m ρ),
  fun m ρ _ => Cert.AttnProj.Gen.frame m ρ,
  fun m ρ _ => Cert.AttnProjIdeal.Gen.frame m ρ,
  fun m ρ _ => (θ_run Cert.AttentionInputsIdeal.defs _ _).mono
    (fun r h => ⟨fun c => (h c).2.2.2, sem_eq_zero_of_no_sems (by decide) r.2⟩) (Cert.AttentionInputsIdeal.Value.run m ρ),
  fun m ρ _ => Cert.MobaProj.Gen.frame m ρ,
  fun m ρ _ => Cert.MobaProjIdeal.Gen.frame m ρ,
  fun m ρ _ => (θ_run Cert.MobaInputsIdeal.defs _ _).mono
    (fun r h => ⟨fun c => (h c).2.2.2, sem_eq_zero_of_no_sems (by decide) r.2⟩) (Cert.MobaInputsIdeal.Value.run m ρ),
  fun m ρ _ => Cert.BiasTiles.Gen.frame m ρ,
  fun m ρ _ => Cert.BiasTilesIdeal.Gen.frame m ρ,
  fun m ρ _ => (θ_run Cert.PositionBiasIdeal.defs _ _).mono
    (fun r h => ⟨fun c => (h c).2, sem_eq_zero_of_no_sems (by decide) r.2⟩) (Cert.PositionBiasIdeal.Value.run m ρ),
  fun m ρ _ => Cert.OutMlpFirst.Gen.frame m ρ,
  fun m ρ _ => Cert.OutMlpFirstIdeal.Gen.frame m ρ,
  fun m ρ _ => (θ_run Cert.FirstBlockIdeal.defs _ _).mono
    (fun r h => ⟨fun c => (h c).2.2.2.2.2, sem_eq_zero_of_no_sems (by decide) r.2⟩) (Cert.FirstBlockIdeal.Value.run m ρ),
  fun m ρ _ => Cert.OutMlpThird.Gen.frame m ρ,
  fun m ρ _ => Cert.OutMlpThirdIdeal.Gen.frame m ρ,
  fun m ρ _ => (θ_run Cert.ThirdBlockIdeal.defs _ _).mono
    (fun r h => ⟨fun c => (h c).2.2.2.2.2, sem_eq_zero_of_no_sems (by decide) r.2⟩) (Cert.ThirdBlockIdeal.Value.run m ρ),
  fun m ρ _ => Cert.RetProjLast.Gen.frame m ρ,
  fun m ρ _ => Cert.RetProjLastIdeal.Gen.frame m ρ,
  fun m ρ _ => (θ_run Cert.LastInputsIdeal.defs _ _).mono
    (fun r h => ⟨fun c => (h c).2.2.2.2, sem_eq_zero_of_no_sems (by decide) r.2⟩) (Cert.LastInputsIdeal.Value.run m ρ),
  trivial, retention, trivial, gated, trivial, plain, trivial, projection, trivial, attention_projection,
  trivial, moba_projection, trivial, position_bias, trivial, first_block,
  trivial, third_block, trivial, last_projection⟩

end Cert.Proof
